-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_lse [hPre_finite_lse : Cert.Pre_finite_lse.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_lse.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_lse [hPre_finite_lse : Cert.Pre_finite_lse.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_lse.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_lse [hKernel4Ideal : Cert.Kernel4Ideal.Facts] [hPre_finite_lse : Cert.Pre_finite_lse.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_lse m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_lse [hReference4Ideal : Cert.Reference4Ideal.Facts] [hPre_finite_lse : Cert.Pre_finite_lse.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_lse m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_lse [hKernel4Ideal : Cert.Kernel4Ideal.Facts] [hReference4Ideal : Cert.Reference4Ideal.Facts] [hPre_finite_lse : Cert.Pre_finite_lse.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_lse m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v35)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v35) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v98) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v35)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v35) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v96) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_finite_lse : Cert.Pre_finite_lse.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_lse (hKernel4Ideal := hKernel4Ideal) (hPre_finite_lse := hPre_finite_lse)
    ∧ quiescent_Reference4Ideal (hReference4Ideal := hReference4Ideal)
    ∧ quiescent_Reference4Ideal_pre_finite_lse (hReference4Ideal := hReference4Ideal) (hPre_finite_lse := hPre_finite_lse)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_lse (hKernel4Ideal := hKernel4Ideal) (hReference4Ideal := hReference4Ideal) (hPre_finite_lse := hPre_finite_lse)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_lse.lean ====
abbrev S40960x16x64 : Shape := ⟨3, ![40960, 16, 64]⟩
abbrev S40960x16 : Shape := ⟨2, ![40960, 16]⟩
abbrev S40960x2048 : Shape := ⟨2, ![40960, 2048]⟩
abbrev S4x2048 : Shape := ⟨2, ![4, 2048]⟩
abbrev S2x1024x2048 : Shape := ⟨3, ![2, 1024, 2048]⟩
abbrev S1x40960x16 : Shape := ⟨3, ![1, 40960, 16]⟩
abbrev S3x40960x16 : Shape := ⟨3, ![3, 40960, 16]⟩
abbrev S_ : Shape := ⟨0, ![]⟩

class Facts : Prop where
  bcast_S40960x16_S1x40960x16_1_2 : S40960x16.BroadcastsInDim S1x40960x16 (![1, 2] : Fin 2 → Fin S1x40960x16.rank)
  concatenates_S1x40960x16_S1x40960x16_S1x40960x16_S3x40960x16_d0 : Shape.Concatenates [S1x40960x16, S1x40960x16, S1x40960x16] S3x40960x16 0
  bcast_S_S3x40960x16 : S_.BroadcastsInDim S3x40960x16 (![] : Fin 0 → Fin S3x40960x16.rank)

variable [Facts]

def fn {F : FTy → Type} [FloatOps F] (main_arg0 : FVec F S40960x16x64 .f32) (main_arg1 : FVec F S40960x16x64 .f32) (main_arg2 : FVec F S40960x16x64 .f32) (main_arg3 : FVec F S40960x16 .f32) (main_arg4 : FVec F S40960x16 .f32) (main_arg5 : FVec F S40960x16 .f32) (main_arg6 : FVec F S40960x2048 .f32) (main_arg7 : FVec F S4x2048 .f32) (main_arg8 : FVec F S2x1024x2048 .f32) : IVec S3x40960x16 1 :=
  let main_v0 : FVec F S1x40960x16 .f32 := broadcastInDim S1x40960x16 ![1, 2] bcast_S40960x16_S1x40960x16_1_2 main_arg3
  let main_v1 : FVec F S1x40960x16 .f32 := broadcastInDim S1x40960x16 ![1, 2] bcast_S40960x16_S1x40960x16_1_2 main_arg4
  let main_v2 : FVec F S1x40960x16 .f32 := broadcastInDim S1x40960x16 ![1, 2] bcast_S40960x16_S1x40960x16_1_2 main_arg5
  let main_v3 : FVec F S3x40960x16 .f32 := concatenate S3x40960x16 0 [⟨S1x40960x16, main_v0⟩, ⟨S1x40960x16, main_v1⟩, ⟨S1x40960x16, main_v2⟩] concatenates_S1x40960x16_S1x40960x16_S1x40960x16_S3x40960x16_d0
  let main_v4 : FVec F S3x40960x16 .f32 := Host.absf main_v3
  let main_cst : FVec F S_ .f32 := constant S_ .f32 0x7F800000#32
  let main_v5 : FVec F S3x40960x16 .f32 := broadcastInDim S3x40960x16 ![] bcast_S_S3x40960x16 main_cst
  let main_v6 : IVec S3x40960x16 1 := cmpf .olt main_v4 main_v5
  main_v6
-- ==== Pre_finite_qk.lean ====
abbrev S10x4096x3072 : Shape := ⟨3, ![10, 4096, 3072]⟩
abbrev S10x4096x2048 : Shape := ⟨3, ![10, 4096, 2048]⟩
abbrev S_ : Shape := ⟨0, ![]⟩

class Facts : Prop where
  slices_S10x4096x3072_S10x4096x2048_0_0_0 : S10x4096x3072.Slices ![0, 0, 0] S10x4096x2048
  bcast_S_S10x4096x2048 : S_.BroadcastsInDim S10x4096x2048 (![] : Fin 0 → Fin S10x4096x2048.rank)

variable [Facts]

def fn {F : FTy → Type} [FloatOps F] (main_arg0 : FVec F S10x4096x3072 .f32) : IVec S10x4096x2048 1 :=
  let main_v0 : FVec F S10x4096x2048 .f32 := (extractStridedSlice S10x4096x2048 ![0, 0, 0] · slices_S10x4096x3072_S10x4096x2048_0_0_0) main_arg0
  let main_v1 : FVec F S10x4096x2048 .f32 := Host.absf main_v0
  let main_cst : FVec F S_ .f32 := constant S_ .f32 0x7F800000#32
  let main_v2 : FVec F S10x4096x2048 .f32 := broadcastInDim S10x4096x2048 ![] bcast_S_S10x4096x2048 main_cst
  let main_v3 : IVec S10x4096x2048 1 := cmpf .olt main_v1 main_v2
  main_v3
-- ==== Kernel.lean ====
abbrev S10x4096x3072 : Shape := ⟨3, ![10, 4096, 3072]⟩
abbrev S10x1x4096x3072 : Shape := ⟨4, ![10, 1, 4096, 3072]⟩
abbrev S3 : Shape := ⟨1, ![3]⟩
abbrev S_ : Shape := ⟨0, ![]⟩
abbrev S3x1x1 : Shape := ⟨3, ![3, 1, 1]⟩
abbrev S128 : Shape := ⟨1, ![128]⟩
abbrev S1x128x1 : Shape := ⟨3, ![1, 128, 1]⟩
abbrev S3x128x1 : Shape := ⟨3, ![3, 128, 1]⟩
abbrev S256 : Shape := ⟨1, ![256]⟩
abbrev S1x1x256 : Shape := ⟨3, ![1, 1, 256]⟩
abbrev S3x128x256 : Shape := ⟨3, ![3, 128, 256]⟩
abbrev S10x4096x1024 : Shape := ⟨3, ![10, 4096, 1024]⟩
abbrev S1x1x4096x128 : Shape := ⟨4, ![1, 1, 4096, 128]⟩
abbrev S1x4096x128 : Shape := ⟨3, ![1, 4096, 128]⟩
abbrev S128x128 : Shape := ⟨2, ![128, 128]⟩
abbrev S1x1x128x128 : Shape := ⟨4, ![1, 1, 128, 128]⟩
abbrev S1x1x256x128 : Shape := ⟨4, ![1, 1, 256, 128]⟩
abbrev S256x128 : Shape := ⟨2, ![256, 128]⟩
abbrev S1x128x256 : Shape := ⟨3, ![1, 128, 256]⟩
abbrev S128x256 : Shape := ⟨2, ![128, 256]⟩
abbrev S128x1 : Shape := ⟨2, ![128, 1]⟩
abbrev S1x128x128 : Shape := ⟨3, ![1, 128, 128]⟩

abbrev nBuf : Space → Nat
  | .hbm => 30
  | .vmem => 11
  | .smem => 0
  | _ => 0

abbrev bufTy : (tb : Table) → Fin (tcTables nBuf tb) → BufTy
  | .hbm, ⟨0, _⟩ => ⟨S10x4096x3072, .f32⟩
  | .hbm, ⟨1, _⟩ => ⟨S10x4096x3072, .bf16⟩
  | .hbm, ⟨2, _⟩ => ⟨S10x1x4096x3072, .bf16⟩
  | .hbm, ⟨3, _⟩ => ⟨S3, .i32⟩
  | .hbm, ⟨4, _⟩ => ⟨S_, .i32⟩
  | .hbm, ⟨5, _⟩ => ⟨S3, .i32⟩
  | .hbm, ⟨6, _⟩ => ⟨S3, .i32⟩
  | .hbm, ⟨7, _⟩ => ⟨S3x1x1, .i32⟩
  | .hbm, ⟨8, _⟩ => ⟨S128, .i32⟩
  | .hbm, ⟨9, _⟩ => ⟨S1x128x1, .i32⟩
  | .hbm, ⟨10, _⟩ => ⟨S3x128x1, .i32⟩
  | .hbm, ⟨11, _⟩ => ⟨S3x128x1, .i32⟩
  | .hbm, ⟨12, _⟩ => ⟨S3x128x1, .i32⟩
  | .hbm, ⟨13, _⟩ => ⟨S256, .i32⟩
  | .hbm, ⟨14, _⟩ => ⟨S1x1x256, .i32⟩
  | .hbm, ⟨15, _⟩ => ⟨S3x128x256, .i32⟩
  | .hbm, ⟨16, _⟩ => ⟨S3x128x256, .i32⟩
  | .hbm, ⟨17, _⟩ => ⟨S3x128x256, .i32⟩
  | .hbm, ⟨18, _⟩ => ⟨S3x128x256, .i32⟩
  | .hbm, ⟨19, _⟩ => ⟨S_, .i32⟩
  | .hbm, ⟨20, _⟩ => ⟨S3x128x256, .i32⟩
  | .hbm, ⟨21, _⟩ => ⟨S3x128x256, .i1⟩
  | .hbm, ⟨22, _⟩ => ⟨S_, .f32⟩
  | .hbm, ⟨23, _⟩ => ⟨S_, .f32⟩
  | .hbm, ⟨24, _⟩ => ⟨S3x128x256, .f32⟩
  | .hbm, ⟨25, _⟩ => ⟨S3x128x256, .f32⟩
  | .hbm, ⟨26, _⟩ => ⟨S3x128x256, .f32⟩
  | .hbm, ⟨27, _⟩ => ⟨S3x128x256, .f32⟩
  | .hbm, ⟨28, _⟩ => ⟨S10x4096x1024, .bf16⟩
  | .hbm, ⟨29, _⟩ => ⟨S10x4096x1024, .f32⟩
  | .local _ .vmem, ⟨0, _⟩ => ⟨S1x1x4096x128, .bf16⟩
  | .local _ .vmem, ⟨1, _⟩ => ⟨S1x1x4096x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S3x128x256, .f32⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .f32⟩
  | .local _ .vmem, ⟨10, _⟩ => ⟨S1x4096x128, .f32⟩
  | _, _ => ⟨S10x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c_0 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![10, 8, 1], ![false, false, false]⟩

def k0_mult1 (i : grid0.Coords) : BitVec 32 :=
  let c3840_i32 : BitVec 32 := 3840#32
  let c0_i32_7 : BitVec 32 := 0#32
  let arg2 : BitVec 32 := BitVec.ofNat 32 (i 2).val
  let c4096_i32 : BitVec 32 := 4096#32
  let v0 : BitVec 32 := Scalar.muli arg2 c4096_i32
  let c0_i32_5 : BitVec 32 := 0#32
  let v28 : BitVec 32 := Scalar.addi v0 c0_i32_5
  let c64_i32_6 : BitVec 32 := 64#32
  let v29 : BitVec 32 := Scalar.subi v28 c64_i32_6
  let v30 : BitVec 32 := Scalar.maxsi c0_i32_7 v29
  let v31 : BitVec 32 := Scalar.minsi c3840_i32 v30
  v31
def k0_off1 (i : grid0.Coords) (c0_i32_5 : BitVec 32) : Fin 4 → Nat :=
  let c0_11 : Index := 0#32
  let c0_12 : Index := 0#32
  let c3840_i32 : BitVec 32 := 3840#32
  let c0_i32_7 : BitVec 32 := 0#32
  let arg2 : BitVec 32 := BitVec.ofNat 32 (i 2).val
  let c4096_i32 : BitVec 32 := 4096#32
  let v0 : BitVec 32 := Scalar.muli arg2 c4096_i32
  let v28 : BitVec 32 := Scalar.addi v0 c0_i32_5
  let c64_i32_6 : BitVec 32 := 64#32
  let v29 : BitVec 32 := Scalar.subi v28 c64_i32_6
  let v30 : BitVec 32 := Scalar.maxsi c0_i32_7 v29
  let v31 : BitVec 32 := Scalar.minsi c3840_i32 v30
  let v32 : BitVec 32 := v31
  let v37 : Index := Scalar.indexCast v32
  let c0_13 : Index := 0#32
  ![0, 0, v37.toNat, 0]
def k0_off2 (i : grid0.Coords) (c0_i32_5 : BitVec 32) : Fin 3 → Nat :=
  let arg2 : BitVec 32 := BitVec.ofNat 32 (i 2).val
  let c4096_i32 : BitVec 32 := 4096#32
  let v0 : BitVec 32 := Scalar.muli arg2 c4096_i32
  let v28 : BitVec 32 := Scalar.addi v0 c0_i32_5
  let c3840_i32 : BitVec 32 := 3840#32
  let c0_i32_7 : BitVec 32 := 0#32
  let c64_i32_6 : BitVec 32 := 64#32
  let v29 : BitVec 32 := Scalar.subi v28 c64_i32_6
  let v30 : BitVec 32 := Scalar.maxsi c0_i32_7 v29
  let v31 : BitVec 32 := Scalar.minsi c3840_i32 v30
  let v32 : BitVec 32 := v31
  let v43 : BitVec 32 := Scalar.subi v28 v32
  let c0_i32_18 : BitVec 32 := 0#32
  let v45 : BitVec 1 := Scalar.cmpi .sgt v43 c0_i32_18
  let v46 : BitVec 32 := Scalar.extui v45
  let c0_i32_19 : BitVec 32 := 0#32
  let v47 : BitVec 1 := Scalar.cmpi .slt v43 c0_i32_19
  let v48 : BitVec 32 := Scalar.extui v47
  let v49 : BitVec 32 := Scalar.subi v46 v48
  let c64_i32_17 : BitVec 32 := 64#32
  let c0_i32_20 : BitVec 32 := 0#32
  let v50 : BitVec 1 := Scalar.cmpi .sgt c64_i32_17 c0_i32_20
  let v51 : BitVec 32 := Scalar.extui v50
  let c0_i32_21 : BitVec 32 := 0#32
  let v52 : BitVec 1 := Scalar.cmpi .slt c64_i32_17 c0_i32_21
  let v53 : BitVec 32 := Scalar.extui v52
  let v54 : BitVec 32 := Scalar.subi v51 v53
  let v55 : BitVec 1 := Scalar.cmpi .ne v49 v54
  let v56 : BitVec 32 := Scalar.remsi v43 c64_i32_17
  let c0_i32_22 : BitVec 32 := 0#32
  let v57 : BitVec 1 := Scalar.cmpi .ne v56 c0_i32_22
  let v58 : BitVec 1 := Scalar.andi v55 v57
  let v44 : BitVec 32 := Scalar.divsi v43 c64_i32_17
  let c1_i32_23 : BitVec 32 := 1#32
  let v59 : BitVec 32 := Scalar.subi v44 c1_i32_23
  let v60 : BitVec 32 := Scalar.select v58 v59 v44
  let v63 : Index := Scalar.indexCast v60
  let c0_25 : Index := 0#32
  let c0_26 : Index := 0#32
  ![v63.toNat, 0, 0]
def k0_mult2 (i : grid0.Coords) : BitVec 32 :=
  let c3840_i32_47 : BitVec 32 := 3840#32
  let c0_i32_46 : BitVec 32 := 0#32
  let arg2 : BitVec 32 := BitVec.ofNat 32 (i 2).val
  let c4096_i32 : BitVec 32 := 4096#32
  let v0 : BitVec 32 := Scalar.muli arg2 c4096_i32
  let c128_i32 : BitVec 32 := 128#32
  let v115 : BitVec 32 := Scalar.addi v0 c128_i32
  let c64_i32_45 : BitVec 32 := 64#32
  let v116 : BitVec 32 := Scalar.subi v115 c64_i32_45
  let v117 : BitVec 32 := Scalar.maxsi c0_i32_46 v116
  let v118 : BitVec 32 := Scalar.minsi c3840_i32_47 v117
  v118
def k0_mult3 (i : grid0.Coords) : BitVec 32 :=
  let c3840_i32_88 : BitVec 32 := 3840#32
  let c0_i32_87 : BitVec 32 := 0#32
  let arg2 : BitVec 32 := BitVec.ofNat 32 (i 2).val
  let c4096_i32 : BitVec 32 := 4096#32
  let v0 : BitVec 32 := Scalar.muli arg2 c4096_i32
  let c256_i32 : BitVec 32 := 256#32
  let v202 : BitVec 32 := Scalar.addi v0 c256_i32
  let c64_i32_86 : BitVec 32 := 64#32
  let v203 : BitVec 32 := Scalar.subi v202 c64_i32_86
  let v204 : BitVec 32 := Scalar.maxsi c0_i32_87 v203
  let v205 : BitVec 32 := Scalar.minsi c3840_i32_88 v204
  v205
def k0_mult4 (i : grid0.Coords) : BitVec 32 :=
  let c3840_i32_129 : BitVec 32 := 3840#32
  let c0_i32_128 : BitVec 32 := 0#32
  let arg2 : BitVec 32 := BitVec.ofNat 32 (i 2).val
  let c4096_i32 : BitVec 32 := 4096#32
  let v0 : BitVec 32 := Scalar.muli arg2 c4096_i32
  let c384_i32 : BitVec 32 := 384#32
  let v289 : BitVec 32 := Scalar.addi v0 c384_i32
  let c64_i32_127 : BitVec 32 := 64#32
  let v290 : BitVec 32 := Scalar.subi v289 c64_i32_127
  let v291 : BitVec 32 := Scalar.maxsi c0_i32_128 v290
  let v292 : BitVec 32 := Scalar.minsi c3840_i32_129 v291
  v292
def k0_mult5 (i : grid0.Coords) : BitVec 32 :=
  let c3840_i32_170 : BitVec 32 := 3840#32
  let c0_i32_169 : BitVec 32 := 0#32
  let arg2 : BitVec 32 := BitVec.ofNat 32 (i 2).val
  let c4096_i32 : BitVec 32 := 4096#32
  let v0 : BitVec 32 := Scalar.muli arg2 c4096_i32
  let c512_i32 : BitVec 32 := 512#32
  let v376 : BitVec 32 := Scalar.addi v0 c512_i32
  let c64_i32_168 : BitVec 32 := 64#32
  let v377 : BitVec 32 := Scalar.subi v376 c64_i32_168
  let v378 : BitVec 32 := Scalar.maxsi c0_i32_169 v377
  let v379 : BitVec 32 := Scalar.minsi c3840_i32_170 v378
  v379
def k0_mult6 (i : grid0.Coords) : BitVec 32 :=
  let c3840_i32_211 : BitVec 32 := 3840#32
  let c0_i32_210 : BitVec 32 := 0#32
  let arg2 : BitVec 32 := BitVec.ofNat 32 (i 2).val
  let c4096_i32 : BitVec 32 := 4096#32
  let v0 : BitVec 32 := Scalar.muli arg2 c4096_i32
  let c640_i32 : BitVec 32 := 640#32
  let v463 : BitVec 32 := Scalar.addi v0 c640_i32
  let c64_i32_209 : BitVec 32 := 64#32
  let v464 : BitVec 32 := Scalar.subi v463 c64_i32_209
  let v465 : BitVec 32 := Scalar.maxsi c0_i32_210 v464
  let v466 : BitVec 32 := Scalar.minsi c3840_i32_211 v465
  v466
def k0_mult7 (i : grid0.Coords) : BitVec 32 :=
  let c3840_i32_252 : BitVec 32 := 3840#32
  let c0_i32_251 : BitVec 32 := 0#32
  let arg2 : BitVec 32 := BitVec.ofNat 32 (i 2).val
  let c4096_i32 : BitVec 32 := 4096#32
  let v0 : BitVec 32 := Scalar.muli arg2 c4096_i32
  let c768_i32 : BitVec 32 := 768#32
  let v550 : BitVec 32 := Scalar.addi v0 c768_i32
  let c64_i32_250 : BitVec 32 := 64#32
  let v551 : BitVec 32 := Scalar.subi v550 c64_i32_250
  let v552 : BitVec 32 := Scalar.maxsi c0_i32_251 v551
  let v553 : BitVec 32 := Scalar.minsi c3840_i32_252 v552
  v553
def k0_mult8 (i : grid0.Coords) : BitVec 32 :=
  let c3840_i32_293 : BitVec 32 := 3840#32
  let c0_i32_292 : BitVec 32 := 0#32
  let arg2 : BitVec 32 := BitVec.ofNat 32 (i 2).val
  let c4096_i32 : BitVec 32 := 4096#32
  let v0 : BitVec 32 := Scalar.muli arg2 c4096_i32
  let c896_i32 : BitVec 32 := 896#32
  let v637 : BitVec 32 := Scalar.addi v0 c896_i32
  let c64_i32_291 : BitVec 32 := 64#32
  let v638 : BitVec 32 := Scalar.subi v637 c64_i32_291
  let v639 : BitVec 32 := Scalar.maxsi c0_i32_292 v638
  let v640 : BitVec 32 := Scalar.minsi c3840_i32_293 v639
  v640
def k0_mult9 (i : grid0.Coords) : BitVec 32 :=
  let c3840_i32_334 : BitVec 32 := 3840#32
  let c0_i32_333 : BitVec 32 := 0#32
  let arg2 : BitVec 32 := BitVec.ofNat 32 (i 2).val
  let c4096_i32 : BitVec 32 := 4096#32
  let v0 : BitVec 32 := Scalar.muli arg2 c4096_i32
  let c1024_i32 : BitVec 32 := 1024#32
  let v724 : BitVec 32 := Scalar.addi v0 c1024_i32
  let c64_i32_332 : BitVec 32 := 64#32
  let v725 : BitVec 32 := Scalar.subi v724 c64_i32_332
  let v726 : BitVec 32 := Scalar.maxsi c0_i32_333 v725
  let v727 : BitVec 32 := Scalar.minsi c3840_i32_334 v726
  v727
def k0_mult10 (i : grid0.Coords) : BitVec 32 :=
  let c3840_i32_375 : BitVec 32 := 3840#32
  let c0_i32_374 : BitVec 32 := 0#32
  let arg2 : BitVec 32 := BitVec.ofNat 32 (i 2).val
  let c4096_i32 : BitVec 32 := 4096#32
  let v0 : BitVec 32 := Scalar.muli arg2 c4096_i32
  let c1152_i32 : BitVec 32 := 1152#32
  let v811 : BitVec 32 := Scalar.addi v0 c1152_i32
  let c64_i32_373 : BitVec 32 := 64#32
  let v812 : BitVec 32 := Scalar.subi v811 c64_i32_373
  let v813 : BitVec 32 := Scalar.maxsi c0_i32_374 v812
  let v814 : BitVec 32 := Scalar.minsi c3840_i32_375 v813
  v814
def k0_mult11 (i : grid0.Coords) : BitVec 32 :=
  let c3840_i32_416 : BitVec 32 := 3840#32
  let c0_i32_415 : BitVec 32 := 0#32
  let arg2 : BitVec 32 := BitVec.ofNat 32 (i 2).val
  let c4096_i32 : BitVec 32 := 4096#32
  let v0 : BitVec 32 := Scalar.muli arg2 c4096_i32
  let c1280_i32 : BitVec 32 := 1280#32
  let v898 : BitVec 32 := Scalar.addi v0 c1280_i32
  let c64_i32_414 : BitVec 32 := 64#32
  let v899 : BitVec 32 := Scalar.subi v898 c64_i32_414
  let v900 : BitVec 32 := Scalar.maxsi c0_i32_415 v899
  let v901 : BitVec 32 := Scalar.minsi c3840_i32_416 v900
  v901
def k0_mult12 (i : grid0.Coords) : BitVec 32 :=
  let c3840_i32_457 : BitVec 32 := 3840#32
  let c0_i32_456 : BitVec 32 := 0#32
  let arg2 : BitVec 32 := BitVec.ofNat 32 (i 2).val
  let c4096_i32 : BitVec 32 := 4096#32
  let v0 : BitVec 32 := Scalar.muli arg2 c4096_i32
  let c1408_i32 : BitVec 32 := 1408#32
  let v985 : BitVec 32 := Scalar.addi v0 c1408_i32
  let c64_i32_455 : BitVec 32 := 64#32
  let v986 : BitVec 32 := Scalar.subi v985 c64_i32_455
  let v987 : BitVec 32 := Scalar.maxsi c0_i32_456 v986
  let v988 : BitVec 32 := Scalar.minsi c3840_i32_457 v987
  v988
def k0_mult13 (i : grid0.Coords) : BitVec 32 :=
  let c3840_i32_498 : BitVec 32 := 3840#32
  let c0_i32_497 : BitVec 32 := 0#32
  let arg2 : BitVec 32 := BitVec.ofNat 32 (i 2).val
  let c4096_i32 : BitVec 32 := 4096#32
  let v0 : BitVec 32 := Scalar.muli arg2 c4096_i32
  let c1536_i32 : BitVec 32 := 1536#32
  let v1072 : BitVec 32 := Scalar.addi v0 c1536_i32
  let c64_i32_496 : BitVec 32 := 64#32
  let v1073 : BitVec 32 := Scalar.subi v1072 c64_i32_496
  let v1074 : BitVec 32 := Scalar.maxsi c0_i32_497 v1073
  let v1075 : BitVec 32 := Scalar.minsi c3840_i32_498 v1074
  v1075
def k0_mult14 (i : grid0.Coords) : BitVec 32 :=
  let c3840_i32_539 : BitVec 32 := 3840#32
  let c0_i32_538 : BitVec 32 := 0#32
  let arg2 : BitVec 32 := BitVec.ofNat 32 (i 2).val
  let c4096_i32 : BitVec 32 := 4096#32
  let v0 : BitVec 32 := Scalar.muli arg2 c4096_i32
  let c1664_i32 : BitVec 32 := 1664#32
  let v1159 : BitVec 32 := Scalar.addi v0 c1664_i32
  let c64_i32_537 : BitVec 32 := 64#32
  let v1160 : BitVec 32 := Scalar.subi v1159 c64_i32_537
  let v1161 : BitVec 32 := Scalar.maxsi c0_i32_538 v1160
  let v1162 : BitVec 32 := Scalar.minsi c3840_i32_539 v1161
  v1162
def k0_mult15 (i : grid0.Coords) : BitVec 32 :=
  let c3840_i32_580 : BitVec 32 := 3840#32
  let c0_i32_579 : BitVec 32 := 0#32
  let arg2 : BitVec 32 := BitVec.ofNat 32 (i 2).val
  let c4096_i32 : BitVec 32 := 4096#32
  let v0 : BitVec 32 := Scalar.muli arg2 c4096_i32
  let c1792_i32 : BitVec 32 := 1792#32
  let v1246 : BitVec 32 := Scalar.addi v0 c1792_i32
  let c64_i32_578 : BitVec 32 := 64#32
  let v1247 : BitVec 32 := Scalar.subi v1246 c64_i32_578
  let v1248 : BitVec 32 := Scalar.maxsi c0_i32_579 v1247
  let v1249 : BitVec 32 := Scalar.minsi c3840_i32_580 v1248
  v1249
def k0_mult16 (i : grid0.Coords) : BitVec 32 :=
  let c3840_i32_621 : BitVec 32 := 3840#32
  let c0_i32_620 : BitVec 32 := 0#32
  let arg2 : BitVec 32 := BitVec.ofNat 32 (i 2).val
  let c4096_i32 : BitVec 32 := 4096#32
  let v0 : BitVec 32 := Scalar.muli arg2 c4096_i32
  let c1920_i32 : BitVec 32 := 1920#32
  let v1333 : BitVec 32 := Scalar.addi v0 c1920_i32
  let c64_i32_619 : BitVec 32 := 64#32
  let v1334 : BitVec 32 := Scalar.subi v1333 c64_i32_619
  let v1335 : BitVec 32 := Scalar.maxsi c0_i32_620 v1334
  let v1336 : BitVec 32 := Scalar.minsi c3840_i32_621 v1335
  v1336
def k0_mult17 (i : grid0.Coords) : BitVec 32 :=
  let c3840_i32_662 : BitVec 32 := 3840#32
  let c0_i32_661 : BitVec 32 := 0#32
  let arg2 : BitVec 32 := BitVec.ofNat 32 (i 2).val
  let c4096_i32 : BitVec 32 := 4096#32
  let v0 : BitVec 32 := Scalar.muli arg2 c4096_i32
  let c2048_i32 : BitVec 32 := 2048#32
  let v1420 : BitVec 32 := Scalar.addi v0 c2048_i32
  let c64_i32_660 : BitVec 32 := 64#32
  let v1421 : BitVec 32 := Scalar.subi v1420 c64_i32_660
  let v1422 : BitVec 32 := Scalar.maxsi c0_i32_661 v1421
  let v1423 : BitVec 32 := Scalar.minsi c3840_i32_662 v1422
  v1423
def k0_mult18 (i : grid0.Coords) : BitVec 32 :=
  let c3840_i32_703 : BitVec 32 := 3840#32
  let c0_i32_702 : BitVec 32 := 0#32
  let arg2 : BitVec 32 := BitVec.ofNat 32 (i 2).val
  let c4096_i32 : BitVec 32 := 4096#32
  let v0 : BitVec 32 := Scalar.muli arg2 c4096_i32
  let c2176_i32 : BitVec 32 := 2176#32
  let v1507 : BitVec 32 := Scalar.addi v0 c2176_i32
  let c64_i32_701 : BitVec 32 := 64#32
  let v1508 : BitVec 32 := Scalar.subi v1507 c64_i32_701
  let v1509 : BitVec 32 := Scalar.maxsi c0_i32_702 v1508
  let v1510 : BitVec 32 := Scalar.minsi c3840_i32_703 v1509
  v1510
def k0_mult19 (i : grid0.Coords) : BitVec 32 :=
  let c3840_i32_744 : BitVec 32 := 3840#32
  let c0_i32_743 : BitVec 32 := 0#32
  let arg2 : BitVec 32 := BitVec.ofNat 32 (i 2).val
  let c4096_i32 : BitVec 32 := 4096#32
  let v0 : BitVec 32 := Scalar.muli arg2 c4096_i32
  let c2304_i32 : BitVec 32 := 2304#32
  let v1594 : BitVec 32 := Scalar.addi v0 c2304_i32
  let c64_i32_742 : BitVec 32 := 64#32
  let v1595 : BitVec 32 := Scalar.subi v1594 c64_i32_742
  let v1596 : BitVec 32 := Scalar.maxsi c0_i32_743 v1595
  let v1597 : BitVec 32 := Scalar.minsi c3840_i32_744 v1596
  v1597
def k0_mult20 (i : grid0.Coords) : BitVec 32 :=
  let c3840_i32_785 : BitVec 32 := 3840#32
  let c0_i32_784 : BitVec 32 := 0#32
  let arg2 : BitVec 32 := BitVec.ofNat 32 (i 2).val
  let c4096_i32 : BitVec 32 := 4096#32
  let v0 : BitVec 32 := Scalar.muli arg2 c4096_i32
  let c2432_i32 : BitVec 32 := 2432#32
  let v1681 : BitVec 32 := Scalar.addi v0 c2432_i32
  let c64_i32_783 : BitVec 32 := 64#32
  let v1682 : BitVec 32 := Scalar.subi v1681 c64_i32_783
  let v1683 : BitVec 32 := Scalar.maxsi c0_i32_784 v1682
  let v1684 : BitVec 32 := Scalar.minsi c3840_i32_785 v1683
  v1684
def k0_mult21 (i : grid0.Coords) : BitVec 32 :=
  let c3840_i32_826 : BitVec 32 := 3840#32
  let c0_i32_825 : BitVec 32 := 0#32
  let arg2 : BitVec 32 := BitVec.ofNat 32 (i 2).val
  let c4096_i32 : BitVec 32 := 4096#32
  let v0 : BitVec 32 := Scalar.muli arg2 c4096_i32
  let c2560_i32 : BitVec 32 := 2560#32
  let v1768 : BitVec 32 := Scalar.addi v0 c2560_i32
  let c64_i32_824 : BitVec 32 := 64#32
  let v1769 : BitVec 32 := Scalar.subi v1768 c64_i32_824
  let v1770 : BitVec 32 := Scalar.maxsi c0_i32_825 v1769
  let v1771 : BitVec 32 := Scalar.minsi c3840_i32_826 v1770
  v1771
def k0_mult22 (i : grid0.Coords) : BitVec 32 :=
  let c3840_i32_867 : BitVec 32 := 3840#32
  let c0_i32_866 : BitVec 32 := 0#32
  let arg2 : BitVec 32 := BitVec.ofNat 32 (i 2).val
  let c4096_i32 : BitVec 32 := 4096#32
  let v0 : BitVec 32 := Scalar.muli arg2 c4096_i32
  let c2688_i32 : BitVec 32 := 2688#32
  let v1855 : BitVec 32 := Scalar.addi v0 c2688_i32
  let c64_i32_865 : BitVec 32 := 64#32
  let v1856 : BitVec 32 := Scalar.subi v1855 c64_i32_865
  let v1857 : BitVec 32 := Scalar.maxsi c0_i32_866 v1856
  let v1858 : BitVec 32 := Scalar.minsi c3840_i32_867 v1857
  v1858
def k0_mult23 (i : grid0.Coords) : BitVec 32 :=
  let c3840_i32_908 : BitVec 32 := 3840#32
  let c0_i32_907 : BitVec 32 := 0#32
  let arg2 : BitVec 32 := BitVec.ofNat 32 (i 2).val
  let c4096_i32 : BitVec 32 := 4096#32
  let v0 : BitVec 32 := Scalar.muli arg2 c4096_i32
  let c2816_i32 : BitVec 32 := 2816#32
  let v1942 : BitVec 32 := Scalar.addi v0 c2816_i32
  let c64_i32_906 : BitVec 32 := 64#32
  let v1943 : BitVec 32 := Scalar.subi v1942 c64_i32_906
  let v1944 : BitVec 32 := Scalar.maxsi c0_i32_907 v1943
  let v1945 : BitVec 32 := Scalar.minsi c3840_i32_908 v1944
  v1945
def k0_mult24 (i : grid0.Coords) : BitVec 32 :=
  let c3840_i32_949 : BitVec 32 := 3840#32
  let c0_i32_948 : BitVec 32 := 0#32
  let arg2 : BitVec 32 := BitVec.ofNat 32 (i 2).val
  let c4096_i32 : BitVec 32 := 4096#32
  let v0 : BitVec 32 := Scalar.muli arg2 c4096_i32
  let c2944_i32 : BitVec 32 := 2944#32
  let v2029 : BitVec 32 := Scalar.addi v0 c2944_i32
  let c64_i32_947 : BitVec 32 := 64#32
  let v2030 : BitVec 32 := Scalar.subi v2029 c64_i32_947
  let v2031 : BitVec 32 := Scalar.maxsi c0_i32_948 v2030
  let v2032 : BitVec 32 := Scalar.minsi c3840_i32_949 v2031
  v2032
def k0_mult25 (i : grid0.Coords) : BitVec 32 :=
  let c3840_i32_990 : BitVec 32 := 3840#32
  let c0_i32_989 : BitVec 32 := 0#32
  let arg2 : BitVec 32 := BitVec.ofNat 32 (i 2).val
  let c4096_i32 : BitVec 32 := 4096#32
  let v0 : BitVec 32 := Scalar.muli arg2 c4096_i32
  let c3072_i32 : BitVec 32 := 3072#32
  let v2116 : BitVec 32 := Scalar.addi v0 c3072_i32
  let c64_i32_988 : BitVec 32 := 64#32
  let v2117 : BitVec 32 := Scalar.subi v2116 c64_i32_988
  let v2118 : BitVec 32 := Scalar.maxsi c0_i32_989 v2117
  let v2119 : BitVec 32 := Scalar.minsi c3840_i32_990 v2118
  v2119
def k0_mult26 (i : grid0.Coords) : BitVec 32 :=
  let c3840_i32_1031 : BitVec 32 := 3840#32
  let c0_i32_1030 : BitVec 32 := 0#32
  let arg2 : BitVec 32 := BitVec.ofNat 32 (i 2).val
  let c4096_i32 : BitVec 32 := 4096#32
  let v0 : BitVec 32 := Scalar.muli arg2 c4096_i32
  let c3200_i32 : BitVec 32 := 3200#32
  let v2203 : BitVec 32 := Scalar.addi v0 c3200_i32
  let c64_i32_1029 : BitVec 32 := 64#32
  let v2204 : BitVec 32 := Scalar.subi v2203 c64_i32_1029
  let v2205 : BitVec 32 := Scalar.maxsi c0_i32_1030 v2204
  let v2206 : BitVec 32 := Scalar.minsi c3840_i32_1031 v2205
  v2206
def k0_mult27 (i : grid0.Coords) : BitVec 32 :=
  let c3840_i32_1072 : BitVec 32 := 3840#32
  let c0_i32_1071 : BitVec 32 := 0#32
  let arg2 : BitVec 32 := BitVec.ofNat 32 (i 2).val
  let c4096_i32 : BitVec 32 := 4096#32
  let v0 : BitVec 32 := Scalar.muli arg2 c4096_i32
  let c3328_i32 : BitVec 32 := 3328#32
  let v2290 : BitVec 32 := Scalar.addi v0 c3328_i32
  let c64_i32_1070 : BitVec 32 := 64#32
  let v2291 : BitVec 32 := Scalar.subi v2290 c64_i32_1070
  let v2292 : BitVec 32 := Scalar.maxsi c0_i32_1071 v2291
  let v2293 : BitVec 32 := Scalar.minsi c3840_i32_1072 v2292
  v2293
def k0_mult28 (i : grid0.Coords) : BitVec 32 :=
  let c3840_i32_1113 : BitVec 32 := 3840#32
  let c0_i32_1112 : BitVec 32 := 0#32
  let arg2 : BitVec 32 := BitVec.ofNat 32 (i 2).val
  let c4096_i32 : BitVec 32 := 4096#32
  let v0 : BitVec 32 := Scalar.muli arg2 c4096_i32
  let c3456_i32 : BitVec 32 := 3456#32
  let v2377 : BitVec 32 := Scalar.addi v0 c3456_i32
  let c64_i32_1111 : BitVec 32 := 64#32
  let v2378 : BitVec 32 := Scalar.subi v2377 c64_i32_1111
  let v2379 : BitVec 32 := Scalar.maxsi c0_i32_1112 v2378
  let v2380 : BitVec 32 := Scalar.minsi c3840_i32_1113 v2379
  v2380
def k0_mult29 (i : grid0.Coords) : BitVec 32 :=
  let c3840_i32_1154 : BitVec 32 := 3840#32
  let c0_i32_1153 : BitVec 32 := 0#32
  let arg2 : BitVec 32 := BitVec.ofNat 32 (i 2).val
  let c4096_i32 : BitVec 32 := 4096#32
  let v0 : BitVec 32 := Scalar.muli arg2 c4096_i32
  let c3584_i32 : BitVec 32 := 3584#32
  let v2464 : BitVec 32 := Scalar.addi v0 c3584_i32
  let c64_i32_1152 : BitVec 32 := 64#32
  let v2465 : BitVec 32 := Scalar.subi v2464 c64_i32_1152
  let v2466 : BitVec 32 := Scalar.maxsi c0_i32_1153 v2465
  let v2467 : BitVec 32 := Scalar.minsi c3840_i32_1154 v2466
  v2467
def k0_mult30 (i : grid0.Coords) : BitVec 32 :=
  let c3840_i32_1195 : BitVec 32 := 3840#32
  let c0_i32_1194 : BitVec 32 := 0#32
  let arg2 : BitVec 32 := BitVec.ofNat 32 (i 2).val
  let c4096_i32 : BitVec 32 := 4096#32
  let v0 : BitVec 32 := Scalar.muli arg2 c4096_i32
  let c3712_i32 : BitVec 32 := 3712#32
  let v2551 : BitVec 32 := Scalar.addi v0 c3712_i32
  let c64_i32_1193 : BitVec 32 := 64#32
  let v2552 : BitVec 32 := Scalar.subi v2551 c64_i32_1193
  let v2553 : BitVec 32 := Scalar.maxsi c0_i32_1194 v2552
  let v2554 : BitVec 32 := Scalar.minsi c3840_i32_1195 v2553
  v2554
def k0_mult31 (i : grid0.Coords) : BitVec 32 :=
  let c3840_i32_1237 : BitVec 32 := 3840#32
  let c0_i32_1236 : BitVec 32 := 0#32
  let arg2 : BitVec 32 := BitVec.ofNat 32 (i 2).val
  let c4096_i32 : BitVec 32 := 4096#32
  let v0 : BitVec 32 := Scalar.muli arg2 c4096_i32
  let c3840_i32_1234 : BitVec 32 := 3840#32
  let v2638 : BitVec 32 := Scalar.addi v0 c3840_i32_1234
  let c64_i32_1235 : BitVec 32 := 64#32
  let v2639 : BitVec 32 := Scalar.subi v2638 c64_i32_1235
  let v2640 : BitVec 32 := Scalar.maxsi c0_i32_1236 v2639
  let v2641 : BitVec 32 := Scalar.minsi c3840_i32_1237 v2640
  v2641
def k0_mult32 (i : grid0.Coords) : BitVec 32 :=
  let c3840_i32_1278 : BitVec 32 := 3840#32
  let c0_i32_1277 : BitVec 32 := 0#32
  let arg2 : BitVec 32 := BitVec.ofNat 32 (i 2).val
  let c4096_i32 : BitVec 32 := 4096#32
  let v0 : BitVec 32 := Scalar.muli arg2 c4096_i32
  let c3968_i32 : BitVec 32 := 3968#32
  let v2725 : BitVec 32 := Scalar.addi v0 c3968_i32
  let c64_i32_1276 : BitVec 32 := 64#32
  let v2726 : BitVec 32 := Scalar.subi v2725 c64_i32_1276
  let v2727 : BitVec 32 := Scalar.maxsi c0_i32_1277 v2726
  let v2728 : BitVec 32 := Scalar.minsi c3840_i32_1278 v2727
  v2728
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, arg2.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S3x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S10x4096x3072 : Shape := ⟨3, ![10, 4096, 3072]⟩
abbrev S10x4096x3x16x64 : Shape := ⟨5, ![10, 4096, 3, 16, 64]⟩
abbrev S10x4096x1x16x64 : Shape := ⟨5, ![10, 4096, 1, 16, 64]⟩
abbrev S10x4096x16x64 : Shape := ⟨4, ![10, 4096, 16, 64]⟩
abbrev S10x64x64x16x64 : Shape := ⟨5, ![10, 64, 64, 16, 64]⟩
abbrev S_ : Shape := ⟨0, ![]⟩
abbrev S10x4224x16x64 : Shape := ⟨4, ![10, 4224, 16, 64]⟩
abbrev S10x66x64x16x64 : Shape := ⟨5, ![10, 66, 64, 16, 64]⟩
abbrev S10x64x192x16x64 : Shape := ⟨5, ![10, 64, 192, 16, 64]⟩
abbrev S4096 : Shape := ⟨1, ![4096]⟩
abbrev S64x64 : Shape := ⟨2, ![64, 64]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S64x1x192 : Shape := ⟨3, ![64, 1, 192]⟩
abbrev S64x64x1 : Shape := ⟨3, ![64, 64, 1]⟩
abbrev S64x64x192 : Shape := ⟨3, ![64, 64, 192]⟩
abbrev S10x64x16x64x192 : Shape := ⟨5, ![10, 64, 16, 64, 192]⟩
abbrev S1x64x1x64x192 : Shape := ⟨5, ![1, 64, 1, 64, 192]⟩
abbrev S10x64x16x64 : Shape := ⟨4, ![10, 64, 16, 64]⟩
abbrev S10x64x16x64x1 : Shape := ⟨5, ![10, 64, 16, 64, 1]⟩
abbrev S10x64x16x64x64 : Shape := ⟨5, ![10, 64, 16, 64, 64]⟩
abbrev S10x64x64x16 : Shape := ⟨4, ![10, 64, 64, 16]⟩
abbrev S10x4096x16 : Shape := ⟨3, ![10, 4096, 16]⟩
abbrev S10x4096x1024 : Shape := ⟨3, ![10, 4096, 1024]⟩
abbrev S10x4096x16x1 : Shape := ⟨4, ![10, 4096, 16, 1]⟩

abbrev nBuf : Space → Nat
  | .hbm => 91
  | .vmem => 0
  | .smem => 0
  | _ => 0

abbrev bufTy : (tb : Table) → Fin (tcTables nBuf tb) → BufTy
  | .hbm, ⟨0, _⟩ => ⟨S10x4096x3072, .f32⟩
  | .hbm, ⟨1, _⟩ => ⟨S10x4096x3x16x64, .f32⟩
  | .hbm, ⟨2, _⟩ => ⟨S10x4096x1x16x64, .f32⟩
  | .hbm, ⟨3, _⟩ => ⟨S10x4096x16x64, .f32⟩
  | .hbm, ⟨4, _⟩ => ⟨S10x4096x1x16x64, .f32⟩
  | .hbm, ⟨5, _⟩ => ⟨S10x4096x16x64, .f32⟩
  | .hbm, ⟨6, _⟩ => ⟨S10x4096x1x16x64, .f32⟩
  | .hbm, ⟨7, _⟩ => ⟨S10x4096x16x64, .f32⟩
  | .hbm, ⟨8, _⟩ => ⟨S10x64x64x16x64, .f32⟩
  | .hbm, ⟨9, _⟩ => ⟨S_, .i32⟩
  | .hbm, ⟨10, _⟩ => ⟨S_, .f32⟩
  | .hbm, ⟨11, _⟩ => ⟨S10x4224x16x64, .f32⟩
  | .hbm, ⟨12, _⟩ => ⟨S10x66x64x16x64, .f32⟩
  | .hbm, ⟨13, _⟩ => ⟨S10x64x64x16x64, .f32⟩
  | .hbm, ⟨14, _⟩ => ⟨S10x64x64x16x64, .f32⟩
  | .hbm, ⟨15, _⟩ => ⟨S10x64x64x16x64, .f32⟩
  | .hbm, ⟨16, _⟩ => ⟨S10x64x192x16x64, .f32⟩
  | .hbm, ⟨17, _⟩ => ⟨S_, .i32⟩
  | .hbm, ⟨18, _⟩ => ⟨S_, .f32⟩
  | .hbm, ⟨19, _⟩ => ⟨S10x4224x16x64, .f32⟩
  | .hbm, ⟨20, _⟩ => ⟨S10x66x64x16x64, .f32⟩
  | .hbm, ⟨21, _⟩ => ⟨S10x64x64x16x64, .f32⟩
  | .hbm, ⟨22, _⟩ => ⟨S10x64x64x16x64, .f32⟩
  | .hbm, ⟨23, _⟩ => ⟨S10x64x64x16x64, .f32⟩
  | .hbm, ⟨24, _⟩ => ⟨S10x64x192x16x64, .f32⟩
  | .hbm, ⟨25, _⟩ => ⟨S4096, .i32⟩
  | .hbm, ⟨26, _⟩ => ⟨S64x64, .i32⟩
  | .hbm, ⟨27, _⟩ => ⟨S64, .i32⟩
  | .hbm, ⟨28, _⟩ => ⟨S64x1, .i32⟩
  | .hbm, ⟨29, _⟩ => ⟨S_, .i32⟩
  | .hbm, ⟨30, _⟩ => ⟨S64x1, .i32⟩
  | .hbm, ⟨31, _⟩ => ⟨S64x1, .i32⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S192, .i32⟩
  | .hbm, ⟨36, _⟩ => ⟨S1x192, .i32⟩
  | .hbm, ⟨37, _⟩ => ⟨S64x192, .i32⟩
  | .hbm, ⟨38, _⟩ => ⟨S64x192, .i32⟩
  | .hbm, ⟨39, _⟩ => ⟨S64x192, .i32⟩
  | .hbm, ⟨40, _⟩ => ⟨S64x1x192, .i32⟩
  | .hbm, ⟨41, _⟩ => ⟨S64x64x1, .i32⟩
  | .hbm, ⟨42, _⟩ => ⟨S64x64x192, .i32⟩
  | .hbm, ⟨43, _⟩ => ⟨S64x64x192, .i32⟩
  | .hbm, ⟨44, _⟩ => ⟨S64x64x192, .i32⟩
  | .hbm, ⟨45, _⟩ => ⟨S64x64x192, .i32⟩
  | .hbm, ⟨46, _⟩ => ⟨S_, .i32⟩
  | .hbm, ⟨47, _⟩ => ⟨S64x64x192, .i32⟩
  | .hbm, ⟨48, _⟩ => ⟨S64x64x192, .i1⟩
  | .hbm, ⟨49, _⟩ => ⟨S_, .i32⟩
  | .hbm, ⟨50, _⟩ => ⟨S64x1x192, .i32⟩
  | .hbm, ⟨51, _⟩ => ⟨S64x1x192, .i1⟩
  | .hbm, ⟨52, _⟩ => ⟨S64x64x192, .i1⟩
  | .hbm, ⟨53, _⟩ => ⟨S64x64x192, .i1⟩
  | .hbm, ⟨54, _⟩ => ⟨S_, .i32⟩
  | .hbm, ⟨55, _⟩ => ⟨S64x1x192, .i32⟩
  | .hbm, ⟨56, _⟩ => ⟨S64x1x192, .i1⟩
  | .hbm, ⟨57, _⟩ => ⟨S64x64x192, .i1⟩
  | .hbm, ⟨58, _⟩ => ⟨S64x64x192, .i1⟩
  | .hbm, ⟨59, _⟩ => ⟨S10x64x16x64x192, .f32⟩
  | .hbm, ⟨60, _⟩ => ⟨S_, .f32⟩
  | .hbm, ⟨61, _⟩ => ⟨S10x64x16x64x192, .f32⟩
  | .hbm, ⟨62, _⟩ => ⟨S10x64x16x64x192, .f32⟩
  | .hbm, ⟨63, _⟩ => ⟨S1x64x1x64x192, .i1⟩
  | .hbm, ⟨64, _⟩ => ⟨S_, .f32⟩
  | .hbm, ⟨65, _⟩ => ⟨S_, .f32⟩
  | .hbm, ⟨66, _⟩ => ⟨S10x64x16x64x192, .i1⟩
  | .hbm, ⟨67, _⟩ => ⟨S10x64x16x64x192, .f32⟩
  | .hbm, ⟨68, _⟩ => ⟨S10x64x16x64x192, .f32⟩
  | .hbm, ⟨69, _⟩ => ⟨S_, .f32⟩
  | .hbm, ⟨70, _⟩ => ⟨S10x64x16x64, .f32⟩
  | .hbm, ⟨71, _⟩ => ⟨S10x64x16x64x1, .f32⟩
  | .hbm, ⟨72, _⟩ => ⟨S10x64x16x64x192, .f32⟩
  | .hbm, ⟨73, _⟩ => ⟨S10x64x16x64x192, .f32⟩
  | .hbm, ⟨74, _⟩ => ⟨S10x64x16x64x192, .f32⟩
  | .hbm, ⟨75, _⟩ => ⟨S_, .f32⟩
  | .hbm, ⟨76, _⟩ => ⟨S10x64x16x64, .f32⟩
  | .hbm, ⟨77, _⟩ => ⟨S10x64x16x64x1, .f32⟩
  | .hbm, ⟨78, _⟩ => ⟨S10x64x16x64x192, .f32⟩
  | .hbm, ⟨79, _⟩ => ⟨S10x64x16x64x192, .f32⟩
  | .hbm, ⟨80, _⟩ => ⟨S10x64x16x64x64, .f32⟩
  | .hbm, ⟨81, _⟩ => ⟨S10x64x64x16x64, .f32⟩
  | .hbm, ⟨82, _⟩ => ⟨S10x64x16x64, .f32⟩
  | .hbm, ⟨83, _⟩ => ⟨S10x64x16x64, .f32⟩
  | .hbm, ⟨84, _⟩ => ⟨S10x64x64x16, .f32⟩
  | .hbm, ⟨85, _⟩ => ⟨S10x4096x16, .f32⟩
  | .hbm, ⟨86, _⟩ => ⟨S10x4096x1024, .f32⟩
  | .hbm, ⟨87, _⟩ => ⟨S10x4096x1024, .bf16⟩
  | .hbm, ⟨88, _⟩ => ⟨S10x4096x16x1, .f32⟩
  | .hbm, ⟨89, _⟩ => ⟨S10x4096x16x64, .f32⟩
  | .hbm, ⟨90, _⟩ => ⟨S10x4096x1024, .f32⟩
  | _, _ => ⟨S10x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_0 : Ref sig .tc := ⟨.hbm, 17, rfl⟩
abbrev main_call1_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_3 : Ref sig .tc := ⟨.hbm, 46, rfl⟩
abbrev main_v39 : Ref sig .tc := ⟨.hbm, 47, rfl⟩
abbrev main_v40 : Ref sig .tc := ⟨.hbm, 48, rfl⟩
abbrev main_c_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_c_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩

abbrev nD : Nat := 1
abbrev τ : Topo := Topo.v7x

variable {F : FTy → Type} [FloatOps F]
-- ==== Kernel2.lean ====
abbrev S40960x2048 : Shape := ⟨2, ![40960, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S1024x2048 : Shape := ⟨2, ![1024, 2048]⟩
abbrev S1x2048x256 : Shape := ⟨3, ![1, 2048, 256]⟩
abbrev S1x256x2048 : Shape := ⟨3, ![1, 256, 2048]⟩
abbrev S16x2048 : Shape := ⟨2, ![16, 2048]⟩
abbrev S16 : Shape := ⟨1, ![16]⟩
abbrev S16x1 : Shape := ⟨2, ![16, 1]⟩
abbrev S2048x256 : Shape := ⟨2, ![2048, 256]⟩
abbrev S1024x256 : Shape := ⟨2, ![1024, 256]⟩
abbrev S256x2048 : Shape := ⟨2, ![256, 2048]⟩
abbrev S8x2048 : Shape := ⟨2, ![8, 2048]⟩
abbrev S8 : Shape := ⟨1, ![8]⟩
abbrev S8x1 : Shape := ⟨2, ![8, 1]⟩

abbrev nBuf : Space → Nat
  | .hbm => 16
  | .vmem => 14
  | .smem => 0
  | _ => 0

abbrev bufTy : (tb : Table) → Fin (tcTables nBuf tb) → BufTy
  | .hbm, ⟨0, _⟩ => ⟨S40960x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S4x2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S40960x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | .local _ .vmem, ⟨13, _⟩ => ⟨S1024x2048, .f32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![40, 22], ![false, false]⟩

def k0_cond3 (i : grid0.Coords) : BitVec 1 :=
  let arg1 : BitVec 32 := BitVec.ofNat 32 (i 1).val
  let c21_i32 : BitVec 32 := 21#32
  let v6 : BitVec 1 := Scalar.cmpi .eq arg1 c21_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S40960x2048 : Shape := ⟨2, ![40960, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S40960 : Shape := ⟨1, ![40960]⟩
abbrev S40960x1 : Shape := ⟨2, ![40960, 1]⟩
abbrev S1x2048x5632 : Shape := ⟨3, ![1, 2048, 5632]⟩
abbrev S2048x5632 : Shape := ⟨2, ![2048, 5632]⟩
abbrev S40960x5632 : Shape := ⟨2, ![40960, 5632]⟩
abbrev S1x5632x2048 : Shape := ⟨3, ![1, 5632, 2048]⟩
abbrev S5632x2048 : Shape := ⟨2, ![5632, 2048]⟩

abbrev nBuf : Space → Nat
  | .hbm => 62
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S4x2048, .f32⟩
  | .hbm, ⟨6, _⟩ => ⟨S1x2048, .f32⟩
  | .hbm, ⟨7, _⟩ => ⟨S2048, .f32⟩
  | .hbm, ⟨8, _⟩ => ⟨S40960x2048, .f32⟩
  | .hbm, ⟨9, _⟩ => ⟨S_, .f32⟩
  | .hbm, ⟨10, _⟩ => ⟨S40960, .f32⟩
  | .hbm, ⟨11, _⟩ => ⟨S40960x1, .f32⟩
  | .hbm, ⟨12, _⟩ => ⟨S_, .f32⟩
  | .hbm, ⟨13, _⟩ => ⟨S40960x1, .f32⟩
  | .hbm, ⟨14, _⟩ => ⟨S40960x1, .f32⟩
  | .hbm, ⟨15, _⟩ => ⟨S_, .f32⟩
  | .hbm, ⟨16, _⟩ => ⟨S40960x1, .f32⟩
  | .hbm, ⟨17, _⟩ => ⟨S40960x1, .f32⟩
  | .hbm, ⟨18, _⟩ => ⟨S40960x1, .f32⟩
  | .hbm, ⟨19, _⟩ => ⟨S40960x2048, .f32⟩
  | .hbm, ⟨20, _⟩ => ⟨S40960x2048, .f32⟩
  | .hbm, ⟨21, _⟩ => ⟨S1x2048, .f32⟩
  | .hbm, ⟨22, _⟩ => ⟨S40960x2048, .f32⟩
  | .hbm, ⟨23, _⟩ => ⟨S40960x2048, .f32⟩
  | .hbm, ⟨24, _⟩ => ⟨S1x2048x5632, .f32⟩
  | .hbm, ⟨25, _⟩ => ⟨S2048x5632, .f32⟩
  | .hbm, ⟨26, _⟩ => ⟨S40960x5632, .f32⟩
  | .hbm, ⟨27, _⟩ => ⟨S40960x5632, .f32⟩
  | .hbm, ⟨28, _⟩ => ⟨S40960x5632, .f32⟩
  | .hbm, ⟨29, _⟩ => ⟨S_, .f32⟩
  | .hbm, ⟨30, _⟩ => ⟨S40960x5632, .f32⟩
  | .hbm, ⟨31, _⟩ => ⟨S40960x5632, .f32⟩
  | .hbm, ⟨32, _⟩ => ⟨S_, .f32⟩
  | .hbm, ⟨33, _⟩ => ⟨S40960x5632, .f32⟩
  | .hbm, ⟨34, _⟩ => ⟨S40960x5632, .f32⟩
  | .hbm, ⟨35, _⟩ => ⟨S40960x5632, .f32⟩
  | .hbm, ⟨36, _⟩ => ⟨S1x2048x5632, .f32⟩
  | .hbm, ⟨37, _⟩ => ⟨S2048x5632, .f32⟩
  | .hbm, ⟨38, _⟩ => ⟨S40960x5632, .f32⟩
  | .hbm, ⟨39, _⟩ => ⟨S40960x5632, .f32⟩
  | .hbm, ⟨40, _⟩ => ⟨S1x5632x2048, .f32⟩
  | .hbm, ⟨41, _⟩ => ⟨S5632x2048, .f32⟩
  | .hbm, ⟨42, _⟩ => ⟨S40960x2048, .f32⟩
  | .hbm, ⟨43, _⟩ => ⟨S1x2048, .f32⟩
  | .hbm, ⟨44, _⟩ => ⟨S2048, .f32⟩
  | .hbm, ⟨45, _⟩ => ⟨S40960x2048, .f32⟩
  | .hbm, ⟨46, _⟩ => ⟨S_, .f32⟩
  | .hbm, ⟨47, _⟩ => ⟨S40960, .f32⟩
  | .hbm, ⟨48, _⟩ => ⟨S40960x1, .f32⟩
  | .hbm, ⟨49, _⟩ => ⟨S_, .f32⟩
  | .hbm, ⟨50, _⟩ => ⟨S40960x1, .f32⟩
  | .hbm, ⟨51, _⟩ => ⟨S40960x1, .f32⟩
  | .hbm, ⟨52, _⟩ => ⟨S_, .f32⟩
  | .hbm, ⟨53, _⟩ => ⟨S40960x1, .f32⟩
  | .hbm, ⟨54, _⟩ => ⟨S40960x1, .f32⟩
  | .hbm, ⟨55, _⟩ => ⟨S40960x1, .f32⟩
  | .hbm, ⟨56, _⟩ => ⟨S40960x2048, .f32⟩
  | .hbm, ⟨57, _⟩ => ⟨S40960x2048, .f32⟩
  | .hbm, ⟨58, _⟩ => ⟨S1x2048, .f32⟩
  | .hbm, ⟨59, _⟩ => ⟨S40960x2048, .f32⟩
  | .hbm, ⟨60, _⟩ => ⟨S40960x2048, .f32⟩
  | .hbm, ⟨61, _⟩ => ⟨S40960x2048, .f32⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Kernel3.lean ====
abbrev S40960x2048 : Shape := ⟨2, ![40960, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S32768x2048 : Shape := ⟨2, ![32768, 2048]⟩
abbrev S8192x2048 : Shape := ⟨2, ![8192, 2048]⟩
abbrev S512x2048 : Shape := ⟨2, ![512, 2048]⟩
abbrev S1x2048x512 : Shape := ⟨3, ![1, 2048, 512]⟩
abbrev S1x512x2048 : Shape := ⟨3, ![1, 512, 2048]⟩
abbrev S16x2048 : Shape := ⟨2, ![16, 2048]⟩
abbrev S16 : Shape := ⟨1, ![16]⟩
abbrev S16x1 : Shape := ⟨2, ![16, 1]⟩
abbrev S2048x512 : Shape := ⟨2, ![2048, 512]⟩
abbrev S512x512 : Shape := ⟨2, ![512, 512]⟩
abbrev S8x2048 : Shape := ⟨2, ![8, 2048]⟩
abbrev S8 : Shape := ⟨1, ![8]⟩
abbrev S8x1 : Shape := ⟨2, ![8, 1]⟩

abbrev nBuf : Space → Nat
  | .hbm => 17
  | .vmem => 16
  | .smem => 0
  | _ => 0

abbrev bufTy : (tb : Table) → Fin (tcTables nBuf tb) → BufTy
  | .hbm, ⟨0, _⟩ => ⟨S40960x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S4x2048, .f32⟩
  | .hbm, ⟨6, _⟩ => ⟨S4x2048x5632, .bf16⟩
  | .hbm, ⟨7, _⟩ => ⟨S4x2048x5632, .bf16⟩
  | .hbm, ⟨8, _⟩ => ⟨S4x5632x2048, .bf16⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S32768x2048, .f32⟩
  | .hbm, ⟨16, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .f32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![80, 11], ![false, false]⟩

def k0_cond3 (i : grid0.Coords) : BitVec 1 :=
  let arg1 : BitVec 32 := BitVec.ofNat 32 (i 1).val
  let c10_i32 : BitVec 32 := 10#32
  let v8 : BitVec 1 := Scalar.cmpi .eq arg1 c10_i32
  let arg0 : BitVec 32 := BitVec.ofNat 32 (i 0).val
  let c64_i32 : BitVec 32 := 64#32
  let v6 : BitVec 1 := Scalar.cmpi .slt arg0 c64_i32
  let v9 : BitVec 1 := Scalar.andi v8 v6
  let v10 : BitVec 32 := Scalar.extui v9
  let c0_i32_4 : BitVec 32 := 0#32
  let v11 : BitVec 1 := Scalar.cmpi .ne v10 c0_i32_4
  v11

def k0_cond4 (i : grid0.Coords) : BitVec 1 :=
  let arg1 : BitVec 32 := BitVec.ofNat 32 (i 1).val
  let c10_i32_5 : BitVec 32 := 10#32
  let v12 : BitVec 1 := Scalar.cmpi .eq arg1 c10_i32_5
  let arg0 : BitVec 32 := BitVec.ofNat 32 (i 0).val
  let c64_i32_3 : BitVec 32 := 64#32
  let v7 : BitVec 1 := Scalar.cmpi .sge arg0 c64_i32_3
  let v13 : BitVec 1 := Scalar.andi v12 v7
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S40960x2048 : Shape := ⟨2, ![40960, 2048]⟩
abbrev S4x2048 : Shape := ⟨2, ![4, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S40960 : Shape := ⟨1, ![40960]⟩
abbrev S40960x1 : Shape := ⟨2, ![40960, 1]⟩
abbrev S1x2048x5632 : Shape := ⟨3, ![1, 2048, 5632]⟩
abbrev S2048x5632 : Shape := ⟨2, ![2048, 5632]⟩
abbrev S40960x5632 : Shape := ⟨2, ![40960, 5632]⟩
abbrev S1x5632x2048 : Shape := ⟨3, ![1, 5632, 2048]⟩
abbrev S5632x2048 : Shape := ⟨2, ![5632, 2048]⟩
abbrev S32768x2048 : Shape := ⟨2, ![32768, 2048]⟩
abbrev S8192x2048 : Shape := ⟨2, ![8192, 2048]⟩

abbrev nBuf : Space → Nat
  | .hbm => 64
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S4x2048, .f32⟩
  | .hbm, ⟨2, _⟩ => ⟨S4x2048x5632, .f32⟩
  | .hbm, ⟨3, _⟩ => ⟨S4x2048x5632, .f32⟩
  | .hbm, ⟨4, _⟩ => ⟨S4x5632x2048, .f32⟩
  | .hbm, ⟨5, _⟩ => ⟨S4x2048, .f32⟩
  | .hbm, ⟨6, _⟩ => ⟨S1x2048, .f32⟩
  | .hbm, ⟨7, _⟩ => ⟨S2048, .f32⟩
  | .hbm, ⟨8, _⟩ => ⟨S40960x2048, .f32⟩
  | .hbm, ⟨9, _⟩ => ⟨S_, .f32⟩
  | .hbm, ⟨10, _⟩ => ⟨S40960, .f32⟩
  | .hbm, ⟨11, _⟩ => ⟨S40960x1, .f32⟩
  | .hbm, ⟨12, _⟩ => ⟨S_, .f32⟩
  | .hbm, ⟨13, _⟩ => ⟨S40960x1, .f32⟩
  | .hbm, ⟨14, _⟩ => ⟨S40960x1, .f32⟩
  | .hbm, ⟨15, _⟩ => ⟨S_, .f32⟩
  | .hbm, ⟨16, _⟩ => ⟨S40960x1, .f32⟩
  | .hbm, ⟨17, _⟩ => ⟨S40960x1, .f32⟩
  | .hbm, ⟨18, _⟩ => ⟨S40960x1, .f32⟩
  | .hbm, ⟨19, _⟩ => ⟨S40960x2048, .f32⟩
  | .hbm, ⟨20, _⟩ => ⟨S40960x2048, .f32⟩
  | .hbm, ⟨21, _⟩ => ⟨S1x2048, .f32⟩
  | .hbm, ⟨22, _⟩ => ⟨S40960x2048, .f32⟩
  | .hbm, ⟨23, _⟩ => ⟨S40960x2048, .f32⟩
  | .hbm, ⟨24, _⟩ => ⟨S1x2048x5632, .f32⟩
  | .hbm, ⟨25, _⟩ => ⟨S2048x5632, .f32⟩
  | .hbm, ⟨26, _⟩ => ⟨S40960x5632, .f32⟩
  | .hbm, ⟨27, _⟩ => ⟨S40960x5632, .f32⟩
  | .hbm, ⟨28, _⟩ => ⟨S40960x5632, .f32⟩
  | .hbm, ⟨29, _⟩ => ⟨S_, .f32⟩
  | .hbm, ⟨30, _⟩ => ⟨S40960x5632, .f32⟩
  | .hbm, ⟨31, _⟩ => ⟨S40960x5632, .f32⟩
  | .hbm, ⟨32, _⟩ => ⟨S_, .f32⟩
  | .hbm, ⟨33, _⟩ => ⟨S40960x5632, .f32⟩
  | .hbm, ⟨34, _⟩ => ⟨S40960x5632, .f32⟩
  | .hbm, ⟨35, _⟩ => ⟨S40960x5632, .f32⟩
  | .hbm, ⟨36, _⟩ => ⟨S1x2048x5632, .f32⟩
  | .hbm, ⟨37, _⟩ => ⟨S2048x5632, .f32⟩
  | .hbm, ⟨38, _⟩ => ⟨S40960x5632, .f32⟩
  | .hbm, ⟨39, _⟩ => ⟨S40960x5632, .f32⟩
  | .hbm, ⟨40, _⟩ => ⟨S1x5632x2048, .f32⟩
  | .hbm, ⟨41, _⟩ => ⟨S5632x2048, .f32⟩
  | .hbm, ⟨42, _⟩ => ⟨S40960x2048, .f32⟩
  | .hbm, ⟨43, _⟩ => ⟨S1x2048, .f32⟩
  | .hbm, ⟨44, _⟩ => ⟨S2048, .f32⟩
  | .hbm, ⟨45, _⟩ => ⟨S40960x2048, .f32⟩
  | .hbm, ⟨46, _⟩ => ⟨S_, .f32⟩
  | .hbm, ⟨47, _⟩ => ⟨S40960, .f32⟩
  | .hbm, ⟨48, _⟩ => ⟨S40960x1, .f32⟩
  | .hbm, ⟨49, _⟩ => ⟨S_, .f32⟩
  | .hbm, ⟨50, _⟩ => ⟨S40960x1, .f32⟩
  | .hbm, ⟨51, _⟩ => ⟨S40960x1, .f32⟩
  | .hbm, ⟨52, _⟩ => ⟨S_, .f32⟩
  | .hbm, ⟨53, _⟩ => ⟨S40960x1, .f32⟩
  | .hbm, ⟨54, _⟩ => ⟨S40960x1, .f32⟩
  | .hbm, ⟨55, _⟩ => ⟨S40960x1, .f32⟩
  | .hbm, ⟨56, _⟩ => ⟨S40960x2048, .f32⟩
  | .hbm, ⟨57, _⟩ => ⟨S40960x2048, .f32⟩
  | .hbm, ⟨58, _⟩ => ⟨S1x2048, .f32⟩
  | .hbm, ⟨59, _⟩ => ⟨S40960x2048, .f32⟩
  | .hbm, ⟨60, _⟩ => ⟨S40960x2048, .f32⟩
  | .hbm, ⟨61, _⟩ => ⟨S40960x2048, .f32⟩
  | .hbm, ⟨62, _⟩ => ⟨S32768x2048, .f32⟩
  | .hbm, ⟨63, _⟩ => ⟨S8192x2048, .f32⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel4.lean ====
abbrev S40960x16x64 : Shape := ⟨3, ![40960, 16, 64]⟩
abbrev S40960x16 : Shape := ⟨2, ![40960, 16]⟩
abbrev S40960x2048 : Shape := ⟨2, ![40960, 2048]⟩
abbrev S4x2048 : Shape := ⟨2, ![4, 2048]⟩
abbrev S2x1024x2048 : Shape := ⟨3, ![2, 1024, 2048]⟩
abbrev S40960x1024 : Shape := ⟨2, ![40960, 1024]⟩
abbrev S40960x16x1 : Shape := ⟨3, ![40960, 16, 1]⟩
abbrev S1x2048 : Shape := ⟨2, ![1, 2048]⟩
abbrev S2048 : Shape := ⟨1, ![2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 29
  | .vmem => 18
  | .smem => 0
  | _ => 0

abbrev bufTy : (tb : Table) → Fin (tcTables nBuf tb) → BufTy
  | .hbm, ⟨0, _⟩ => ⟨S40960x16x64, .f32⟩
  | .hbm, ⟨1, _⟩ => ⟨S40960x16x64, .f32⟩
  | .hbm, ⟨2, _⟩ => ⟨S40960x16x64, .f32⟩
  | .hbm, ⟨3, _⟩ => ⟨S40960x16, .f32⟩
  | .hbm, ⟨4, _⟩ => ⟨S40960x16, .f32⟩
  | .hbm, ⟨5, _⟩ => ⟨S40960x16, .f32⟩
  | .hbm, ⟨6, _⟩ => ⟨S40960x2048, .f32⟩
  | .hbm, ⟨7, _⟩ => ⟨S4x2048, .f32⟩
  | .hbm, ⟨8, _⟩ => ⟨S2x1024x2048, .f32⟩
  | .hbm, ⟨9, _⟩ => ⟨S40960x16x64, .bf16⟩
  | .hbm, ⟨10, _⟩ => ⟨S40960x1024, .bf16⟩
  | .hbm, ⟨11, _⟩ => ⟨S40960x16x64, .bf16⟩
  | .hbm, ⟨12, _⟩ => ⟨S40960x1024, .bf16⟩
  | .hbm, ⟨13, _⟩ => ⟨S40960x16x64, .bf16⟩
  | .hbm, ⟨14, _⟩ => ⟨S40960x1024, .bf16⟩
  | .hbm, ⟨15, _⟩ => ⟨S40960x16x1, .f32⟩
  | .hbm, ⟨16, _⟩ => ⟨S40960x16x64, .f32⟩
  | .hbm, ⟨17, _⟩ => ⟨S40960x1024, .f32⟩
  | .hbm, ⟨18, _⟩ => ⟨S40960x16x1, .f32⟩
  | .hbm, ⟨19, _⟩ => ⟨S40960x16x64, .f32⟩
  | .hbm, ⟨20, _⟩ => ⟨S40960x1024, .f32⟩
  | .hbm, ⟨21, _⟩ => ⟨S40960x16x1, .f32⟩
  | .hbm, ⟨22, _⟩ => ⟨S40960x16x64, .f32⟩
  | .hbm, ⟨23, _⟩ => ⟨S40960x1024, .f32⟩
  | .hbm, ⟨24, _⟩ => ⟨S2x1024x2048, .bf16⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S40960x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024x2048, .bf16⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | _, _ => ⟨S40960x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S40960x16x64 : Shape := ⟨3, ![40960, 16, 64]⟩
abbrev S40960x16 : Shape := ⟨2, ![40960, 16]⟩
abbrev S40960x2048 : Shape := ⟨2, ![40960, 2048]⟩
abbrev S4x2048 : Shape := ⟨2, ![4, 2048]⟩
abbrev S2x1024x2048 : Shape := ⟨3, ![2, 1024, 2048]⟩
abbrev S1x40960x16 : Shape := ⟨3, ![1, 40960, 16]⟩
abbrev S3x40960x16 : Shape := ⟨3, ![3, 40960, 16]⟩
abbrev S_ : Shape := ⟨0, ![]⟩
abbrev S3x40960x16x1 : Shape := ⟨4, ![3, 40960, 16, 1]⟩
abbrev S1x40960x16x64 : Shape := ⟨4, ![1, 40960, 16, 64]⟩
abbrev S3x40960x16x64 : Shape := ⟨4, ![3, 40960, 16, 64]⟩
abbrev S40960x1024 : Shape := ⟨2, ![40960, 1024]⟩
abbrev S1x1024x2048 : Shape := ⟨3, ![1, 1024, 2048]⟩
abbrev S1024x2048 : Shape := ⟨2, ![1024, 2048]⟩
abbrev S1x2048 : Shape := ⟨2, ![1, 2048]⟩
abbrev S2048 : Shape := ⟨1, ![2048]⟩
abbrev S40960 : Shape := ⟨1, ![40960]⟩
abbrev S40960x1 : Shape := ⟨2, ![40960, 1]⟩

abbrev nBuf : Space → Nat
  | .hbm => 59
  | .vmem => 0
  | .smem => 0
  | _ => 0

abbrev bufTy : (tb : Table) → Fin (tcTables nBuf tb) → BufTy
  | .hbm, ⟨0, _⟩ => ⟨S40960x16x64, .f32⟩
  | .hbm, ⟨1, _⟩ => ⟨S40960x16x64, .f32⟩
  | .hbm, ⟨2, _⟩ => ⟨S40960x16x64, .f32⟩
  | .hbm, ⟨3, _⟩ => ⟨S40960x16, .f32⟩
  | .hbm, ⟨4, _⟩ => ⟨S40960x16, .f32⟩
  | .hbm, ⟨5, _⟩ => ⟨S40960x16, .f32⟩
  | .hbm, ⟨6, _⟩ => ⟨S40960x2048, .f32⟩
  | .hbm, ⟨7, _⟩ => ⟨S4x2048, .f32⟩
  | .hbm, ⟨8, _⟩ => ⟨S2x1024x2048, .f32⟩
  | .hbm, ⟨9, _⟩ => ⟨S1x40960x16, .f32⟩
  | .hbm, ⟨10, _⟩ => ⟨S1x40960x16, .f32⟩
  | .hbm, ⟨11, _⟩ => ⟨S1x40960x16, .f32⟩
  | .hbm, ⟨12, _⟩ => ⟨S3x40960x16, .f32⟩
  | .hbm, ⟨13, _⟩ => ⟨S_, .f32⟩
  | .hbm, ⟨14, _⟩ => ⟨S40960x16, .f32⟩
  | .hbm, ⟨15, _⟩ => ⟨S_, .f32⟩
  | .hbm, ⟨16, _⟩ => ⟨S40960x16, .f32⟩
  | .hbm, ⟨17, _⟩ => ⟨S40960x16, .f32⟩
  | .hbm, ⟨18, _⟩ => ⟨S1x40960x16, .f32⟩
  | .hbm, ⟨19, _⟩ => ⟨S3x40960x16, .f32⟩
  | .hbm, ⟨20, _⟩ => ⟨S3x40960x16, .f32⟩
  | .hbm, ⟨21, _⟩ => ⟨S3x40960x16, .f32⟩
  | .hbm, ⟨22, _⟩ => ⟨S_, .f32⟩
  | .hbm, ⟨23, _⟩ => ⟨S40960x16, .f32⟩
  | .hbm, ⟨24, _⟩ => ⟨S1x40960x16, .f32⟩
  | .hbm, ⟨25, _⟩ => ⟨S3x40960x16, .f32⟩
  | .hbm, ⟨26, _⟩ => ⟨S3x40960x16, .f32⟩
  | .hbm, ⟨27, _⟩ => ⟨S3x40960x16x1, .f32⟩
  | .hbm, ⟨28, _⟩ => ⟨S1x40960x16x64, .f32⟩
  | .hbm, ⟨29, _⟩ => ⟨S1x40960x16x64, .f32⟩
  | .hbm, ⟨30, _⟩ => ⟨S1x40960x16x64, .f32⟩
  | .hbm, ⟨31, _⟩ => ⟨S3x40960x16x64, .f32⟩
  | .hbm, ⟨32, _⟩ => ⟨S3x40960x16x64, .f32⟩
  | .hbm, ⟨33, _⟩ => ⟨S3x40960x16x64, .f32⟩
  | .hbm, ⟨34, _⟩ => ⟨S_, .f32⟩
  | .hbm, ⟨35, _⟩ => ⟨S40960x16x64, .f32⟩
  | .hbm, ⟨36, _⟩ => ⟨S40960x1024, .f32⟩
  | .hbm, ⟨37, _⟩ => ⟨S1x1024x2048, .f32⟩
  | .hbm, ⟨38, _⟩ => ⟨S1024x2048, .f32⟩
  | .hbm, ⟨39, _⟩ => ⟨S40960x2048, .f32⟩
  | .hbm, ⟨40, _⟩ => ⟨S1x2048, .f32⟩
  | .hbm, ⟨41, _⟩ => ⟨S2048, .f32⟩
  | .hbm, ⟨42, _⟩ => ⟨S40960x2048, .f32⟩
  | .hbm, ⟨43, _⟩ => ⟨S_, .f32⟩
  | .hbm, ⟨44, _⟩ => ⟨S40960, .f32⟩
  | .hbm, ⟨45, _⟩ => ⟨S40960x1, .f32⟩
  | .hbm, ⟨46, _⟩ => ⟨S_, .f32⟩
  | .hbm, ⟨47, _⟩ => ⟨S40960x1, .f32⟩
  | .hbm, ⟨48, _⟩ => ⟨S40960x1, .f32⟩
  | .hbm, ⟨49, _⟩ => ⟨S_, .f32⟩
  | .hbm, ⟨50, _⟩ => ⟨S40960x1, .f32⟩
  | .hbm, ⟨51, _⟩ => ⟨S40960x1, .f32⟩
  | .hbm, ⟨52, _⟩ => ⟨S40960x1, .f32⟩
  | .hbm, ⟨53, _⟩ => ⟨S40960x2048, .f32⟩
  | .hbm, ⟨54, _⟩ => ⟨S40960x2048, .f32⟩
  | .hbm, ⟨55, _⟩ => ⟨S1x2048, .f32⟩
  | .hbm, ⟨56, _⟩ => ⟨S40960x2048, .f32⟩
  | .hbm, ⟨57, _⟩ => ⟨S40960x2048, .f32⟩
  | .hbm, ⟨58, _⟩ => ⟨S40960x2048, .f32⟩
  | _, _ => ⟨S40960x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel5.lean ====
abbrev S40960x2048 : Shape := ⟨2, ![40960, 2048]⟩
abbrev S4x2048 : Shape := ⟨2, ![4, 2048]⟩
abbrev S2x2048x9216 : Shape := ⟨3, ![2, 2048, 9216]⟩
abbrev S128 : Shape := ⟨1, ![128]⟩
abbrev S256x256 : Shape := ⟨2, ![256, 256]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x128 : Shape := ⟨2, ![1, 128]⟩
abbrev S128x1 : Shape := ⟨2, ![128, 1]⟩
abbrev S4096x128 : Shape := ⟨2, ![4096, 128]⟩
abbrev S1x2048 : Shape := ⟨2, ![1, 2048]⟩
abbrev S2048 : Shape := ⟨1, ![2048]⟩
abbrev S10x1x4096x3072 : Shape := ⟨4, ![10, 1, 4096, 3072]⟩
abbrev S1024x2048 : Shape := ⟨2, ![1024, 2048]⟩
abbrev S1x2048x3072 : Shape := ⟨3, ![1, 2048, 3072]⟩
abbrev S1024x128 : Shape := ⟨2, ![1024, 128]⟩
abbrev S1x1x1024x3072 : Shape := ⟨4, ![1, 1, 1024, 3072]⟩
abbrev S16x2048 : Shape := ⟨2, ![16, 2048]⟩
abbrev S16 : Shape := ⟨1, ![16]⟩
abbrev S16x1 : Shape := ⟨2, ![16, 1]⟩
abbrev S1x2048x512 : Shape := ⟨3, ![1, 2048, 512]⟩
abbrev S2048x512 : Shape := ⟨2, ![2048, 512]⟩
abbrev S1024x512 : Shape := ⟨2, ![1024, 512]⟩
abbrev S1x1x1024x128 : Shape := ⟨4, ![1, 1, 1024, 128]⟩

abbrev nBuf : Space → Nat
  | .hbm => 61
  | .vmem => 14
  | .smem => 0
  | _ => 0

abbrev bufTy : (tb : Table) → Fin (tcTables nBuf tb) → BufTy
  | .hbm, ⟨0, _⟩ => ⟨S40960x2048, .f32⟩
  | .hbm, ⟨1, _⟩ => ⟨S4x2048, .f32⟩
  | .hbm, ⟨2, _⟩ => ⟨S2x2048x9216, .f32⟩
  | .hbm, ⟨3, _⟩ => ⟨S128, .i1⟩
  | .hbm, ⟨4, _⟩ => ⟨S128, .i1⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S256x256, .bf16⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S1x128, .i1⟩
  | .hbm, ⟨26, _⟩ => ⟨S1x128, .i1⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S4096x128, .f32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S4096x128, .f32⟩
  | .hbm, ⟨39, _⟩ => ⟨S1x128, .i1⟩
  | .hbm, ⟨40, _⟩ => ⟨S_, .f32⟩
  | .hbm, ⟨41, _⟩ => ⟨S_, .f32⟩
  | .hbm, ⟨42, _⟩ => ⟨S4096x128, .i1⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S_, .f32⟩
  | .hbm, ⟨47, _⟩ => ⟨S_, .f32⟩
  | .hbm, ⟨48, _⟩ => ⟨S4096x128, .i1⟩
  | .hbm, ⟨49, _⟩ => ⟨S4096x128, .f32⟩
  | .hbm, ⟨50, _⟩ => ⟨S4096x128, .f32⟩
  | .hbm, ⟨51, _⟩ => ⟨S_, .f32⟩
  | .hbm, ⟨52, _⟩ => ⟨S_, .f32⟩
  | .hbm, ⟨53, _⟩ => ⟨S4096x128, .i1⟩
  | .hbm, ⟨54, _⟩ => ⟨S4096x128, .f32⟩
  | .hbm, ⟨55, _⟩ => ⟨S4096x128, .f32⟩
  | .hbm, ⟨56, _⟩ => ⟨S1x2048, .f32⟩
  | .hbm, ⟨57, _⟩ => ⟨S2048, .f32⟩
  | .hbm, ⟨58, _⟩ => ⟨S1x2048, .f32⟩
  | .hbm, ⟨59, _⟩ => ⟨S2x2048x9216, .bf16⟩
  | .hbm, ⟨60, _⟩ => ⟨S10x1x4096x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x3072, .bf16⟩
  | .local _ .vmem, ⟨4, _⟩ => ⟨S256x256, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1x1x1024x3072, .bf16⟩
  | .local _ .vmem, ⟨12, _⟩ => ⟨S1x1x1024x3072, .bf16⟩
  | .local _ .vmem, ⟨13, _⟩ => ⟨S1024x2048, .bf16⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_cst : Ref sig .tc := ⟨.hbm, 8, rfl⟩
abbrev main_v0 : Ref sig .tc := ⟨.hbm, 9, rfl⟩
abbrev main_cst_4 : Ref sig .tc := ⟨.hbm, 10, rfl⟩
abbrev main_v1 : Ref sig .tc := ⟨.hbm, 11, rfl⟩
abbrev main_v2 : Ref sig .tc := ⟨.hbm, 12, rfl⟩
abbrev main_cst_5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_cst_10 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![10, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S40960x2048 : Shape := ⟨2, ![40960, 2048]⟩
abbrev S4x2048 : Shape := ⟨2, ![4, 2048]⟩
abbrev S2x2048x9216 : Shape := ⟨3, ![2, 2048, 9216]⟩
abbrev S4096 : Shape := ⟨1, ![4096]⟩
abbrev S1x2048 : Shape := ⟨2, ![1, 2048]⟩
abbrev S2048 : Shape := ⟨1, ![2048]⟩
abbrev S_ : Shape := ⟨0, ![]⟩
abbrev S40960 : Shape := ⟨1, ![40960]⟩
abbrev S40960x1 : Shape := ⟨2, ![40960, 1]⟩
abbrev S1x2048x9216 : Shape := ⟨3, ![1, 2048, 9216]⟩
abbrev S2048x9216 : Shape := ⟨2, ![2048, 9216]⟩
abbrev S2048x3072 : Shape := ⟨2, ![2048, 3072]⟩
abbrev S40960x3072 : Shape := ⟨2, ![40960, 3072]⟩
abbrev S10x4096x3x16x64 : Shape := ⟨5, ![10, 4096, 3, 16, 64]⟩
abbrev S10x4096x1x16x64 : Shape := ⟨5, ![10, 4096, 1, 16, 64]⟩
abbrev S10x4096x16x64 : Shape := ⟨4, ![10, 4096, 16, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S10x4096x16x8 : Shape := ⟨4, ![10, 4096, 16, 8]⟩
abbrev S1x4096x1x8 : Shape := ⟨4, ![1, 4096, 1, 8]⟩
abbrev S10x4096x16x48 : Shape := ⟨4, ![10, 4096, 16, 48]⟩
abbrev S10x1x4096x3072 : Shape := ⟨4, ![10, 1, 4096, 3072]⟩

abbrev nBuf : Space → Nat
  | .hbm => 109
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S4x2048, .f32⟩
  | .hbm, ⟨2, _⟩ => ⟨S2x2048x9216, .f32⟩
  | .hbm, ⟨3, _⟩ => ⟨S4096, .f32⟩
  | .hbm, ⟨4, _⟩ => ⟨S1x2048, .f32⟩
  | .hbm, ⟨5, _⟩ => ⟨S2048, .f32⟩
  | .hbm, ⟨6, _⟩ => ⟨S40960x2048, .f32⟩
  | .hbm, ⟨7, _⟩ => ⟨S_, .f32⟩
  | .hbm, ⟨8, _⟩ => ⟨S40960, .f32⟩
  | .hbm, ⟨9, _⟩ => ⟨S40960x1, .f32⟩
  | .hbm, ⟨10, _⟩ => ⟨S_, .f32⟩
  | .hbm, ⟨11, _⟩ => ⟨S40960x1, .f32⟩
  | .hbm, ⟨12, _⟩ => ⟨S40960x1, .f32⟩
  | .hbm, ⟨13, _⟩ => ⟨S_, .f32⟩
  | .hbm, ⟨14, _⟩ => ⟨S40960x1, .f32⟩
  | .hbm, ⟨15, _⟩ => ⟨S40960x1, .f32⟩
  | .hbm, ⟨16, _⟩ => ⟨S40960x1, .f32⟩
  | .hbm, ⟨17, _⟩ => ⟨S40960x2048, .f32⟩
  | .hbm, ⟨18, _⟩ => ⟨S40960x2048, .f32⟩
  | .hbm, ⟨19, _⟩ => ⟨S1x2048, .f32⟩
  | .hbm, ⟨20, _⟩ => ⟨S40960x2048, .f32⟩
  | .hbm, ⟨21, _⟩ => ⟨S40960x2048, .f32⟩
  | .hbm, ⟨22, _⟩ => ⟨S1x2048x9216, .f32⟩
  | .hbm, ⟨23, _⟩ => ⟨S2048x9216, .f32⟩
  | .hbm, ⟨24, _⟩ => ⟨S2048x3072, .f32⟩
  | .hbm, ⟨25, _⟩ => ⟨S40960x3072, .f32⟩
  | .hbm, ⟨26, _⟩ => ⟨S10x4096x3x16x64, .f32⟩
  | .hbm, ⟨27, _⟩ => ⟨S10x4096x1x16x64, .f32⟩
  | .hbm, ⟨28, _⟩ => ⟨S10x4096x16x64, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S4096x1, .f32⟩
  | .hbm, ⟨38, _⟩ => ⟨S1x8, .f32⟩
  | .hbm, ⟨39, _⟩ => ⟨S4096x8, .f32⟩
  | .hbm, ⟨40, _⟩ => ⟨S4096x8, .f32⟩
  | .hbm, ⟨41, _⟩ => ⟨S4096x8, .f32⟩
  | .hbm, ⟨42, _⟩ => ⟨S4096x8, .f32⟩
  | .hbm, ⟨43, _⟩ => ⟨S4096x1x8, .f32⟩
  | .hbm, ⟨44, _⟩ => ⟨S4096x8, .f32⟩
  | .hbm, ⟨45, _⟩ => ⟨S4096x1x8, .f32⟩
  | .hbm, ⟨46, _⟩ => ⟨S10x4096x16x8, .f32⟩
  | .hbm, ⟨47, _⟩ => ⟨S10x4096x16x8, .f32⟩
  | .hbm, ⟨48, _⟩ => ⟨S1x4096x1x8, .f32⟩
  | .hbm, ⟨49, _⟩ => ⟨S10x4096x16x8, .f32⟩
  | .hbm, ⟨50, _⟩ => ⟨S10x4096x16x8, .f32⟩
  | .hbm, ⟨51, _⟩ => ⟨S1x4096x1x8, .f32⟩
  | .hbm, ⟨52, _⟩ => ⟨S10x4096x16x8, .f32⟩
  | .hbm, ⟨53, _⟩ => ⟨S10x4096x16x8, .f32⟩
  | .hbm, ⟨54, _⟩ => ⟨S10x4096x16x8, .f32⟩
  | .hbm, ⟨55, _⟩ => ⟨S1x4096x1x8, .f32⟩
  | .hbm, ⟨56, _⟩ => ⟨S10x4096x16x8, .f32⟩
  | .hbm, ⟨57, _⟩ => ⟨S10x4096x16x8, .f32⟩
  | .hbm, ⟨58, _⟩ => ⟨S1x4096x1x8, .f32⟩
  | .hbm, ⟨59, _⟩ => ⟨S10x4096x16x8, .f32⟩
  | .hbm, ⟨60, _⟩ => ⟨S10x4096x16x8, .f32⟩
  | .hbm, ⟨61, _⟩ => ⟨S10x4096x16x8, .f32⟩
  | .hbm, ⟨62, _⟩ => ⟨S10x4096x16x48, .f32⟩
  | .hbm, ⟨63, _⟩ => ⟨S10x4096x16x64, .f32⟩
  | .hbm, ⟨64, _⟩ => ⟨S10x4096x1x16x64, .f32⟩
  | .hbm, ⟨65, _⟩ => ⟨S10x4096x16x64, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S4096x1, .f32⟩
  | .hbm, ⟨75, _⟩ => ⟨S1x8, .f32⟩
  | .hbm, ⟨76, _⟩ => ⟨S4096x8, .f32⟩
  | .hbm, ⟨77, _⟩ => ⟨S4096x8, .f32⟩
  | .hbm, ⟨78, _⟩ => ⟨S4096x8, .f32⟩
  | .hbm, ⟨79, _⟩ => ⟨S4096x8, .f32⟩
  | .hbm, ⟨80, _⟩ => ⟨S4096x1x8, .f32⟩
  | .hbm, ⟨81, _⟩ => ⟨S4096x8, .f32⟩
  | .hbm, ⟨82, _⟩ => ⟨S4096x1x8, .f32⟩
  | .hbm, ⟨83, _⟩ => ⟨S10x4096x16x8, .f32⟩
  | .hbm, ⟨84, _⟩ => ⟨S10x4096x16x8, .f32⟩
  | .hbm, ⟨85, _⟩ => ⟨S1x4096x1x8, .f32⟩
  | .hbm, ⟨86, _⟩ => ⟨S10x4096x16x8, .f32⟩
  | .hbm, ⟨87, _⟩ => ⟨S10x4096x16x8, .f32⟩
  | .hbm, ⟨88, _⟩ => ⟨S1x4096x1x8, .f32⟩
  | .hbm, ⟨89, _⟩ => ⟨S10x4096x16x8, .f32⟩
  | .hbm, ⟨90, _⟩ => ⟨S10x4096x16x8, .f32⟩
  | .hbm, ⟨91, _⟩ => ⟨S10x4096x16x8, .f32⟩
  | .hbm, ⟨92, _⟩ => ⟨S1x4096x1x8, .f32⟩
  | .hbm, ⟨93, _⟩ => ⟨S10x4096x16x8, .f32⟩
  | .hbm, ⟨94, _⟩ => ⟨S10x4096x16x8, .f32⟩
  | .hbm, ⟨95, _⟩ => ⟨S1x4096x1x8, .f32⟩
  | .hbm, ⟨96, _⟩ => ⟨S10x4096x16x8, .f32⟩
  | .hbm, ⟨97, _⟩ => ⟨S10x4096x16x8, .f32⟩
  | .hbm, ⟨98, _⟩ => ⟨S10x4096x16x8, .f32⟩
  | .hbm, ⟨99, _⟩ => ⟨S10x4096x16x48, .f32⟩
  | .hbm, ⟨100, _⟩ => ⟨S10x4096x16x64, .f32⟩
  | .hbm, ⟨101, _⟩ => ⟨S10x4096x1x16x64, .f32⟩
  | .hbm, ⟨102, _⟩ => ⟨S10x4096x16x64, .f32⟩
  | .hbm, ⟨103, _⟩ => ⟨S10x4096x1x16x64, .f32⟩
  | .hbm, ⟨104, _⟩ => ⟨S10x4096x1x16x64, .f32⟩
  | .hbm, ⟨105, _⟩ => ⟨S10x4096x1x16x64, .f32⟩
  | .hbm, ⟨106, _⟩ => ⟨S10x4096x3x16x64, .f32⟩
  | .hbm, ⟨107, _⟩ => ⟨S10x1x4096x3072, .f32⟩
  | .hbm, ⟨108, _⟩ => ⟨S10x1x4096x3072, .bf16⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_4 : Ref sig .tc := ⟨.hbm, 67, rfl⟩
abbrev main_v59 : Ref sig .tc := ⟨.hbm, 68, rfl⟩
abbrev main_v60 : Ref sig .tc := ⟨.hbm, 69, rfl⟩
abbrev main_cst_5 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩

abbrev nD : Nat := 1
abbrev τ : Topo := Topo.v7x

variable {F : FTy → Type} [FloatOps F]
-- ==== Kernel6.lean ====
abbrev S40960x2048 : Shape := ⟨2, ![40960, 2048]⟩
abbrev S4x2048 : Shape := ⟨2, ![4, 2048]⟩
abbrev S2x2048x4608 : Shape := ⟨3, ![2, 2048, 4608]⟩
abbrev S128 : Shape := ⟨1, ![128]⟩
abbrev S256x256 : Shape := ⟨2, ![256, 256]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x128 : Shape := ⟨2, ![1, 128]⟩
abbrev S128x1 : Shape := ⟨2, ![128, 1]⟩
abbrev S4096x128 : Shape := ⟨2, ![4096, 128]⟩
abbrev S1x2048 : Shape := ⟨2, ![1, 2048]⟩
abbrev S2048 : Shape := ⟨1, ![2048]⟩
abbrev S10x1x4096x4608 : Shape := ⟨4, ![10, 1, 4096, 4608]⟩
abbrev S512x2048 : Shape := ⟨2, ![512, 2048]⟩
abbrev S1x2048x4608 : Shape := ⟨3, ![1, 2048, 4608]⟩
abbrev S512x128 : Shape := ⟨2, ![512, 128]⟩
abbrev S1x1x512x4608 : Shape := ⟨4, ![1, 1, 512, 4608]⟩
abbrev S16x2048 : Shape := ⟨2, ![16, 2048]⟩
abbrev S16 : Shape := ⟨1, ![16]⟩
abbrev S16x1 : Shape := ⟨2, ![16, 1]⟩
abbrev S1x2048x512 : Shape := ⟨3, ![1, 2048, 512]⟩
abbrev S2048x512 : Shape := ⟨2, ![2048, 512]⟩
abbrev S512x512 : Shape := ⟨2, ![512, 512]⟩
abbrev S1x1x512x128 : Shape := ⟨4, ![1, 1, 512, 128]⟩

abbrev nBuf : Space → Nat
  | .hbm => 61
  | .vmem => 14
  | .smem => 0
  | _ => 0

abbrev bufTy : (tb : Table) → Fin (tcTables nBuf tb) → BufTy
  | .hbm, ⟨0, _⟩ => ⟨S40960x2048, .f32⟩
  | .hbm, ⟨1, _⟩ => ⟨S4x2048, .f32⟩
  | .hbm, ⟨2, _⟩ => ⟨S2x2048x4608, .f32⟩
  | .hbm, ⟨3, _⟩ => ⟨S128, .i1⟩
  | .hbm, ⟨4, _⟩ => ⟨S128, .i1⟩
  | .hbm, ⟨5, _⟩ => ⟨S128, .i32⟩
  | .hbm, ⟨6, _⟩ => ⟨S128, .i1⟩
  | .hbm, ⟨7, _⟩ => ⟨S128, .i1⟩
  | .hbm, ⟨8, _⟩ => ⟨S256x256, .bf16⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S1x128, .i1⟩
  | .hbm, ⟨26, _⟩ => ⟨S1x128, .i1⟩
  | .hbm, ⟨27, _⟩ => ⟨S_, .i32⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S4096x128, .f32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S4096x128, .f32⟩
  | .hbm, ⟨39, _⟩ => ⟨S1x128, .i1⟩
  | .hbm, ⟨40, _⟩ => ⟨S_, .f32⟩
  | .hbm, ⟨41, _⟩ => ⟨S_, .f32⟩
  | .hbm, ⟨42, _⟩ => ⟨S4096x128, .i1⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S_, .f32⟩
  | .hbm, ⟨47, _⟩ => ⟨S_, .f32⟩
  | .hbm, ⟨48, _⟩ => ⟨S4096x128, .i1⟩
  | .hbm, ⟨49, _⟩ => ⟨S4096x128, .f32⟩
  | .hbm, ⟨50, _⟩ => ⟨S4096x128, .f32⟩
  | .hbm, ⟨51, _⟩ => ⟨S_, .f32⟩
  | .hbm, ⟨52, _⟩ => ⟨S_, .f32⟩
  | .hbm, ⟨53, _⟩ => ⟨S4096x128, .i1⟩
  | .hbm, ⟨54, _⟩ => ⟨S4096x128, .f32⟩
  | .hbm, ⟨55, _⟩ => ⟨S4096x128, .f32⟩
  | .hbm, ⟨56, _⟩ => ⟨S1x2048, .f32⟩
  | .hbm, ⟨57, _⟩ => ⟨S2048, .f32⟩
  | .hbm, ⟨58, _⟩ => ⟨S1x2048, .f32⟩
  | .hbm, ⟨59, _⟩ => ⟨S2x2048x4608, .bf16⟩
  | .hbm, ⟨60, _⟩ => ⟨S10x1x4096x4608, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x4608, .bf16⟩
  | .local _ .vmem, ⟨4, _⟩ => ⟨S256x256, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x1x512x4608, .bf16⟩
  | .local _ .vmem, ⟨12, _⟩ => ⟨S1x1x512x4608, .bf16⟩
  | .local _ .vmem, ⟨13, _⟩ => ⟨S512x2048, .bf16⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_cst : Ref sig .tc := ⟨.hbm, 8, rfl⟩
abbrev main_v0 : Ref sig .tc := ⟨.hbm, 9, rfl⟩
abbrev main_cst_4 : Ref sig .tc := ⟨.hbm, 10, rfl⟩
abbrev main_v1 : Ref sig .tc := ⟨.hbm, 11, rfl⟩
abbrev main_v2 : Ref sig .tc := ⟨.hbm, 12, rfl⟩
abbrev main_cst_5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v29 : Ref sig .tc := ⟨.hbm, 50, rfl⟩
abbrev main_cst_10 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512x4608 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S40960x2048 : Shape := ⟨2, ![40960, 2048]⟩
abbrev S4x2048 : Shape := ⟨2, ![4, 2048]⟩
abbrev S2x2048x4608 : Shape := ⟨3, ![2, 2048, 4608]⟩
abbrev S4096 : Shape := ⟨1, ![4096]⟩
abbrev S1x2048 : Shape := ⟨2, ![1, 2048]⟩
abbrev S2048 : Shape := ⟨1, ![2048]⟩
abbrev S_ : Shape := ⟨0, ![]⟩
abbrev S40960 : Shape := ⟨1, ![40960]⟩
abbrev S40960x1 : Shape := ⟨2, ![40960, 1]⟩
abbrev S1x2048x4608 : Shape := ⟨3, ![1, 2048, 4608]⟩
abbrev S2048x4608 : Shape := ⟨2, ![2048, 4608]⟩
abbrev S40960x4608 : Shape := ⟨2, ![40960, 4608]⟩
abbrev S10x4096x4608 : Shape := ⟨3, ![10, 4096, 4608]⟩
abbrev S10x4096x1024 : Shape := ⟨3, ![10, 4096, 1024]⟩
abbrev S10x4096x16x64 : Shape := ⟨4, ![10, 4096, 16, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x1x8 : Shape := ⟨3, ![4096, 1, 8]⟩
abbrev S10x4096x16x8 : Shape := ⟨4, ![10, 4096, 16, 8]⟩
abbrev S1x4096x1x8 : Shape := ⟨4, ![1, 4096, 1, 8]⟩
abbrev S10x4096x16x48 : Shape := ⟨4, ![10, 4096, 16, 48]⟩
abbrev S10x4096x256 : Shape := ⟨3, ![10, 4096, 256]⟩
abbrev S10x4096x4x64 : Shape := ⟨4, ![10, 4096, 4, 64]⟩
abbrev S10x4096x4x8 : Shape := ⟨4, ![10, 4096, 4, 8]⟩
abbrev S10x4096x4x48 : Shape := ⟨4, ![10, 4096, 4, 48]⟩
abbrev S10x4096x3072 : Shape := ⟨3, ![10, 4096, 3072]⟩
abbrev S10x1x4096x4608 : Shape := ⟨4, ![10, 1, 4096, 4608]⟩

abbrev nBuf : Space → Nat
  | .hbm => 107
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S4x2048, .f32⟩
  | .hbm, ⟨2, _⟩ => ⟨S2x2048x4608, .f32⟩
  | .hbm, ⟨3, _⟩ => ⟨S4096, .f32⟩
  | .hbm, ⟨4, _⟩ => ⟨S1x2048, .f32⟩
  | .hbm, ⟨5, _⟩ => ⟨S2048, .f32⟩
  | .hbm, ⟨6, _⟩ => ⟨S40960x2048, .f32⟩
  | .hbm, ⟨7, _⟩ => ⟨S_, .f32⟩
  | .hbm, ⟨8, _⟩ => ⟨S40960, .f32⟩
  | .hbm, ⟨9, _⟩ => ⟨S40960x1, .f32⟩
  | .hbm, ⟨10, _⟩ => ⟨S_, .f32⟩
  | .hbm, ⟨11, _⟩ => ⟨S40960x1, .f32⟩
  | .hbm, ⟨12, _⟩ => ⟨S40960x1, .f32⟩
  | .hbm, ⟨13, _⟩ => ⟨S_, .f32⟩
  | .hbm, ⟨14, _⟩ => ⟨S40960x1, .f32⟩
  | .hbm, ⟨15, _⟩ => ⟨S40960x1, .f32⟩
  | .hbm, ⟨16, _⟩ => ⟨S40960x1, .f32⟩
  | .hbm, ⟨17, _⟩ => ⟨S40960x2048, .f32⟩
  | .hbm, ⟨18, _⟩ => ⟨S40960x2048, .f32⟩
  | .hbm, ⟨19, _⟩ => ⟨S1x2048, .f32⟩
  | .hbm, ⟨20, _⟩ => ⟨S40960x2048, .f32⟩
  | .hbm, ⟨21, _⟩ => ⟨S40960x2048, .f32⟩
  | .hbm, ⟨22, _⟩ => ⟨S1x2048x4608, .f32⟩
  | .hbm, ⟨23, _⟩ => ⟨S2048x4608, .f32⟩
  | .hbm, ⟨24, _⟩ => ⟨S40960x4608, .f32⟩
  | .hbm, ⟨25, _⟩ => ⟨S10x4096x4608, .f32⟩
  | .hbm, ⟨26, _⟩ => ⟨S10x4096x1024, .f32⟩
  | .hbm, ⟨27, _⟩ => ⟨S10x4096x16x64, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S8, .f32⟩
  | .hbm, ⟨36, _⟩ => ⟨S4096x1, .f32⟩
  | .hbm, ⟨37, _⟩ => ⟨S1x8, .f32⟩
  | .hbm, ⟨38, _⟩ => ⟨S4096x8, .f32⟩
  | .hbm, ⟨39, _⟩ => ⟨S4096x8, .f32⟩
  | .hbm, ⟨40, _⟩ => ⟨S4096x8, .f32⟩
  | .hbm, ⟨41, _⟩ => ⟨S4096x8, .f32⟩
  | .hbm, ⟨42, _⟩ => ⟨S4096x1x8, .f32⟩
  | .hbm, ⟨43, _⟩ => ⟨S4096x8, .f32⟩
  | .hbm, ⟨44, _⟩ => ⟨S4096x1x8, .f32⟩
  | .hbm, ⟨45, _⟩ => ⟨S10x4096x16x8, .f32⟩
  | .hbm, ⟨46, _⟩ => ⟨S10x4096x16x8, .f32⟩
  | .hbm, ⟨47, _⟩ => ⟨S1x4096x1x8, .f32⟩
  | .hbm, ⟨48, _⟩ => ⟨S10x4096x16x8, .f32⟩
  | .hbm, ⟨49, _⟩ => ⟨S10x4096x16x8, .f32⟩
  | .hbm, ⟨50, _⟩ => ⟨S1x4096x1x8, .f32⟩
  | .hbm, ⟨51, _⟩ => ⟨S10x4096x16x8, .f32⟩
  | .hbm, ⟨52, _⟩ => ⟨S10x4096x16x8, .f32⟩
  | .hbm, ⟨53, _⟩ => ⟨S10x4096x16x8, .f32⟩
  | .hbm, ⟨54, _⟩ => ⟨S1x4096x1x8, .f32⟩
  | .hbm, ⟨55, _⟩ => ⟨S10x4096x16x8, .f32⟩
  | .hbm, ⟨56, _⟩ => ⟨S10x4096x16x8, .f32⟩
  | .hbm, ⟨57, _⟩ => ⟨S1x4096x1x8, .f32⟩
  | .hbm, ⟨58, _⟩ => ⟨S10x4096x16x8, .f32⟩
  | .hbm, ⟨59, _⟩ => ⟨S10x4096x16x8, .f32⟩
  | .hbm, ⟨60, _⟩ => ⟨S10x4096x16x8, .f32⟩
  | .hbm, ⟨61, _⟩ => ⟨S10x4096x16x48, .f32⟩
  | .hbm, ⟨62, _⟩ => ⟨S10x4096x16x64, .f32⟩
  | .hbm, ⟨63, _⟩ => ⟨S10x4096x1024, .f32⟩
  | .hbm, ⟨64, _⟩ => ⟨S10x4096x256, .f32⟩
  | .hbm, ⟨65, _⟩ => ⟨S10x4096x4x64, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S4096x1, .f32⟩
  | .hbm, ⟨75, _⟩ => ⟨S1x8, .f32⟩
  | .hbm, ⟨76, _⟩ => ⟨S4096x8, .f32⟩
  | .hbm, ⟨77, _⟩ => ⟨S4096x8, .f32⟩
  | .hbm, ⟨78, _⟩ => ⟨S4096x8, .f32⟩
  | .hbm, ⟨79, _⟩ => ⟨S4096x8, .f32⟩
  | .hbm, ⟨80, _⟩ => ⟨S4096x1x8, .f32⟩
  | .hbm, ⟨81, _⟩ => ⟨S4096x8, .f32⟩
  | .hbm, ⟨82, _⟩ => ⟨S4096x1x8, .f32⟩
  | .hbm, ⟨83, _⟩ => ⟨S10x4096x4x8, .f32⟩
  | .hbm, ⟨84, _⟩ => ⟨S10x4096x4x8, .f32⟩
  | .hbm, ⟨85, _⟩ => ⟨S1x4096x1x8, .f32⟩
  | .hbm, ⟨86, _⟩ => ⟨S10x4096x4x8, .f32⟩
  | .hbm, ⟨87, _⟩ => ⟨S10x4096x4x8, .f32⟩
  | .hbm, ⟨88, _⟩ => ⟨S1x4096x1x8, .f32⟩
  | .hbm, ⟨89, _⟩ => ⟨S10x4096x4x8, .f32⟩
  | .hbm, ⟨90, _⟩ => ⟨S10x4096x4x8, .f32⟩
  | .hbm, ⟨91, _⟩ => ⟨S10x4096x4x8, .f32⟩
  | .hbm, ⟨92, _⟩ => ⟨S1x4096x1x8, .f32⟩
  | .hbm, ⟨93, _⟩ => ⟨S10x4096x4x8, .f32⟩
  | .hbm, ⟨94, _⟩ => ⟨S10x4096x4x8, .f32⟩
  | .hbm, ⟨95, _⟩ => ⟨S1x4096x1x8, .f32⟩
  | .hbm, ⟨96, _⟩ => ⟨S10x4096x4x8, .f32⟩
  | .hbm, ⟨97, _⟩ => ⟨S10x4096x4x8, .f32⟩
  | .hbm, ⟨98, _⟩ => ⟨S10x4096x4x8, .f32⟩
  | .hbm, ⟨99, _⟩ => ⟨S10x4096x4x48, .f32⟩
  | .hbm, ⟨100, _⟩ => ⟨S10x4096x4x64, .f32⟩
  | .hbm, ⟨101, _⟩ => ⟨S10x4096x256, .f32⟩
  | .hbm, ⟨102, _⟩ => ⟨S10x4096x3072, .f32⟩
  | .hbm, ⟨103, _⟩ => ⟨S10x4096x256, .f32⟩
  | .hbm, ⟨104, _⟩ => ⟨S10x4096x4608, .f32⟩
  | .hbm, ⟨105, _⟩ => ⟨S10x1x4096x4608, .f32⟩
  | .hbm, ⟨106, _⟩ => ⟨S10x1x4096x4608, .bf16⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst_4 : Ref sig .tc := ⟨.hbm, 67, rfl⟩
abbrev main_v59 : Ref sig .tc := ⟨.hbm, 68, rfl⟩
abbrev main_v60 : Ref sig .tc := ⟨.hbm, 69, rfl⟩
abbrev main_cst_5 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩

abbrev nD : Nat := 1
abbrev τ : Topo := Topo.v7x

variable {F : FTy → Type} [FloatOps F]
-- ==== Kernel7.lean ====
abbrev S40960x1024 : Shape := ⟨2, ![40960, 1024]⟩
abbrev S40960x2048 : Shape := ⟨2, ![40960, 2048]⟩
abbrev S4x2048 : Shape := ⟨2, ![4, 2048]⟩
abbrev S2x2048x2048 : Shape := ⟨3, ![2, 2048, 2048]⟩
abbrev S1x2048 : Shape := ⟨2, ![1, 2048]⟩
abbrev S2048 : Shape := ⟨1, ![2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩
abbrev S8x2048 : Shape := ⟨2, ![8, 2048]⟩
abbrev S8 : Shape := ⟨1, ![8]⟩
abbrev S8x1 : Shape := ⟨2, ![8, 1]⟩

abbrev nBuf : Space → Nat
  | .hbm => 12
  | .vmem => 12
  | .smem => 0
  | _ => 0

abbrev bufTy : (tb : Table) → Fin (tcTables nBuf tb) → BufTy
  | .hbm, ⟨0, _⟩ => ⟨S40960x1024, .f32⟩
  | .hbm, ⟨1, _⟩ => ⟨S40960x1024, .f32⟩
  | .hbm, ⟨2, _⟩ => ⟨S40960x2048, .f32⟩
  | .hbm, ⟨3, _⟩ => ⟨S4x2048, .f32⟩
  | .hbm, ⟨4, _⟩ => ⟨S2x2048x2048, .f32⟩
  | .hbm, ⟨5, _⟩ => ⟨S40960x1024, .bf16⟩
  | .hbm, ⟨6, _⟩ => ⟨S40960x1024, .bf16⟩
  | .hbm, ⟨7, _⟩ => ⟨S2x2048x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S40960x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S40960x1024 : Shape := ⟨2, ![40960, 1024]⟩
abbrev S40960x2048 : Shape := ⟨2, ![40960, 2048]⟩
abbrev S4x2048 : Shape := ⟨2, ![4, 2048]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S40960 : Shape := ⟨1, ![40960]⟩
abbrev S40960x1 : Shape := ⟨2, ![40960, 1]⟩

abbrev nBuf : Space → Nat
  | .hbm => 28
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S40960x1024, .f32⟩
  | .hbm, ⟨2, _⟩ => ⟨S40960x2048, .f32⟩
  | .hbm, ⟨3, _⟩ => ⟨S4x2048, .f32⟩
  | .hbm, ⟨4, _⟩ => ⟨S2x2048x2048, .f32⟩
  | .hbm, ⟨5, _⟩ => ⟨S40960x2048, .f32⟩
  | .hbm, ⟨6, _⟩ => ⟨S1x2048x2048, .f32⟩
  | .hbm, ⟨7, _⟩ => ⟨S2048x2048, .f32⟩
  | .hbm, ⟨8, _⟩ => ⟨S40960x2048, .f32⟩
  | .hbm, ⟨9, _⟩ => ⟨S1x2048, .f32⟩
  | .hbm, ⟨10, _⟩ => ⟨S2048, .f32⟩
  | .hbm, ⟨11, _⟩ => ⟨S40960x2048, .f32⟩
  | .hbm, ⟨12, _⟩ => ⟨S_, .f32⟩
  | .hbm, ⟨13, _⟩ => ⟨S40960, .f32⟩
  | .hbm, ⟨14, _⟩ => ⟨S40960x1, .f32⟩
  | .hbm, ⟨15, _⟩ => ⟨S_, .f32⟩
  | .hbm, ⟨16, _⟩ => ⟨S40960x1, .f32⟩
  | .hbm, ⟨17, _⟩ => ⟨S40960x1, .f32⟩
  | .hbm, ⟨18, _⟩ => ⟨S_, .f32⟩
  | .hbm, ⟨19, _⟩ => ⟨S40960x1, .f32⟩
  | .hbm, ⟨20, _⟩ => ⟨S40960x1, .f32⟩
  | .hbm, ⟨21, _⟩ => ⟨S40960x1, .f32⟩
  | .hbm, ⟨22, _⟩ => ⟨S40960x2048, .f32⟩
  | .hbm, ⟨23, _⟩ => ⟨S40960x2048, .f32⟩
  | .hbm, ⟨24, _⟩ => ⟨S1x2048, .f32⟩
  | .hbm, ⟨25, _⟩ => ⟨S40960x2048, .f32⟩
  | .hbm, ⟨26, _⟩ => ⟨S40960x2048, .f32⟩
  | .hbm, ⟨27, _⟩ => ⟨S40960x2048, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel8.lean ====
abbrev S40960x1024 : Shape := ⟨2, ![40960, 1024]⟩
abbrev S8x4096x2048 : Shape := ⟨3, ![8, 4096, 2048]⟩
abbrev S2x4096x2048 : Shape := ⟨3, ![2, 4096, 2048]⟩
abbrev S4x2048 : Shape := ⟨2, ![4, 2048]⟩
abbrev S2x2048x2048 : Shape := ⟨3, ![2, 2048, 2048]⟩
abbrev S32768x2048 : Shape := ⟨2, ![32768, 2048]⟩
abbrev S8192x2048 : Shape := ⟨2, ![8192, 2048]⟩
abbrev S1x2048 : Shape := ⟨2, ![1, 2048]⟩
abbrev S2048 : Shape := ⟨1, ![2048]⟩
abbrev S40960x2048 : Shape := ⟨2, ![40960, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩
abbrev S8x2048 : Shape := ⟨2, ![8, 2048]⟩
abbrev S8 : Shape := ⟨1, ![8]⟩
abbrev S8x1 : Shape := ⟨2, ![8, 1]⟩

abbrev nBuf : Space → Nat
  | .hbm => 15
  | .vmem => 14
  | .smem => 0
  | _ => 0

abbrev bufTy : (tb : Table) → Fin (tcTables nBuf tb) → BufTy
  | .hbm, ⟨0, _⟩ => ⟨S40960x1024, .f32⟩
  | .hbm, ⟨1, _⟩ => ⟨S40960x1024, .f32⟩
  | .hbm, ⟨2, _⟩ => ⟨S8x4096x2048, .f32⟩
  | .hbm, ⟨3, _⟩ => ⟨S2x4096x2048, .f32⟩
  | .hbm, ⟨4, _⟩ => ⟨S4x2048, .f32⟩
  | .hbm, ⟨5, _⟩ => ⟨S2x2048x2048, .f32⟩
  | .hbm, ⟨6, _⟩ => ⟨S32768x2048, .f32⟩
  | .hbm, ⟨7, _⟩ => ⟨S8192x2048, .f32⟩
  | .hbm, ⟨8, _⟩ => ⟨S40960x1024, .bf16⟩
  | .hbm, ⟨9, _⟩ => ⟨S40960x1024, .bf16⟩
  | .hbm, ⟨10, _⟩ => ⟨S2x2048x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S40960x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S40960x1024 : Shape := ⟨2, ![40960, 1024]⟩
abbrev S8x4096x2048 : Shape := ⟨3, ![8, 4096, 2048]⟩
abbrev S2x4096x2048 : Shape := ⟨3, ![2, 4096, 2048]⟩
abbrev S4x2048 : Shape := ⟨2, ![4, 2048]⟩
abbrev S2x2048x2048 : Shape := ⟨3, ![2, 2048, 2048]⟩
abbrev S32768x2048 : Shape := ⟨2, ![32768, 2048]⟩
abbrev S8192x2048 : Shape := ⟨2, ![8192, 2048]⟩
abbrev S40960x2048 : Shape := ⟨2, ![40960, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S40960 : Shape := ⟨1, ![40960]⟩
abbrev S40960x1 : Shape := ⟨2, ![40960, 1]⟩

abbrev nBuf : Space → Nat
  | .hbm => 32
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S40960x1024, .f32⟩
  | .hbm, ⟨2, _⟩ => ⟨S8x4096x2048, .f32⟩
  | .hbm, ⟨3, _⟩ => ⟨S2x4096x2048, .f32⟩
  | .hbm, ⟨4, _⟩ => ⟨S4x2048, .f32⟩
  | .hbm, ⟨5, _⟩ => ⟨S2x2048x2048, .f32⟩
  | .hbm, ⟨6, _⟩ => ⟨S32768x2048, .f32⟩
  | .hbm, ⟨7, _⟩ => ⟨S8192x2048, .f32⟩
  | .hbm, ⟨8, _⟩ => ⟨S40960x2048, .f32⟩
  | .hbm, ⟨9, _⟩ => ⟨S40960x2048, .f32⟩
  | .hbm, ⟨10, _⟩ => ⟨S1x2048x2048, .f32⟩
  | .hbm, ⟨11, _⟩ => ⟨S2048x2048, .f32⟩
  | .hbm, ⟨12, _⟩ => ⟨S40960x2048, .f32⟩
  | .hbm, ⟨13, _⟩ => ⟨S1x2048, .f32⟩
  | .hbm, ⟨14, _⟩ => ⟨S2048, .f32⟩
  | .hbm, ⟨15, _⟩ => ⟨S40960x2048, .f32⟩
  | .hbm, ⟨16, _⟩ => ⟨S_, .f32⟩
  | .hbm, ⟨17, _⟩ => ⟨S40960, .f32⟩
  | .hbm, ⟨18, _⟩ => ⟨S40960x1, .f32⟩
  | .hbm, ⟨19, _⟩ => ⟨S_, .f32⟩
  | .hbm, ⟨20, _⟩ => ⟨S40960x1, .f32⟩
  | .hbm, ⟨21, _⟩ => ⟨S40960x1, .f32⟩
  | .hbm, ⟨22, _⟩ => ⟨S_, .f32⟩
  | .hbm, ⟨23, _⟩ => ⟨S40960x1, .f32⟩
  | .hbm, ⟨24, _⟩ => ⟨S40960x1, .f32⟩
  | .hbm, ⟨25, _⟩ => ⟨S40960x1, .f32⟩
  | .hbm, ⟨26, _⟩ => ⟨S40960x2048, .f32⟩
  | .hbm, ⟨27, _⟩ => ⟨S40960x2048, .f32⟩
  | .hbm, ⟨28, _⟩ => ⟨S1x2048, .f32⟩
  | .hbm, ⟨29, _⟩ => ⟨S40960x2048, .f32⟩
  | .hbm, ⟨30, _⟩ => ⟨S40960x2048, .f32⟩
  | .hbm, ⟨31, _⟩ => ⟨S40960x2048, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.FfnBody.lean ====
module

public import proofs.«01_k».proof.Proof.Gen.Kernel2Ideal.Value
public import Idealize.ShloMosaic.Lib.Pointwise
public import Idealize.ShloMosaic.Lib.Pipeline.ValueKit.Acc
public import Idealize.ShloMosaic.Lib.Pipeline.ReadBack

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

variable {F : FTy → Type} [FloatOps F]

theorem piecesA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .f32) (harg10 : arg10.IsWhole) (hc0 : cond0_0 i) (hc1 : ¬cond0_1 i) (hc2 : ¬cond0_2 i)
    (x0 : Vec F S1024x2048 .f32) (x1 : Vec F S1x2048 .f32) (x2 : Vec F S1x2048x256 .bf16) (x3 : Vec F S1x2048x256 .bf16) (x4 : Vec F S1x256x2048 .bf16) (x5 : Vec F S1x2048 .f32) :
    ∀ p ∈ (kernelRun0_A c i arg2 harg2 arg3 harg3 arg4 harg4 arg5 harg5 arg6 harg6 arg7 harg7 arg8 harg8 arg9 harg9 arg10 harg10 hc0 hc1 hc2 x0 x1 x2 x3 x4 x5).2.1, ∃ (o : ℕ) (inb : ∀ a, (![o, 0] : Fin 2 → ℕ) a + (![16, 2048] : Fin 2 → ℕ) a ≤ S1024x2048.size a),
      p = ⟨Rect.unit (s := S1024x2048) ![o, 0] ![16, 2048] inb,
        k0_pay5 (View.readAt (Elt F) arg3.view (Rect.unit ![0, 0] S1x2048.size inb_S1x2048_S1x2048_0_0).toLoadRect (harg3.unread x1))
          (View.readAt (Elt F) arg2.view (Rect.unit (s := S1024x2048) ![o, 0] ![16, 2048] inb).toLoadRect (harg2.unread x0))⟩ := by
  unfold kernelRun0_A
  dsimp only
  sl_unfold_words
  iterate 64 refine List.forall_mem_cons.2 ⟨⟨_, _, rfl⟩, ?_⟩
  exact fun p hp => absurd hp List.not_mem_nil

theorem piecesC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .f32) (harg10 : arg10.IsWhole) (hc0 : ¬cond0_0 i) (hc1 : cond0_1 i) (hc2 : cond0_2 i)
    (x0 : Vec F S1024x2048 .f32) (x1 : Vec F S1x2048 .f32) (x2 : Vec F S1x2048x256 .bf16) (x3 : Vec F S1x2048x256 .bf16) (x4 : Vec F S1x256x2048 .bf16) (x5 : Vec F S1x2048 .f32) (xs0 : Vec F S1024x2048 .bf16) (xs1 : Vec F S1024x2048 .f32) :
    ∀ p ∈ (kernelRun0_C c i arg2 harg2 arg3 harg3 arg4 harg4 arg5 harg5 arg6 harg6 arg7 harg7 arg8 harg8 arg9 harg9 arg10 harg10 hc0 hc1 hc2 x0 x1 x2 x3 x4 x5 xs0 xs1).1, ∃ (o : ℕ) (inb : ∀ a, (![o, 0] : Fin 2 → ℕ) a + (![8, 2048] : Fin 2 → ℕ) a ≤ S1024x2048.size a),
      p = ⟨Rect.unit (s := S1024x2048) ![o, 0] ![8, 2048] inb,
        k0_pay3 (k0_pay4 (View.readAt (Elt F) arg7.view (Rect.unit ![0, 0] S1x2048.size inb_S1x2048_S1x2048_0_0).toLoadRect (harg7.unread x5)))
          (arg10.view.readCov (kernelRun0_C c i arg2 harg2 arg3 harg3 arg4 harg4 arg5 harg5 arg6 harg6 arg7 harg7 arg8 harg8 arg9 harg9 arg10 harg10 hc0 hc1 hc2 x0 x1 x2 x3 x4 x5 xs0 xs1).2.2.1 (Rect.unit (s := S1024x2048) ![o, 0] ![8, 2048] inb).toLoadRect)
          (View.readAt (Elt F) arg2.view (Rect.unit (s := S1024x2048) ![o, 0] ![8, 2048] inb).toLoadRect (harg2.unread x0))⟩ := by
  unfold kernelRun0_C
  dsimp only
  iterate 128 refine List.forall_mem_cons.2 ⟨⟨_, _, rfl⟩, ?_⟩
  exact fun p hp => absurd hp List.not_mem_nil

/-- One row's root-mean-square normalisation, scaled by `g`: entry `k` of the row `v`. -/
def rms (v : Fin 2048 → EReal) (k : Fin 2048) (g : EReal) : EReal :=
  v k * Ideal.rsqrt (Ideal.div (∑ j : Fin 2048, v j * v j) (Ideal.ofBits .f32 0x45000000#32) + Ideal.ofBits .f32 0x358637BD#32) * g

theorem pay5_apply (g : Vec Ideal S1x2048 .f32) (v : Vec Ideal S16x2048 .f32) (r : Fin 16) (k : Fin 2048) :
    k0_pay5 g v (ix2 r k) = rms (fun j => v (ix2 r j)) k (g (ix2 0 k)) := by
  pointwise [k0_pay5, k0_pay4]
  rfl

theorem pay3_apply (g : Vec Ideal S1x2048 .f32) (v x : Vec Ideal S8x2048 .f32) (r : Fin 8) (k : Fin 2048) :
    k0_pay3 (k0_pay4 g) v x (ix2 r k) = x (ix2 r k) + rms (fun j => v (ix2 r j)) k (g (ix2 0 k)) := by
  pointwise [k0_pay3, k0_pay4]
  rfl

/-- The gated hidden value of a gate `a` and an up-projection `u`: `a · 1/(1 + e^(−a)) · u`. -/
def hid (a u : EReal) : EReal := a * Ideal.div 1 (1 + Ideal.exp (0 - a)) * u

/-- What one tile of 256 hidden lanes adds to the accumulator at row `r`, column `k`. -/
def tile (xn : Vec Ideal S1024x2048 .bf16) (wg wu : Vec Ideal S1x2048x256 .bf16) (wd : Vec Ideal S1x256x2048 .bf16)
    (r : Fin 1024) (k : Fin 2048) : EReal :=
  ∑ h : Fin 256, hid (∑ j : Fin 2048, xn (ix2 r j) * wg (ix3 0 j h)) (∑ j : Fin 2048, xn (ix2 r j) * wu (ix3 0 j h)) * wd (ix3 0 h k)

theorem pay2_apply (acc : Vec Ideal S1024x2048 .f32) (xn : Vec Ideal S1024x2048 .bf16) (wg wu : Vec Ideal S1x2048x256 .bf16)
    (wd : Vec Ideal S1x256x2048 .bf16) (r : Fin 1024) (k : Fin 2048) :
    k0_pay2 acc xn wg wu wd (ix2 r k) = acc (ix2 r k) + tile xn wg wu wd r k := by
  pointwise [k0_pay2]
  rfl

theorem hz : (![0, 0] : Fin 2 → Nat) = fun _ => 0 := funext fun a => by fin_cases a <;> rfl
theorem hz3 : (![0, 0, 0] : Fin 3 → Nat) = fun _ => 0 := funext fun a => by fin_cases a <;> rfl

theorem ldu (X : Vec Ideal S1024x2048 .f32) (o n : ℕ) (inb : ∀ a, (![o, 0] : Fin 2 → ℕ) a + (![n, 2048] : Fin 2 → ℕ) a ≤ S1024x2048.size a)
    (a : Fin n) (b : Fin 2048) :
    View.ld (Val := Elt Ideal) X (Rect.unit (s := S1024x2048) ![o, 0] ![n, 2048] inb) (ix2 a b)
      = X (ix2 ⟨o + a.val, by have := inb 0; have := a.isLt; simp at *; omega⟩ b) := by
  refine congrArg X ?_
  funext d
  apply Fin.ext
  match d with
  | ⟨0, _⟩ => show o + 1 * a.val = o + a.val; omega
  | ⟨1, _⟩ => show 0 + 1 * b.val = b.val; omega

theorem embu (o n : ℕ) (inb : ∀ a, (![o, 0] : Fin 2 → ℕ) a + (![n, 2048] : Fin 2 → ℕ) a ≤ S1024x2048.size a)
    (a : Fin n) (b : Fin 2048) :
    (Rect.unit (s := S1024x2048) ![o, 0] ![n, 2048] inb).emb (ix2 a b)
      = ix2 ⟨o + a.val, by have := inb 0; have := a.isLt; simp at *; omega⟩ b := by
  funext d
  apply Fin.ext
  match d with
  | ⟨0, _⟩ => show o + 1 * a.val = o + a.val; omega
  | ⟨1, _⟩ => show 0 + 1 * b.val = b.val; omega

/-- The normalised block: row by row, the root-mean-square normalisation of the rows of `X` scaled by `g`. -/
def xnOf (X : Vec Ideal S1024x2048 .f32) (g : Vec Ideal S1x2048 .f32) (y : S1024x2048.Idx) : EReal :=
  rms (fun j => X (ix2 (y 0) j)) (y 1) (g (ix2 0 (y 1)))

theorem canonXn (L : List (View.Piece (Elt Ideal) S1024x2048 .bf16)) (X : Vec Ideal S1024x2048 .f32) (g : Vec Ideal S1x2048 .f32)
    (h : ∀ p ∈ L, ∃ (o : ℕ) (inb : ∀ a, (![o, 0] : Fin 2 → ℕ) a + (![16, 2048] : Fin 2 → ℕ) a ≤ S1024x2048.size a),
      p = ⟨Rect.unit (s := S1024x2048) ![o, 0] ![16, 2048] inb, k0_pay5 (F := Ideal) g (View.ld (Val := Elt Ideal) X (Rect.unit (s := S1024x2048) ![o, 0] ![16, 2048] inb))⟩)
    (y : S1024x2048.Idx) (hc : ∃ p ∈ L, y ∈ p.1.set) : View.canon L y = xnOf X g y := by
  refine View.canon_apply_of_pieces (xnOf X g) L ?_ y hc
  intro p hp x
  obtain ⟨o, inb, rfl⟩ := h p hp
  obtain ⟨a, b, rfl⟩ : ∃ (a : Fin 16) (b : Fin 2048), x = ix2 a b := ⟨x 0, x 1, eq_ix2 x⟩
  refine (pay5_apply _ _ a b).trans ?_
  rw [embu]
  exact congrArg (fun v => rms v b (g (ix2 0 b))) (funext fun j => ldu X o 16 inb a j)

theorem canonOut (L : List (View.Piece (Elt Ideal) S1024x2048 .f32)) (A X : Vec Ideal S1024x2048 .f32) (g : Vec Ideal S1x2048 .f32)
    (h : ∀ p ∈ L, ∃ (o : ℕ) (inb : ∀ a, (![o, 0] : Fin 2 → ℕ) a + (![8, 2048] : Fin 2 → ℕ) a ≤ S1024x2048.size a),
      p = ⟨Rect.unit (s := S1024x2048) ![o, 0] ![8, 2048] inb, k0_pay3 (F := Ideal) (k0_pay4 (F := Ideal) g)
        (View.ld (Val := Elt Ideal) A (Rect.unit (s := S1024x2048) ![o, 0] ![8, 2048] inb))
        (View.ld (Val := Elt Ideal) X (Rect.unit (s := S1024x2048) ![o, 0] ![8, 2048] inb))⟩)
    (y : S1024x2048.Idx) (hc : ∃ p ∈ L, y ∈ p.1.set) : View.canon L y = X y + xnOf A g y := by
  refine View.canon_apply_of_pieces (fun y => X y + xnOf A g y) L ?_ y hc
  intro p hp x
  obtain ⟨o, inb, rfl⟩ := h p hp
  obtain ⟨a, b, rfl⟩ : ∃ (a : Fin 8) (b : Fin 2048), x = ix2 a b := ⟨x 0, x 1, eq_ix2 x⟩
  refine (pay3_apply _ _ _ a b).trans ?_
  dsimp only
  rw [embu]
  exact congr (congrArg (· + ·) (ldu X o 8 inb a b)) (congrArg (fun v => rms v b (g (ix2 0 b))) (funext fun j => ldu A o 8 inb a j))

theorem xnA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .f32) (harg10 : arg10.IsWhole) (hc0 : cond0_0 i) (hc1 : ¬cond0_1 i) (hc2 : ¬cond0_2 i)
    (x0 : Vec Ideal S1024x2048 .f32) (x1 : Vec Ideal S1x2048 .f32) (x2 : Vec Ideal S1x2048x256 .bf16) (x3 : Vec Ideal S1x2048x256 .bf16) (x4 : Vec Ideal S1x256x2048 .bf16) (x5 : Vec Ideal S1x2048 .f32) (y : S1024x2048.Idx) : sout0_A_0 c i arg2 harg2 arg3 harg3 arg4 harg4 arg5 harg5 arg6 harg6 arg7 harg7 arg8 harg8 arg9 harg9 arg10 harg10 hc0 hc1 hc2 x0 x1 x2 x3 x4 x5 y = xnOf x0 x1 y := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 x0 x1 x2 x3 x4 x5)]
  refine canonXn _ x0 x1 (fun p hp => ?_) y (scover0_A_0 c i arg2 harg2 arg3 harg3 arg4 harg4 arg5 harg5 arg6 harg6 arg7 harg7 arg8 harg8 arg9 harg9 arg10 harg10 hc0 hc1 hc2 x0 x1 x2 x3 x4 x5 y)
  obtain ⟨o, inb, e⟩ := piecesA c i arg2 harg2 arg3 harg3 arg4 harg4 arg5 harg5 arg6 harg6 arg7 harg7 arg8 harg8 arg9 harg9 arg10 harg10 hc0 hc1 hc2 x0 x1 x2 x3 x4 x5 p hp
  refine ⟨o, inb, e.trans ?_⟩
  rw [View.readAt_eq_ld, View.readAt_eq_ld, harg2.read_unread, harg3.read_unread, View.ld_unit_zero (S := S1x2048) hz]

theorem accB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .f32) (harg10 : arg10.IsWhole) (hc0 : ¬cond0_0 i) (hc1 : cond0_1 i) (hc2 : ¬cond0_2 i)
    (x0 : Vec Ideal S1024x2048 .f32) (x1 : Vec Ideal S1x2048 .f32) (x2 : Vec Ideal S1x2048x256 .bf16) (x3 : Vec Ideal S1x2048x256 .bf16) (x4 : Vec Ideal S1x256x2048 .bf16) (x5 : Vec Ideal S1x2048 .f32) (xs0 : Vec Ideal S1024x2048 .bf16) (xs1 : Vec Ideal S1024x2048 .f32) (r : Fin 1024) (k : Fin 2048) :
    sout0_B_1 c i arg2 harg2 arg3 harg3 arg4 harg4 arg5 harg5 arg6 harg6 arg7 harg7 arg8 harg8 arg9 harg9 arg10 harg10 hc0 hc1 hc2 x0 x1 x2 x3 x4 x5 xs0 xs1 (ix2 r k) = xs1 (ix2 r k) + tile xs0 x2 x3 x4 r k := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 hc2 x0 x1 x2 x3 x4 x5 xs0 xs1)]
  unfold kernelRun0_B
  dsimp only
  rw [View.canon_unit_zero (S := S1024x2048) hz]
  refine (pay2_apply _ _ _ _ _ r k).trans ?_
  simp only [View.readAt_eq_ld, Memref.IsWhole.read_unread, View.ld_unit_zero (S := S1024x2048) hz, View.ld_unit_zero (S := S1x2048x256) hz3, View.ld_unit_zero (S := S1x256x2048) hz3]
  refine congrArg (· + _) (congrFun (View.ld_unit_zero (S := S1024x2048) hz _ _) _)

theorem accC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .f32) (harg10 : arg10.IsWhole) (hc0 : ¬cond0_0 i) (hc1 : cond0_1 i) (hc2 : cond0_2 i)
    (x0 : Vec Ideal S1024x2048 .f32) (x1 : Vec Ideal S1x2048 .f32) (x2 : Vec Ideal S1x2048x256 .bf16) (x3 : Vec Ideal S1x2048x256 .bf16) (x4 : Vec Ideal S1x256x2048 .bf16) (x5 : Vec Ideal S1x2048 .f32) (xs0 : Vec Ideal S1024x2048 .bf16) (xs1 : Vec Ideal S1024x2048 .f32) (r : Fin 1024) (k : Fin 2048) :
    sout0_C_1 c i arg2 harg2 arg3 harg3 arg4 harg4 arg5 harg5 arg6 harg6 arg7 harg7 arg8 harg8 arg9 harg9 arg10 harg10 hc0 hc1 hc2 x0 x1 x2 x3 x4 x5 xs0 xs1 (ix2 r k) = xs1 (ix2 r k) + tile xs0 x2 x3 x4 r k := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 hc2 x0 x1 x2 x3 x4 x5 xs0 xs1)]
  unfold kernelRun0_C
  dsimp only
  sl_unfold_words
  rw [View.canon_unit_zero (S := S1024x2048) hz]
  refine (pay2_apply _ _ _ _ _ r k).trans ?_
  simp only [View.readAt_eq_ld, Memref.IsWhole.read_unread, View.ld_unit_zero (S := S1024x2048) hz, View.ld_unit_zero (S := S1x2048x256) hz3, View.ld_unit_zero (S := S1x256x2048) hz3]
  refine congrArg (· + _) (congrFun (View.ld_unit_zero (S := S1024x2048) hz _ _) _)

theorem hsA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .f32) (harg10 : arg10.IsWhole) (hc0 : cond0_0 i) (hc1 : ¬cond0_1 i) (hc2 : ¬cond0_2 i)
    (x0 : Vec F S1024x2048 .f32) (x1 : Vec F S1x2048 .f32) (x2 : Vec F S1x2048x256 .bf16) (x3 : Vec F S1x2048x256 .bf16) (x4 : Vec F S1x256x2048 .bf16) (x5 : Vec F S1x2048 .f32) : (kernelRun0_A c i arg2 harg2 arg3 harg3 arg4 harg4 arg5 harg5 arg6 harg6 arg7 harg7 arg8 harg8 arg9 harg9 arg10 harg10 hc0 hc1 hc2 x0 x1 x2 x3 x4 x5).2.1 = kernelRun0_A.sl.HS0_64 c arg2 harg2 arg3 harg3 x0 x1 := rfl

theorem accA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .f32) (harg10 : arg10.IsWhole) (hc0 : cond0_0 i) (hc1 : ¬cond0_1 i) (hc2 : ¬cond0_2 i)
    (x0 : Vec Ideal S1024x2048 .f32) (x1 : Vec Ideal S1x2048 .f32) (x2 : Vec Ideal S1x2048x256 .bf16) (x3 : Vec Ideal S1x2048x256 .bf16) (x4 : Vec Ideal S1x256x2048 .bf16) (x5 : Vec Ideal S1x2048 .f32) (r : Fin 1024) (k : Fin 2048) :
    sout0_A_1 c i arg2 harg2 arg3 harg3 arg4 harg4 arg5 harg5 arg6 harg6 arg7 harg7 arg8 harg8 arg9 harg9 arg10 harg10 hc0 hc1 hc2 x0 x1 x2 x3 x4 x5 (ix2 r k) = tile (xnOf x0 x1) x2 x3 x4 r k := by
  have hx : kernelRun0_A.sl.v1099 c arg2 harg2 arg3 harg3 arg9 x0 x1 = xnOf x0 x1 := by
    unfold kernelRun0_A.sl.v1099
    rw [← hsA c i arg2 harg2 arg3 harg3 arg4 harg4 arg5 harg5 arg6 harg6 arg7 harg7 arg8 harg8 arg9 harg9 arg10 harg10 hc0 hc1 hc2 x0 x1 x2 x3 x4 x5, View.readCov_eq_canon_ld _ _ _ (scover0_A_0 c i arg2 harg2 arg3 harg3 arg4 harg4 arg5 harg5 arg6 harg6 arg7 harg7 arg8 harg8 arg9 harg9 arg10 harg10 hc0 hc1 hc2 x0 x1 x2 x3 x4 x5), View.ld_unit_zero (S := S1024x2048) hz]
    funext y
    rw [← xnA c i arg2 harg2 arg3 harg3 arg4 harg4 arg5 harg5 arg6 harg6 arg7 harg7 arg8 harg8 arg9 harg9 arg10 harg10 hc0 hc1 hc2 x0 x1 x2 x3 x4 x5 y]
    unfold sout0_A_0
    rw [View.read_writes_eq_canon _ _ _ (scover0_A_0 c i arg2 harg2 arg3 harg3 arg4 harg4 arg5 harg5 arg6 harg6 arg7 harg7 arg8 harg8 arg9 harg9 arg10 harg10 hc0 hc1 hc2 x0 x1 x2 x3 x4 x5)]
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 hc2 x0 x1 x2 x3 x4 x5)]
  unfold kernelRun0_A
  dsimp only
  rw [View.canon_unit_zero (S := S1024x2048) hz]
  unfold kernelRun0_A.sl.r_33 kernelRun0_A.sl.r_34 kernelRun0_A.sl.cst_398
  rw [hx]
  unfold_payloads
  simp only [View.readAt_eq_ld, Memref.IsWhole.read_unread, View.ld_unit_zero (S := S1x2048x256) hz3, View.ld_unit_zero (S := S1x256x2048) hz3]
  pointwise
  rfl

theorem outC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (arg10 : Memref sig .tc .vmem S1024x2048 .f32) (harg10 : arg10.IsWhole) (hc0 : ¬cond0_0 i) (hc1 : cond0_1 i) (hc2 : cond0_2 i)
    (x0 : Vec Ideal S1024x2048 .f32) (x1 : Vec Ideal S1x2048 .f32) (x2 : Vec Ideal S1x2048x256 .bf16) (x3 : Vec Ideal S1x2048x256 .bf16) (x4 : Vec Ideal S1x256x2048 .bf16) (x5 : Vec Ideal S1x2048 .f32) (xs0 : Vec Ideal S1024x2048 .bf16) (xs1 : Vec Ideal S1024x2048 .f32) (y : S1024x2048.Idx) :
    out0_C_6 c i arg2 harg2 arg3 harg3 arg4 harg4 arg5 harg5 arg6 harg6 arg7 harg7 arg8 harg8 arg9 harg9 arg10 harg10 hc0 hc1 hc2 x0 x1 x2 x3 x4 x5 xs0 xs1 y = x0 y + xnOf (sout0_C_1 c i arg2 harg2 arg3 harg3 arg4 harg4 arg5 harg5 arg6 harg6 arg7 harg7 arg8 harg8 arg9 harg9 arg10 harg10 hc0 hc1 hc2 x0 x1 x2 x3 x4 x5 xs0 xs1) x5 y := by
  have hs : sout0_C_1 c i arg2 harg2 arg3 harg3 arg4 harg4 arg5 harg5 arg6 harg6 arg7 harg7 arg8 harg8 arg9 harg9 arg10 harg10 hc0 hc1 hc2 x0 x1 x2 x3 x4 x5 xs0 xs1 = View.canon (kernelRun0_C c i arg2 harg2 arg3 harg3 arg4 harg4 arg5 harg5 arg6 harg6 arg7 harg7 arg8 harg8 arg9 harg9 arg10 harg10 hc0 hc1 hc2 x0 x1 x2 x3 x4 x5 xs0 xs1).2.2.1 := by
    unfold sout0_C_1
    rw [View.read_writes_eq_canon _ _ _ (scover0_C_1 c i arg2 harg2 arg3 harg3 arg4 harg4 arg5 harg5 arg6 harg6 arg7 harg7 arg8 harg8 arg9 harg9 arg10 harg10 hc0 hc1 hc2 x0 x1 x2 x3 x4 x5 xs0 xs1)]
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 hc2 x0 x1 x2 x3 x4 x5 xs0 xs1), hs]
  refine canonOut _ _ x0 x5 (fun p hp => ?_) y (cover0_C_6 c i arg2 harg2 arg3 harg3 arg4 harg4 arg5 harg5 arg6 harg6 arg7 harg7 arg8 harg8 arg9 harg9 arg10 harg10 hc0 hc1 hc2 x0 x1 x2 x3 x4 x5 xs0 xs1 y)
  obtain ⟨o, inb, e⟩ := piecesC c i arg2 harg2 arg3 harg3 arg4 harg4 arg5 harg5 arg6 harg6 arg7 harg7 arg8 harg8 arg9 harg9 arg10 harg10 hc0 hc1 hc2 x0 x1 x2 x3 x4 x5 xs0 xs1 p hp
  refine ⟨o, inb, e.trans ?_⟩
  rw [View.readAt_eq_ld, View.readAt_eq_ld, harg2.read_unread, harg7.read_unread, View.ld_unit_zero (S := S1x2048) hz, View.readCov_eq_canon_ld _ _ _ (scover0_C_1 c i arg2 harg2 arg3 harg3 arg4 harg4 arg5 harg5 arg6 harg6 arg7 harg7 arg8 harg8 arg9 harg9 arg10 harg10 hc0 hc1 hc2 x0 x1 x2 x3 x4 x5 xs0 xs1)]

end Cert.Kernel2Ideal.Hand
end
-- ==== Proof.FfnFold.lean ====
module

public import proofs.«01_k».proof.Proof.FfnBody
public import Idealize.ShloMosaic.Lib.Pointwise
public import Idealize.ShloMosaic.Lib.Pipeline.ValueKit.Acc
public import Idealize.ShloMosaic.Lib.Pipeline.ReadBack

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The arguments as launched, on device `c`. -/
abbrev argX (c : Dev nD) : Vec Ideal S40960x2048 .f32 := m ((c.tc : Thread nD τ).loc main_arg0)
abbrev argGpre (c : Dev nD) : Vec Ideal S4x2048 .f32 := m ((c.tc : Thread nD τ).loc main_arg1)
abbrev argWg (c : Dev nD) : Vec Ideal S4x2048x5632 .f32 := m ((c.tc : Thread nD τ).loc main_arg2)
abbrev argWu (c : Dev nD) : Vec Ideal S4x2048x5632 .f32 := m ((c.tc : Thread nD τ).loc main_arg3)
abbrev argWd (c : Dev nD) : Vec Ideal S4x5632x2048 .f32 := m ((c.tc : Thread nD τ).loc main_arg4)
abbrev argGpost (c : Dev nD) : Vec Ideal S4x2048 .f32 := m ((c.tc : Thread nD τ).loc main_arg5)

theorem V_v0 (c : Dev nD) : V m c main_v0 = argWg m c := by
  unfold V; after_results_simp; rfl
theorem V_v1 (c : Dev nD) : V m c main_v1 = argWu m c := by
  unfold V; after_results_simp; rfl
theorem V_v2 (c : Dev nD) : V m c main_v2 = argWd m c := by
  unfold V; after_results_simp; rfl
theorem V_v5 (c : Dev nD) (k : Fin 2048) : (V m c main_v5 : Vec Ideal S1x2048 .f32) (ix2 0 k) = argGpre m c (ix2 0 k) := by
  unfold V; after_results_simp
  pointwise
theorem V_v8 (c : Dev nD) (k : Fin 2048) : (V m c main_v8 : Vec Ideal S1x2048 .f32) (ix2 0 k) = argGpost m c (ix2 0 k) := by
  unfold V; after_results_simp
  pointwise

theorem ix_facts : ∀ t : Fin cfg0.N, (win0_0.index t (0 : Fin 2) = t.val / 22 ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = t.val % 22)
    ∧ (win0_3.index t (0 : Fin 3) = 0 ∧ win0_3.index t (1 : Fin 3) = 0 ∧ win0_3.index t (2 : Fin 3) = t.val % 22)
    ∧ (win0_4.index t (0 : Fin 3) = 0 ∧ win0_4.index t (1 : Fin 3) = t.val % 22 ∧ win0_4.index t (2 : Fin 3) = 0)
    ∧ (win0_5.index t (0 : Fin 2) = 0 ∧ win0_5.index t (1 : Fin 2) = 0) :=
  (by decide +kernel : ∀ t : Fin grid0.N, _)

theorem iblk0_apply (c : Dev nD) (t : Fin cfg0.N) (r : Fin 1024) (k : Fin 2048) (h : 1024 * (t.val / 22) + r.val < 40960) :
    (iblk m c 0 t : Vec Ideal S1024x2048 .f32) (ix2 r k) = argX m c (ix2 ⟨1024 * (t.val / 22) + r.val, h⟩ k) := by
  unfold iblk
  rw [View.read_apply]
  show V m c main_arg0 _ = _
  rw [V_main_arg0]
  refine congrArg (argX m c) (funext fun a => Fin.ext ?_)
  obtain ⟨⟨e0, e1⟩, -⟩ := ix_facts t
  match a with
  | ⟨0, _⟩ => show win0_0.index t 0 * 1024 + 1 * r.val = 1024 * (t.val / 22) + r.val; rw [e0]; omega
  | ⟨1, _⟩ => show win0_0.index t 1 * 2048 + 1 * k.val = k.val; rw [e1]; omega

theorem iblk1_apply (c : Dev nD) (t : Fin cfg0.N) (k : Fin 2048) :
    (iblk m c 1 t : Vec Ideal S1x2048 .f32) (ix2 0 k) = argGpre m c (ix2 0 k) := by
  unfold iblk
  rw [View.read_apply, ← V_v5 m c k]
  show V m c main_v5 _ = V m c main_v5 _
  refine congrArg (V m c main_v5) (funext fun a => Fin.ext ?_)
  obtain ⟨-, ⟨e0, e1⟩, -⟩ := ix_facts t
  match a with
  | ⟨0, _⟩ => show win0_1.index t 0 * 1 + 1 * 0 = 0; rw [e0]
  | ⟨1, _⟩ => show win0_1.index t 1 * 2048 + 1 * k.val = k.val; rw [e1]; omega

theorem iblk2_apply (c : Dev nD) (t : Fin cfg0.N) (j : Fin 2048) (h : Fin 256) (hh : 256 * (t.val % 22) + h.val < 5632) :
    (iblk m c 2 t : Vec Ideal S1x2048x256 .bf16) (ix3 0 j h) = argWg m c (ix3 0 j ⟨256 * (t.val % 22) + h.val, hh⟩) := by
  unfold iblk
  rw [View.read_apply]
  show V m c main_v0 _ = _
  rw [V_v0]
  refine congrArg (argWg m c) (funext fun a => Fin.ext ?_)
  obtain ⟨-, -, ⟨e0, e1, e2⟩, -⟩ := ix_facts t
  match a with
  | ⟨0, _⟩ => show win0_2.index t 0 * 1 + 1 * 0 = 0; rw [e0]
  | ⟨1, _⟩ => show win0_2.index t 1 * 2048 + 1 * j.val = j.val; rw [e1]; omega
  | ⟨2, _⟩ => show win0_2.index t 2 * 256 + 1 * h.val = 256 * (t.val % 22) + h.val; rw [e2]; omega

theorem iblk3_apply (c : Dev nD) (t : Fin cfg0.N) (j : Fin 2048) (h : Fin 256) (hh : 256 * (t.val % 22) + h.val < 5632) :
    (iblk m c 3 t : Vec Ideal S1x2048x256 .bf16) (ix3 0 j h) = argWu m c (ix3 0 j ⟨256 * (t.val % 22) + h.val, hh⟩) := by
  unfold iblk
  rw [View.read_apply]
  show V m c main_v1 _ = _
  rw [V_v1]
  refine congrArg (argWu m c) (funext fun a => Fin.ext ?_)
  obtain ⟨-, -, -, ⟨e0, e1, e2⟩, -⟩ := ix_facts t
  match a with
  | ⟨0, _⟩ => show win0_3.index t 0 * 1 + 1 * 0 = 0; rw [e0]
  | ⟨1, _⟩ => show win0_3.index t 1 * 2048 + 1 * j.val = j.val; rw [e1]; omega
  | ⟨2, _⟩ => show win0_3.index t 2 * 256 + 1 * h.val = 256 * (t.val % 22) + h.val; rw [e2]; omega

theorem iblk4_apply (c : Dev nD) (t : Fin cfg0.N) (h : Fin 256) (k : Fin 2048) (hh : 256 * (t.val % 22) + h.val < 5632) :
    (iblk m c 4 t : Vec Ideal S1x256x2048 .bf16) (ix3 0 h k) = argWd m c (ix3 0 ⟨256 * (t.val % 22) + h.val, hh⟩ k) := by
  unfold iblk
  rw [View.read_apply]
  show V m c main_v2 _ = _
  rw [V_v2]
  refine congrArg (argWd m c) (funext fun a => Fin.ext ?_)
  obtain ⟨-, -, -, -, ⟨e0, e1, e2⟩, -⟩ := ix_facts t
  match a with
  | ⟨0, _⟩ => show win0_4.index t 0 * 1 + 1 * 0 = 0; rw [e0]
  | ⟨1, _⟩ => show win0_4.index t 1 * 256 + 1 * h.val = 256 * (t.val % 22) + h.val; rw [e1]; omega
  | ⟨2, _⟩ => show win0_4.index t 2 * 2048 + 1 * k.val = k.val; rw [e2]; omega

theorem iblk5_apply (c : Dev nD) (t : Fin cfg0.N) (k : Fin 2048) :
    (iblk m c 5 t : Vec Ideal S1x2048 .f32) (ix2 0 k) = argGpost m c (ix2 0 k) := by
  unfold iblk
  rw [View.read_apply, ← V_v8 m c k]
  show V m c main_v8 _ = V m c main_v8 _
  refine congrArg (V m c main_v8) (funext fun a => Fin.ext ?_)
  obtain ⟨-, -, -, -, -, ⟨e0, e1⟩⟩ := ix_facts t
  match a with
  | ⟨0, _⟩ => show win0_5.index t 0 * 1 + 1 * 0 = 0; rw [e0]
  | ⟨1, _⟩ => show win0_5.index t 1 * 2048 + 1 * k.val = k.val; rw [e1]; omega

/-- The normalised row `R` of the residual stream, scaled by the first layer's gains. -/
def xnR (c : Dev nD) (R : Fin 40960) (k : Fin 2048) : EReal :=
  rms (fun j => argX m c (ix2 R j)) k (argGpre m c (ix2 0 k))

/-- What hidden lane `h` contributes to row `R`, column `k` of the down-projection. -/
def lane (c : Dev nD) (R : Fin 40960) (k : Fin 2048) (h : Fin 5632) : EReal :=
  hid (∑ j : Fin 2048, xnR m c R j * argWg m c (ix3 0 j h)) (∑ j : Fin 2048, xnR m c R j * argWu m c (ix3 0 j h))
    * argWd m c (ix3 0 h k)

/-- What tile `f` of 256 hidden lanes contributes, for a natural `f` (nothing past the last tile). -/
def laneTile (c : Dev nD) (R : Fin 40960) (k : Fin 2048) (f : ℕ) : EReal :=
  if hf : f < 22 then ∑ h : Fin 256, lane m c R k ⟨256 * f + h.val, by have := h.isLt; omega⟩ else 0

theorem row_lt (t : Fin cfg0.N) (r : Fin 1024) : 1024 * (t.val / 22) + r.val < 40960 := by
  have h1 := lt_of_lt_of_eq t.isLt (show cfg0.N = 880 from N_0); have := r.isLt; omega

theorem xnOf_iblk (c : Dev nD) (t : Fin cfg0.N) (r : Fin 1024) (k : Fin 2048) :
    xnOf (iblk m c 0 t) (iblk m c 1 t) (ix2 r k) = xnR m c ⟨1024 * (t.val / 22) + r.val, row_lt t r⟩ k := by
  have h0 : (fun j => (iblk m c 0 t : Vec Ideal S1024x2048 .f32) (ix2 r j)) = fun j => argX m c (ix2 ⟨1024 * (t.val / 22) + r.val, row_lt t r⟩ j) :=
    funext fun j => iblk0_apply m c t r j _
  show rms (fun j => (iblk m c 0 t : Vec Ideal S1024x2048 .f32) (ix2 r j)) k ((iblk m c 1 t : Vec Ideal S1x2048 .f32) (ix2 0 k)) = _
  rw [h0, iblk1_apply]
  rfl

theorem tile_iblk (c : Dev nD) (t : Fin cfg0.N) (xn : Vec Ideal S1024x2048 .bf16) (r : Fin 1024) (k : Fin 2048)
    (hx : ∀ j, xn (ix2 r j) = xnR m c ⟨1024 * (t.val / 22) + r.val, row_lt t r⟩ j) :
    tile xn (iblk m c 2 t) (iblk m c 3 t) (iblk m c 4 t) r k
      = laneTile m c ⟨1024 * (t.val / 22) + r.val, row_lt t r⟩ k (t.val % 22) := by
  have hf : t.val % 22 < 22 := Nat.mod_lt _ (by decide)
  unfold tile laneTile
  rw [dif_pos hf]
  refine Finset.sum_congr rfl fun h _ => ?_
  have hh : 256 * (t.val % 22) + h.val < 5632 := by have := h.isLt; omega
  unfold lane
  refine congr (congrArg (· * ·) (congr (congrArg hid (Finset.sum_congr rfl fun j _ => ?_)) (Finset.sum_congr rfl fun j _ => ?_))) (iblk4_apply m c t h k hh)
  · rw [hx j, iblk2_apply m c t j h hh]
  · rw [hx j, iblk3_apply m c t j h hh]

/-- At the first tile of a row block the scratch holds the normalised rows, the accumulator the first tile's product. -/
theorem stepA (c : Dev nD) (t : Fin cfg0.N) (h0 : t.val % 22 = 0) (r : Fin 1024) (k : Fin 2048) :
    (outsAt0 m c t.val t.isLt).2.1 (ix2 r k) = xnR m c ⟨1024 * (t.val / 22) + r.val, row_lt t r⟩ k
    ∧ (outsAt0 m c t.val t.isLt).2.2 (ix2 r k) = laneTile m c ⟨1024 * (t.val / 22) + r.val, row_lt t r⟩ k (t.val % 22) := by
  rw [outsAt0_A m c t h0 (by omega) (by omega)]
  dsimp only
  constructor
  · rw [xnA]; exact xnOf_iblk m c t r k
  · rw [accA]; exact tile_iblk m c t _ r k fun j => xnOf_iblk m c t r j

/-- At any later tile the scratch is kept and the accumulator takes the tile's product on. -/
theorem stepBC (c : Dev nD) (t : Fin cfg0.N) (h0 : ¬t.val % 22 = 0) (hp : t.val - 1 < cfg0.N) (r : Fin 1024) (k : Fin 2048) :
    (outsAt0 m c t.val t.isLt).2.1 = (outsAt0 m c (t.val - 1) hp).2.1
    ∧ (outsAt0 m c t.val t.isLt).2.2 (ix2 r k) = (outsAt0 m c (t.val - 1) hp).2.2 (ix2 r k)
        + tile (outsAt0 m c (t.val - 1) hp).2.1 (iblk m c 2 t) (iblk m c 3 t) (iblk m c 4 t) r k := by
  by_cases h2 : t.val % 22 = 21
  · rw [outsAt0_C m c t h0 (by omega) h2]
    dsimp only
    constructor
    · unfold sout0_C_0; rfl
    · rw [accC]
  · rw [outsAt0_B m c t h0 (by omega) h2]
    dsimp only
    constructor
    · unfold sout0_B_0; rfl
    · rw [accB]

/-- After point `n` the scratch holds the row block's normalised rows and the accumulator the sum of the tiles met so far. -/
theorem state (c : Dev nD) (n : ℕ) : ∀ (hn : n < cfg0.N) (r : Fin 1024) (k : Fin 2048),
    (outsAt0 m c n hn).2.1 (ix2 r k) = xnR m c ⟨1024 * (n / 22) + r.val, row_lt ⟨n, hn⟩ r⟩ k
    ∧ (outsAt0 m c n hn).2.2 (ix2 r k)
      = ∑ f ∈ Finset.range (n % 22 + 1), laneTile m c ⟨1024 * (n / 22) + r.val, row_lt ⟨n, hn⟩ r⟩ k f := by
  induction n with
  | zero =>
    intro hn r k
    obtain ⟨a, b⟩ := stepA m c ⟨0, hn⟩ rfl r k
    exact ⟨a, by rw [Finset.sum_range_one]; exact b⟩
  | succ n ih =>
    intro hn r k
    by_cases h0 : (n + 1) % 22 = 0
    · obtain ⟨a, b⟩ := stepA m c ⟨n + 1, hn⟩ h0 r k
      refine ⟨a, b.trans ?_⟩
      show laneTile m c _ k ((n + 1) % 22) = _
      rw [h0]
      exact (Finset.sum_range_one _).symm
    · have hn' : n < cfg0.N := Nat.lt_of_succ_lt hn
      obtain ⟨a, b⟩ := stepBC m c ⟨n + 1, hn⟩ h0 hn' r k
      have hd : (n + 1) / 22 = n / 22 := by omega
      have hm : (n + 1) % 22 = n % 22 + 1 := by omega
      have hR : (⟨1024 * ((n + 1) / 22) + r.val, row_lt ⟨n + 1, hn⟩ r⟩ : Fin 40960) = ⟨1024 * (n / 22) + r.val, row_lt ⟨n, hn'⟩ r⟩ :=
        Fin.ext (by show 1024 * ((n + 1) / 22) + r.val = 1024 * (n / 22) + r.val; rw [hd])
      refine ⟨?_, ?_⟩
      · rw [hR]; exact (congrFun a _).trans (ih hn' r k).1
      · refine b.trans ?_
        rw [tile_iblk m c ⟨n + 1, hn⟩ _ r k (fun j => by
          show (outsAt0 m c n hn').2.1 (ix2 r j) = xnR m c ⟨1024 * ((n + 1) / 22) + r.val, _⟩ j
          rw [hR]; exact (ih hn' r j).1)]
        show (outsAt0 m c n hn').2.2 (ix2 r k) + laneTile m c ⟨1024 * ((n + 1) / 22) + r.val, _⟩ k ((n + 1) % 22) = _
        rw [(ih hn' r k).2, hR, hm, Finset.sum_range_succ _ (n % 22 + 1)]

/-- The feed-forward result at row `R`, column `k`: the residual plus the normalised down-projection. -/
def ffnOut (c : Dev nD) (R : Fin 40960) (k : Fin 2048) : EReal :=
  argX m c (ix2 R k) + rms (fun j => ∑ h : Fin 5632, lane m c R j h) k (argGpost m c (ix2 0 k))

theorem sum_tiles (c : Dev nD) (R : Fin 40960) (k : Fin 2048) :
    ∑ f ∈ Finset.range 22, laneTile m c R k f = ∑ h : Fin 5632, lane m c R k h := by
  rw [← Fin.sum_univ_eq_sum_range (fun f => laneTile m c R k f) 22]
  refine Eq.trans (Finset.sum_congr rfl fun f _ => ?_) (Fin.sum_mul_add_fin 22 256 (lane m c R k))
  unfold laneTile
  rw [dif_pos f.isLt]
  refine Finset.sum_congr rfl fun h _ => congrArg (lane m c R k) (Fin.ext ?_)
  show 256 * f.val + h.val = f.val * 256 + h.val
  omega

/-- What the last tile's point leaves in the output block. -/
theorem out_last (c : Dev nD) (t : Fin cfg0.N) (h2 : t.val % 22 = 21) (r : Fin 1024) (k : Fin 2048) :
    (outsAt0 m c t.val t.isLt).1 (ix2 r k) = ffnOut m c ⟨1024 * (t.val / 22) + r.val, row_lt t r⟩ k := by
  have hs : ∀ j, (outsAt0 m c t.val t.isLt).2.2 (ix2 r j)
      = ∑ h : Fin 5632, lane m c ⟨1024 * (t.val / 22) + r.val, row_lt t r⟩ j h := by
    intro j
    rw [(state m c t.val t.isLt r j).2, h2, sum_tiles]
  rw [outsAt0_C m c t (by omega) (by omega) h2] at hs ⊢
  dsimp only at hs ⊢
  rw [outC]
  unfold ffnOut
  refine congrArg₂ (fun a b : EReal => a + b) (iblk0_apply m c t r k _) ?_
  show rms (fun j => _) k ((iblk m c 5 t : Vec Ideal S1x2048 .f32) (ix2 0 k)) = _
  rw [iblk5_apply]
  exact congrArg (fun v => rms v k _) (funext fun j => hs j)

/-- The output array the run leaves. -/
theorem G6_apply (c : Dev nD) (R : Fin 40960) (k : Fin 2048) : Value.G6 m c (ix2 R k) = ffnOut m c R k := by
  have hp : Value.pt6Of (ix2 R k) = 22 * (R.val / 1024) + 21 := by
    show 22 * (1 * (R.val / 1024 - 0) + 1 * (k.val / 2048 - 0)) + 21 = _
    have := k.isLt; omega
  have hN : Value.pt6Of (ix2 R k) < cfg0.N := by
    rw [hp]; have := R.isLt; exact lt_of_lt_of_eq (by omega) N_0.symm
  unfold Value.G6
  rw [dif_pos hN, ← Value.outsAt0_sweep m c _ hN]
  have hl : Value.loc6Of (ix2 R k) = ix2 ⟨R.val % 1024, Nat.mod_lt _ (by decide)⟩ k := by
    funext a; apply Fin.ext
    match a with
    | ⟨0, _⟩ => rfl
    | ⟨1, _⟩ => show k.val % 2048 = k.val; exact Nat.mod_eq_of_lt k.isLt
  rw [hl]
  refine (out_last m c ⟨_, hN⟩ (by show Value.pt6Of (ix2 R k) % 22 = 21; rw [hp]; omega) _ k).trans ?_
  refine congrArg (fun R => ffnOut m c R k) (Fin.ext ?_)
  show 1024 * (Value.pt6Of (ix2 R k) / 22) + R.val % 1024 = R.val
  rw [hp]; omega

end Cert.Kernel2Ideal.Hand
end
-- ==== Proof.FfnRef.lean ====
module

public import proofs.«01_k».proof.Proof.FfnFold
public import proofs.«01_k».proof.Proof.Gen.Reference2Ideal.Run
public import Idealize.ShloMosaic.Lib.Pointwise
public import Idealize.ShloMosaic.Lib.Pipeline.ValueKit.Acc
public import Idealize.ShloMosaic.Lib.Pipeline.ReadBack

@[expose] public section

set_option maxRecDepth 16384

noncomputable section

namespace Cert.Reference2Ideal.Hand

open Cert.Reference2Ideal Cert.Reference2Ideal.Gen Cert.Kernel2Ideal.Hand Idealize.ShloMosaic Idealize.ShloMosaic.TcCoe Idealize.SL.Sem
open Idealize.ShloMosaic.Pipeline (Dat)

/-- The reference's normalisation of the rows of an array, before the gain is multiplied on and with the gain's row. -/
def rmsV (X : FVec Ideal S40960x2048 .f32) (G : FVec Ideal S4x2048 .f32) : FVec Ideal S40960x2048 .f32 :=
  mulf (F := Ideal)
    (mulf X
      (broadcastInDim S40960x2048 ![0, 1] bcast_S40960x1_S40960x2048_0_1
        (Host.rsqrt
          (addf
            (Host.divf
              (broadcastInDim S40960x1 ![0] bcast_S40960_S40960x1_0
                (Host.reduceAdd (mulf X X) (constant S_ FTy.f32 0#32) reducesTo_S40960x2048_S40960_d1 h_S_))
              (broadcastInDim S40960x1 ![] bcast_S_S40960x1 (constant S_ FTy.f32 1157627904#32)))
            (broadcastInDim S40960x1 ![] bcast_S_S40960x1 (constant S_ FTy.f32 897988541#32))))))
    (broadcastInDim S40960x2048 ![0, 1] bcast_S1x2048_S40960x2048_0_1
      (broadcastInDim S1x2048 ![1] bcast_S2048_S1x2048_1
        (shapeCast S2048 (extractStridedSlice S1x2048 ![0, 0] G slices_S4x2048_S1x2048_0_0) shapeCasts_S1x2048_S2048)))

/-- An entry of the reference's normalised array. -/
theorem rmsV_apply (X : FVec Ideal S40960x2048 .f32) (G : FVec Ideal S4x2048 .f32) (R : Fin 40960) (k : Fin 2048) :
    rmsV X G (ix2 R k) = rms (fun j => X (ix2 R j)) k (G (ix2 0 k)) := by
  unfold rmsV rms
  pointwise

/-- The reference's product with the first layer's slice of a stack of weights that widen the rows. -/
def upV (X : FVec Ideal S40960x2048 .f32) (W : FVec Ideal S4x2048x5632 .f32) : FVec Ideal S40960x5632 .f32 :=
  Host.dotGeneral (F := Ideal) dot_S40960x2048_S2048x5632_S40960x5632_1_0_0_1_n_n none X
    (shapeCast S2048x5632 (extractStridedSlice S1x2048x5632 ![0, 0, 0] W slices_S4x2048x5632_S1x2048x5632_0_0_0)
      shapeCasts_S1x2048x5632_S2048x5632)

/-- An entry of that product is a row times a column. -/
theorem upV_apply (X : FVec Ideal S40960x2048 .f32) (W : FVec Ideal S4x2048x5632 .f32) (R : Fin 40960) (h : Fin 5632) :
    upV X W (ix2 R h) = ∑ j : Fin 2048, X (ix2 R j) * W (ix3 0 j h) := by
  unfold upV
  pointwise

/-- The reference's product with the first layer's slice of the weights that bring the rows back to their width. -/
def downV (H : FVec Ideal S40960x5632 .f32) (W : FVec Ideal S4x5632x2048 .f32) : FVec Ideal S40960x2048 .f32 :=
  Host.dotGeneral (F := Ideal) dot_S40960x5632_S5632x2048_S40960x2048_1_0_0_1_n_n none H
    (shapeCast S5632x2048 (extractStridedSlice S1x5632x2048 ![0, 0, 0] W slices_S4x5632x2048_S1x5632x2048_0_0_0)
      shapeCasts_S1x5632x2048_S5632x2048)

/-- An entry of that product is a row times a column. -/
theorem downV_apply (H : FVec Ideal S40960x5632 .f32) (W : FVec Ideal S4x5632x2048 .f32) (R : Fin 40960) (k : Fin 2048) :
    downV H W (ix2 R k) = ∑ h : Fin 5632, H (ix2 R h) * W (ix3 0 h k) := by
  unfold downV
  pointwise

/-- The reference's gated hidden array. -/
def hidV (A U : FVec Ideal S40960x5632 .f32) : FVec Ideal S40960x5632 .f32 :=
  mulf (F := Ideal)
    (mulf A
      (Host.divf (broadcastInDim S40960x5632 ![] bcast_S_S40960x5632 (constant S_ .f32 0x3F800000#32))
        (addf (broadcastInDim S40960x5632 ![] bcast_S_S40960x5632 (constant S_ .f32 0x3F800000#32))
          (Host.exp (Host.negf A)))))
    U

/-- An entry of the gated hidden array. -/
theorem hidV_apply (A U : FVec Ideal S40960x5632 .f32) (R : Fin 40960) (h : Fin 5632) :
    hidV A U (ix2 R h) = hid (A (ix2 R h)) (U (ix2 R h)) := by
  unfold hidV hid
  pointwise
  rw [zero_sub]

/-- The reference's result, as a composition of the arrays above. -/
theorem res_eq (m : (ℓ : Loc nD τ sig) → Buf (Elt Ideal) ℓ) (c : Dev nD) :
    Value.res_main_v41 m c =
      addf (F := Ideal) (m (c.tc.loc main_arg0) : FVec Ideal S40960x2048 .f32)
        (rmsV (downV
          (hidV (upV (rmsV (m (c.tc.loc main_arg0)) (m (c.tc.loc main_arg1))) (m (c.tc.loc main_arg2)))
            (upV (rmsV (m (c.tc.loc main_arg0)) (m (c.tc.loc main_arg1))) (m (c.tc.loc main_arg3))))
          (m (c.tc.loc main_arg4))) (m (c.tc.loc main_arg5))) := rfl

/-- An entry of the reference's result. -/
theorem res_apply (m : (ℓ : Loc nD τ sig) → Buf (Elt Ideal) ℓ) (c : Dev nD) (X : FVec Ideal S40960x2048 .f32)
    (G1 G2 : FVec Ideal S4x2048 .f32) (Wg Wu : FVec Ideal S4x2048x5632 .f32) (Wd : FVec Ideal S4x5632x2048 .f32)
    (h0 : X = m (c.tc.loc main_arg0)) (h1 : G1 = m (c.tc.loc main_arg1)) (h2 : Wg = m (c.tc.loc main_arg2))
    (h3 : Wu = m (c.tc.loc main_arg3)) (h4 : Wd = m (c.tc.loc main_arg4)) (h5 : G2 = m (c.tc.loc main_arg5))
    (R : Fin 40960) (k : Fin 2048) :
    (Value.res_main_v41 m c : FVec Ideal S40960x2048 .f32) (ix2 R k) =
      X (ix2 R k) + rms (fun j => ∑ h : Fin 5632,
        hid (∑ i, rms (fun j => X (ix2 R j)) i (G1 (ix2 0 i)) * Wg (ix3 0 i h))
            (∑ i, rms (fun j => X (ix2 R j)) i (G1 (ix2 0 i)) * Wu (ix3 0 i h)) * Wd (ix3 0 h j)) k (G2 (ix2 0 k)) := by
  subst h0 h1 h2 h3 h4 h5
  rw [res_eq]
  refine congrArg₂ (fun a b : EReal => a + b) rfl ?_
  rw [rmsV_apply]
  simp only [downV_apply, hidV_apply, upV_apply, rmsV_apply]

/-- The kernel's output array and the reference's result agree when the two arguments do. -/
theorem agree (m : (ℓ : Loc Kernel2Ideal.nD Kernel2Ideal.τ Kernel2Ideal.sig) → Buf (Elt Ideal) ℓ)
    (m' : (ℓ : Loc nD τ sig) → Buf (Elt Ideal) ℓ) (c : Dev nD)
    (h0 : m' (c.tc.loc main_arg0) = m ((c.tc : Thread Kernel2Ideal.nD Kernel2Ideal.τ).loc Kernel2Ideal.main_arg0))
    (h1 : m' (c.tc.loc main_arg1) = m ((c.tc : Thread Kernel2Ideal.nD Kernel2Ideal.τ).loc Kernel2Ideal.main_arg1))
    (h2 : m' (c.tc.loc main_arg2) = m ((c.tc : Thread Kernel2Ideal.nD Kernel2Ideal.τ).loc Kernel2Ideal.main_arg2))
    (h3 : m' (c.tc.loc main_arg3) = m ((c.tc : Thread Kernel2Ideal.nD Kernel2Ideal.τ).loc Kernel2Ideal.main_arg3))
    (h4 : m' (c.tc.loc main_arg4) = m ((c.tc : Thread Kernel2Ideal.nD Kernel2Ideal.τ).loc Kernel2Ideal.main_arg4))
    (h5 : m' (c.tc.loc main_arg5) = m ((c.tc : Thread Kernel2Ideal.nD Kernel2Ideal.τ).loc Kernel2Ideal.main_arg5)) :
    (Value.res_main_v41 m' c : FVec Ideal S40960x2048 .f32) = Cert.Kernel2Ideal.Value.G6 m c := by
  funext y
  obtain ⟨R, k, rfl⟩ : ∃ (R : Fin 40960) (k : Fin 2048), y = ix2 R k := ⟨y 0, y 1, eq_ix2 (n0 := 40960) (n1 := 2048) y⟩
  exact (res_apply m' c (argX m c) (argGpre m c) (argGpost m c) (argWg m c) (argWu m c) (argWd m c)
    h0.symm h1.symm h2.symm h3.symm h4.symm h5.symm R k).trans (G6_apply m c R k).symm

end Cert.Reference2Ideal.Hand
-- ==== Proof.D1Body.lean ====
module

public import proofs.«01_k».proof.Proof.Gen.KernelIdeal.Value
public import Idealize.ShloMosaic.Lib.Pointwise
public import Idealize.ShloMosaic.Lib.Pipeline.ValueKit.Acc
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]

/-- What the body stores for 128 query rows: the attention of both heads of a lane pair, from the rows' queries, the
    window's keys and values, and the band's bias. -/
def oPay (q : Vec F S1x1x128x128 .bf16) (k v : Vec F S1x1x256x128 .bf16) (b : Vec F S1x128x256 .f32) : FVec F S1x128x128 .bf16 :=
  k0_pay15 k0_pay2 (k0_pay3 q) (k0_pay4 k) (k0_pay5 v) (k0_pay10 k0_pay2 (k0_pay3 q) k v b) b

/-- What it stores beside: the logarithm of the softmax's denominator, of both heads. -/
def lPay (q : Vec F S1x1x128x128 .bf16) (k : Vec F S1x1x256x128 .bf16) (b : Vec F S1x128x256 .f32) : FVec F S1x128x128 .f32 :=
  k0_pay16 k0_pay2 (k0_pay3 q) (k0_pay4 k) (k0_pay7 k0_pay2 (k0_pay3 q) k b) (k0_pay9 k0_pay2 (k0_pay3 q) k b) b

set_option maxRecDepth 100000 in
/-- Each stored piece of the output O is the same function of 128 query rows and of the window that their offset selects. -/
theorem piecesO (c : Dev nD) (i : grid0.Coords) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S3x128x256 .f32) (harg6 : arg6.IsWhole) (arg7 : Memref sig .tc .vmem S1x4096x128 .bf16) (harg7 : arg7.IsWhole) (arg8 : Memref sig .tc .vmem S1x4096x128 .f32) (harg8 : arg8.IsWhole)
    (x0 : Vec F S1x1x4096x128 .bf16) (x1 : Vec F S1x1x4096x128 .bf16) (x2 : Vec F S1x1x4096x128 .bf16) (x3 : Vec F S3x128x256 .f32) :
    ∀ p ∈ (kernelRun0_A c i arg3 harg3 arg4 harg4 arg5 harg5 arg6 harg6 arg7 harg7 arg8 harg8 x0 x1 x2 x3).1, ∃ (o : ℕ) (w : BitVec 32)
      (inb : ∀ a, (![0, o, 0] : Fin 3 → ℕ) a + S1x128x128.size a ≤ S1x4096x128.size a)
      (iq : ∀ a, (![0, 0, o, 0] : Fin 4 → ℕ) a + S1x1x128x128.size a ≤ S1x1x4096x128.size a)
      (ik : ∀ a, (k0_off1 i w) a + S1x1x256x128.size a ≤ S1x1x4096x128.size a)
      (ib : ∀ a, (k0_off2 i w) a + S1x128x256.size a ≤ S3x128x256.size a),
      p = ⟨Rect.unit (s := S1x4096x128) ![0, o, 0] S1x128x128.size inb, oPay (View.readAt (Elt F) arg3.view (Rect.unit (s := S1x1x4096x128) ![0, 0, o, 0] S1x1x128x128.size iq).toLoadRect (harg3.unread x0))
        (View.readAt (Elt F) arg4.view (Rect.unit (s := S1x1x4096x128) (k0_off1 i w) S1x1x256x128.size ik).toLoadRect (harg4.unread x1))
        (View.readAt (Elt F) arg5.view (Rect.unit (s := S1x1x4096x128) (k0_off1 i w) S1x1x256x128.size ik).toLoadRect (harg5.unread x2))
        (View.readAt (Elt F) arg6.view (Rect.unit (s := S3x128x256) (k0_off2 i w) S1x128x256.size ib).toLoadRect (harg6.unread x3))⟩ ∧ w = BitVec.ofNat 32 o ∧ o % 128 = 0 := by
  unfold kernelRun0_A
  dsimp only
  sl_unfold_words
  iterate 32 refine List.forall_mem_cons.2 ⟨⟨_, _, _, _, _, _, rfl, rfl, rfl⟩, ?_⟩
  exact fun p hp => absurd hp List.not_mem_nil

set_option maxRecDepth 100000 in
/-- Each stored piece of the output L is the same function of 128 query rows and of the window that their offset selects. -/
theorem piecesL (c : Dev nD) (i : grid0.Coords) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S3x128x256 .f32) (harg6 : arg6.IsWhole) (arg7 : Memref sig .tc .vmem S1x4096x128 .bf16) (harg7 : arg7.IsWhole) (arg8 : Memref sig .tc .vmem S1x4096x128 .f32) (harg8 : arg8.IsWhole)
    (x0 : Vec F S1x1x4096x128 .bf16) (x1 : Vec F S1x1x4096x128 .bf16) (x2 : Vec F S1x1x4096x128 .bf16) (x3 : Vec F S3x128x256 .f32) :
    ∀ p ∈ (kernelRun0_A c i arg3 harg3 arg4 harg4 arg5 harg5 arg6 harg6 arg7 harg7 arg8 harg8 x0 x1 x2 x3).2.1, ∃ (o : ℕ) (w : BitVec 32)
      (inb : ∀ a, (![0, o, 0] : Fin 3 → ℕ) a + S1x128x128.size a ≤ S1x4096x128.size a)
      (iq : ∀ a, (![0, 0, o, 0] : Fin 4 → ℕ) a + S1x1x128x128.size a ≤ S1x1x4096x128.size a)
      (ik : ∀ a, (k0_off1 i w) a + S1x1x256x128.size a ≤ S1x1x4096x128.size a)
      (ib : ∀ a, (k0_off2 i w) a + S1x128x256.size a ≤ S3x128x256.size a),
      p = ⟨Rect.unit (s := S1x4096x128) ![0, o, 0] S1x128x128.size inb, lPay (View.readAt (Elt F) arg3.view (Rect.unit (s := S1x1x4096x128) ![0, 0, o, 0] S1x1x128x128.size iq).toLoadRect (harg3.unread x0))
        (View.readAt (Elt F) arg4.view (Rect.unit (s := S1x1x4096x128) (k0_off1 i w) S1x1x256x128.size ik).toLoadRect (harg4.unread x1))
        (View.readAt (Elt F) arg6.view (Rect.unit (s := S3x128x256) (k0_off2 i w) S1x128x256.size ib).toLoadRect (harg6.unread x3))⟩ ∧ w = BitVec.ofNat 32 o ∧ o % 128 = 0 := by
  unfold kernelRun0_A
  dsimp only
  sl_unfold_words
  iterate 32 refine List.forall_mem_cons.2 ⟨⟨_, _, _, _, _, _, rfl, rfl, rfl⟩, ?_⟩
  exact fun p hp => absurd hp List.not_mem_nil

end Cert.KernelIdeal.Hand
end
-- ==== Proof.Band.lean ====
module

public import Idealize.ShloMosaic.Lib.Pointwise
public import Idealize.ShloMosaic.Lib.Pipeline.ValueKit.Acc

@[expose] public section

noncomputable section

/- Banded softmax attention over the extended reals: one query of a sequence of 4096, whose keys are those at a distance of at most 64. -/
namespace Cert.Band

open Idealize.ShloMosaic

/-- The greatest of finitely many scores, from minus infinity up. -/
def smax {n : ℕ} (s : Fin n → EReal) : EReal := Finset.univ.fold max ⊥ s

/-- The softmax's denominator, its scores taken relative to their greatest. -/
def sden {n : ℕ} (s : Fin n → EReal) : EReal := ∑ u, Ideal.exp (s u - smax s)

/-- The values weighted by the exponentials of the scores, before the division by the denominator. -/
def snum {n : ℕ} (s v : Fin n → EReal) : EReal := ∑ u, Ideal.exp (s u - smax s) * v u

/-- The positions that query `i` attends to: those at a distance of at most 64. -/
def bset (i : ℕ) : Finset (Fin 4096) := Finset.univ.filter fun j => i ≤ j.val + 64 ∧ j.val ≤ i + 64

theorem mem_bset {i : ℕ} {j : Fin 4096} : j ∈ bset i ↔ i ≤ j.val + 64 ∧ j.val ≤ i + 64 := by simp [bset]

/-- The greatest score in the band. -/
def bmax (i : ℕ) (S : Fin 4096 → EReal) : EReal := (bset i).sup S

/-- The denominator over the band. -/
def bden (i : ℕ) (S : Fin 4096 → EReal) : EReal := ∑ j ∈ bset i, Ideal.exp (S j - bmax i S)

/-- A sum over a window of `n` entries that covers the band is a sum over the band, if the entries off the band are zero.
    Entry `u` of the window stands at position `t + u - s`. -/
theorem win_sum (i s t n : ℕ) (hn : 0 < n) (F : Fin n → EReal) (f : Fin 4096 → EReal)
    (hcov : ∀ j ∈ bset i, t ≤ j.val + s ∧ j.val + s < t + n)
    (hon : ∀ (u : Fin n), ∀ j ∈ bset i, t + u.val = j.val + s → F u = f j)
    (hoff : ∀ u : Fin n, (∀ j ∈ bset i, t + u.val ≠ j.val + s) → F u = 0) : ∑ u, F u = ∑ j ∈ bset i, f j := by
  have hval : ∀ j ∈ bset i, (j.val + s - t) % n = j.val + s - t := fun j hj => by
    have := hcov j hj; exact Nat.mod_eq_of_lt (by omega)
  symm
  refine Finset.sum_of_injOn (fun j : Fin 4096 => (⟨(j.val + s - t) % n, Nat.mod_lt _ hn⟩ : Fin n)) ?_ ?_ ?_ ?_
  · intro a ha b hb h
    have h' : (a.val + s - t) % n = (b.val + s - t) % n := congrArg Fin.val h
    rw [hval a ha, hval b hb] at h'
    have h1 := hcov a ha; have h2 := hcov b hb
    exact Fin.ext (by omega)
  · intro a _; simp
  · intro u _ hu
    refine hoff u fun j hj e => hu ⟨j, hj, Fin.ext ?_⟩
    show (j.val + s - t) % n = u.val
    rw [hval j hj]; omega
  · intro j hj
    refine (hon _ j hj ?_).symm
    show t + (j.val + s - t) % n = j.val + s
    rw [hval j hj]; have := hcov j hj; omega

/-- The greatest entry of such a window is the band's greatest, if the entries off the band are minus infinity. -/
theorem win_max (i s t n : ℕ) (F : Fin n → EReal) (S : Fin 4096 → EReal)
    (hcov : ∀ j ∈ bset i, t ≤ j.val + s ∧ j.val + s < t + n)
    (hon : ∀ (u : Fin n), ∀ j ∈ bset i, t + u.val = j.val + s → F u = S j)
    (hoff : ∀ u : Fin n, (∀ j ∈ bset i, t + u.val ≠ j.val + s) → F u = ⊥) : smax F = bmax i S := by
  show Finset.univ.sup F = (bset i).sup S
  refine le_antisymm (Finset.sup_le fun u _ => ?_) (Finset.sup_le fun j hj => ?_)
  · by_cases h : ∀ j ∈ bset i, t + u.val ≠ j.val + s
    · rw [hoff u h]; exact bot_le
    · push Not at h
      obtain ⟨j, hj, e⟩ := h
      rw [hon u j hj e]; exact Finset.le_sup hj
  · have h := hcov j hj
    rw [← hon ⟨j.val + s - t, by omega⟩ j hj (by show t + (j.val + s - t) = _; omega)]
    exact Finset.le_sup (Finset.mem_univ _)

theorem exp_bot_sub (x : EReal) : Ideal.exp (⊥ - x) = 0 := by
  rw [sub_eq_add_neg, EReal.bot_add]; rfl

/-- The denominator of such a window is the band's. -/
theorem win_den (i s t n : ℕ) (hn : 0 < n) (F : Fin n → EReal) (S : Fin 4096 → EReal)
    (hcov : ∀ j ∈ bset i, t ≤ j.val + s ∧ j.val + s < t + n)
    (hon : ∀ (u : Fin n), ∀ j ∈ bset i, t + u.val = j.val + s → F u = S j)
    (hoff : ∀ u : Fin n, (∀ j ∈ bset i, t + u.val ≠ j.val + s) → F u = ⊥) : sden F = bden i S := by
  unfold sden bden
  rw [win_max i s t n F S hcov hon hoff]
  exact win_sum i s t n hn _ _ hcov (fun u j hj e => by rw [hon u j hj e]) (fun u h => by rw [hoff u h, exp_bot_sub])

/-- The weighted values of such a window are the band's. -/
theorem win_num (i s t n : ℕ) (hn : 0 < n) (F v : Fin n → EReal) (S V : Fin 4096 → EReal)
    (hcov : ∀ j ∈ bset i, t ≤ j.val + s ∧ j.val + s < t + n)
    (hon : ∀ (u : Fin n), ∀ j ∈ bset i, t + u.val = j.val + s → F u = S j)
    (hv : ∀ (u : Fin n), ∀ j ∈ bset i, t + u.val = j.val + s → v u = V j)
    (hoff : ∀ u : Fin n, (∀ j ∈ bset i, t + u.val ≠ j.val + s) → F u = ⊥) :
    snum F v = ∑ j ∈ bset i, Ideal.exp (S j - bmax i S) * V j := by
  unfold snum
  rw [win_max i s t n F S hcov hon hoff]
  exact win_sum i s t n hn _ _ hcov (fun u j hj e => by rw [hon u j hj e, hv u j hj e]) (fun u h => by rw [hoff u h, exp_bot_sub, zero_mul])

/-- Of finite scores the denominator is a positive real number. -/
theorem bden_real (i : ℕ) (hi : i < 4096) (S : Fin 4096 → EReal) (hS : ∀ j, ∃ s : ℝ, S j = (s : EReal)) :
    ∃ d : ℝ, 0 < d ∧ bden i S = (d : EReal) := by
  choose s hs using hS
  have hne : (bset i).Nonempty := ⟨⟨i, hi⟩, mem_bset.2 ⟨by show i ≤ i + 64; omega, by show i ≤ i + 64; omega⟩⟩
  obtain ⟨j0, -, h0⟩ := Finset.exists_mem_eq_sup (bset i) hne S
  have hm : bmax i S = (s j0 : EReal) := h0.trans (hs j0)
  have he : ∀ j, Ideal.exp (S j - bmax i S) = ((Real.exp (s j - s j0) : ℝ) : EReal) := fun j => by
    rw [hm, hs j, ← EReal.coe_sub]; rfl
  refine ⟨∑ j ∈ bset i, Real.exp (s j - s j0), Finset.sum_pos (fun j _ => Real.exp_pos _) hne, ?_⟩
  unfold bden
  rw [Finset.sum_congr rfl fun j _ => he j]
  exact (map_sum (⟨⟨fun x : ℝ => (x : EReal), rfl⟩, EReal.coe_add⟩ : ℝ →+ EReal) _ _).symm

theorem sum_mul_right {ι : Type*} (A : Finset ι) (f : ι → EReal) (c : EReal) (h0 : 0 ≤ c) (ht : c ≠ ⊤) :
    ∑ j ∈ A, f j * c = (∑ j ∈ A, f j) * c := by
  classical
  induction A using Finset.induction_on with
  | empty => simp
  | insert a A ha ih => rw [Finset.sum_insert ha, Finset.sum_insert ha, ih, EReal.right_distrib_of_nonneg_of_ne_top h0 ht]

/-- Dividing the weights before they are multiplied, or the sum afterwards, is the same when the denominator is a positive real. -/
theorem div_sum {ι : Type*} (A : Finset ι) (e v : ι → EReal) (d : ℝ) (hd : 0 < d) :
    ∑ j ∈ A, v j * Ideal.div (e j) d = Ideal.div (∑ j ∈ A, e j * v j) d := by
  have hd' : ((d : ℝ) : EReal) ≠ 0 := by exact_mod_cast hd.ne'
  have hdiv : ∀ x : EReal, Ideal.div x d = x * ((d⁻¹ : ℝ) : EReal) := fun x => by
    unfold Ideal.div; rw [if_neg hd', EReal.coe_inv]
  simp only [hdiv]
  rw [← sum_mul_right A _ _ (by exact_mod_cast (inv_pos.2 hd).le) (EReal.coe_ne_top _)]
  refine Finset.sum_congr rfl fun j _ => ?_
  rw [mul_left_comm, mul_assoc]

/-- The product over 64 lanes as a masked product over 128: the lanes of head `e` of a pair. -/
theorem masked_sum (e : ℕ) (he : e < 2) (f : Fin 128 → EReal) :
    (∑ x : Fin 128, if x.val / 64 = e then f x else 0) = ∑ d : Fin 64, f ⟨64 * e + d.val, by have := d.isLt; omega⟩ := by
  rw [← Fin.sum_mul_add_fin 2 64 (fun x : Fin 128 => if x.val / 64 = e then f x else 0), Fin.sum_univ_two]
  have h0 : ∀ d : Fin 64, ((0 : Fin 2).val * 64 + d.val) / 64 = 0 := fun d => by have := d.isLt; show (0 * 64 + d.val) / 64 = 0; omega
  have h1 : ∀ d : Fin 64, ((1 : Fin 2).val * 64 + d.val) / 64 = 1 := fun d => by have := d.isLt; show (1 * 64 + d.val) / 64 = 1; omega
  simp only [h0, h1]
  obtain rfl | rfl : e = 0 ∨ e = 1 := by omega
  · simp only [if_true, zero_ne_one, one_ne_zero, if_false, Finset.sum_const_zero, add_zero]
    exact Finset.sum_congr rfl fun d _ => congrArg f (Fin.ext (by show 0 * 64 + d.val = 64 * 0 + d.val; omega))
  · simp only [if_true, zero_ne_one, if_false, Finset.sum_const_zero, zero_add]
    exact Finset.sum_congr rfl fun d _ => congrArg f (Fin.ext (by show 1 * 64 + d.val = 64 * 1 + d.val; omega))

/-- Scaling the queries or the finished product by an eighth gives the same scores. -/
theorem scaled_sum (q k : Fin 64 → EReal) : (∑ d, q d * ((1 / 8 : ℝ) : EReal) * k d) = (∑ d, q d * k d) * ((1 / 8 : ℝ) : EReal) := by
  rw [← sum_mul_right _ _ _ (by exact_mod_cast (by norm_num : (0 : ℝ) ≤ 1 / 8)) (EReal.coe_ne_top _)]
  exact Finset.sum_congr rfl fun d _ => mul_right_comm _ _ _

end Cert.Band
end
-- ==== Proof.D1Pay.lean ====
module

public import proofs.«01_k».proof.Proof.D1Body
public import proofs.«01_k».proof.Proof.Band
public import Idealize.ShloMosaic.Lib.Pointwise
public import Idealize.ShloMosaic.Lib.Pipeline.ValueKit.Acc
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.Band

/-- The lane mask: lane `l` belongs to the first head of its pair. -/
theorem mask_apply (r l : Fin 128) : k0_pay2 (ix2 r l) = if l.val / 64 = 0 then 1#1 else 0#1 := by
  pointwise [k0_pay2]
  revert l
  decide

/-- The score of key `u` for query row `r` in head `e` of the pair: the product over the head's 64 lanes, and the bias. -/
def score (e : ℕ) (q : Fin 128 → EReal) (k : Fin 256 → Fin 128 → EReal) (b : Fin 256 → EReal) (u : Fin 256) : EReal :=
  (∑ x : Fin 128, if x.val / 64 = e then q x * k u x else 0) + b u

theorem neg_inf_word : Ideal.ofBits .f32 0xFF800000#32 = ⊥ := by simp [Ideal.ofBits, Ideal.ieee]

theorem select_zero (p : Prop) [Decidable p] (a b : EReal) : Scalar.select (if p then 1#1 else 0#1) a b = if p then a else b := by
  by_cases h : p <;> simp [h, Scalar.select]

theorem select_one (x : Fin 128) (a b : EReal) :
    Scalar.select (IntOp.xori (if x.val / 64 = 0 then 1#1 else 0#1) 1#1) a b = if x.val / 64 = 1 then a else b := by
  have hx : x.val / 64 = 0 ∨ x.val / 64 = 1 := by have := x.isLt; omega
  rcases hx with h | h <;> simp [h, Scalar.select, IntOp.xori]

/-- The first head's scores. -/
theorem pay6_apply (q : FVec Ideal S128x128 .bf16) (k : Vec Ideal S1x1x256x128 .bf16) (b : Vec Ideal S1x128x256 .f32) (r : Fin 128) (u : Fin 256) :
    k0_pay6 (F := Ideal) k0_pay2 q k b (ix2 r u) =
      score 0 (fun x => q (ix2 r x)) (fun u x => k (ix4 0 0 u x)) (fun u => b (ix3 0 r u)) u := by
  pointwise [k0_pay6, k0_pay4]
  simp only [mask_apply, select_zero]
  rfl

/-- The second head's scores. -/
theorem pay11_apply (q : FVec Ideal S128x128 .bf16) (k : Vec Ideal S1x1x256x128 .bf16) (b : Vec Ideal S1x128x256 .f32) (r : Fin 128) (u : Fin 256) :
    k0_pay11 (F := Ideal) k0_pay2 q (k0_pay4 k) b (ix2 r u) =
      score 1 (fun x => q (ix2 r x)) (fun u x => k (ix4 0 0 u x)) (fun u => b (ix3 0 r u)) u := by
  pointwise [k0_pay11, k0_pay4]
  simp only [mask_apply, select_one]
  rfl

/-- The first head's greatest score. -/
theorem pay7_apply (q : FVec Ideal S128x128 .bf16) (k : Vec Ideal S1x1x256x128 .bf16) (b : Vec Ideal S1x128x256 .f32) (r : Fin 128) :
    k0_pay7 (F := Ideal) k0_pay2 q k b (ix2 r 0) =
      smax (score 0 (fun x => q (ix2 r x)) (fun u x => k (ix4 0 0 u x)) (fun u => b (ix3 0 r u))) := by
  pointwise [k0_pay7]
  simp only [pay6_apply, neg_inf_word]
  rfl

/-- The second head's greatest score. -/
theorem pay12_apply (q : FVec Ideal S128x128 .bf16) (k : Vec Ideal S1x1x256x128 .bf16) (b : Vec Ideal S1x128x256 .f32) (r : Fin 128) :
    k0_pay12 (F := Ideal) k0_pay2 q (k0_pay4 k) b (ix2 r 0) =
      smax (score 1 (fun x => q (ix2 r x)) (fun u x => k (ix4 0 0 u x)) (fun u => b (ix3 0 r u))) := by
  pointwise [k0_pay12]
  simp only [pay11_apply, neg_inf_word]
  rfl

/-- The first head's denominator. -/
theorem pay9_apply (q : FVec Ideal S128x128 .bf16) (k : Vec Ideal S1x1x256x128 .bf16) (b : Vec Ideal S1x128x256 .f32) (r : Fin 128) :
    k0_pay9 (F := Ideal) k0_pay2 q k b (ix2 r 0) =
      sden (score 0 (fun x => q (ix2 r x)) (fun u x => k (ix4 0 0 u x)) (fun u => b (ix3 0 r u))) := by
  pointwise [k0_pay9, k0_pay8]
  simp only [pay6_apply, pay7_apply]
  rfl

/-- The second head's denominator. -/
theorem pay14_apply (q : FVec Ideal S128x128 .bf16) (k : Vec Ideal S1x1x256x128 .bf16) (b : Vec Ideal S1x128x256 .f32) (r : Fin 128) :
    k0_pay14 (F := Ideal) k0_pay2 q (k0_pay4 k) b (ix2 r 0) =
      sden (score 1 (fun x => q (ix2 r x)) (fun u x => k (ix4 0 0 u x)) (fun u => b (ix3 0 r u))) := by
  pointwise [k0_pay14, k0_pay13]
  simp only [pay11_apply, pay12_apply]
  rfl

/-- The scores that lane `l`'s head gives row `r` of the query rows: the queries are scaled first. -/
def rowScore (q : Vec Ideal S1x1x128x128 .bf16) (k : Vec Ideal S1x1x256x128 .bf16) (b : Vec Ideal S1x128x256 .f32) (r l : Fin 128) : Fin 256 → EReal :=
  score (l.val / 64) (fun x => q (ix4 0 0 r x) * Ideal.ofBits .bf16 0x3E00#16) (fun u x => k (ix4 0 0 u x)) (fun u => b (ix3 0 r u))

theorem pay3_apply (q : Vec Ideal S1x1x128x128 .bf16) (r x : Fin 128) :
    k0_pay3 (F := Ideal) q (ix2 r x) = q (ix4 0 0 r x) * Ideal.ofBits .bf16 0x3E00#16 := by
  pointwise [k0_pay3]

/-- The attention's output at row `r`, lane `l`. -/
theorem oPay_apply (q : Vec Ideal S1x1x128x128 .bf16) (k v : Vec Ideal S1x1x256x128 .bf16) (b : Vec Ideal S1x128x256 .f32) (r l : Fin 128) :
    oPay q k v b (ix3 0 r l) =
      Ideal.div (snum (rowScore q k b r l) (fun u => v (ix4 0 0 u l))) (sden (rowScore q k b r l)) := by
  unfold oPay rowScore
  pointwise [k0_pay15, k0_pay10, k0_pay13, k0_pay8, k0_pay5]
  simp only [mask_apply, select_zero, pay6_apply, pay7_apply, pay9_apply, pay11_apply, pay12_apply, pay14_apply, pay3_apply]
  have hx : l.val / 64 = 0 ∨ l.val / 64 = 1 := by have := l.isLt; omega
  rcases hx with h | h <;> rw [h] <;> rfl

/-- The logarithm stored beside it. -/
theorem lPay_apply (q : Vec Ideal S1x1x128x128 .bf16) (k : Vec Ideal S1x1x256x128 .bf16) (b : Vec Ideal S1x128x256 .f32) (r l : Fin 128) :
    lPay q k b (ix3 0 r l) = smax (rowScore q k b r l) + Ideal.log (sden (rowScore q k b r l)) := by
  unfold lPay rowScore
  pointwise [k0_pay16]
  simp only [mask_apply, select_zero, pay6_apply, pay7_apply, pay9_apply, pay11_apply, pay12_apply, pay14_apply, pay3_apply]
  have hx : l.val / 64 = 0 ∨ l.val / 64 = 1 := by have := l.isLt; omega
  rcases hx with h | h <;> rw [h] <;> rfl

end Cert.KernelIdeal.Hand
end
-- ==== Proof.D1Fold.lean ====
module

public import proofs.«01_k».proof.Proof.D1Body
public import proofs.«01_k».proof.Proof.D1Pay
public import Idealize.ShloMosaic.Lib.Pointwise
public import Idealize.ShloMosaic.Lib.StableHlo.RunRead
public import Idealize.ShloMosaic.Lib.Pipeline.ValueKit.Acc
public import Idealize.ShloMosaic.Lib.Pipeline.ReadBack

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Cert.Band

theorem offs1 : ∀ (i : grid0.Coords) (r : Fin 32), k0_off1 i (BitVec.ofNat 32 (128 * r.val)) = ![0, 0, min (128 * r.val - 64) 3840, 0] := by
  decide +kernel

theorem offs2 : ∀ (i : grid0.Coords) (r : Fin 32), k0_off2 i (BitVec.ofNat 32 (128 * r.val)) = ![(128 * r.val - min (128 * r.val - 64) 3840) / 64, 0, 0] := by
  decide +kernel

abbrev argQkv (m : (ℓ : Loc nD τ sig) → Buf (Elt Ideal) ℓ) (c : Dev nD) : Vec Ideal S10x4096x3072 .f32 := m ((c.tc : Thread nD τ).loc main_arg0)
variable (m : (ℓ : Loc nD τ sig) → Buf (Elt Ideal) ℓ)

theorem V_v1 (c : Dev nD) (n : Fin 10) (i : Fin 4096) (k : Fin 3072) : (V m c main_v1 : Vec Ideal S10x1x4096x3072 .bf16) (ix4 n 0 i k) = argQkv m c (ix3 n i k) := by
  unfold V
  simp only [hostOps0, hostOps0_1, hostOps0_2, List.flatten_cons, List.flatten_nil, List.append_nil, List.cons_append, List.nil_append]
  after_reads_simp
  pointwise
/-- 32-bit signed comparison of a distance with a bound. -/
theorem dist_le (a b : ℕ) (w : BitVec 32) (ha : a < 8192) (hb : b < 8192) (hw : w = BitVec.ofNat 32 a - BitVec.ofNat 32 b) :
    IntOp.cmpi .sle (IntOp.absi w) 64#32 = if a ≤ b + 64 ∧ b ≤ a + 64 then 1#1 else 0#1 := by
  have hi : w.toInt = (a : Int) - b := by
    rw [hw, BitVec.toInt_sub, BitVec.toInt_ofNat', BitVec.toInt_ofNat']
    have e1 : ((a : Int)).bmod (2 ^ 32) = a := Int.bmod_eq_of_le (by omega) (by omega)
    have e2 : ((b : Int)).bmod (2 ^ 32) = b := Int.bmod_eq_of_le (by omega) (by omega)
    rw [e1, e2]
    exact Int.bmod_eq_of_le (by omega) (by omega)
  have habs : (IntOp.absi w).toInt = if w.toInt < 0 then -w.toInt else w.toInt := by
    unfold IntOp.absi
    rw [BitVec.msb_eq_toInt]
    by_cases h : w.toInt < 0
    · rw [if_pos (by simpa using h), if_pos h, BitVec.toInt_neg]
      exact Int.bmod_eq_of_le (by omega) (by omega)
    · rw [if_neg (by simpa using h), if_neg h]
  have h64 : (64#32).toInt = 64 := by decide
  unfold IntOp.cmpi
  simp only [BitVec.sle, habs, h64, hi]
  by_cases h : a ≤ b + 64 ∧ b ≤ a + 64
  · rw [if_pos h, decide_eq_true (by split <;> omega)]; rfl
  · rw [if_neg h, decide_eq_false (by split <;> omega)]; rfl

/-- The band of biases, as the host builds it: zero within a distance of 64, minus infinity elsewhere. -/
def bandV : FVec Ideal S3x128x256 .f32 :=
  select (cmpi .sle
      (absi
        (subi
          (broadcastInDim S3x128x256 ![0, 1, 2] bcast_S3x128x1_S3x128x256_0_1_2
            (addi
              (broadcastInDim S3x128x1 ![0, 1, 2] bcast_S1x128x1_S3x128x1_0_1_2
                (broadcastInDim S1x128x1 ![1] bcast_S128_S1x128x1_1 (iotaInDim S128 32 0)))
              (broadcastInDim S3x128x1 ![0, 1, 2] bcast_S3x1x1_S3x128x1_0_1_2
                (broadcastInDim S3x1x1 ![0] bcast_S3_S3x1x1_0
                  (muli (iotaInDim S3 32 0) (broadcastInDim S3 ![] bcast_S_S3 (constantI S_ 32 64#32)))))))
          (broadcastInDim S3x128x256 ![0, 1, 2] bcast_S1x1x256_S3x128x256_0_1_2
            (broadcastInDim S1x1x256 ![2] bcast_S256_S1x1x256_2 (iotaInDim S256 32 0)))))
      (broadcastInDim S3x128x256 ![] bcast_S_S3x128x256 (constantI S_ 32 64#32)))
    (broadcastInDim S3x128x256 ![] bcast_S_S3x128x256 (constant S_ .f32 0#32))
    (broadcastInDim S3x128x256 ![] bcast_S_S3x128x256 (constant S_ .f32 4286578688#32))

theorem bandV_apply (v : Fin 3) (r : Fin 128) (u : Fin 256) :
    bandV (ix3 v r u) = if r.val + 64 * v.val ≤ u.val + 64 ∧ u.val ≤ r.val + 64 * v.val + 64 then 0 else ⊥ := by
  unfold bandV
  pointwise
  rw [dist_le (r.val + 64 * v.val) u.val _ (by omega) (by omega) ?_]
  · rw [neg_inf_word]
    split <;> rfl
  · simp [IntOp.subi, IntOp.addi, IntOp.muli, BitVec.ofNat_add, BitVec.ofNat_mul, mul_comm]

theorem V_v20 (c : Dev nD) (v : Fin 3) (r : Fin 128) (u : Fin 256) : (V m c main_v20 : Vec Ideal S3x128x256 .f32) (ix3 v r u) =
    if r.val + 64 * v.val ≤ u.val + 64 ∧ u.val ≤ r.val + 64 * v.val + 64 then (0 : EReal) else ⊥ := by
  refine Eq.trans ?_ (bandV_apply v r u)
  unfold V
  simp only [hostOps0, hostOps0_1, hostOps0_2, List.flatten_cons, List.flatten_nil, List.append_nil, List.cons_append, List.nil_append]
  after_reads_simp
  rfl

/-- The query block's window, read at a row and a lane. -/
theorem ldq (X : Vec Ideal S1x1x4096x128 .bf16) (o : ℕ) (inb : ∀ a, (![0, 0, o, 0] : Fin 4 → ℕ) a + S1x1x128x128.size a ≤ S1x1x4096x128.size a)
    (r x : Fin 128) (h : o + r.val < 4096) :
    View.ld (Val := Elt Ideal) X (Rect.unit (s := S1x1x4096x128) ![0, 0, o, 0] S1x1x128x128.size inb) (ix4 0 0 r x) = X (ix4 0 0 ⟨o + r.val, h⟩ x) := by
  refine congrArg X ?_
  funext d
  apply Fin.ext
  match d with
  | ⟨0, _⟩ => rfl
  | ⟨1, _⟩ => rfl
  | ⟨2, _⟩ => show o + 1 * r.val = o + r.val; omega
  | ⟨3, _⟩ => show 0 + 1 * x.val = x.val; omega

/-- A key or value block's window, read at a row and a lane. -/
theorem ldk (X : Vec Ideal S1x1x4096x128 .bf16) (off : Fin 4 → ℕ) (st : ℕ) (ho : off = ![0, 0, st, 0])
    (inb : ∀ a, off a + S1x1x256x128.size a ≤ S1x1x4096x128.size a) (u : Fin 256) (x : Fin 128) (h : st + u.val < 4096) :
    View.ld (Val := Elt Ideal) X (Rect.unit (s := S1x1x4096x128) off S1x1x256x128.size inb) (ix4 0 0 u x) = X (ix4 0 0 ⟨st + u.val, h⟩ x) := by
  subst ho
  refine congrArg X ?_
  funext d
  apply Fin.ext
  match d with
  | ⟨0, _⟩ => rfl
  | ⟨1, _⟩ => rfl
  | ⟨2, _⟩ => show st + 1 * u.val = st + u.val; omega
  | ⟨3, _⟩ => show 0 + 1 * x.val = x.val; omega

/-- The band's window, read at a query row and a key. -/
theorem ldb (X : Vec Ideal S3x128x256 .f32) (off : Fin 3 → ℕ) (v : ℕ) (ho : off = ![v, 0, 0]) (hv : v < 3)
    (inb : ∀ a, off a + S1x128x256.size a ≤ S3x128x256.size a) (r : Fin 128) (u : Fin 256) :
    View.ld (Val := Elt Ideal) X (Rect.unit (s := S3x128x256) off S1x128x256.size inb) (ix3 0 r u) = X (ix3 ⟨v, hv⟩ r u) := by
  subst ho
  refine congrArg X ?_
  funext d
  apply Fin.ext
  match d with
  | ⟨0, _⟩ => rfl
  | ⟨1, _⟩ => show 0 + 1 * r.val = r.val; omega
  | ⟨2, _⟩ => show 0 + 1 * u.val = u.val; omega

/-- The score of the block's key `j` for its query `i`, in the head of lane `l`. -/
def blkS (x0 x1 : Vec Ideal S1x1x4096x128 .bf16) (i : Fin 4096) (l : Fin 128) (j : Fin 4096) : EReal :=
  ∑ x : Fin 128, if x.val / 64 = l.val / 64 then x0 (ix4 0 0 i x) * Ideal.ofBits .bf16 0x3E00#16 * x1 (ix4 0 0 j x) else 0

/-- That the staged band holds the host's biases. -/
def IsBand (x3 : Vec Ideal S3x128x256 .f32) : Prop :=
  ∀ (v : Fin 3) (r : Fin 128) (u : Fin 256), x3 (ix3 v r u) = if r.val + 64 * v.val ≤ u.val + 64 ∧ u.val ≤ r.val + 64 * v.val + 64 then (0 : EReal) else ⊥

section window

variable (i : grid0.Coords) (o : ℕ) (ho : o % 128 = 0) (w : BitVec 32) (hw : w = BitVec.ofNat 32 o)
  (inb : ∀ a, (![0, o, 0] : Fin 3 → ℕ) a + S1x128x128.size a ≤ S1x4096x128.size a)
  (iq : ∀ a, (![0, 0, o, 0] : Fin 4 → ℕ) a + S1x1x128x128.size a ≤ S1x1x4096x128.size a)
  (ik : ∀ a, (k0_off1 i w) a + S1x1x256x128.size a ≤ S1x1x4096x128.size a)
  (ib : ∀ a, (k0_off2 i w) a + S1x128x256.size a ≤ S3x128x256.size a)
  (x0 x1 x2 : Vec Ideal S1x1x4096x128 .bf16) (x3 : Vec Ideal S3x128x256 .f32) (hx3 : IsBand x3) (r l : Fin 128) (hi : o + r.val < 4096)

include ho hw hi in
theorem offs : k0_off1 i w = ![0, 0, min (o - 64) 3840, 0] ∧ k0_off2 i w = ![(o - min (o - 64) 3840) / 64, 0, 0] := by
  have h := offs1 i ⟨o / 128, by omega⟩
  have h2 := offs2 i ⟨o / 128, by omega⟩
  have e : 128 * (o / 128) = o := by omega
  simp only [e] at h h2
  rw [hw]; exact ⟨h, h2⟩

/-- The scores of a stored piece are the block's scores on the band, and minus infinity off it. -/
abbrev pieceScore : Fin 256 → EReal :=
  rowScore (View.ld (Val := Elt Ideal) x0 (Rect.unit (s := S1x1x4096x128) ![0, 0, o, 0] S1x1x128x128.size iq))
    (View.ld (Val := Elt Ideal) x1 (Rect.unit (s := S1x1x4096x128) (k0_off1 i w) S1x1x256x128.size ik))
    (View.ld (Val := Elt Ideal) x3 (Rect.unit (s := S3x128x256) (k0_off2 i w) S1x128x256.size ib)) r l

include ho in
theorem cov : ∀ j ∈ bset (o + r.val), min (o - 64) 3840 ≤ j.val + 0 ∧ j.val + 0 < min (o - 64) 3840 + 256 := by
  intro j hj
  have := mem_bset.1 hj
  have := j.isLt
  omega

include ho hw hi hx3 in
theorem pieceScore_apply (u : Fin 256) (hu : min (o - 64) 3840 + u.val < 4096) :
    pieceScore i o w iq ik ib x0 x1 x3 r l u = blkS x0 x1 ⟨o + r.val, hi⟩ l ⟨min (o - 64) 3840 + u.val, hu⟩
      + if o + r.val ≤ min (o - 64) 3840 + u.val + 64 ∧ min (o - 64) 3840 + u.val ≤ o + r.val + 64 then (0 : EReal) else ⊥ := by
  obtain ⟨h1, h2⟩ := offs i o ho w hw r hi
  unfold pieceScore rowScore score blkS
  dsimp only
  rw [ldb x3 _ _ h2 (by omega) ib r u, hx3]
  refine congrArg₂ (fun a b : EReal => a + b) (Finset.sum_congr rfl fun x _ => ?_) ?_
  · rw [ldq x0 o iq r x hi, ldk x1 _ _ h1 ik u x hu]
  · dsimp only
    refine if_congr ?_ rfl rfl
    omega

include ho hw hi hx3 in
theorem pieceScore_on (u : Fin 256) (j : Fin 4096) (hj : j ∈ bset (o + r.val)) (e : min (o - 64) 3840 + u.val = j.val + 0) :
    pieceScore i o w iq ik ib x0 x1 x3 r l u = blkS x0 x1 ⟨o + r.val, hi⟩ l j := by
  have hu : min (o - 64) 3840 + u.val < 4096 := by have := j.isLt; omega
  rw [pieceScore_apply i o ho w hw iq ik ib x0 x1 x3 hx3 r l hi u hu, if_pos (by have := mem_bset.1 hj; omega), add_zero]
  exact congrArg (blkS x0 x1 _ l) (Fin.ext (by show _ = _; omega))

include ho hw hi hx3 in
theorem pieceScore_off (u : Fin 256) (h : ∀ j ∈ bset (o + r.val), min (o - 64) 3840 + u.val ≠ j.val + 0) :
    pieceScore i o w iq ik ib x0 x1 x3 r l u = ⊥ := by
  have hu : min (o - 64) 3840 + u.val < 4096 := by have := u.isLt; omega
  rw [pieceScore_apply i o ho w hw iq ik ib x0 x1 x3 hx3 r l hi u hu, if_neg, EReal.add_bot]
  intro hh
  exact h ⟨_, hu⟩ (mem_bset.2 hh) rfl

end window

/-- The block's output at row `i`, lane `l`. -/
def blkO (x0 x1 x2 : Vec Ideal S1x1x4096x128 .bf16) (y : S1x4096x128.Idx) : EReal :=
  Ideal.div (∑ j ∈ bset (y 1).val, Ideal.exp (blkS x0 x1 (y 1) (y 2) j - bmax (y 1).val (blkS x0 x1 (y 1) (y 2))) * x2 (ix4 0 0 j (y 2)))
    (bden (y 1).val (blkS x0 x1 (y 1) (y 2)))

/-- The block's logarithm at row `i`, lane `l`. -/
def blkL (x0 x1 : Vec Ideal S1x1x4096x128 .bf16) (y : S1x4096x128.Idx) : EReal :=
  bmax (y 1).val (blkS x0 x1 (y 1) (y 2)) + Ideal.log (bden (y 1).val (blkS x0 x1 (y 1) (y 2)))

theorem embo (o : ℕ) (inb : ∀ a, (![0, o, 0] : Fin 3 → ℕ) a + S1x128x128.size a ≤ S1x4096x128.size a) (r l : Fin 128) (h : o + r.val < 4096) :
    (Rect.unit (s := S1x4096x128) ![0, o, 0] S1x128x128.size inb).emb (ix3 0 r l) = ix3 0 ⟨o + r.val, h⟩ l := by
  funext d
  apply Fin.ext
  match d with
  | ⟨0, _⟩ => rfl
  | ⟨1, _⟩ => show o + 1 * r.val = o + r.val; omega
  | ⟨2, _⟩ => show 0 + 1 * l.val = l.val; omega

theorem canonO (i : grid0.Coords) (L : List (View.Piece (Elt Ideal) S1x4096x128 .bf16)) (x0 x1 x2 : Vec Ideal S1x1x4096x128 .bf16) (x3 : Vec Ideal S3x128x256 .f32) (hx3 : IsBand x3)
    (h : ∀ p ∈ L, ∃ (o : ℕ) (w : BitVec 32)
      (inb : ∀ a, (![0, o, 0] : Fin 3 → ℕ) a + S1x128x128.size a ≤ S1x4096x128.size a)
      (iq : ∀ a, (![0, 0, o, 0] : Fin 4 → ℕ) a + S1x1x128x128.size a ≤ S1x1x4096x128.size a)
      (ik : ∀ a, (k0_off1 i w) a + S1x1x256x128.size a ≤ S1x1x4096x128.size a)
      (ib : ∀ a, (k0_off2 i w) a + S1x128x256.size a ≤ S3x128x256.size a),
      p = ⟨Rect.unit (s := S1x4096x128) ![0, o, 0] S1x128x128.size inb, oPay (F := Ideal) (View.ld (Val := Elt Ideal) x0 (Rect.unit (s := S1x1x4096x128) ![0, 0, o, 0] S1x1x128x128.size iq))
        (View.ld (Val := Elt Ideal) x1 (Rect.unit (s := S1x1x4096x128) (k0_off1 i w) S1x1x256x128.size ik))
        (View.ld (Val := Elt Ideal) x2 (Rect.unit (s := S1x1x4096x128) (k0_off1 i w) S1x1x256x128.size ik))
        (View.ld (Val := Elt Ideal) x3 (Rect.unit (s := S3x128x256) (k0_off2 i w) S1x128x256.size ib))⟩ ∧ w = BitVec.ofNat 32 o ∧ o % 128 = 0)
    (y : S1x4096x128.Idx) (hc : ∃ p ∈ L, y ∈ p.1.set) : View.canon L y = blkO x0 x1 x2 y := by
  refine View.canon_apply_of_pieces (blkO x0 x1 x2) L ?_ y hc
  intro p hp x
  obtain ⟨o, w, inb, iq, ik, ib, rfl, hw, ho⟩ := h p hp
  obtain ⟨r, l, rfl⟩ : ∃ (r l : Fin 128), x = ix3 0 r l := ⟨x 1, x 2, by
    funext d; apply Fin.ext
    match d with
    | ⟨0, _⟩ => have := (x 0).isLt; show (x 0).val = 0; simp at this; omega
    | ⟨1, _⟩ => rfl
    | ⟨2, _⟩ => rfl⟩
  have hi : o + r.val < 4096 := by have h1 := inb 1; have := r.isLt; simp at h1; omega
  refine (oPay_apply _ _ _ _ r l).trans ?_
  dsimp only
  rw [embo o inb r l hi]
  obtain ⟨h1, h2⟩ := offs i o ho w hw r hi
  unfold blkO
  refine congr (congrArg Ideal.div ?_) ?_
  · exact win_num (o + r.val) 0 (min (o - 64) 3840) 256 (by decide) _ _ _ _ (cov o ho r)
      (pieceScore_on i o ho w hw iq ik ib x0 x1 x3 hx3 r l hi)
      (fun u j hj e => by
        rw [ldk x2 _ _ h1 ik u l (by have := j.isLt; omega)]
        exact congrArg (fun j => x2 (ix4 0 0 j l)) (Fin.ext (by show _ = _; omega)))
      (pieceScore_off i o ho w hw iq ik ib x0 x1 x3 hx3 r l hi)
  · exact win_den (o + r.val) 0 (min (o - 64) 3840) 256 (by decide) _ _ (cov o ho r)
      (pieceScore_on i o ho w hw iq ik ib x0 x1 x3 hx3 r l hi)
      (pieceScore_off i o ho w hw iq ik ib x0 x1 x3 hx3 r l hi)

theorem canonL (i : grid0.Coords) (L : List (View.Piece (Elt Ideal) S1x4096x128 .f32)) (x0 x1 : Vec Ideal S1x1x4096x128 .bf16) (x3 : Vec Ideal S3x128x256 .f32) (hx3 : IsBand x3)
    (h : ∀ p ∈ L, ∃ (o : ℕ) (w : BitVec 32)
      (inb : ∀ a, (![0, o, 0] : Fin 3 → ℕ) a + S1x128x128.size a ≤ S1x4096x128.size a)
      (iq : ∀ a, (![0, 0, o, 0] : Fin 4 → ℕ) a + S1x1x128x128.size a ≤ S1x1x4096x128.size a)
      (ik : ∀ a, (k0_off1 i w) a + S1x1x256x128.size a ≤ S1x1x4096x128.size a)
      (ib : ∀ a, (k0_off2 i w) a + S1x128x256.size a ≤ S3x128x256.size a),
      p = ⟨Rect.unit (s := S1x4096x128) ![0, o, 0] S1x128x128.size inb, lPay (F := Ideal) (View.ld (Val := Elt Ideal) x0 (Rect.unit (s := S1x1x4096x128) ![0, 0, o, 0] S1x1x128x128.size iq))
        (View.ld (Val := Elt Ideal) x1 (Rect.unit (s := S1x1x4096x128) (k0_off1 i w) S1x1x256x128.size ik))
        (View.ld (Val := Elt Ideal) x3 (Rect.unit (s := S3x128x256) (k0_off2 i w) S1x128x256.size ib))⟩ ∧ w = BitVec.ofNat 32 o ∧ o % 128 = 0)
    (y : S1x4096x128.Idx) (hc : ∃ p ∈ L, y ∈ p.1.set) : View.canon L y = blkL x0 x1 y := by
  refine View.canon_apply_of_pieces (blkL x0 x1) L ?_ y hc
  intro p hp x
  obtain ⟨o, w, inb, iq, ik, ib, rfl, hw, ho⟩ := h p hp
  obtain ⟨r, l, rfl⟩ : ∃ (r l : Fin 128), x = ix3 0 r l := ⟨x 1, x 2, by
    funext d; apply Fin.ext
    match d with
    | ⟨0, _⟩ => have := (x 0).isLt; show (x 0).val = 0; simp at this; omega
    | ⟨1, _⟩ => rfl
    | ⟨2, _⟩ => rfl⟩
  have hi : o + r.val < 4096 := by have h1 := inb 1; have := r.isLt; simp at h1; omega
  refine (lPay_apply _ _ _ r l).trans ?_
  dsimp only
  rw [embo o inb r l hi]
  unfold blkL
  refine congrArg₂ (fun a b : EReal => a + Ideal.log b) ?_ ?_
  · exact win_max (o + r.val) 0 (min (o - 64) 3840) 256 _ _ (cov o ho r)
      (pieceScore_on i o ho w hw iq ik ib x0 x1 x3 hx3 r l hi)
      (pieceScore_off i o ho w hw iq ik ib x0 x1 x3 hx3 r l hi)
  · exact win_den (o + r.val) 0 (min (o - 64) 3840) 256 (by decide) _ _ (cov o ho r)
      (pieceScore_on i o ho w hw iq ik ib x0 x1 x3 hx3 r l hi)
      (pieceScore_off i o ho w hw iq ik ib x0 x1 x3 hx3 r l hi)

theorem ix_facts : ∀ t : Fin cfg0.N,
      (win0_0.index t (0 : Fin 4) = t.val / 8 ∧ win0_0.index t (1 : Fin 4) = 0 ∧ win0_0.index t (2 : Fin 4) = 0 ∧ win0_0.index t (3 : Fin 4) = t.val % 8)
    ∧ (win0_1.index t (0 : Fin 4) = t.val / 8 ∧ win0_1.index t (1 : Fin 4) = 0 ∧ win0_1.index t (2 : Fin 4) = 0 ∧ win0_1.index t (3 : Fin 4) = 8 + t.val % 8)
    ∧ (win0_2.index t (0 : Fin 4) = t.val / 8 ∧ win0_2.index t (1 : Fin 4) = 0 ∧ win0_2.index t (2 : Fin 4) = 0 ∧ win0_2.index t (3 : Fin 4) = 16 + t.val % 8)
    ∧ (win0_3.index t (0 : Fin 3) = 0 ∧ win0_3.index t (1 : Fin 3) = 0 ∧ win0_3.index t (2 : Fin 3) = 0)
    ∧ (win0_4.index t (0 : Fin 3) = t.val / 8 ∧ win0_4.index t (1 : Fin 3) = 0 ∧ win0_4.index t (2 : Fin 3) = t.val % 8)
    ∧ (win0_5.index t (0 : Fin 3) = t.val / 8 ∧ win0_5.index t (1 : Fin 3) = 0 ∧ win0_5.index t (2 : Fin 3) = t.val % 8) :=
  (by decide +kernel : ∀ t : Fin grid0.N, _)

/-- What the body leaves in the output' staging buffer, if the staged band is the host's. -/
theorem outO (c : Dev nD) (i : grid0.Coords) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S3x128x256 .f32) (harg6 : arg6.IsWhole) (arg7 : Memref sig .tc .vmem S1x4096x128 .bf16) (harg7 : arg7.IsWhole) (arg8 : Memref sig .tc .vmem S1x4096x128 .f32) (harg8 : arg8.IsWhole)
    (x0 : Vec Ideal S1x1x4096x128 .bf16) (x1 : Vec Ideal S1x1x4096x128 .bf16) (x2 : Vec Ideal S1x1x4096x128 .bf16) (x3 : Vec Ideal S3x128x256 .f32) (hx3 : IsBand x3) (y : S1x4096x128.Idx) :
    out0_A_4 c i arg3 harg3 arg4 harg4 arg5 harg5 arg6 harg6 arg7 harg7 arg8 harg8 x0 x1 x2 x3 y = blkO x0 x1 x2 y := by
  unfold out0_A_4
  rw [View.read_writes_eq_canon _ _ _ (cover0_A_4 c i arg3 harg3 arg4 harg4 arg5 harg5 arg6 harg6 arg7 harg7 arg8 harg8 x0 x1 x2 x3)]
  refine canonO i _ x0 x1 x2 x3 hx3 (fun p hp => ?_) y (cover0_A_4 c i arg3 harg3 arg4 harg4 arg5 harg5 arg6 harg6 arg7 harg7 arg8 harg8 x0 x1 x2 x3 y)
  obtain ⟨o, w, inb, iq, ik, ib, e, hw, ho⟩ := piecesO c i arg3 harg3 arg4 harg4 arg5 harg5 arg6 harg6 arg7 harg7 arg8 harg8 x0 x1 x2 x3 p hp
  refine ⟨o, w, inb, iq, ik, ib, e.trans ?_, hw, ho⟩
  rw [View.readAt_eq_ld, View.readAt_eq_ld, View.readAt_eq_ld, View.readAt_eq_ld, harg3.read_unread, harg4.read_unread, harg5.read_unread, harg6.read_unread]

/-- What the body leaves in the logarithms' staging buffer, if the staged band is the host's. -/
theorem outL (c : Dev nD) (i : grid0.Coords) (arg3 : Memref sig .tc .vmem S1x1x4096x128 .bf16) (harg3 : arg3.IsWhole) (arg4 : Memref sig .tc .vmem S1x1x4096x128 .bf16) (harg4 : arg4.IsWhole) (arg5 : Memref sig .tc .vmem S1x1x4096x128 .bf16) (harg5 : arg5.IsWhole) (arg6 : Memref sig .tc .vmem S3x128x256 .f32) (harg6 : arg6.IsWhole) (arg7 : Memref sig .tc .vmem S1x4096x128 .bf16) (harg7 : arg7.IsWhole) (arg8 : Memref sig .tc .vmem S1x4096x128 .f32) (harg8 : arg8.IsWhole)
    (x0 : Vec Ideal S1x1x4096x128 .bf16) (x1 : Vec Ideal S1x1x4096x128 .bf16) (x2 : Vec Ideal S1x1x4096x128 .bf16) (x3 : Vec Ideal S3x128x256 .f32) (hx3 : IsBand x3) (y : S1x4096x128.Idx) :
    out0_A_5 c i arg3 harg3 arg4 harg4 arg5 harg5 arg6 harg6 arg7 harg7 arg8 harg8 x0 x1 x2 x3 y = blkL x0 x1 y := by
  unfold out0_A_5
  rw [View.read_writes_eq_canon _ _ _ (cover0_A_5 c i arg3 harg3 arg4 harg4 arg5 harg5 arg6 harg6 arg7 harg7 arg8 harg8 x0 x1 x2 x3)]
  refine canonL i _ x0 x1 x3 hx3 (fun p hp => ?_) y (cover0_A_5 c i arg3 harg3 arg4 harg4 arg5 harg5 arg6 harg6 arg7 harg7 arg8 harg8 x0 x1 x2 x3 y)
  obtain ⟨o, w, inb, iq, ik, ib, e, hw, ho⟩ := piecesL c i arg3 harg3 arg4 harg4 arg5 harg5 arg6 harg6 arg7 harg7 arg8 harg8 x0 x1 x2 x3 p hp
  refine ⟨o, w, inb, iq, ik, ib, e.trans ?_, hw, ho⟩
  rw [View.readAt_eq_ld, View.readAt_eq_ld, View.readAt_eq_ld, harg3.read_unread, harg4.read_unread, harg6.read_unread]

theorem iblk0_apply (c : Dev nD) (t : Fin cfg0.N) (r : Fin 4096) (x : Fin 128) (hn : t.val / 8 < 10) (h : 0 + 128 * (t.val % 8) + x.val < 3072) :
    (iblk m c 0 t : Vec Ideal S1x1x4096x128 .bf16) (ix4 0 0 r x) = argQkv m c (ix3 ⟨t.val / 8, hn⟩ r ⟨0 + 128 * (t.val % 8) + x.val, h⟩) := by
  unfold iblk
  rw [View.read_apply, ← V_v1 m c]
  show V m c main_v1 _ = V m c main_v1 _
  refine congrArg (V m c main_v1) (funext fun a => Fin.ext ?_)
  obtain ⟨⟨e0, e1, e2, e3⟩, -⟩ := ix_facts t
  match a with
  | ⟨0, _⟩ => show win0_0.index t 0 * 1 + 1 * 0 = t.val / 8; rw [e0]; omega
  | ⟨1, _⟩ => show win0_0.index t 1 * 1 + 1 * 0 = 0; rw [e1]
  | ⟨2, _⟩ => show win0_0.index t 2 * 4096 + 1 * r.val = r.val; rw [e2]; omega
  | ⟨3, _⟩ => show win0_0.index t 3 * 128 + 1 * x.val = 0 + 128 * (t.val % 8) + x.val; rw [e3]; omega

theorem iblk1_apply (c : Dev nD) (t : Fin cfg0.N) (r : Fin 4096) (x : Fin 128) (hn : t.val / 8 < 10) (h : 1024 + 128 * (t.val % 8) + x.val < 3072) :
    (iblk m c 1 t : Vec Ideal S1x1x4096x128 .bf16) (ix4 0 0 r x) = argQkv m c (ix3 ⟨t.val / 8, hn⟩ r ⟨1024 + 128 * (t.val % 8) + x.val, h⟩) := by
  unfold iblk
  rw [View.read_apply, ← V_v1 m c]
  show V m c main_v1 _ = V m c main_v1 _
  refine congrArg (V m c main_v1) (funext fun a => Fin.ext ?_)
  obtain ⟨-, ⟨e0, e1, e2, e3⟩, -⟩ := ix_facts t
  match a with
  | ⟨0, _⟩ => show win0_1.index t 0 * 1 + 1 * 0 = t.val / 8; rw [e0]; omega
  | ⟨1, _⟩ => show win0_1.index t 1 * 1 + 1 * 0 = 0; rw [e1]
  | ⟨2, _⟩ => show win0_1.index t 2 * 4096 + 1 * r.val = r.val; rw [e2]; omega
  | ⟨3, _⟩ => show win0_1.index t 3 * 128 + 1 * x.val = 1024 + 128 * (t.val % 8) + x.val; rw [e3]; omega

theorem iblk2_apply (c : Dev nD) (t : Fin cfg0.N) (r : Fin 4096) (x : Fin 128) (hn : t.val / 8 < 10) (h : 2048 + 128 * (t.val % 8) + x.val < 3072) :
    (iblk m c 2 t : Vec Ideal S1x1x4096x128 .bf16) (ix4 0 0 r x) = argQkv m c (ix3 ⟨t.val / 8, hn⟩ r ⟨2048 + 128 * (t.val % 8) + x.val, h⟩) := by
  unfold iblk
  rw [View.read_apply, ← V_v1 m c]
  show V m c main_v1 _ = V m c main_v1 _
  refine congrArg (V m c main_v1) (funext fun a => Fin.ext ?_)
  obtain ⟨-, -, ⟨e0, e1, e2, e3⟩, -⟩ := ix_facts t
  match a with
  | ⟨0, _⟩ => show win0_2.index t 0 * 1 + 1 * 0 = t.val / 8; rw [e0]; omega
  | ⟨1, _⟩ => show win0_2.index t 1 * 1 + 1 * 0 = 0; rw [e1]
  | ⟨2, _⟩ => show win0_2.index t 2 * 4096 + 1 * r.val = r.val; rw [e2]; omega
  | ⟨3, _⟩ => show win0_2.index t 3 * 128 + 1 * x.val = 2048 + 128 * (t.val % 8) + x.val; rw [e3]; omega

theorem iblk3_isBand (c : Dev nD) (t : Fin cfg0.N) : IsBand (iblk m c 3 t) := by
  intro v r u
  unfold iblk
  rw [View.read_apply, ← V_v20 m c v r u]
  show V m c main_v20 _ = V m c main_v20 _
  refine congrArg (V m c main_v20) (funext fun a => Fin.ext ?_)
  obtain ⟨-, -, -, ⟨e0, e1, e2⟩, -⟩ := ix_facts t
  match a with
  | ⟨0, _⟩ => show win0_3.index t 0 * 3 + 1 * v.val = v.val; rw [e0]; omega
  | ⟨1, _⟩ => show win0_3.index t 1 * 128 + 1 * r.val = r.val; rw [e1]; omega
  | ⟨2, _⟩ => show win0_3.index t 2 * 256 + 1 * u.val = u.val; rw [e2]; omega

/-- The score of key `j` for query `i` of sequence `n` in head `h`: the product over the head's 64 lanes, times an eighth. -/
def score3 (X : Vec Ideal S10x4096x3072 .f32) (n : Fin 10) (i : Fin 4096) (h : Fin 16) (j : Fin 4096) : EReal :=
  (∑ d : Fin 64, X (ix3 n i ⟨64 * h.val + d.val, by omega⟩) * X (ix3 n j ⟨1024 + (64 * h.val + d.val), by omega⟩)) * ((1 / 8 : ℝ) : EReal)

theorem eighth_bf16 : Ideal.ofBits .bf16 0x3E00#16 = ((1 / 8 : ℝ) : EReal) := by
  simp [Ideal.ofBits, Ideal.ieee, -EReal.coe_mul]; norm_num

theorem blkS_iblk (c : Dev nD) (t : Fin cfg0.N) (i j : Fin 4096) (l : Fin 128) (hn : t.val / 8 < 10) (hh : 2 * (t.val % 8) + l.val / 64 < 16) :
    blkS (iblk m c 0 t) (iblk m c 1 t) i l j = score3 (argQkv m c) ⟨t.val / 8, hn⟩ i ⟨2 * (t.val % 8) + l.val / 64, hh⟩ j := by
  have ht : t.val % 8 < 8 := Nat.mod_lt _ (by decide)
  unfold blkS score3
  rw [masked_sum (l.val / 64) (by omega), eighth_bf16, ← scaled_sum]
  refine Finset.sum_congr rfl fun d _ => ?_
  rw [iblk0_apply m c t i _ hn (by show 0 + 128 * (t.val % 8) + (64 * (l.val / 64) + d.val) < 3072; omega),
    iblk1_apply m c t j _ hn (by show 1024 + 128 * (t.val % 8) + (64 * (l.val / 64) + d.val) < 3072; omega)]
  refine congrArg₂ (fun a b : EReal => a * ((1 / 8 : ℝ) : EReal) * b) ?_ ?_
  · refine congrArg (fun k => argQkv m c (ix3 _ i k)) (Fin.ext ?_)
    show 0 + 128 * (t.val % 8) + (64 * (l.val / 64) + d.val) = 64 * (2 * (t.val % 8) + l.val / 64) + d.val
    omega
  · refine congrArg (fun k => argQkv m c (ix3 _ j k)) (Fin.ext ?_)
    show 1024 + 128 * (t.val % 8) + (64 * (l.val / 64) + d.val) = 1024 + (64 * (2 * (t.val % 8) + l.val / 64) + d.val)
    omega

/-- Banded attention: the value that column `k` of query `i` of sequence `n` gets. -/
def attnO (X : Vec Ideal S10x4096x3072 .f32) (n : Fin 10) (i : Fin 4096) (k : Fin 1024) : EReal :=
  Ideal.div (∑ j ∈ bset i.val, Ideal.exp (score3 X n i ⟨k.val / 64, by omega⟩ j - bmax i.val (score3 X n i ⟨k.val / 64, by omega⟩))
      * X (ix3 n j ⟨2048 + k.val, by omega⟩))
    (bden i.val (score3 X n i ⟨k.val / 64, by omega⟩))

/-- Banded attention: the logarithm of the sum of the exponentials of the scores, at column `k`. -/
def attnL (X : Vec Ideal S10x4096x3072 .f32) (n : Fin 10) (i : Fin 4096) (k : Fin 1024) : EReal :=
  bmax i.val (score3 X n i ⟨k.val / 64, by omega⟩) + Ideal.log (bden i.val (score3 X n i ⟨k.val / 64, by omega⟩))

section out
variable (c : Dev nD) (n : Fin 10) (i : Fin 4096) (k : Fin 1024)

/-- The grid point that writes sequence `n`, column `k`. -/
def ptOf (n : Fin 10) (k : Fin 1024) : Fin cfg0.N := ⟨8 * n.val + k.val / 128, by rw [show cfg0.N = 80 from N_0]; omega⟩

theorem blkS_ptOf (l : Fin 128) (hl : l.val = k.val % 128) :
    blkS (iblk m c 0 (ptOf n k)) (iblk m c 1 (ptOf n k)) i l = score3 (argQkv m c) n i ⟨k.val / 64, by omega⟩ := by
  have ht : (ptOf n k).val = 8 * n.val + k.val / 128 := rfl
  funext j
  rw [blkS_iblk m c (ptOf n k) i j l (by omega) (by omega)]
  refine congrArg₂ (fun n h => score3 (argQkv m c) n i h j) (Fin.ext ?_) (Fin.ext ?_)
  · show (ptOf n k).val / 8 = n.val; omega
  · show 2 * ((ptOf n k).val % 8) + l.val / 64 = k.val / 64; omega

theorem emb4 (l : Fin 128) (hl : l.val = k.val % 128) : ((cfg0.win 4).blk (ptOf n k)).view.emb (ix3 0 i l) = (ix3 n i k : S10x4096x1024.Idx) := by
  have ht : (ptOf n k).val = 8 * n.val + k.val / 128 := rfl
  obtain ⟨-, -, -, -, ⟨e0, e1, e2⟩, -⟩ := ix_facts (ptOf n k)
  funext a
  apply Fin.ext
  match a with
  | ⟨0, _⟩ => show win0_4.index (ptOf n k) 0 * 1 + 1 * 0 = n.val; rw [e0]; omega
  | ⟨1, _⟩ => show win0_4.index (ptOf n k) 1 * 4096 + 1 * i.val = i.val; rw [e1]; omega
  | ⟨2, _⟩ => show win0_4.index (ptOf n k) 2 * 128 + 1 * l.val = k.val; rw [e2]; omega

theorem emb5 (l : Fin 128) (hl : l.val = k.val % 128) : ((cfg0.win 5).blk (ptOf n k)).view.emb (ix3 0 i l) = (ix3 n i k : S10x4096x1024.Idx) := by
  have ht : (ptOf n k).val = 8 * n.val + k.val / 128 := rfl
  obtain ⟨-, -, -, -, -, e0, e1, e2⟩ := ix_facts (ptOf n k)
  funext a
  apply Fin.ext
  match a with
  | ⟨0, _⟩ => show win0_5.index (ptOf n k) 0 * 1 + 1 * 0 = n.val; rw [e0]; omega
  | ⟨1, _⟩ => show win0_5.index (ptOf n k) 1 * 4096 + 1 * i.val = i.val; rw [e1]; omega
  | ⟨2, _⟩ => show win0_5.index (ptOf n k) 2 * 128 + 1 * l.val = k.val; rw [e2]; omega

theorem flush4 : ∀ t : Fin cfg0.N, (cfg0.win 4).flush t = true := (by decide +kernel : ∀ t : Fin grid0.N, _)
theorem flush5 : ∀ t : Fin cfg0.N, (cfg0.win 5).flush t = true := (by decide +kernel : ∀ t : Fin grid0.N, _)

/-- The output array that the run leaves is the banded attention. -/
theorem arr4_apply : ((dats m 0 c).arrAt 4 cfg0.N : Vec Ideal S10x4096x1024 .bf16) (ix3 n i k) = attnO (argQkv m c) n i k := by
  have ht : (ptOf n k).val = 8 * n.val + k.val / 128 := rfl
  have h := congrFun (Value.blocks4 m c (ptOf n k) (flush4 _)) (ix3 0 i ⟨k.val % 128, by omega⟩)
  rw [View.read_apply, Value.flushed4_A] at h
  rw [emb4 n i k _ rfl] at h
  refine h.trans ?_
  refine (outO _ _ _ _ _ _ _ _ _ _ _ _ _ _ _ _ _ _ (iblk3_isBand m c _) _).trans ?_
  unfold blkO attnO
  show Ideal.div (∑ j ∈ bset i.val, Ideal.exp (blkS (iblk m c 0 (ptOf n k)) (iblk m c 1 (ptOf n k)) i ⟨k.val % 128, _⟩ j - bmax i.val (blkS (iblk m c 0 (ptOf n k)) (iblk m c 1 (ptOf n k)) i ⟨k.val % 128, _⟩)) * (iblk m c 2 (ptOf n k) : Vec Ideal S1x1x4096x128 .bf16) (ix4 0 0 j ⟨k.val % 128, _⟩))
    (bden i.val (blkS (iblk m c 0 (ptOf n k)) (iblk m c 1 (ptOf n k)) i ⟨k.val % 128, _⟩)) = _
  rw [blkS_ptOf m c n i k _ rfl]
  refine congrArg (fun s => Ideal.div s _) (Finset.sum_congr rfl fun j _ => congrArg₂ (fun a b : EReal => a * b) rfl ?_)
  rw [iblk2_apply m c (ptOf n k) j _ (by omega) (by show 2048 + 128 * ((ptOf n k).val % 8) + k.val % 128 < 3072; omega)]
  refine congrArg₂ (fun n k => argQkv m c (ix3 n j k)) (Fin.ext ?_) (Fin.ext ?_)
  · show (ptOf n k).val / 8 = n.val; omega
  · show 2048 + 128 * ((ptOf n k).val % 8) + k.val % 128 = 2048 + k.val; omega

/-- The array of logarithms that the run leaves is the banded attention's. -/
theorem arr5_apply : ((dats m 0 c).arrAt 5 cfg0.N : Vec Ideal S10x4096x1024 .f32) (ix3 n i k) = attnL (argQkv m c) n i k := by
  have h := congrFun (Value.blocks5 m c (ptOf n k) (flush5 _)) (ix3 0 i ⟨k.val % 128, by omega⟩)
  rw [View.read_apply, Value.flushed5_A] at h
  rw [emb5 n i k _ rfl] at h
  refine h.trans ?_
  refine (outL _ _ _ _ _ _ _ _ _ _ _ _ _ _ _ _ _ _ (iblk3_isBand m c _) _).trans ?_
  unfold blkL attnL
  show bmax i.val (blkS (iblk m c 0 (ptOf n k)) (iblk m c 1 (ptOf n k)) i ⟨k.val % 128, _⟩)
    + Ideal.log (bden i.val (blkS (iblk m c 0 (ptOf n k)) (iblk m c 1 (ptOf n k)) i ⟨k.val % 128, _⟩)) = _
  rw [blkS_ptOf m c n i k _ rfl]

end out

end Cert.KernelIdeal.Hand
end
-- ==== Proof.D1Ref.lean ====
module

public import proofs.«01_k».proof.Proof.D1Fold
public import proofs.«01_k».proof.Proof.Gen.Pre_finite_qk
public import proofs.«01_k».proof.Proof.Gen.ReferenceIdeal.Run
public import Idealize.ShloMosaic.Lib.Pointwise
public import Idealize.ShloMosaic.Lib.Pipeline.ValueKit.Acc
public import Idealize.ShloMosaic.Lib.Pipeline.ReadBack

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Cert.Band Cert.KernelIdeal.Hand

/-- The reference's queries, in 64 blocks of 64. -/
def qV (X : FVec Ideal S10x4096x3072 .f32) : FVec Ideal S10x64x64x16x64 .f32 :=
  shapeCast _ (shapeCast S10x4096x16x64 (extractStridedSlice S10x4096x1x16x64 ![0, 0, 0, 0, 0] (shapeCast _ X shapeCasts_S10x4096x3072_S10x4096x3x16x64)
    slices_S10x4096x3x16x64_S10x4096x1x16x64_0_0_0_0_0) shapeCasts_S10x4096x1x16x64_S10x4096x16x64) shapeCasts_S10x4096x16x64_S10x64x64x16x64

/-- The reference's keys. -/
def kV (X : FVec Ideal S10x4096x3072 .f32) : FVec Ideal S10x4096x16x64 .f32 :=
  shapeCast _ (extractStridedSlice S10x4096x1x16x64 ![0, 0, 1, 0, 0] (shapeCast _ X shapeCasts_S10x4096x3072_S10x4096x3x16x64)
    slices_S10x4096x3x16x64_S10x4096x1x16x64_0_0_1_0_0) shapeCasts_S10x4096x1x16x64_S10x4096x16x64

/-- The reference's values. -/
def vV (X : FVec Ideal S10x4096x3072 .f32) : FVec Ideal S10x4096x16x64 .f32 :=
  shapeCast _ (extractStridedSlice S10x4096x1x16x64 ![0, 0, 2, 0, 0] (shapeCast _ X shapeCasts_S10x4096x3072_S10x4096x3x16x64)
    slices_S10x4096x3x16x64_S10x4096x1x16x64_0_0_2_0_0) shapeCasts_S10x4096x1x16x64_S10x4096x16x64

/-- A sequence padded with 64 zeros on each side, in blocks of 64. -/
def padV (T : FVec Ideal S10x4096x16x64 .f32) : FVec Ideal S10x66x64x16x64 .f32 :=
  shapeCast _ (pad S10x4224x16x64 ![0, 64, 0, 0] ![0, 64, 0, 0] ![0, 0, 0, 0] T (sitofp (F := Ideal) .f32 (constantI S_ 32 0#32))
    pads_S10x4096x16x64_S10x4224x16x64_000_64640_000_000 h_S_) shapeCasts_S10x4224x16x64_S10x66x64x16x64

/-- Each block's window: the block before, the block, the block after. -/
def catV (P : FVec Ideal S10x66x64x16x64 .f32) : FVec Ideal S10x64x192x16x64 .f32 :=
  concatenate S10x64x192x16x64 2
    [⟨S10x64x64x16x64, extractStridedSlice S10x64x64x16x64 ![0, 0, 0, 0, 0] P slices_S10x66x64x16x64_S10x64x64x16x64_0_0_0_0_0⟩,
     ⟨S10x64x64x16x64, extractStridedSlice S10x64x64x16x64 ![0, 1, 0, 0, 0] P slices_S10x66x64x16x64_S10x64x64x16x64_0_1_0_0_0⟩,
     ⟨S10x64x64x16x64, extractStridedSlice S10x64x64x16x64 ![0, 2, 0, 0, 0] P slices_S10x66x64x16x64_S10x64x64x16x64_0_2_0_0_0⟩]
    concatenates_S10x64x64x16x64_S10x64x64x16x64_S10x64x64x16x64_S10x64x192x16x64_d2

/-- The positions of the window's entries, the first at 64 before its block. -/
def posV : IVec S64x192 32 :=
  addi (broadcastInDim S64x192 ![0, 1] bcast_S64x1_S64x192_0_1
      (muli (subi (broadcastInDim S64x1 ![0] bcast_S64_S64x1_0 (iotaInDim S64 32 0)) (broadcastInDim S64x1 ![] bcast_S_S64x1 (constantI S_ 32 1#32)))
        (broadcastInDim S64x1 ![] bcast_S_S64x1 (constantI S_ 32 64#32))))
    (broadcastInDim S64x192 ![0, 1] bcast_S1x192_S64x192_0_1 (broadcastInDim S1x192 ![1] bcast_S192_S1x192_1 (iotaInDim S192 32 0)))

/-- The mask: at a distance of at most 64, and inside the sequence. -/
def maskV : IVec S64x64x192 1 :=
  andi (andi (cmpi .sle (absi (subi
      (broadcastInDim S64x64x192 ![0, 1, 2] bcast_S64x64x1_S64x64x192_0_1_2 (broadcastInDim S64x64x1 ![0, 1] bcast_S64x64_S64x64x1_0_1
        (shapeCast _ (iotaInDim S4096 32 0) shapeCasts_S4096_S64x64)))
      (broadcastInDim S64x64x192 ![0, 1, 2] bcast_S64x1x192_S64x64x192_0_1_2 (broadcastInDim S64x1x192 ![0, 2] bcast_S64x192_S64x1x192_0_2 posV))))
      (broadcastInDim S64x64x192 ![] bcast_S_S64x64x192 (constantI S_ 32 64#32)))
    (broadcastInDim S64x64x192 ![0, 1, 2] bcast_S64x1x192_S64x64x192_0_1_2 (cmpi .sge (broadcastInDim S64x1x192 ![0, 2] bcast_S64x192_S64x1x192_0_2 posV)
      (broadcastInDim S64x1x192 ![] bcast_S_S64x1x192 (constantI S_ 32 0#32)))))
    (broadcastInDim S64x64x192 ![0, 1, 2] bcast_S64x1x192_S64x64x192_0_1_2 (cmpi .slt (broadcastInDim S64x1x192 ![0, 2] bcast_S64x192_S64x1x192_0_2 posV)
      (broadcastInDim S64x1x192 ![] bcast_S_S64x1x192 (constantI S_ 32 4096#32))))

/-- The masked scores. -/
def scV (Q : FVec Ideal S10x64x64x16x64 .f32) (W : FVec Ideal S10x64x192x16x64 .f32) : FVec Ideal S10x64x16x64x192 .f32 :=
  select (broadcastInDim S10x64x16x64x192 ![0, 1, 2, 3, 4] bcast_S1x64x1x64x192_S10x64x16x64x192_0_1_2_3_4
      (broadcastInDim S1x64x1x64x192 ![1, 3, 4] bcast_S64x64x192_S1x64x1x64x192_1_3_4 maskV))
    (mulf (F := Ideal) (Host.dotGeneral (F := Ideal) dot_S10x64x64x16x64_S10x64x192x16x64_S10x64x16x64x192_4_4_2_2_013_013 none Q W)
      (broadcastInDim S10x64x16x64x192 ![] bcast_S_S10x64x16x64x192 (constant S_ .f32 0x3E000000#32)))
    (broadcastInDim S10x64x16x64x192 ![] bcast_S_S10x64x16x64x192 (id (constant S_ .f32 0xFF800000#32)))

/-- Each query's greatest score. -/
def mxV (S : FVec Ideal S10x64x16x64x192 .f32) : FVec Ideal S10x64x16x64 .f32 :=
  Host.reduce (FloatOps.maximumf (F := Ideal)) S (constant S_ .f32 0xFF800000#32) reducesTo_S10x64x16x64x192_S10x64x16x64_d4 h_S_

/-- The exponentials of the scores relative to the greatest. -/
def exV (S : FVec Ideal S10x64x16x64x192 .f32) : FVec Ideal S10x64x16x64x192 .f32 :=
  Host.exp (subf (F := Ideal) S (broadcastInDim S10x64x16x64x192 ![0, 1, 2, 3, 4] bcast_S10x64x16x64x1_S10x64x16x64x192_0_1_2_3_4
    (broadcastInDim S10x64x16x64x1 ![0, 1, 2, 3] bcast_S10x64x16x64_S10x64x16x64x1_0_1_2_3 (mxV S))))

/-- Each query's denominator. -/
def dnV (S : FVec Ideal S10x64x16x64x192 .f32) : FVec Ideal S10x64x16x64 .f32 :=
  Host.reduceAdd (F := Ideal) (exV S) (constant S_ .f32 0x00000000#32) reducesTo_S10x64x16x64x192_S10x64x16x64_d4 h_S_

/-- The weighted values. -/
def avV (W : FVec Ideal S10x64x192x16x64 .f32) (S : FVec Ideal S10x64x16x64x192 .f32) : FVec Ideal S10x64x16x64x64 .f32 :=
  Host.dotGeneral (F := Ideal) dot_S10x64x192x16x64_S10x64x16x64x192_S10x64x16x64x64_2_4_4_3_013_012 none W
    (Host.divf (exV S) (broadcastInDim S10x64x16x64x192 ![0, 1, 2, 3, 4] bcast_S10x64x16x64x1_S10x64x16x64x192_0_1_2_3_4
      (broadcastInDim S10x64x16x64x1 ![0, 1, 2, 3] bcast_S10x64x16x64_S10x64x16x64x1_0_1_2_3 (dnV S))))

/-- The output array from the weighted values. -/
def oV (A : FVec Ideal S10x64x16x64x64 .f32) : FVec Ideal S10x4096x1024 .bf16 :=
  truncf .bf16 (shapeCast _ (transpose S10x64x64x16x64 [0, 1, 4, 2, 3] A transposes_S10x64x16x64x64_S10x64x64x16x64_0_1_4_2_3)
    shapeCasts_S10x64x64x16x64_S10x4096x1024) bitsLt_bf16_f32

/-- The array of logarithms. -/
def lV (M D : FVec Ideal S10x64x16x64 .f32) : FVec Ideal S10x4096x1024 .f32 :=
  shapeCast _ (broadcastInDim S10x4096x16x64 ![0, 1, 2, 3] bcast_S10x4096x16x1_S10x4096x16x64_0_1_2_3
    (broadcastInDim S10x4096x16x1 ![0, 1, 2] bcast_S10x4096x16_S10x4096x16x1_0_1_2
      (shapeCast S10x4096x16 (transpose S10x64x64x16 [0, 1, 3, 2] (addf (F := Ideal) M (Host.log D)) transposes_S10x64x16x64_S10x64x64x16_0_1_3_2)
        shapeCasts_S10x64x64x16_S10x4096x16))) shapeCasts_S10x4096x16x64_S10x4096x1024

/-- The reference's scores of the whole array. -/
abbrev scoresV (X : FVec Ideal S10x4096x3072 .f32) : FVec Ideal S10x64x16x64x192 .f32 := scV (qV X) (catV (padV (kV X)))

set_option maxRecDepth 100000 in
/-- The reference's output, as a composition of the arrays above. -/
theorem res70_eq (m : (ℓ : Loc nD τ sig) → Buf (Elt Ideal) ℓ) (c : Dev nD) :
    Value.res_main_v70 m c = oV (avV (catV (padV (vV (m (c.tc.loc main_arg0))))) (scoresV (m (c.tc.loc main_arg0)))) := rfl

set_option maxRecDepth 100000 in
/-- The reference's logarithms, as a composition of the arrays above. -/
theorem res73_eq (m : (ℓ : Loc nD τ sig) → Buf (Elt Ideal) ℓ) (c : Dev nD) :
    Value.res_main_v73 m c = lV (mxV (scoresV (m (c.tc.loc main_arg0)))) (dnV (scoresV (m (c.tc.loc main_arg0)))) := rfl

theorem qV_apply (X : FVec Ideal S10x4096x3072 .f32) (n : Fin 10) (b i : Fin 64) (h : Fin 16) (d : Fin 64) :
    qV X (ix5 n b i h d) = X (ix3 n ⟨64 * b.val + i.val, by omega⟩ ⟨64 * h.val + d.val, by omega⟩) := by
  unfold qV
  pointwise
  refine congrArg₂ (fun r k => X (ix3 n r k)) (Fin.ext ?_) (Fin.ext ?_)
  · show b.val * 64 + i.val = 64 * b.val + i.val; omega
  · show h.val * 64 + d.val = 64 * h.val + d.val; omega

theorem kV_apply (X : FVec Ideal S10x4096x3072 .f32) (n : Fin 10) (j : Fin 4096) (h : Fin 16) (d : Fin 64) :
    kV X (ix4 n j h d) = X (ix3 n j ⟨1024 + (64 * h.val + d.val), by omega⟩) := by
  unfold kV
  pointwise
  refine congrArg (fun k => X (ix3 n j k)) (Fin.ext ?_)
  show 1024 + h.val * 64 + d.val = 1024 + (64 * h.val + d.val); omega

theorem vV_apply (X : FVec Ideal S10x4096x3072 .f32) (n : Fin 10) (j : Fin 4096) (h : Fin 16) (d : Fin 64) :
    vV X (ix4 n j h d) = X (ix3 n j ⟨2048 + (64 * h.val + d.val), by omega⟩) := by
  unfold vV
  pointwise
  refine congrArg (fun k => X (ix3 n j k)) (Fin.ext ?_)
  show 2048 + h.val * 64 + d.val = 2048 + (64 * h.val + d.val); omega

/-- An entry of the padded sequence that stands at a position of the sequence. -/
theorem padV_apply (T : FVec Ideal S10x4096x16x64 .f32) (n : Fin 10) (b : Fin 66) (u : Fin 64) (h : Fin 16) (d : Fin 64) (j : Fin 4096)
    (hj : 64 * b.val + u.val = j.val + 64) : padV T (ix5 n b u h d) = T (ix4 n j h d) := by
  unfold padV
  pointwise
  rw [dif_pos (by omega)]
  exact congrArg (fun r => T (ix4 n r h d)) (Fin.ext (by show b.val * 64 + u.val - 64 = j.val; omega))

/-- Entry `u` of block `b`'s window stands at position `64 b + u - 64`. -/
theorem win_apply (T : FVec Ideal S10x4096x16x64 .f32) (n : Fin 10) (b : Fin 64) (u : Fin 192) (h : Fin 16) (d : Fin 64) (j : Fin 4096)
    (hj : 64 * b.val + u.val = j.val + 64) : catV (padV T) (ix5 n b u h d) = T (ix4 n j h d) := by
  unfold catV
  generalize hP : padV T = P
  pointwise
  subst hP
  split
  · exact padV_apply T n _ _ h d j (by show 64 * b.val + u.val = _; omega)
  · split
    · exact padV_apply T n _ _ h d j (by show 64 * (1 + b.val) + (u.val - 64) = _; omega)
    · exact padV_apply T n _ _ h d j (by show 64 * (2 + b.val) + (u.val - 64 - 64) = _; omega)

/-- A word that stands for `a - 64` is at least zero when `a` is at least 64. -/
theorem ge_zero (a : ℕ) (w : BitVec 32) (ha : a < 8192) (hw : w = BitVec.ofNat 32 a - BitVec.ofNat 32 64) :
    IntOp.cmpi .sge w 0#32 = if 64 ≤ a then 1#1 else 0#1 := by
  have hi : w.toInt = (a : Int) - 64 := by
    rw [hw, BitVec.toInt_sub, BitVec.toInt_ofNat', BitVec.toInt_ofNat']
    have e1 : ((a : Int)).bmod (2 ^ 32) = a := Int.bmod_eq_of_le (by omega) (by omega)
    have e2 : (((64 : ℕ) : Int)).bmod (2 ^ 32) = 64 := by decide
    rw [e1, e2]
    exact Int.bmod_eq_of_le (by omega) (by omega)
  show BitVec.ofBool ((0#32).sle w) = _
  rw [BitVec.sle_eq_decide, hi, show (0#32).toInt = 0 from rfl]
  by_cases h : 64 ≤ a
  · rw [if_pos h, decide_eq_true (by omega)]; rfl
  · rw [if_neg h, decide_eq_false (by omega)]; rfl

/-- A word that stands for `a - 64` is less than 4096 when `a` is less than 4160. -/
theorem lt_len (a : ℕ) (w : BitVec 32) (ha : a < 8192) (hw : w = BitVec.ofNat 32 a - BitVec.ofNat 32 64) :
    IntOp.cmpi .slt w 4096#32 = if a < 4160 then 1#1 else 0#1 := by
  have hi : w.toInt = (a : Int) - 64 := by
    rw [hw, BitVec.toInt_sub, BitVec.toInt_ofNat', BitVec.toInt_ofNat']
    have e1 : ((a : Int)).bmod (2 ^ 32) = a := Int.bmod_eq_of_le (by omega) (by omega)
    have e2 : (((64 : ℕ) : Int)).bmod (2 ^ 32) = 64 := by decide
    rw [e1, e2]
    exact Int.bmod_eq_of_le (by omega) (by omega)
  show BitVec.ofBool (w.slt 4096#32) = _
  rw [BitVec.slt_eq_decide, hi, show (4096#32).toInt = 4096 from rfl]
  by_cases h : a < 4160
  · rw [if_pos h, decide_eq_true (by omega)]; rfl
  · rw [if_neg h, decide_eq_false (by omega)]; rfl

/-- The mask is one on the band and zero off it. -/
theorem maskV_apply (b i : Fin 64) (u : Fin 192) :
    maskV (ix3 b i u) = if ∃ j ∈ bset (64 * b.val + i.val), 64 * b.val + u.val = j.val + 64 then 1#1 else 0#1 := by
  unfold maskV posV
  pointwise
  have hw : IntOp.addi (IntOp.muli (IntOp.subi (BitVec.ofNat 32 b.val) 1#32) 64#32) (BitVec.ofNat 32 u.val)
      = BitVec.ofNat 32 (64 * b.val + u.val) - BitVec.ofNat 32 64 := by
    simp only [IntOp.subi, IntOp.addi, IntOp.muli, BitVec.ofNat_add, BitVec.ofNat_mul]
    generalize BitVec.ofNat 32 b.val = x
    generalize BitVec.ofNat 32 u.val = y
    show (x - 1#32) * 64#32 + y = 64#32 * x + y - 64#32
    rw [BitVec.sub_eq_add_neg, BitVec.add_mul, show -1#32 * 64#32 = -64#32 from rfl, BitVec.mul_comm, BitVec.sub_eq_add_neg]
    ac_rfl
  rw [ge_zero (64 * b.val + u.val) _ (by omega) hw, lt_len (64 * b.val + u.val) _ (by omega) hw,
    dist_le (64 * b.val + i.val + 64) (64 * b.val + u.val) _ (by omega) (by omega) ?_]
  · by_cases h : ∃ j ∈ bset (64 * b.val + i.val), 64 * b.val + u.val = j.val + 64
    · rw [if_pos h]
      obtain ⟨j, hj, e⟩ := h
      obtain ⟨h1, h2⟩ := mem_bset.1 hj
      have := j.isLt
      rw [if_pos (by omega), if_pos (by omega), if_pos (by omega)]; rfl
    · rw [if_neg h]
      have : ¬ ((64 * b.val + i.val + 64 ≤ 64 * b.val + u.val + 64 ∧ 64 * b.val + u.val ≤ 64 * b.val + i.val + 64 + 64)
          ∧ 64 ≤ 64 * b.val + u.val ∧ 64 * b.val + u.val < 4160) := fun ⟨⟨a1, a2⟩, a3, a4⟩ =>
        h ⟨⟨64 * b.val + u.val - 64, by omega⟩, mem_bset.2 ⟨by show _ ≤ 64 * b.val + u.val - 64 + 64; omega, by show 64 * b.val + u.val - 64 ≤ _; omega⟩,
          by show _ = 64 * b.val + u.val - 64 + 64; omega⟩
      split <;> split <;> split <;> first | rfl | (exfalso; tauto)
  · rw [hw]
    simp only [IntOp.subi, BitVec.ofNat_add, BitVec.ofNat_mul]
    generalize BitVec.ofNat 32 b.val = x
    generalize BitVec.ofNat 32 u.val = y
    generalize BitVec.ofNat 32 i.val = z
    show x * 64#32 + z - (64#32 * x + y - 64#32) = 64#32 * x + z + 64#32 - (64#32 * x + y)
    rw [BitVec.mul_comm]
    simp only [BitVec.sub_eq_add_neg, BitVec.neg_add, BitVec.neg_neg]
    ac_rfl

theorem eighth_f32 : Ideal.ofBits .f32 0x3E000000#32 = ((1 / 8 : ℝ) : EReal) := by
  simp [Ideal.ofBits, Ideal.ieee, -EReal.coe_mul]; norm_num

/-- A masked score. -/
theorem scV_apply (Q : FVec Ideal S10x64x64x16x64 .f32) (W : FVec Ideal S10x64x192x16x64 .f32) (n : Fin 10) (b : Fin 64) (h : Fin 16) (i : Fin 64) (u : Fin 192) :
    scV Q W (ix5 n b h i u) = if ∃ j ∈ bset (64 * b.val + i.val), 64 * b.val + u.val = j.val + 64
      then (∑ x : Fin 64, Q (ix5 n b i h x) * W (ix5 n b u h x)) * ((1 / 8 : ℝ) : EReal) else ⊥ := by
  have hM := maskV_apply b i u
  unfold scV
  generalize maskV = M at hM ⊢
  pointwise
  rw [hM, select_zero, eighth_f32, show (id (constant (F := Ideal) S_ .f32 0xFF800000#32) ix0 : EReal) = ⊥ from neg_inf_word]

theorem mxV_apply (S : FVec Ideal S10x64x16x64x192 .f32) (n : Fin 10) (b : Fin 64) (h : Fin 16) (i : Fin 64) :
    mxV S (ix4 n b h i) = smax fun u => S (ix5 n b h i u) := by
  unfold mxV
  pointwise
  rw [neg_inf_word]
  rfl

theorem dnV_apply (S : FVec Ideal S10x64x16x64x192 .f32) (n : Fin 10) (b : Fin 64) (h : Fin 16) (i : Fin 64) :
    dnV S (ix4 n b h i) = sden fun u => S (ix5 n b h i u) := by
  unfold dnV exV
  pointwise
  simp only [mxV_apply]
  rfl

theorem avV_apply (W : FVec Ideal S10x64x192x16x64 .f32) (S : FVec Ideal S10x64x16x64x192 .f32) (n : Fin 10) (b : Fin 64) (h : Fin 16) (i d : Fin 64) :
    avV W S (ix5 n b h d i) = ∑ x : Fin 192, W (ix5 n b x h d) *
      Ideal.div (Ideal.exp (S (ix5 n b h i x) - smax fun u => S (ix5 n b h i u))) (sden fun u => S (ix5 n b h i u)) := by
  unfold avV exV
  pointwise
  simp only [mxV_apply, dnV_apply]

theorem oV_apply (A : FVec Ideal S10x64x16x64x64 .f32) (n : Fin 10) (r : Fin 4096) (k : Fin 1024) :
    oV A (ix3 n r k) = A (ix5 n ⟨r.val / 64, by omega⟩ ⟨k.val / 64, by omega⟩ ⟨k.val % 64, by omega⟩ ⟨r.val % 64, by omega⟩) := by
  unfold oV
  pointwise

theorem lV_apply (M D : FVec Ideal S10x64x16x64 .f32) (n : Fin 10) (r : Fin 4096) (k : Fin 1024) :
    lV M D (ix3 n r k) = M (ix4 n ⟨r.val / 64, by omega⟩ ⟨k.val / 64, by omega⟩ ⟨r.val % 64, by omega⟩)
      + Ideal.log (D (ix4 n ⟨r.val / 64, by omega⟩ ⟨k.val / 64, by omega⟩ ⟨r.val % 64, by omega⟩)) := by
  unfold lV
  pointwise

section rows
variable (X : FVec Ideal S10x4096x3072 .f32) (n : Fin 10) (r : Fin 4096) (h : Fin 16)

/-- The masked scores of row `r`, head `h`. -/
def rowS (u : Fin 192) : EReal := scoresV X (ix5 n ⟨r.val / 64, by omega⟩ h ⟨r.val % 64, by omega⟩ u)

theorem row_split : 64 * (r.val / 64) + r.val % 64 = r.val := by omega

theorem row_cov : ∀ j ∈ bset r.val, 64 * (r.val / 64) ≤ j.val + 64 ∧ j.val + 64 < 64 * (r.val / 64) + 192 := fun j hj => by
  obtain ⟨h1, h2⟩ := mem_bset.1 hj
  omega

/-- On the band the reference's scores are the kernel's. -/
theorem rowS_on (u : Fin 192) : ∀ j ∈ bset r.val, 64 * (r.val / 64) + u.val = j.val + 64 → rowS X n r h u = score3 X n r h j := fun j hj e => by
  unfold rowS scoresV
  rw [scV_apply, if_pos ⟨j, by rw [row_split]; exact hj, e⟩]
  unfold score3
  refine congrArg (fun s : EReal => s * ((1 / 8 : ℝ) : EReal)) (Finset.sum_congr rfl fun d _ => ?_)
  rw [qV_apply, win_apply (kV X) n _ u h d j e, kV_apply]
  exact congrArg (fun a => X (ix3 n a _) * X (ix3 n j _)) (Fin.ext (row_split r))

/-- Off the band they are minus infinity. -/
theorem rowS_off (u : Fin 192) (hu : ∀ j ∈ bset r.val, 64 * (r.val / 64) + u.val ≠ j.val + 64) : rowS X n r h u = ⊥ := by
  unfold rowS scoresV
  rw [scV_apply, if_neg]
  rw [row_split]
  rintro ⟨j, hj, e⟩
  exact hu j hj e

theorem rowS_max : smax (rowS X n r h) = bmax r.val (score3 X n r h) :=
  win_max r.val 64 (64 * (r.val / 64)) 192 _ _ (row_cov r) (rowS_on X n r h) (rowS_off X n r h)

theorem rowS_den : sden (rowS X n r h) = bden r.val (score3 X n r h) :=
  win_den r.val 64 (64 * (r.val / 64)) 192 (by decide) _ _ (row_cov r) (rowS_on X n r h) (rowS_off X n r h)

/-- A sum of products of finite factors is finite. -/
theorem sum_real {ι : Type*} (A : Finset ι) (f g : ι → EReal) (hf : ∀ x, ∃ a : ℝ, f x = a) (hg : ∀ x, ∃ a : ℝ, g x = a) :
    ∃ a : ℝ, ∑ x ∈ A, f x * g x = a := by
  choose f' hf using hf
  choose g' hg using hg
  refine ⟨∑ x ∈ A, f' x * g' x, ?_⟩
  rw [Finset.sum_congr rfl fun x _ => by rw [hf x, hg x, ← EReal.coe_mul]]
  exact (map_sum (⟨⟨fun x : ℝ => (x : EReal), rfl⟩, EReal.coe_add⟩ : ℝ →+ EReal) _ _).symm

/-- Of finite queries and keys the scores are finite. -/
theorem score3_real (hX : ∀ (n : Fin 10) (r : Fin 4096) (k : Fin 3072), k.val < 2048 → ∃ a : ℝ, X (ix3 n r k) = a) (j : Fin 4096) :
    ∃ s : ℝ, score3 X n r h j = s := by
  obtain ⟨a, ha⟩ := sum_real Finset.univ (fun d : Fin 64 => X (ix3 n r ⟨64 * h.val + d.val, by omega⟩))
    (fun d : Fin 64 => X (ix3 n j ⟨1024 + (64 * h.val + d.val), by omega⟩))
    (fun d => hX n r _ (by show 64 * h.val + d.val < 2048; omega)) (fun d => hX n j _ (by show 1024 + (64 * h.val + d.val) < 2048; omega))
  refine ⟨a * (1 / 8), ?_⟩
  unfold score3
  rw [ha, EReal.coe_mul]

end rows

/-- The reference's output is banded attention's, if the queries and keys are finite. -/
theorem oV_attnO (X : FVec Ideal S10x4096x3072 .f32) (hX : ∀ (n : Fin 10) (r : Fin 4096) (k : Fin 3072), k.val < 2048 → ∃ a : ℝ, X (ix3 n r k) = a)
    (n : Fin 10) (r : Fin 4096) (k : Fin 1024) : oV (avV (catV (padV (vV X))) (scoresV X)) (ix3 n r k) = Cert.KernelIdeal.Hand.attnO X n r k := by
  obtain ⟨d, hd, e⟩ := bden_real r.val r.isLt (score3 X n r ⟨k.val / 64, by omega⟩) (score3_real X n r _ hX)
  rw [oV_apply, avV_apply]
  show ∑ u : Fin 192, catV (padV (vV X)) (ix5 n _ u _ _) * Ideal.div (Ideal.exp (rowS X n r ⟨k.val / 64, by omega⟩ u - smax (rowS X n r ⟨k.val / 64, by omega⟩)))
    (sden (rowS X n r ⟨k.val / 64, by omega⟩)) = _
  unfold attnO
  rw [rowS_max, rowS_den, e, ← div_sum _ _ _ d hd]
  refine win_sum r.val 64 (64 * (r.val / 64)) 192 (by decide) _ _ (row_cov r) (fun u j hj hu => ?_) (fun u hu => ?_)
  · rw [rowS_on X n r _ u j hj hu, win_apply (vV X) n _ u _ _ j hu, vV_apply]
    refine congrArg (fun a => X (ix3 n j a) * _) (Fin.ext ?_)
    show 2048 + (64 * (k.val / 64) + k.val % 64) = 2048 + k.val
    omega
  · have hd' : ((d : ℝ) : EReal) ≠ 0 := by exact_mod_cast hd.ne'
    rw [rowS_off X n r _ u hu, exp_bot_sub]
    unfold Ideal.div
    rw [if_neg hd', zero_mul, mul_zero]

/-- The reference's logarithms are banded attention's. -/
theorem lV_attnL (X : FVec Ideal S10x4096x3072 .f32) (n : Fin 10) (r : Fin 4096) (k : Fin 1024) :
    lV (mxV (scoresV X)) (dnV (scoresV X)) (ix3 n r k) = Cert.KernelIdeal.Hand.attnL X n r k := by
  rw [lV_apply, mxV_apply, dnV_apply]
  show smax (rowS X n r ⟨k.val / 64, by omega⟩) + Ideal.log (sden (rowS X n r ⟨k.val / 64, by omega⟩)) = _
  rw [rowS_max, rowS_den]
  rfl

/-- The precondition, read at an index: queries and keys are finite. -/
theorem finite_apply (X : FVec Ideal S10x4096x3072 .f32) (hX : Cert.Pre_finite_qk.fn (F := Ideal) X = fun _ => 1#1)
    (n : Fin 10) (r : Fin 4096) (k : Fin 3072) (hk : k.val < 2048) : ∃ a : ℝ, X (ix3 n r k) = a := by
  have h := congrFun hX (ix3 n r ⟨k.val, hk⟩)
  unfold Cert.Pre_finite_qk.fn at h
  pointwise at h
  have h' : max (X (ix3 n r k)) (-X (ix3 n r k)) < (⊤ : EReal) := by
    have h2 := of_decide_eq_true (Bool.eq_true_of_not_eq_false fun h3 => by rw [h3] at h; exact absurd h (by decide))
    rwa [show Ideal.ofBits .f32 0x7F800000#32 = ⊤ by simp [Ideal.ofBits, Ideal.ieee]] at h2
  refine ⟨EReal.toReal (X (ix3 n r k)), (EReal.coe_toReal (fun h1 => ?_) (fun h1 => ?_)).symm⟩ <;>
  · rw [h1] at h'
    simp at h'

section agree
variable (m : (ℓ : Loc KernelIdeal.nD KernelIdeal.τ KernelIdeal.sig) → Buf (Elt Ideal) ℓ) (m' : (ℓ : Loc nD τ sig) → Buf (Elt Ideal) ℓ) (c : Dev nD)
variable (h0 : m' (c.tc.loc main_arg0) = m ((c.tc : Thread KernelIdeal.nD KernelIdeal.τ).loc KernelIdeal.main_arg0))

include h0 in
/-- The kernel's attention output and the reference's agree on equal arguments whose queries and keys are finite. -/
theorem agree_o (hX : Cert.Pre_finite_qk.fn (F := Ideal) (m ((c.tc : Thread KernelIdeal.nD KernelIdeal.τ).loc KernelIdeal.main_arg0)) = fun _ => 1#1) :
    (Value.res_main_v70 m' c : FVec Ideal S10x4096x1024 .bf16) = (KernelIdeal.Gen.dats m 0 c).arrAt 4 KernelIdeal.cfg0.N := by
  funext y
  obtain ⟨n, r, k, rfl⟩ : ∃ (n : Fin 10) (r : Fin 4096) (k : Fin 1024), y = ix3 n r k := ⟨y 0, y 1, y 2, eq_ix3 (n0 := 10) (n1 := 4096) (n2 := 1024) y⟩
  rw [res70_eq, h0]
  exact (oV_attnO _ (finite_apply _ hX) n r k).trans (arr4_apply m c n r k).symm

include h0 in
/-- The kernel's logarithms and the reference's agree on equal arguments. -/
theorem agree_l : (Value.res_main_v73 m' c : FVec Ideal S10x4096x1024 .f32) = (KernelIdeal.Gen.dats m 0 c).arrAt 5 KernelIdeal.cfg0.N := by
  funext y
  obtain ⟨n, r, k, rfl⟩ : ∃ (n : Fin 10) (r : Fin 4096) (k : Fin 1024), y = ix3 n r k := ⟨y 0, y 1, y 2, eq_ix3 (n0 := 10) (n1 := 4096) (n2 := 1024) y⟩
  rw [res73_eq, h0]
  exact (lV_attnL _ n r k).trans (arr5_apply m c n r k).symm

end agree

end Cert.ReferenceIdeal.Hand
end
-- ==== Proof.LastKit.lean ====
module

public import proofs.«01_k».proof.Proof.Gen.Kernel3Ideal.Skeleton
public import proofs.«01_k».proof.Proof.Gen.Kernel3Ideal.Frame

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 11) — by arithmetic of the point. -/
theorem hcond0_0 : ∀ t : Fin cfg0.N, cond0_0 (grid0.coords t) ↔ t.val % 11 = 0 :=
  (fun t => by
    have ht : t.val < 880 := Nat.lt_of_lt_of_eq t.isLt N_0
    have e0 : (grid0.coords t 0).val = t.val / 11 % 80 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 11 :=
  (by decide +kernel : ∀ t : Fin grid0.N, cond0_1 (grid0.coords t) ↔ 1 ≤ t.val % 11)

/-- The condition of the body's `scf.if` 2 (`k0_h3`), from the grid coordinates (the skeleton's scalar
    chain substituted). -/
abbrev cond0_2 (i : grid0.Coords) : Prop := k0_cond3 i = 1#1
/-- It holds at the points whose coordinates have i0 + 577 ≤ 64·i1 — decided over the grid. -/
theorem hcond0_2 : ∀ t : Fin cfg0.N, cond0_2 (grid0.coords t) ↔ (t.val % 11 = 10 ∧ t.val < 704) :=
  (by decide +kernel : ∀ t : Fin grid0.N, cond0_2 (grid0.coords t) ↔ (t.val % 11 = 10 ∧ t.val < 704))

/-- The condition of the body's `scf.if` 3 (`k0_h4`), from the grid coordinates (the skeleton's scalar
    chain substituted). -/
abbrev cond0_3 (i : grid0.Coords) : Prop := k0_cond4 i = 1#1
/-- It holds at the points whose coordinates have 224 ≤ i0 + 16·i1 — decided over the grid. -/
theorem hcond0_3 : ∀ t : Fin cfg0.N, cond0_3 (grid0.coords t) ↔ (t.val % 11 = 10 ∧ 704 ≤ t.val) :=
  (by decide +kernel : ∀ t : Fin grid0.N, cond0_3 (grid0.coords t) ↔ (t.val % 11 = 10 ∧ 704 ≤ t.val))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2048 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x2048 .bf16 := Memref.whole cc0_scratch0
abbrev scM0_1 : Memref sig .tc .vmem S512x2048 .f32 := Memref.whole cc0_scratch1
/-- The scratch `arg10` the kernel carries between points, as a view: what it holds is stated through it. -/
abbrev VS0_0 : View sig .tc .vmem S512x2048 .bf16 := scM0_0.view
/-- The scratch `arg11` the kernel carries between points, as a view: what it holds is stated through it. -/
abbrev VS0_1 : View sig .tc .vmem S512x2048 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel3Ideal.Hand

end
-- ==== Proof.LastRunA.lean ====
module

public import proofs.«01_k».proof.Proof.LastKit

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first tile of a row block (case A): the pieces the body writes into the two scratch buffers, last first, and the triple that runs it — the two output buffers are handed back as they were found. -/
def runA (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : cond0_0 i) (hc1 : ¬cond0_1 i) (hc2 : ¬cond0_2 i) (hc3 : ¬cond0_3 i)
    (x0 : Vec F S512x2048 .f32) (x1 : Vec F S1x2048 .f32) (x2 : Vec F S1x2048x512 .bf16) (x3 : Vec F S1x2048x512 .bf16) (x4 : Vec F S1x512x2048 .bf16) (x5 : Vec F S1x2048 .f32) :
    Σ' (LS0 : List (View.Piece (Elt F) S512x2048 .bf16)), { LS1 : List (View.Piece (Elt F) S512x2048 .f32) //
      ∀ (xi6 xi7 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, ?_, fun xi6 xi7 E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg8.eq_unread hf6
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel3Ideal.Hand

end
-- ==== Proof.LastRunB.lean ====
module

public import proofs.«01_k».proof.Proof.LastRunA

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a tile between the first and the last (case B): the piece the body writes into the accumulator, and the triple that runs it — the normalised rows and the two output buffers are handed back as they were found. -/
def runB (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i) (hc2 : ¬cond0_2 i) (hc3 : ¬cond0_3 i)
    (x0 : Vec F S512x2048 .f32) (x1 : Vec F S1x2048 .f32) (x2 : Vec F S1x2048x512 .bf16) (x3 : Vec F S1x2048x512 .bf16) (x4 : Vec F S1x512x2048 .bf16) (x5 : Vec F S1x2048 .f32) (xs0 : Vec F S512x2048 .bf16) (xs1 : Vec F S512x2048 .f32) :
    { LS1 : List (View.Piece (Elt F) S512x2048 .f32) //
      ∀ (xi6 xi7 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, fun xi6 xi7 E K => ?run⟩
  case run =>
    simp only [cc0_ffn_eq_skeleton]; unfold cc0_ffn_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg8.eq_unread hf6; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; isplitr; · ipureintro; exact harg10.read_unread _
      iexact HS0
    iexists _; iexact HS1

end Cert.Kernel3Ideal.Hand

end
-- ==== Proof.LastRunC.lean ====
module

public import proofs.«01_k».proof.Proof.LastRunB

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1660000 in
/-- At the last tile of a row block of the first result (case C): the pieces the body writes into the first output buffer and into the accumulator, and the triple that runs it. -/
def runC (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i) (hc2 : cond0_2 i) (hc3 : ¬cond0_3 i)
    (x0 : Vec F S512x2048 .f32) (x1 : Vec F S1x2048 .f32) (x2 : Vec F S1x2048x512 .bf16) (x3 : Vec F S1x2048x512 .bf16) (x4 : Vec F S1x512x2048 .bf16) (x5 : Vec F S1x2048 .f32) (xs0 : Vec F S512x2048 .bf16) (xs1 : Vec F S512x2048 .f32) :
    Σ' (L : List (View.Piece (Elt F) S512x2048 .f32)), { LS1 : List (View.Piece (Elt F) S512x2048 .f32) //
      ∀ (xi7 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ owns (c : Thread nD τ) arg9 fullShare xi7 ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, ?_, fun xi7 E K => ?run⟩
  case run =>
    simp only [cc0_ffn_eq_skeleton]; unfold cc0_ffn_skel
    simp only [k0_part42_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [HS0]
    · iexists _; isplitr; · ipureintro; exact harg10.read_unread _
      iexact HS0
    iexists _; iexact HS1

end Cert.Kernel3Ideal.Hand

end
-- ==== Proof.LastRunD.lean ====
module

public import proofs.«01_k».proof.Proof.LastRunC

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1660000 in
/-- At the last tile of a row block of the second result (case D): the pieces the body writes into the second output buffer and into the accumulator, and the triple that runs it. -/
def runD (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S512x2048 .f32) (harg8 : arg8.IsWhole) (arg9 : Memref sig .tc .vmem S512x2048 .f32) (harg9 : arg9.IsWhole) (arg10 : Memref sig .tc .vmem S512x2048 .bf16) (harg10 : arg10.IsWhole) (arg11 : Memref sig .tc .vmem S512x2048 .f32) (harg11 : arg11.IsWhole) (hc0 : ¬cond0_0 i) (hc1 : cond0_1 i) (hc2 : ¬cond0_2 i) (hc3 : cond0_3 i)
    (x0 : Vec F S512x2048 .f32) (x1 : Vec F S1x2048 .f32) (x2 : Vec F S1x2048x512 .bf16) (x3 : Vec F S1x2048x512 .bf16) (x4 : Vec F S1x512x2048 .bf16) (x5 : Vec F S1x2048 .f32) (xs0 : Vec F S512x2048 .bf16) (xs1 : Vec F S512x2048 .f32) :
    Σ' (L : List (View.Piece (Elt F) S512x2048 .f32)), { LS1 : List (View.Piece (Elt F) S512x2048 .f32) //
      ∀ (xi6 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f L) ∗ owns (c : Thread nD τ) arg10 fullShare xs0 ∗ (∃ f, arg11.view.loc (c : Thread nD τ) ↦[arg11.view.set]{fullShare} arg11.view.writes (Elt F) f LS1)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11) K } := by
  refine ⟨?_, ?_, fun xi6 E K => ?run⟩
  case run =>
    simp only [cc0_ffn_eq_skeleton]; unfold cc0_ffn_skel
    simp only [k0_part70_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0; obtain rfl := harg11.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    iexists _; iexact HS1

end Cert.Kernel3Ideal.Hand

end
-- ==== Proof.LastData.lean ====
module

public import proofs.«01_k».proof.Proof.LastRunD
public import Idealize.ShloMosaic.Lib.Claim
public import Idealize.ShloMosaic.Lib.Pipeline.Value
public import Idealize.ShloMosaic.Lib.Pipeline.ReadBack

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem point_lt (t : Fin cfg0.N) : t.val < 880 := lt_of_lt_of_eq t.isLt (show cfg0.N = 880 from N_0)

/-! ## The four kinds of point, each with its run at the point's buffers and blocks -/

/-- The first tile of a row block; -/
abbrev KA (t : Fin cfg0.N) : Prop := t.val % 11 = 0
/-- its last tile, for a row block of the first result; -/
abbrev KC (t : Fin cfg0.N) : Prop := t.val % 11 = 10 ∧ t.val < 704
/-- its last tile, for a row block of the second result; -/
abbrev KD (t : Fin cfg0.N) : Prop := t.val % 11 = 10 ∧ 704 ≤ t.val
/-- any other. -/
abbrev KB (t : Fin cfg0.N) : Prop := 1 ≤ t.val % 11 ∧ ¬t.val % 11 = 10

/-- The run at the first tile of a row block. -/
abbrev atA (c : Dev nD) (t : Fin cfg0.N) (h : KA t) :=
  runA (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    ((hcond0_0 t).mpr h) (mt (hcond0_1 t).mp (by omega)) (mt (hcond0_2 t).mp (by omega)) (mt (hcond0_3 t).mp (by omega))
    (iblk m c 0 t) (iblk m c 1 t) (iblk m c 2 t) (iblk m c 3 t) (iblk m c 4 t) (iblk m c 5 t)

/-- The run at a tile that is neither the first nor the last, over what the scratch buffers hold. -/
abbrev atB (c : Dev nD) (t : Fin cfg0.N) (h : KB t) (xs0 : Vec F S512x2048 .bf16) (xs1 : Vec F S512x2048 .f32) :=
  runB (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    (mt (hcond0_0 t).mp (by omega)) ((hcond0_1 t).mpr h.1) (mt (hcond0_2 t).mp (by omega)) (mt (hcond0_3 t).mp (by omega))
    (iblk m c 0 t) (iblk m c 1 t) (iblk m c 2 t) (iblk m c 3 t) (iblk m c 4 t) (iblk m c 5 t) xs0 xs1

/-- The run at the last tile of a row block of the first result. -/
abbrev atC (c : Dev nD) (t : Fin cfg0.N) (h : KC t) (xs0 : Vec F S512x2048 .bf16) (xs1 : Vec F S512x2048 .f32) :=
  runC (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    (mt (hcond0_0 t).mp (by omega)) ((hcond0_1 t).mpr (by omega)) ((hcond0_2 t).mpr h) (mt (hcond0_3 t).mp (by omega))
    (iblk m c 0 t) (iblk m c 1 t) (iblk m c 2 t) (iblk m c 3 t) (iblk m c 4 t) (iblk m c 5 t) xs0 xs1

/-- The run at the last tile of a row block of the second result. -/
abbrev atD (c : Dev nD) (t : Fin cfg0.N) (h : KD t) (xs0 : Vec F S512x2048 .bf16) (xs1 : Vec F S512x2048 .f32) :=
  runD (F := F) c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) scM0_1 (Memref.isWhole_whole _)
    (mt (hcond0_0 t).mp (by omega)) ((hcond0_1 t).mpr (by omega)) (mt (hcond0_2 t).mp (by omega)) ((hcond0_3 t).mpr h)
    (iblk m c 0 t) (iblk m c 1 t) (iblk m c 2 t) (iblk m c 3 t) (iblk m c 4 t) (iblk m c 5 t) xs0 xs1

/-! ## The pieces each run writes cover their buffers -/

theorem coverA_xn (c : Dev nD) (t : Fin cfg0.N) (h : KA t) (y : S512x2048.Idx) : ∃ p ∈ (atA m c t h).1, y ∈ p.1.set :=
  View.cover_of_tiledL (atA m c t h).1 S16x2048.size (by sl_kernel_rfl) y
theorem coverA_acc (c : Dev nD) (t : Fin cfg0.N) (h : KA t) (y : S512x2048.Idx) : ∃ p ∈ (atA m c t h).2.1, y ∈ p.1.set :=
  View.cover_of_tiledL (atA m c t h).2.1 S512x2048.size (by sl_kernel_rfl) y
theorem coverB_acc (c : Dev nD) (t : Fin cfg0.N) (h : KB t) (xs0 : Vec F S512x2048 .bf16) (xs1 : Vec F S512x2048 .f32) (y : S512x2048.Idx) :
    ∃ p ∈ (atB m c t h xs0 xs1).1, y ∈ p.1.set :=
  View.cover_of_tiledL (atB m c t h xs0 xs1).1 S512x2048.size (by sl_kernel_rfl) y
theorem coverC_out (c : Dev nD) (t : Fin cfg0.N) (h : KC t) (xs0 : Vec F S512x2048 .bf16) (xs1 : Vec F S512x2048 .f32) (y : S512x2048.Idx) :
    ∃ p ∈ (atC m c t h xs0 xs1).1, y ∈ p.1.set :=
  View.cover_of_tiledL (atC m c t h xs0 xs1).1 S8x2048.size (by sl_kernel_rfl) y
theorem coverC_acc (c : Dev nD) (t : Fin cfg0.N) (h : KC t) (xs0 : Vec F S512x2048 .bf16) (xs1 : Vec F S512x2048 .f32) (y : S512x2048.Idx) :
    ∃ p ∈ (atC m c t h xs0 xs1).2.1, y ∈ p.1.set :=
  View.cover_of_tiledL (atC m c t h xs0 xs1).2.1 S512x2048.size (by sl_kernel_rfl) y
theorem coverD_out (c : Dev nD) (t : Fin cfg0.N) (h : KD t) (xs0 : Vec F S512x2048 .bf16) (xs1 : Vec F S512x2048 .f32) (y : S512x2048.Idx) :
    ∃ p ∈ (atD m c t h xs0 xs1).1, y ∈ p.1.set :=
  View.cover_of_tiledL (atD m c t h xs0 xs1).1 S8x2048.size (by sl_kernel_rfl) y
theorem coverD_acc (c : Dev nD) (t : Fin cfg0.N) (h : KD t) (xs0 : Vec F S512x2048 .bf16) (xs1 : Vec F S512x2048 .f32) (y : S512x2048.Idx) :
    ∃ p ∈ (atD m c t h xs0 xs1).2.1, y ∈ p.1.set :=
  View.cover_of_tiledL (atD m c t h xs0 xs1).2.1 S512x2048.size (by sl_kernel_rfl) y

/-! ## What the buffers hold between points -/

/-- The contents the points hand on: the two output buffers, the normalised rows, the accumulator. -/
structure St (F : FTy → Type) [FloatOps F] where
  /-- the first output buffer -/
  o6 : Vec F S512x2048 .f32
  /-- the second output buffer -/
  o7 : Vec F S512x2048 .f32
  /-- the normalised rows -/
  xn : Vec F S512x2048 .bf16
  /-- the accumulator -/
  acc : Vec F S512x2048 .f32

/-- What point `t` makes of the contents `s` it finds. -/
def step (c : Dev nD) (t : Fin cfg0.N) (s : St F) : St F :=
  if hA : KA t then { s with xn := View.canon (atA m c t hA).1, acc := View.canon (atA m c t hA).2.1 }
  else if hC : KC t then { s with o6 := View.canon (atC m c t hC s.xn s.acc).1, acc := View.canon (atC m c t hC s.xn s.acc).2.1 }
  else if hD : KD t then { s with o7 := View.canon (atD m c t hD s.xn s.acc).1, acc := View.canon (atD m c t hD s.xn s.acc).2.1 }
  else { s with acc := View.canon (atB m c t (by omega) s.xn s.acc).1 }

theorem step_A (c : Dev nD) (t : Fin cfg0.N) (s : St F) (h : KA t) :
    step m c t s = { s with xn := View.canon (atA m c t h).1, acc := View.canon (atA m c t h).2.1 } := dif_pos h
theorem step_C (c : Dev nD) (t : Fin cfg0.N) (s : St F) (h : KC t) :
    step m c t s = { s with o6 := View.canon (atC m c t h s.xn s.acc).1, acc := View.canon (atC m c t h s.xn s.acc).2.1 } :=
  (dif_neg (by omega)).trans (dif_pos h)
theorem step_D (c : Dev nD) (t : Fin cfg0.N) (s : St F) (h : KD t) :
    step m c t s = { s with o7 := View.canon (atD m c t h s.xn s.acc).1, acc := View.canon (atD m c t h s.xn s.acc).2.1 } :=
  (dif_neg (by omega)).trans ((dif_neg (by omega)).trans (dif_pos h))
theorem step_B (c : Dev nD) (t : Fin cfg0.N) (s : St F) (h : KB t) :
    step m c t s = { s with acc := View.canon (atB m c t h s.xn s.acc).1 } :=
  (dif_neg (by omega)).trans ((dif_neg (by omega)).trans (dif_neg (by omega)))

/-- The first output buffer changes at the last tiles of the first result's row blocks only; -/
theorem step_o6 (c : Dev nD) (t : Fin cfg0.N) (s : St F) (h : ¬KC t) : (step m c t s).o6 = s.o6 := by
  by_cases hA : KA t
  · rw [step_A m c t s hA]
  · by_cases hD : KD t
    · rw [step_D m c t s hD]
    · rw [step_B m c t s (by omega)]

/-- and the second at those of the second's. -/
theorem step_o7 (c : Dev nD) (t : Fin cfg0.N) (s : St F) (h : ¬KD t) : (step m c t s).o7 = s.o7 := by
  by_cases hA : KA t
  · rw [step_A m c t s hA]
  · by_cases hC : KC t
    · rw [step_C m c t s hC]
    · rw [step_B m c t s (by omega)]

/-- The contents before point `n`: nothing in particular before the first. -/
def sb (c : Dev nD) : (n : ℕ) → n ≤ cfg0.N → St F
  | 0, _ => ⟨View.canon [], View.canon [], View.canon [], View.canon []⟩
  | n + 1, h => step m c ⟨n, h⟩ (sb c n (Nat.le_of_lt h))

theorem sb_succ (c : Dev nD) (t : Fin cfg0.N) : sb m c (t.val + 1) t.isLt = step m c t (sb m c t.val (Nat.le_of_lt t.isLt)) := rfl

/-- The scratch buffers and the generator register between points: at anything before the first point, then at
    the contents the points so far leave. -/
def PhiS (c : Dev nD) : (n : ℕ) → n ≤ cfg0.N → sProp 𝕄
  | 0, _ => Pipeline.ΦA spec0 c
  | n + 1, h => iprop(iprop(owns (c : Thread nD τ) scM0_0 fullShare (sb m c (n + 1) h).xn
      ∗ owns (c : Thread nD τ) scM0_1 fullShare (sb m c (n + 1) h).acc) ∗ (∃ r, prngReg c r))

theorem PhiS_pos (c : Dev nD) (n : ℕ) (h : n ≤ cfg0.N) (hz : n ≠ 0) :
    PhiS m c n h = iprop(iprop(owns (c : Thread nD τ) scM0_0 fullShare (sb m c n h).xn
      ∗ owns (c : Thread nD τ) scM0_1 fullShare (sb m c n h).acc) ∗ (∃ r, prngReg c r)) := by
  cases n with
  | zero => exact absurd rfl hz
  | succ n => rfl

/-- Whatever the point, the scratch buffers are owned at some contents. -/
theorem PhiS_any (c : Dev nD) (n : ℕ) (h : n ≤ cfg0.N) : PhiS m c n h ⊢ Pipeline.ΦA spec0 c := by
  by_cases hz : n = 0
  · subst hz; exact Idealize.SL.BI.Entails.refl _
  · rw [PhiS_pos m c n h hz, PhiA0_eq]
    iintro ⟨⟨HS0, HS1⟩, Hg⟩
    isplitl [HS0 HS1]
    · isplitl [HS0]
      · iexists _; iexact HS0
      iexists _; iexact HS1
    iexact Hg

/-- The proof data: the arrays as the region finds them; after point `t` each input's buffer at its block and the
    output buffers at what the points so far leave; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (sb m c (t.val + 1) t.isLt).o6
    | ⟨7, _⟩ => (sb m c (t.val + 1) t.isLt).o7
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! What the body leaves in each buffer, and what it finds in the inputs'. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (sb m c (t.val + 1) t.isLt).o6 := by dsimp only [dats]
theorem after0_7 (c : Dev nD) (t : Fin cfg0.N) : (dats m 0 c).after 7 t = (sb m c (t.val + 1) t.isLt).o7 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## When the output blocks are written back, and what their buffers hold where the body does not store -/

theorem idle6 : ∀ t : Fin cfg0.N, cfg0.idle 6 (grid0.coords t) = !decide (t.val % 11 = 10 ∧ t.val < 704) := by decide +kernel
theorem idle7 : ∀ t : Fin cfg0.N, cfg0.idle 7 (grid0.coords t) = !decide (t.val % 11 = 10 ∧ 704 ≤ t.val) := by decide +kernel
/-- The first result's last block is written back at the grid's last point, long after it was stored. -/
theorem flush6 : ∀ t : Fin cfg0.N, (cfg0.win 6).flush t = decide (t.val % 11 = 10 ∧ t.val < 703 ∨ t.val = 879) := by decide +kernel
theorem flush7 : ∀ t : Fin cfg0.N, (cfg0.win 7).flush t = decide (t.val % 11 = 10 ∧ 704 ≤ t.val) := by decide +kernel
theorem fetch6 (t : Fin cfg0.N) : (cfg0.win 6).fetch t = false := rfl

/-- From point 704 on the first output buffer holds what point 703 stored. -/
theorem before6 (c : Dev nD) (d) : ∀ (n : ℕ) (hn : n < cfg0.N), 704 ≤ n →
    (dats m 0 c).before 6 ⟨n, hn⟩ d = (sb m c n (Nat.le_of_lt hn)).o6 := by
  intro n
  induction n with
  | zero => intro _ h; omega
  | succ n ih =>
    intro hn h
    have hN : n + 1 < 880 := point_lt ⟨n + 1, hn⟩
    have hn' : n < cfg0.N := Nat.lt_of_succ_lt hn
    rw [Dat.before_of_pos (dats m 0 c) 6 ⟨n + 1, hn⟩ (Nat.succ_ne_zero n) (fetch6 _) d]
    show (if (cfg0.win 6).flush ⟨n, hn'⟩ then d else (dats m 0 c).left 6 ⟨n, hn'⟩ d) = _
    rw [if_neg (by rw [flush6 ⟨n, hn'⟩]; simp only [decide_eq_true_eq]; omega)]
    unfold Dat.left
    by_cases h7 : n = 703
    · have hi : cfg0.idle 6 (grid0.coords ⟨n, hn'⟩) = false := by rw [idle6]; simp [h7]
      rw [hi]
      exact after0_6 m c ⟨n, hn'⟩
    · have hi : cfg0.idle 6 (grid0.coords ⟨n, hn'⟩) = true := by
        rw [idle6]; simp only [Bool.not_eq_true', decide_eq_false_iff_not]; omega
      rw [hi]
      show (dats m 0 c).before 6 ⟨n, hn'⟩ d = _
      rw [ih hn' (by omega), sb_succ m c ⟨n, hn'⟩, step_o6 m c ⟨n, hn'⟩ _ (by show ¬(n % 11 = 10 ∧ n < 704); omega)]

/-- Where the body does not store into the first output buffer, the buffer as found is what the obligation asks back; -/
theorem keep6 (c : Dev nD) (t : Fin cfg0.N) (h : ¬KC t) (d) :
    owns (c : Thread nD τ) (ms0_6 t) fullShare ((dats m 0 c).before 6 t d) ⊢ ((dats m 0 c).leavesExact 6 t : sProp 𝕄) := by
  have hi : cfg0.idle 6 (grid0.coords t) = true := by
    rw [idle6]; simp only [Bool.not_eq_true', decide_eq_false_iff_not]; exact h
  by_cases hf : t.val = 879
  · have hf' : (cfg0.win 6).flush t = true := by rw [flush6]; simp [hf]
    have e : (dats m 0 c).before 6 t d = (dats m 0 c).after 6 t := by
      rw [after0_6, before6 m c d t.val t.isLt (by omega), sb_succ, step_o6 m c t _ h]
    unfold Dat.leavesExact
    rw [hi, hf', e]
  · rw [Dat.leavesExact_idle (dats m 0 c) 6 t hi (by rw [flush6]; simp only [decide_eq_false_iff_not]; omega)]
    iintro H; iexists _; iexact H

/-- and so for the second. -/
theorem keep7 (c : Dev nD) (t : Fin cfg0.N) (h : ¬KD t) (d) :
    owns (c : Thread nD τ) (ms0_7 t) fullShare ((dats m 0 c).before 7 t d) ⊢ ((dats m 0 c).leavesExact 7 t : sProp 𝕄) := by
  have hi : cfg0.idle 7 (grid0.coords t) = true := by
    rw [idle7]; simp only [Bool.not_eq_true', decide_eq_false_iff_not]; exact h
  rw [Dat.leavesExact_idle (dats m 0 c) 7 t hi (by rw [flush7]; simp only [decide_eq_false_iff_not]; exact h)]
  iintro H; iexists _; iexact H

/-- Where the body stores into an output buffer, the obligation asks for the buffer at what it stored. -/
theorem put6 (c : Dev nD) (t : Fin cfg0.N) (h : KC t) :
    (dats m 0 c).leavesExact 6 t = (owns (c : Thread nD τ) (ms0_6 t) fullShare (sb m c (t.val + 1) t.isLt).o6 : sProp 𝕄) := by
  have hi : cfg0.idle 6 (grid0.coords t) = false := by rw [idle6]; simpa using h
  unfold Dat.leavesExact; rw [hi, ← after0_6]
theorem put7 (c : Dev nD) (t : Fin cfg0.N) (h : KD t) :
    (dats m 0 c).leavesExact 7 t = (owns (c : Thread nD τ) (ms0_7 t) fullShare (sb m c (t.val + 1) t.isLt).o7 : sProp 𝕄) := by
  have hi : cfg0.idle 7 (grid0.coords t) = false := by rw [idle7]; simpa using h
  unfold Dat.leavesExact; rw [hi, ← after0_7]

end Cert.Kernel3Ideal.Hand

end
-- ==== Proof.LastFrame.lean ====
module

public import proofs.«01_k».proof.Proof.LastData

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer all of whose elements the pieces `L` write is owned at their contents. -/
theorem own_canon (c : Dev nD) {s : Shape} {e : EltTy} (r : Memref sig .tc .vmem s e) (L : List (View.Piece (Elt F) s e))
    (h : ∀ y, ∃ p ∈ L, y ∈ p.1.set) :
    (iprop(∃ f, r.view.loc (c : Thread nD τ) ↦[r.view.set]{fullShare} r.view.writes (Elt F) f L) : sProp 𝕄)
      ⊢ owns (c : Thread nD τ) r fullShare (View.canon L) := by
  iintro ⟨%f, H⟩
  unfold owns; iexists _; isplitr
  swap; · iexact H
  ipureintro; exact View.read_writes_eq_canon _ _ _ h

/-- What the body is called with at point `t`: the invariant, what the core owes, and each window's buffer; -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-! The inputs' buffers are returned at their blocks. -/

theorem leaves0 (c : Dev nD) (t : Fin cfg0.N) :
    (dats m 0 c).leavesExact 0 t = (owns (c : Thread nD τ) (ms0_0 t) fullShare (iblk m c 0 t) : sProp 𝕄) := by
  unfold Dat.leavesExact; rw [liveAt0_0 t, after0_0]
theorem leaves1 (c : Dev nD) (t : Fin cfg0.N) :
    (dats m 0 c).leavesExact 1 t = (owns (c : Thread nD τ) (ms0_1 t) fullShare (iblk m c 1 t) : sProp 𝕄) := by
  unfold Dat.leavesExact; rw [liveAt0_1 t, after0_1]
theorem leaves2 (c : Dev nD) (t : Fin cfg0.N) :
    (dats m 0 c).leavesExact 2 t = (owns (c : Thread nD τ) (ms0_2 t) fullShare (iblk m c 2 t) : sProp 𝕄) := by
  unfold Dat.leavesExact; rw [liveAt0_2 t, after0_2]
theorem leaves3 (c : Dev nD) (t : Fin cfg0.N) :
    (dats m 0 c).leavesExact 3 t = (owns (c : Thread nD τ) (ms0_3 t) fullShare (iblk m c 3 t) : sProp 𝕄) := by
  unfold Dat.leavesExact; rw [liveAt0_3 t, after0_3]
theorem leaves4 (c : Dev nD) (t : Fin cfg0.N) :
    (dats m 0 c).leavesExact 4 t = (owns (c : Thread nD τ) (ms0_4 t) fullShare (iblk m c 4 t) : sProp 𝕄) := by
  unfold Dat.leavesExact; rw [liveAt0_4 t, after0_4]
theorem leaves5 (c : Dev nD) (t : Fin cfg0.N) :
    (dats m 0 c).leavesExact 5 t = (owns (c : Thread nD τ) (ms0_5 t) fullShare (iblk m c 5 t) : sProp 𝕄) := by
  unfold Dat.leavesExact; rw [liveAt0_5 t, after0_5]

set_option maxHeartbeats 4000000 in
/-- The body's triple at the first tile of a row block. -/
theorem sound_A (c : Dev nD) (t : Fin cfg0.N) (h : KA t) :
    bodyPre m c t ⊢ wp frame (wpE (defs₀ (F := F)) Variants.none c none) Set.univ (bodyAt0 t) (fun _ => bodyPost m c t) := by
  have e := (sb_succ m c t).trans (step_A m c t _ h)
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _)]
  rw [leaves0, leaves1, leaves2, leaves3, leaves4, leaves5, PhiS_castSucc m c t]
  rw [e]
  refine (sep_mono_left (PhiS_any m c t.val (Nat.le_of_lt t.isLt))).trans ?_
  rw [PhiA0_eq]
  dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atA m c t h).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iapply (own_canon c scM0_0 _ (coverA_xn m c t h)); iexact HS0
      iapply (own_canon c scM0_1 _ (coverA_acc m c t h)); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep6 m c t (by omega) d6); iexact H6
  iapply (keep7 m c t (by omega) d7); iexact H7

set_option maxHeartbeats 4000000 in
/-- The body's triple at a tile neither first nor last. -/
theorem sound_B (c : Dev nD) (t : Fin cfg0.N) (h : KB t) :
    bodyPre m c t ⊢ wp frame (wpE (defs₀ (F := F)) Variants.none c none) Set.univ (bodyAt0 t) (fun _ => bodyPost m c t) := by
  have e := (sb_succ m c t).trans (step_B m c t _ h)
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _)]
  rw [leaves0, leaves1, leaves2, leaves3, leaves4, leaves5, PhiS_castSucc m c t]
  have hz : t.val ≠ 0 := by omega
  rw [PhiS_pos m c _ _ hz, e]
  dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atB m c t h _ _).2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iapply (own_canon c scM0_1 _ (coverB_acc m c t h _ _)); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep6 m c t (by omega) d6); iexact H6
  iapply (keep7 m c t (by omega) d7); iexact H7

set_option maxHeartbeats 4000000 in
/-- The body's triple at the last tile of a row block of the first result. -/
theorem sound_C (c : Dev nD) (t : Fin cfg0.N) (h : KC t) :
    bodyPre m c t ⊢ wp frame (wpE (defs₀ (F := F)) Variants.none c none) Set.univ (bodyAt0 t) (fun _ => bodyPost m c t) := by
  have e := (sb_succ m c t).trans (step_C m c t _ h)
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _)]
  rw [leaves0, leaves1, leaves2, leaves3, leaves4, leaves5, PhiS_castSucc m c t]
  have hz : t.val ≠ 0 := by omega
  rw [PhiS_pos m c _ _ hz, put6 m c t h, e]
  dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atC m c t h _ _).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iapply (own_canon c scM0_1 _ (coverC_acc m c t h _ _)); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (own_canon c (ms0_6 t) _ (coverC_out m c t h _ _)); iexact H6
  iapply (keep7 m c t (by omega) d7); iexact H7

set_option maxHeartbeats 4000000 in
/-- The body's triple at the last tile of a row block of the second. -/
theorem sound_D (c : Dev nD) (t : Fin cfg0.N) (h : KD t) :
    bodyPre m c t ⊢ wp frame (wpE (defs₀ (F := F)) Variants.none c none) Set.univ (bodyAt0 t) (fun _ => bodyPost m c t) := by
  have e := (sb_succ m c t).trans (step_D m c t _ h)
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _)]
  rw [leaves0, leaves1, leaves2, leaves3, leaves4, leaves5, PhiS_castSucc m c t]
  have hz : t.val ≠ 0 := by omega
  rw [PhiS_pos m c _ _ hz, put7 m c t h, e]
  dsimp only
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atD m c t h _ _).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iapply (own_canon c scM0_1 _ (coverD_acc m c t h _ _)); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (keep6 m c t (by omega) d6); iexact H6
  iapply (own_canon c (ms0_7 t) _ (coverD_out m c t h _ _)); iexact H7

/-- The body's triple at every point. -/
theorem sound_body (c : Dev nD) (t : Fin cfg0.N) :
    bodyPre m c t ⊢ wp frame (wpE (defs₀ (F := F)) Variants.none c none) Set.univ (bodyAt0 t) (fun _ => bodyPost m c t) := by
  by_cases hA : KA t
  · exact sound_A m c t hA
  · by_cases hC : KC t
    · exact sound_C m c t hC
    · by_cases hD : KD t
      · exact sound_D m c t hD
      · exact sound_B m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c :=
  PhiS_any m c (Fin.last cfg0.N).val (Nat.le_of_lt_succ (Fin.last cfg0.N).isLt)

/-! ## The run and the frame -/

-- the launch theorem's implicit arguments are found by unifying its conclusion with this one
set_option backward.isDefEq.respectTransparency.types false in
/-- Every execution ends, with every array of the call at what the proof data compute, every other buffer as the
    call found it and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel3Ideal.Hand

end
-- ==== Proof.LastBody.lean ====
module

public import proofs.«01_k».proof.Proof.LastFrame
public import proofs.«01_k».proof.Proof.FfnBody

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Idealize.ShloMosaic.Pipeline (Dat)
open Cert.Kernel2Ideal.Hand (rms hid hz hz3)

section
variable {F : FTy → Type} [FloatOps F]
variable (m : (ℓ : Loc nD τ sig) → Buf (Elt F) ℓ)

/-- At the first tile of a row block each piece of the scratch is 16 normalised rows of the block. -/
theorem piecesA (c : Dev nD) (t : Fin cfg0.N) (h : KA t) :
    ∀ p ∈ (atA m c t h).1, ∃ (o : ℕ) (inb : ∀ a, (![o, 0] : Fin 2 → ℕ) a + (![16, 2048] : Fin 2 → ℕ) a ≤ S512x2048.size a),
      p = ⟨Rect.unit (s := S512x2048) ![o, 0] ![16, 2048] inb,
        k0_pay6 (View.readAt (Elt F) (ms0_1 t).view (Rect.unit ![0, 0] S1x2048.size inb_S1x2048_S1x2048_0_0).toLoadRect ((hs0_1 t).unread (iblk m c 1 t)))
          (View.readAt (Elt F) (ms0_0 t).view (Rect.unit (s := S512x2048) ![o, 0] ![16, 2048] inb).toLoadRect ((hs0_0 t).unread (iblk m c 0 t)))⟩ := by
  unfold atA runA
  dsimp only
  sl_unfold_words
  iterate 32 refine List.forall_mem_cons.2 ⟨⟨_, _, rfl⟩, ?_⟩
  exact fun p hp => absurd hp List.not_mem_nil

/-- At the last tile of a row block of the first result each piece written is 8 rows of the result. -/
theorem piecesC (c : Dev nD) (t : Fin cfg0.N) (h : KC t) (xs0 : Vec F S512x2048 .bf16) (xs1 : Vec F S512x2048 .f32) :
    ∀ p ∈ (atC m c t h xs0 xs1).1, ∃ (o : ℕ) (inb : ∀ a, (![o, 0] : Fin 2 → ℕ) a + (![8, 2048] : Fin 2 → ℕ) a ≤ S512x2048.size a),
      p = ⟨Rect.unit (s := S512x2048) ![o, 0] ![8, 2048] inb,
        k0_pay51 (View.readAt (Elt F) (ms0_5 t).view (Rect.unit ![0, 0] S1x2048.size inb_S1x2048_S1x2048_0_0).toLoadRect ((hs0_5 t).unread (iblk m c 5 t)))
          (scM0_1.view.readCov (atC m c t h xs0 xs1).2.1 (Rect.unit (s := S512x2048) ![o, 0] ![8, 2048] inb).toLoadRect)
          (View.readAt (Elt F) (ms0_0 t).view (Rect.unit (s := S512x2048) ![o, 0] ![8, 2048] inb).toLoadRect ((hs0_0 t).unread (iblk m c 0 t)))⟩ := by
  unfold atC runC
  dsimp only
  iterate 64 refine List.forall_mem_cons.2 ⟨⟨_, _, rfl⟩, ?_⟩
  exact fun p hp => absurd hp List.not_mem_nil

/-- At the last tile of a row block of the second result each piece written is 8 rows of the result. -/
theorem piecesD (c : Dev nD) (t : Fin cfg0.N) (h : KD t) (xs0 : Vec F S512x2048 .bf16) (xs1 : Vec F S512x2048 .f32) :
    ∀ p ∈ (atD m c t h xs0 xs1).1, ∃ (o : ℕ) (inb : ∀ a, (![o, 0] : Fin 2 → ℕ) a + (![8, 2048] : Fin 2 → ℕ) a ≤ S512x2048.size a),
      p = ⟨Rect.unit (s := S512x2048) ![o, 0] ![8, 2048] inb,
        k0_pay51 (View.readAt (Elt F) (ms0_5 t).view (Rect.unit ![0, 0] S1x2048.size inb_S1x2048_S1x2048_0_0).toLoadRect ((hs0_5 t).unread (iblk m c 5 t)))
          (scM0_1.view.readCov (atD m c t h xs0 xs1).2.1 (Rect.unit (s := S512x2048) ![o, 0] ![8, 2048] inb).toLoadRect)
          (View.readAt (Elt F) (ms0_0 t).view (Rect.unit (s := S512x2048) ![o, 0] ![8, 2048] inb).toLoadRect ((hs0_0 t).unread (iblk m c 0 t)))⟩ := by
  unfold atD runD
  dsimp only
  iterate 64 refine List.forall_mem_cons.2 ⟨⟨_, _, rfl⟩, ?_⟩
  exact fun p hp => absurd hp List.not_mem_nil

end

/-! ## The bodies' arithmetic at extended reals -/

/-- An entry of 16 normalised rows. -/
theorem pay6_apply (g : Vec Ideal S1x2048 .f32) (v : Vec Ideal S16x2048 .f32) (r : Fin 16) (k : Fin 2048) :
    k0_pay6 g v (ix2 r k) = rms (fun j => v (ix2 r j)) k (g (ix2 0 k)) := by
  pointwise [k0_pay6, k0_pay5]
  rfl

/-- An entry of 8 rows of a result: the residual plus the normalised accumulator. -/
theorem pay51_apply (g : Vec Ideal S1x2048 .f32) (v x : Vec Ideal S8x2048 .f32) (r : Fin 8) (k : Fin 2048) :
    k0_pay51 g v x (ix2 r k) = x (ix2 r k) + rms (fun j => v (ix2 r j)) k (g (ix2 0 k)) := by
  pointwise [k0_pay51, k0_pay50]
  rfl

/-- What one tile of 512 hidden lanes adds to the accumulator at row `r`, column `k`. -/
def tile (xn : Vec Ideal S512x2048 .bf16) (wg wu : Vec Ideal S1x2048x512 .bf16) (wd : Vec Ideal S1x512x2048 .bf16)
    (r : Fin 512) (k : Fin 2048) : EReal :=
  ∑ h : Fin 512, hid (∑ j : Fin 2048, xn (ix2 r j) * wg (ix3 0 j h)) (∑ j : Fin 2048, xn (ix2 r j) * wu (ix3 0 j h)) * wd (ix3 0 h k)

/-- The accumulator after a tile that adds to it. -/
theorem pay2_apply (acc : Vec Ideal S512x2048 .f32) (xn : Vec Ideal S512x2048 .bf16) (wg wu : Vec Ideal S1x2048x512 .bf16)
    (wd : Vec Ideal S1x512x2048 .bf16) (r : Fin 512) (k : Fin 2048) :
    k0_pay2 acc xn wg wu wd (ix2 r k) = acc (ix2 r k) + tile xn wg wu wd r k := by
  pointwise [k0_pay2]
  rfl

/-- The accumulator after the first tile. -/
theorem pay1_apply (xn : Vec Ideal S512x2048 .bf16) (wg wu : Vec Ideal S1x2048x512 .bf16)
    (wd : Vec Ideal S1x512x2048 .bf16) (r : Fin 512) (k : Fin 2048) :
    k0_pay1 (k0_pay48 xn wg wu) (k0_pay49 wd) (constant S512x2048 .f32 0x00000000#32) (ix2 r k) = tile xn wg wu wd r k := by
  pointwise [k0_pay1, k0_pay48, k0_pay49]
  rfl

/-! ## Reading and writing whole rows -/

/-- Loading `n` whole rows from row `o`. -/
theorem ldu (X : Vec Ideal S512x2048 .f32) (o n : ℕ) (inb : ∀ a, (![o, 0] : Fin 2 → ℕ) a + (![n, 2048] : Fin 2 → ℕ) a ≤ S512x2048.size a)
    (a : Fin n) (b : Fin 2048) :
    View.ld (Val := Elt Ideal) X (Rect.unit (s := S512x2048) ![o, 0] ![n, 2048] inb) (ix2 a b)
      = X (ix2 ⟨o + a.val, by have := inb 0; have := a.isLt; simp at *; omega⟩ b) := by
  refine congrArg X ?_
  funext d
  apply Fin.ext
  match d with
  | ⟨0, _⟩ => show o + 1 * a.val = o + a.val; omega
  | ⟨1, _⟩ => show 0 + 1 * b.val = b.val; omega

/-- Where an entry of `n` whole rows from row `o` lies in the block. -/
theorem embu (o n : ℕ) (inb : ∀ a, (![o, 0] : Fin 2 → ℕ) a + (![n, 2048] : Fin 2 → ℕ) a ≤ S512x2048.size a)
    (a : Fin n) (b : Fin 2048) :
    (Rect.unit (s := S512x2048) ![o, 0] ![n, 2048] inb).emb (ix2 a b)
      = ix2 ⟨o + a.val, by have := inb 0; have := a.isLt; simp at *; omega⟩ b := by
  funext d
  apply Fin.ext
  match d with
  | ⟨0, _⟩ => show o + 1 * a.val = o + a.val; omega
  | ⟨1, _⟩ => show 0 + 1 * b.val = b.val; omega

/-- The normalised block: row by row, the root-mean-square normalisation of the rows of `X` scaled by `g`. -/
def xnOf (X : Vec Ideal S512x2048 .f32) (g : Vec Ideal S1x2048 .f32) (y : S512x2048.Idx) : EReal :=
  rms (fun j => X (ix2 (y 0) j)) (y 1) (g (ix2 0 (y 1)))

/-- Pieces of 16 normalised rows make the normalised block. -/
theorem canonXn (L : List (View.Piece (Elt Ideal) S512x2048 .bf16)) (X : Vec Ideal S512x2048 .f32) (g : Vec Ideal S1x2048 .f32)
    (h : ∀ p ∈ L, ∃ (o : ℕ) (inb : ∀ a, (![o, 0] : Fin 2 → ℕ) a + (![16, 2048] : Fin 2 → ℕ) a ≤ S512x2048.size a),
      p = ⟨Rect.unit (s := S512x2048) ![o, 0] ![16, 2048] inb, k0_pay6 (F := Ideal) g (View.ld (Val := Elt Ideal) X (Rect.unit (s := S512x2048) ![o, 0] ![16, 2048] inb))⟩)
    (y : S512x2048.Idx) (hc : ∃ p ∈ L, y ∈ p.1.set) : View.canon L y = xnOf X g y := by
  refine View.canon_apply_of_pieces (xnOf X g) L ?_ y hc
  intro p hp x
  obtain ⟨o, inb, rfl⟩ := h p hp
  obtain ⟨a, b, rfl⟩ : ∃ (a : Fin 16) (b : Fin 2048), x = ix2 a b := ⟨x 0, x 1, eq_ix2 x⟩
  refine (pay6_apply _ _ a b).trans ?_
  rw [embu]
  exact congrArg (fun v => rms v b (g (ix2 0 b))) (funext fun j => ldu X o 16 inb a j)

/-- Pieces of 8 result rows make the result block. -/
theorem canonOut (L : List (View.Piece (Elt Ideal) S512x2048 .f32)) (A X : Vec Ideal S512x2048 .f32) (g : Vec Ideal S1x2048 .f32)
    (h : ∀ p ∈ L, ∃ (o : ℕ) (inb : ∀ a, (![o, 0] : Fin 2 → ℕ) a + (![8, 2048] : Fin 2 → ℕ) a ≤ S512x2048.size a),
      p = ⟨Rect.unit (s := S512x2048) ![o, 0] ![8, 2048] inb, k0_pay51 (F := Ideal) g
        (View.ld (Val := Elt Ideal) A (Rect.unit (s := S512x2048) ![o, 0] ![8, 2048] inb))
        (View.ld (Val := Elt Ideal) X (Rect.unit (s := S512x2048) ![o, 0] ![8, 2048] inb))⟩)
    (y : S512x2048.Idx) (hc : ∃ p ∈ L, y ∈ p.1.set) : View.canon L y = X y + xnOf A g y := by
  refine View.canon_apply_of_pieces (fun y => X y + xnOf A g y) L ?_ y hc
  intro p hp x
  obtain ⟨o, inb, rfl⟩ := h p hp
  obtain ⟨a, b, rfl⟩ : ∃ (a : Fin 8) (b : Fin 2048), x = ix2 a b := ⟨x 0, x 1, eq_ix2 x⟩
  refine (pay51_apply _ _ _ a b).trans ?_
  dsimp only
  rw [embu]
  exact congr (congrArg (· + ·) (ldu X o 8 inb a b)) (congrArg (fun v => rms v b (g (ix2 0 b))) (funext fun j => ldu A o 8 inb a j))

/-! ## What each point leaves, entry by entry -/

variable (m : (ℓ : Loc nD τ sig) → Buf (Elt Ideal) ℓ)

/-- The row block of the residual stream that point `t` reads. -/
abbrev blkX (c : Dev nD) (t : Fin cfg0.N) : S512x2048.Idx → EReal := iblk m c 0 t

/-- The normalised rows the first tile's point leaves. -/
theorem xnA (c : Dev nD) (t : Fin cfg0.N) (h : KA t) (y : S512x2048.Idx) :
    View.canon (atA m c t h).1 y = xnOf (iblk m c 0 t) (iblk m c 1 t) y := by
  refine canonXn _ (iblk m c 0 t) (iblk m c 1 t) (fun p hp => ?_) y (coverA_xn m c t h y)
  obtain ⟨o, inb, e⟩ := piecesA m c t h p hp
  refine ⟨o, inb, e.trans ?_⟩
  rw [View.readAt_eq_ld, View.readAt_eq_ld, (hs0_0 t).read_unread, (hs0_1 t).read_unread, View.ld_unit_zero (S := S1x2048) hz]

theorem hsA (c : Dev nD) (t : Fin cfg0.N) (h : KA t) :
    (atA m c t h).1 = runA.sl.HS0_32 c (ms0_0 t) (hs0_0 t) (ms0_1 t) (hs0_1 t) (iblk m c 0 t) (iblk m c 1 t) := rfl

/-- The accumulator the first tile's point leaves: the tile's product. -/
theorem accA (c : Dev nD) (t : Fin cfg0.N) (h : KA t) (r : Fin 512) (k : Fin 2048) :
    View.canon (atA m c t h).2.1 (ix2 r k)
      = tile (xnOf (iblk m c 0 t) (iblk m c 1 t)) (iblk m c 2 t) (iblk m c 3 t) (iblk m c 4 t) r k := by
  have hx : runA.sl.v562 c (ms0_0 t) (hs0_0 t) (ms0_1 t) (hs0_1 t) scM0_0 (iblk m c 0 t) (iblk m c 1 t)
      = xnOf (iblk m c 0 t) (iblk m c 1 t) := by
    unfold runA.sl.v562
    rw [← hsA m c t h, View.readCov_eq_canon_ld _ _ _ (coverA_xn m c t h), View.ld_unit_zero (S := S512x2048) hz]
    exact funext fun y => xnA m c t h y
  unfold atA runA
  dsimp only
  rw [View.canon_unit_zero (S := S512x2048) hz]
  unfold runA.sl.r_16 runA.sl.r_17 runA.sl.cst_216
  rw [hx]
  simp only [View.readAt_eq_ld, Memref.IsWhole.read_unread, View.ld_unit_zero (S := S1x2048x512) hz3, View.ld_unit_zero (S := S1x512x2048) hz3]
  exact pay1_apply _ _ _ _ r k

/-- The accumulator a later tile's point leaves (case B): what it held and the tile's product. -/
theorem accB (c : Dev nD) (t : Fin cfg0.N) (h : KB t) (xs0 : Vec Ideal S512x2048 .bf16) (xs1 : Vec Ideal S512x2048 .f32) (r : Fin 512) (k : Fin 2048) :
    View.canon (atB m c t h xs0 xs1).1 (ix2 r k) = xs1 (ix2 r k) + tile xs0 (iblk m c 2 t) (iblk m c 3 t) (iblk m c 4 t) r k := by
  unfold atB runB
  dsimp only
  sl_unfold_words
  rw [View.canon_unit_zero (S := S512x2048) hz]
  refine (pay2_apply _ _ _ _ _ r k).trans ?_
  simp only [View.readAt_eq_ld, Memref.IsWhole.read_unread, View.ld_unit_zero (S := S512x2048) hz, View.ld_unit_zero (S := S1x2048x512) hz3, View.ld_unit_zero (S := S1x512x2048) hz3]
  exact congrArg₂ (fun (a : S512x2048.Idx → EReal) (b : Vec Ideal S512x2048 .bf16) => a (ix2 r k) + tile b (iblk m c 2 t) (iblk m c 3 t) (iblk m c 4 t) r k)
    ((Memref.isWhole_whole cc0_scratch1).read_unread (Val := Elt Ideal) xs1) ((Memref.isWhole_whole cc0_scratch0).read_unread (Val := Elt Ideal) xs0)

/-- The accumulator a later tile's point leaves (case C): what it held and the tile's product. -/
theorem accC (c : Dev nD) (t : Fin cfg0.N) (h : KC t) (xs0 : Vec Ideal S512x2048 .bf16) (xs1 : Vec Ideal S512x2048 .f32) (r : Fin 512) (k : Fin 2048) :
    View.canon (atC m c t h xs0 xs1).2.1 (ix2 r k) = xs1 (ix2 r k) + tile xs0 (iblk m c 2 t) (iblk m c 3 t) (iblk m c 4 t) r k := by
  unfold atC runC
  dsimp only
  sl_unfold_words
  rw [View.canon_unit_zero (S := S512x2048) hz]
  refine (pay2_apply _ _ _ _ _ r k).trans ?_
  simp only [View.readAt_eq_ld, Memref.IsWhole.read_unread, View.ld_unit_zero (S := S512x2048) hz, View.ld_unit_zero (S := S1x2048x512) hz3, View.ld_unit_zero (S := S1x512x2048) hz3]
  exact congrArg₂ (fun (a : S512x2048.Idx → EReal) (b : Vec Ideal S512x2048 .bf16) => a (ix2 r k) + tile b (iblk m c 2 t) (iblk m c 3 t) (iblk m c 4 t) r k)
    ((Memref.isWhole_whole cc0_scratch1).read_unread (Val := Elt Ideal) xs1) ((Memref.isWhole_whole cc0_scratch0).read_unread (Val := Elt Ideal) xs0)

/-- The accumulator a later tile's point leaves (case D): what it held and the tile's product. -/
theorem accD (c : Dev nD) (t : Fin cfg0.N) (h : KD t) (xs0 : Vec Ideal S512x2048 .bf16) (xs1 : Vec Ideal S512x2048 .f32) (r : Fin 512) (k : Fin 2048) :
    View.canon (atD m c t h xs0 xs1).2.1 (ix2 r k) = xs1 (ix2 r k) + tile xs0 (iblk m c 2 t) (iblk m c 3 t) (iblk m c 4 t) r k := by
  unfold atD runD
  dsimp only
  sl_unfold_words
  rw [View.canon_unit_zero (S := S512x2048) hz]
  refine (pay2_apply _ _ _ _ _ r k).trans ?_
  simp only [View.readAt_eq_ld, Memref.IsWhole.read_unread, View.ld_unit_zero (S := S512x2048) hz, View.ld_unit_zero (S := S1x2048x512) hz3, View.ld_unit_zero (S := S1x512x2048) hz3]
  exact congrArg₂ (fun (a : S512x2048.Idx → EReal) (b : Vec Ideal S512x2048 .bf16) => a (ix2 r k) + tile b (iblk m c 2 t) (iblk m c 3 t) (iblk m c 4 t) r k)
    ((Memref.isWhole_whole cc0_scratch1).read_unread (Val := Elt Ideal) xs1) ((Memref.isWhole_whole cc0_scratch0).read_unread (Val := Elt Ideal) xs0)

/-- What the last tile's point of a row block of the first result stores. -/
theorem outC (c : Dev nD) (t : Fin cfg0.N) (h : KC t) (xs0 : Vec Ideal S512x2048 .bf16) (xs1 : Vec Ideal S512x2048 .f32) (y : S512x2048.Idx) :
    View.canon (atC m c t h xs0 xs1).1 y
      = blkX m c t y + xnOf (View.canon (atC m c t h xs0 xs1).2.1) (iblk m c 5 t) y := by
  refine canonOut _ _ (iblk m c 0 t) (iblk m c 5 t) (fun p hp => ?_) y (coverC_out m c t h xs0 xs1 y)
  obtain ⟨o, inb, e⟩ := piecesC m c t h xs0 xs1 p hp
  refine ⟨o, inb, e.trans ?_⟩
  rw [View.readAt_eq_ld, View.readAt_eq_ld, (hs0_0 t).read_unread, (hs0_5 t).read_unread, View.ld_unit_zero (S := S1x2048) hz,
    View.readCov_eq_canon_ld _ _ _ (coverC_acc m c t h xs0 xs1)]

/-- What the last tile's point of a row block of the second result stores. -/
theorem outD (c : Dev nD) (t : Fin cfg0.N) (h : KD t) (xs0 : Vec Ideal S512x2048 .bf16) (xs1 : Vec Ideal S512x2048 .f32) (y : S512x2048.Idx) :
    View.canon (atD m c t h xs0 xs1).1 y
      = blkX m c t y + xnOf (View.canon (atD m c t h xs0 xs1).2.1) (iblk m c 5 t) y := by
  refine canonOut _ _ (iblk m c 0 t) (iblk m c 5 t) (fun p hp => ?_) y (coverD_out m c t h xs0 xs1 y)
  obtain ⟨o, inb, e⟩ := piecesD m c t h xs0 xs1 p hp
  refine ⟨o, inb, e.trans ?_⟩
  rw [View.readAt_eq_ld, View.readAt_eq_ld, (hs0_0 t).read_unread, (hs0_5 t).read_unread, View.ld_unit_zero (S := S1x2048) hz,
    View.readCov_eq_canon_ld _ _ _ (coverD_acc m c t h xs0 xs1)]

end Cert.Kernel3Ideal.Hand

end
-- ==== Proof.LastFold.lean ====
module

public import proofs.«01_k».proof.Proof.LastBody

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Idealize.ShloMosaic.Pipeline (Dat)
open Cert.Kernel2Ideal.Hand (rms hid)

variable (m : (ℓ : Loc nD τ sig) → Buf (Elt Ideal) ℓ)

/-- The arguments as launched, on device `c`. -/
abbrev argX (c : Dev nD) : Vec Ideal S40960x2048 .f32 := m ((c.tc : Thread nD τ).loc main_arg0)
abbrev argGpre (c : Dev nD) : Vec Ideal S4x2048 .f32 := m ((c.tc : Thread nD τ).loc main_arg1)
abbrev argWg (c : Dev nD) : Vec Ideal S4x2048x5632 .f32 := m ((c.tc : Thread nD τ).loc main_arg2)
abbrev argWu (c : Dev nD) : Vec Ideal S4x2048x5632 .f32 := m ((c.tc : Thread nD τ).loc main_arg3)
abbrev argWd (c : Dev nD) : Vec Ideal S4x5632x2048 .f32 := m ((c.tc : Thread nD τ).loc main_arg4)
abbrev argGpost (c : Dev nD) : Vec Ideal S4x2048 .f32 := m ((c.tc : Thread nD τ).loc main_arg5)

theorem V_v0 (c : Dev nD) : V m c main_v0 = argWg m c := by
  unfold V; after_results_simp; rfl
theorem V_v1 (c : Dev nD) : V m c main_v1 = argWu m c := by
  unfold V; after_results_simp; rfl
theorem V_v2 (c : Dev nD) : V m c main_v2 = argWd m c := by
  unfold V; after_results_simp; rfl
theorem V_v5 (c : Dev nD) (k : Fin 2048) : (V m c main_v5 : Vec Ideal S1x2048 .f32) (ix2 0 k) = argGpre m c (ix2 3 k) := by
  unfold V; after_results_simp
  pointwise
theorem V_v8 (c : Dev nD) (k : Fin 2048) : (V m c main_v8 : Vec Ideal S1x2048 .f32) (ix2 0 k) = argGpost m c (ix2 3 k) := by
  unfold V; after_results_simp
  pointwise

theorem ix_facts : ∀ t : Fin cfg0.N, (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 3) = 3 ∧ win0_2.index t (1 : Fin 3) = 0 ∧ win0_2.index t (2 : Fin 3) = t.val % 11)
    ∧ (win0_3.index t (0 : Fin 3) = 3 ∧ win0_3.index t (1 : Fin 3) = 0 ∧ win0_3.index t (2 : Fin 3) = t.val % 11)
    ∧ (win0_4.index t (0 : Fin 3) = 3 ∧ win0_4.index t (1 : Fin 3) = t.val % 11 ∧ win0_4.index t (2 : Fin 3) = 0)
    ∧ (win0_5.index t (0 : Fin 2) = 0 ∧ win0_5.index t (1 : Fin 2) = 0) :=
  (by decide +kernel : ∀ t : Fin grid0.N, _)

theorem iblk0_apply (c : Dev nD) (t : Fin cfg0.N) (r : Fin 512) (k : Fin 2048) (h : 512 * (t.val / 11) + r.val < 40960) :
    (iblk m c 0 t : Vec Ideal S512x2048 .f32) (ix2 r k) = argX m c (ix2 ⟨512 * (t.val / 11) + r.val, h⟩ k) := by
  unfold iblk
  rw [View.read_apply]
  show V m c main_arg0 _ = _
  rw [V_main_arg0]
  refine congrArg (argX m c) (funext fun a => Fin.ext ?_)
  obtain ⟨⟨e0, e1⟩, -⟩ := ix_facts t
  match a with
  | ⟨0, _⟩ => show win0_0.index t 0 * 512 + 1 * r.val = 512 * (t.val / 11) + r.val; rw [e0]; omega
  | ⟨1, _⟩ => show win0_0.index t 1 * 2048 + 1 * k.val = k.val; rw [e1]; omega

theorem iblk1_apply (c : Dev nD) (t : Fin cfg0.N) (k : Fin 2048) :
    (iblk m c 1 t : Vec Ideal S1x2048 .f32) (ix2 0 k) = argGpre m c (ix2 3 k) := by
  unfold iblk
  rw [View.read_apply, ← V_v5 m c k]
  show V m c main_v5 _ = V m c main_v5 _
  refine congrArg (V m c main_v5) (funext fun a => Fin.ext ?_)
  obtain ⟨-, ⟨e0, e1⟩, -⟩ := ix_facts t
  match a with
  | ⟨0, _⟩ => show win0_1.index t 0 * 1 + 1 * 0 = 0; rw [e0]
  | ⟨1, _⟩ => show win0_1.index t 1 * 2048 + 1 * k.val = k.val; rw [e1]; omega

theorem iblk2_apply (c : Dev nD) (t : Fin cfg0.N) (j : Fin 2048) (h : Fin 512) (hh : 512 * (t.val % 11) + h.val < 5632) :
    (iblk m c 2 t : Vec Ideal S1x2048x512 .bf16) (ix3 0 j h) = argWg m c (ix3 3 j ⟨512 * (t.val % 11) + h.val, hh⟩) := by
  unfold iblk
  rw [View.read_apply]
  show V m c main_v0 _ = _
  rw [V_v0]
  refine congrArg (argWg m c) (funext fun a => Fin.ext ?_)
  obtain ⟨-, -, ⟨e0, e1, e2⟩, -⟩ := ix_facts t
  match a with
  | ⟨0, _⟩ => show win0_2.index t 0 * 1 + 1 * 0 = 3; rw [e0]
  | ⟨1, _⟩ => show win0_2.index t 1 * 2048 + 1 * j.val = j.val; rw [e1]; omega
  | ⟨2, _⟩ => show win0_2.index t 2 * 512 + 1 * h.val = 512 * (t.val % 11) + h.val; rw [e2]; omega

theorem iblk3_apply (c : Dev nD) (t : Fin cfg0.N) (j : Fin 2048) (h : Fin 512) (hh : 512 * (t.val % 11) + h.val < 5632) :
    (iblk m c 3 t : Vec Ideal S1x2048x512 .bf16) (ix3 0 j h) = argWu m c (ix3 3 j ⟨512 * (t.val % 11) + h.val, hh⟩) := by
  unfold iblk
  rw [View.read_apply]
  show V m c main_v1 _ = _
  rw [V_v1]
  refine congrArg (argWu m c) (funext fun a => Fin.ext ?_)
  obtain ⟨-, -, -, ⟨e0, e1, e2⟩, -⟩ := ix_facts t
  match a with
  | ⟨0, _⟩ => show win0_3.index t 0 * 1 + 1 * 0 = 3; rw [e0]
  | ⟨1, _⟩ => show win0_3.index t 1 * 2048 + 1 * j.val = j.val; rw [e1]; omega
  | ⟨2, _⟩ => show win0_3.index t 2 * 512 + 1 * h.val = 512 * (t.val % 11) + h.val; rw [e2]; omega

theorem iblk4_apply (c : Dev nD) (t : Fin cfg0.N) (h : Fin 512) (k : Fin 2048) (hh : 512 * (t.val % 11) + h.val < 5632) :
    (iblk m c 4 t : Vec Ideal S1x512x2048 .bf16) (ix3 0 h k) = argWd m c (ix3 3 ⟨512 * (t.val % 11) + h.val, hh⟩ k) := by
  unfold iblk
  rw [View.read_apply]
  show V m c main_v2 _ = _
  rw [V_v2]
  refine congrArg (argWd m c) (funext fun a => Fin.ext ?_)
  obtain ⟨-, -, -, -, ⟨e0, e1, e2⟩, -⟩ := ix_facts t
  match a with
  | ⟨0, _⟩ => show win0_4.index t 0 * 1 + 1 * 0 = 3; rw [e0]
  | ⟨1, _⟩ => show win0_4.index t 1 * 512 + 1 * h.val = 512 * (t.val % 11) + h.val; rw [e1]; omega
  | ⟨2, _⟩ => show win0_4.index t 2 * 2048 + 1 * k.val = k.val; rw [e2]; omega

theorem iblk5_apply (c : Dev nD) (t : Fin cfg0.N) (k : Fin 2048) :
    (iblk m c 5 t : Vec Ideal S1x2048 .f32) (ix2 0 k) = argGpost m c (ix2 3 k) := by
  unfold iblk
  rw [View.read_apply, ← V_v8 m c k]
  show V m c main_v8 _ = V m c main_v8 _
  refine congrArg (V m c main_v8) (funext fun a => Fin.ext ?_)
  obtain ⟨-, -, -, -, -, ⟨e0, e1⟩⟩ := ix_facts t
  match a with
  | ⟨0, _⟩ => show win0_5.index t 0 * 1 + 1 * 0 = 0; rw [e0]
  | ⟨1, _⟩ => show win0_5.index t 1 * 2048 + 1 * k.val = k.val; rw [e1]; omega

/-- The normalised row `R` of the residual stream, scaled by the last layer's gains. -/
def xnR (c : Dev nD) (R : Fin 40960) (k : Fin 2048) : EReal :=
  rms (fun j => argX m c (ix2 R j)) k (argGpre m c (ix2 3 k))

/-- What hidden lane `h` contributes to row `R`, column `k` of the down-projection. -/
def lane (c : Dev nD) (R : Fin 40960) (k : Fin 2048) (h : Fin 5632) : EReal :=
  hid (∑ j : Fin 2048, xnR m c R j * argWg m c (ix3 3 j h)) (∑ j : Fin 2048, xnR m c R j * argWu m c (ix3 3 j h))
    * argWd m c (ix3 3 h k)

/-- What tile `f` of 512 hidden lanes contributes, for a natural `f` (nothing past the last tile). -/
def laneTile (c : Dev nD) (R : Fin 40960) (k : Fin 2048) (f : ℕ) : EReal :=
  if hf : f < 11 then ∑ h : Fin 512, lane m c R k ⟨512 * f + h.val, by have := h.isLt; omega⟩ else 0

theorem row_lt (t : Fin cfg0.N) (r : Fin 512) : 512 * (t.val / 11) + r.val < 40960 := by
  have h1 := point_lt t; have := r.isLt; omega

/-- The normalised rows in terms of the arguments. -/
theorem xnOf_iblk (c : Dev nD) (t : Fin cfg0.N) (r : Fin 512) (k : Fin 2048) :
    xnOf (iblk m c 0 t) (iblk m c 1 t) (ix2 r k) = xnR m c ⟨512 * (t.val / 11) + r.val, row_lt t r⟩ k := by
  have h0 : (fun j => (iblk m c 0 t : Vec Ideal S512x2048 .f32) (ix2 r j)) = fun j => argX m c (ix2 ⟨512 * (t.val / 11) + r.val, row_lt t r⟩ j) :=
    funext fun j => iblk0_apply m c t r j _
  show rms (fun j => (iblk m c 0 t : Vec Ideal S512x2048 .f32) (ix2 r j)) k ((iblk m c 1 t : Vec Ideal S1x2048 .f32) (ix2 0 k)) = _
  rw [h0, iblk1_apply]
  rfl

/-- A tile's product in terms of the arguments, where the scratch holds the normalised rows. -/
theorem tile_iblk (c : Dev nD) (t : Fin cfg0.N) (xn : Vec Ideal S512x2048 .bf16) (r : Fin 512) (k : Fin 2048)
    (hx : ∀ j, xn (ix2 r j) = xnR m c ⟨512 * (t.val / 11) + r.val, row_lt t r⟩ j) :
    tile xn (iblk m c 2 t) (iblk m c 3 t) (iblk m c 4 t) r k
      = laneTile m c ⟨512 * (t.val / 11) + r.val, row_lt t r⟩ k (t.val % 11) := by
  have hf : t.val % 11 < 11 := Nat.mod_lt _ (by decide)
  unfold tile laneTile
  rw [dif_pos hf]
  refine Finset.sum_congr rfl fun h _ => ?_
  have hh : 512 * (t.val % 11) + h.val < 5632 := by have := h.isLt; omega
  unfold lane
  refine congr (congrArg (· * ·) (congr (congrArg hid (Finset.sum_congr rfl fun j _ => ?_)) (Finset.sum_congr rfl fun j _ => ?_))) (iblk4_apply m c t h k hh)
  · rw [hx j, iblk2_apply m c t j h hh]
  · rw [hx j, iblk3_apply m c t j h hh]

/-- At the first tile of a row block the scratch takes the normalised rows, the accumulator the first tile's product. -/
theorem stepA (c : Dev nD) (t : Fin cfg0.N) (s : St Ideal) (h : KA t) (r : Fin 512) (k : Fin 2048) :
    (step m c t s).xn (ix2 r k) = xnR m c ⟨512 * (t.val / 11) + r.val, row_lt t r⟩ k
    ∧ (step m c t s).acc (ix2 r k) = laneTile m c ⟨512 * (t.val / 11) + r.val, row_lt t r⟩ k (t.val % 11) := by
  rw [step_A m c t s h]
  dsimp only
  constructor
  · rw [xnA]; exact xnOf_iblk m c t r k
  · rw [accA]; exact tile_iblk m c t _ r k fun j => xnOf_iblk m c t r j

/-- At any later tile the scratch is kept and the accumulator takes the tile's product on. -/
theorem stepBCD (c : Dev nD) (t : Fin cfg0.N) (s : St Ideal) (h : ¬KA t) (r : Fin 512) (k : Fin 2048) :
    (step m c t s).xn = s.xn
    ∧ (step m c t s).acc (ix2 r k) = s.acc (ix2 r k) + tile s.xn (iblk m c 2 t) (iblk m c 3 t) (iblk m c 4 t) r k := by
  by_cases hC : KC t
  · rw [step_C m c t s hC]; dsimp only; exact ⟨rfl, accC m c t hC s.xn s.acc r k⟩
  · by_cases hD : KD t
    · rw [step_D m c t s hD]; dsimp only; exact ⟨rfl, accD m c t hD s.xn s.acc r k⟩
    · have hB : KB t := by omega
      rw [step_B m c t s hB]; dsimp only; exact ⟨rfl, accB m c t hB s.xn s.acc r k⟩

/-- After point `n` the scratch holds the row block's normalised rows and the accumulator the sum of the tiles met so far. -/
theorem state (c : Dev nD) (n : ℕ) : ∀ (hn : n < cfg0.N) (r : Fin 512) (k : Fin 2048),
    (sb m c (n + 1) hn).xn (ix2 r k) = xnR m c ⟨512 * (n / 11) + r.val, row_lt ⟨n, hn⟩ r⟩ k
    ∧ (sb m c (n + 1) hn).acc (ix2 r k)
      = ∑ f ∈ Finset.range (n % 11 + 1), laneTile m c ⟨512 * (n / 11) + r.val, row_lt ⟨n, hn⟩ r⟩ k f := by
  induction n with
  | zero =>
    intro hn r k
    obtain ⟨a, b⟩ := stepA m c ⟨0, hn⟩ (sb m c 0 (Nat.zero_le _)) rfl r k
    exact ⟨a, by rw [Finset.sum_range_one]; exact b⟩
  | succ n ih =>
    intro hn r k
    have hn' : n < cfg0.N := Nat.lt_of_succ_lt hn
    by_cases h0 : (n + 1) % 11 = 0
    · obtain ⟨a, b⟩ := stepA m c ⟨n + 1, hn⟩ (sb m c (n + 1) hn') h0 r k
      refine ⟨a, b.trans ?_⟩
      show laneTile m c _ k ((n + 1) % 11) = _
      rw [h0]
      exact (Finset.sum_range_one _).symm
    · obtain ⟨a, b⟩ := stepBCD m c ⟨n + 1, hn⟩ (sb m c (n + 1) hn') h0 r k
      have hd : (n + 1) / 11 = n / 11 := by omega
      have hm : (n + 1) % 11 = n % 11 + 1 := by omega
      have hR : (⟨512 * ((n + 1) / 11) + r.val, row_lt ⟨n + 1, hn⟩ r⟩ : Fin 40960) = ⟨512 * (n / 11) + r.val, row_lt ⟨n, hn'⟩ r⟩ :=
        Fin.ext (by show 512 * ((n + 1) / 11) + r.val = 512 * (n / 11) + r.val; rw [hd])
      refine ⟨?_, ?_⟩
      · rw [hR]; exact (congrFun a _).trans (ih hn' r k).1
      · refine b.trans ?_
        rw [tile_iblk m c ⟨n + 1, hn⟩ _ r k (fun j => by
          show (sb m c (n + 1) hn').xn (ix2 r j) = xnR m c ⟨512 * ((n + 1) / 11) + r.val, _⟩ j
          rw [hR]; exact (ih hn' r j).1)]
        show (sb m c (n + 1) hn').acc (ix2 r k) + laneTile m c ⟨512 * ((n + 1) / 11) + r.val, _⟩ k ((n + 1) % 11) = _
        rw [(ih hn' r k).2, hR, hm, Finset.sum_range_succ _ (n % 11 + 1)]

/-- The feed-forward result at row `R`, column `k`: the residual plus the normalised down-projection. -/
def ffnOut (c : Dev nD) (R : Fin 40960) (k : Fin 2048) : EReal :=
  argX m c (ix2 R k) + rms (fun j => ∑ h : Fin 5632, lane m c R j h) k (argGpost m c (ix2 3 k))

/-- The 11 tiles' contributions sum to the hidden lanes'. -/
theorem sum_tiles (c : Dev nD) (R : Fin 40960) (k : Fin 2048) :
    ∑ f ∈ Finset.range 11, laneTile m c R k f = ∑ h : Fin 5632, lane m c R k h := by
  rw [← Fin.sum_univ_eq_sum_range (fun f => laneTile m c R k f) 11]
  refine Eq.trans (Finset.sum_congr rfl fun f _ => ?_) (Fin.sum_mul_add_fin 11 512 (lane m c R k))
  unfold laneTile
  rw [dif_pos f.isLt]
  refine Finset.sum_congr rfl fun h _ => congrArg (lane m c R k) (Fin.ext ?_)
  show 512 * f.val + h.val = f.val * 512 + h.val
  omega

/-- The result block in terms of the arguments, where the accumulator holds every lane's contribution. -/
theorem out_iblk (c : Dev nD) (t : Fin cfg0.N) (A : Vec Ideal S512x2048 .f32) (r : Fin 512) (k : Fin 2048)
    (hA : ∀ j, A (ix2 r j) = ∑ h : Fin 5632, lane m c ⟨512 * (t.val / 11) + r.val, row_lt t r⟩ j h) :
    blkX m c t (ix2 r k) + xnOf A (iblk m c 5 t) (ix2 r k) = ffnOut m c ⟨512 * (t.val / 11) + r.val, row_lt t r⟩ k := by
  unfold ffnOut
  refine congrArg₂ (fun a b : EReal => a + b) (iblk0_apply m c t r k _) ?_
  show rms (fun j => A (ix2 r j)) k ((iblk m c 5 t : Vec Ideal S1x2048 .f32) (ix2 0 k)) = _
  rw [iblk5_apply]
  exact congrArg (fun v => rms v k _) (funext fun j => hA j)

/-- At a row block's last tile the accumulator holds every lane's contribution. -/
theorem acc_last (c : Dev nD) (t : Fin cfg0.N) (h : t.val % 11 = 10) (r : Fin 512) (j : Fin 2048) :
    (step m c t (sb m c t.val (Nat.le_of_lt t.isLt))).acc (ix2 r j)
      = ∑ h : Fin 5632, lane m c ⟨512 * (t.val / 11) + r.val, row_lt t r⟩ j h := by
  have e := (state m c t.val t.isLt r j).2
  rw [h, sum_tiles] at e
  exact e

/-- What the last tile's point of a row block of the first result leaves in its buffer. -/
theorem lastC (c : Dev nD) (t : Fin cfg0.N) (h : KC t) (r : Fin 512) (k : Fin 2048) :
    (sb m c (t.val + 1) t.isLt).o6 (ix2 r k) = ffnOut m c ⟨512 * (t.val / 11) + r.val, row_lt t r⟩ k := by
  have hs := fun j => acc_last m c t h.1 r j
  rw [sb_succ]
  rw [step_C m c t _ h] at hs ⊢
  dsimp only at hs ⊢
  rw [outC]
  exact out_iblk m c t _ r k hs

/-- What the last tile's point of a row block of the second result leaves in its buffer. -/
theorem lastD (c : Dev nD) (t : Fin cfg0.N) (h : KD t) (r : Fin 512) (k : Fin 2048) :
    (sb m c (t.val + 1) t.isLt).o7 (ix2 r k) = ffnOut m c ⟨512 * (t.val / 11) + r.val, row_lt t r⟩ k := by
  have hs := fun j => acc_last m c t h.1 r j
  rw [sb_succ]
  rw [step_D m c t _ h] at hs ⊢
  dsimp only at hs ⊢
  rw [outD]
  exact out_iblk m c t _ r k hs

/-- From point 704 on the first result's buffer is not stored into. -/
theorem o6_kept (c : Dev nD) (n : ℕ) : ∀ (hn : n ≤ cfg0.N) (h : 704 ≤ n),
    (sb m c n hn).o6 = (sb m c 704 (h.trans hn)).o6 := by
  induction n with
  | zero => intro _ h; omega
  | succ n ih =>
    intro hn h
    by_cases h7 : n + 1 = 704
    · obtain rfl : n = 703 := by omega
      rfl
    · exact (step_o6 m c ⟨n, hn⟩ _ (by show ¬(n % 11 = 10 ∧ n < 704); omega)).trans (ih (Nat.le_of_lt hn) (by omega))

/-- The first result's last block, as stored at point 703. -/
theorem last63 (c : Dev nD) (n q : ℕ) (e : q = n + 1) (hq : q ≤ cfg0.N) (h : n = 703) (r : Fin 512) (k : Fin 2048) :
    (sb m c q hq).o6 (ix2 r k) = ffnOut m c ⟨32256 + r.val, by have := r.isLt; omega⟩ k := by
  subst e
  refine (lastC m c ⟨n, hq⟩ ⟨by show n % 11 = 10; omega, by show n < 704; omega⟩ r k).trans ?_
  refine congrArg (fun R => ffnOut m c R k) (Fin.ext ?_)
  show 512 * (n / 11) + r.val = 32256 + r.val
  omega

/-! ## The two result arrays -/

/-- The first result: the rows before 32768. -/
def G6 (c : Dev nD) : Buf (Elt Ideal) ((c : Thread nD τ).loc main_v9_0) := fun i =>
  ffnOut m c ⟨(i 0).val, lt_of_lt_of_le (show (i 0).val < 32768 from (i 0).isLt) (by decide)⟩ (i 1)

/-- The second result: the rows from 32768 on. -/
def G7 (c : Dev nD) : Buf (Elt Ideal) ((c : Thread nD τ).loc main_v9_1) := fun i =>
  ffnOut m c ⟨32768 + (i 0).val, by have : (i 0).val < 8192 := (i 0).isLt; omega⟩ (i 1)

theorem idx6 : ∀ t : Fin cfg0.N, win0_6.index t (0 : Fin 2) = min (t.val / 11) 63 ∧ win0_6.index t (1 : Fin 2) = 0 :=
  (by decide +kernel : ∀ t : Fin grid0.N, _)
theorem idx7 : ∀ t : Fin cfg0.N, win0_7.index t (0 : Fin 2) = t.val / 11 - 64 ∧ win0_7.index t (1 : Fin 2) = 0 :=
  (by decide +kernel : ∀ t : Fin grid0.N, _)

theorem ffnOut_congr (c : Dev nD) {R R' : Fin 40960} {k k' : Fin 2048} (h : R.val = R'.val) (hk : k.val = k'.val) :
    ffnOut m c R k = ffnOut m c R' k' := by
  obtain rfl : R = R' := Fin.ext h
  obtain rfl : k = k' := Fin.ext hk
  rfl

/-- What each write-back of the first result writes is its block of `G6`; -/
theorem flushed6_eq (c : Dev nD) (t : Fin cfg0.N) (hf : (cfg0.win 6).flush t = true) :
    (dats m 0 c).flushed 6 t = ((cfg0.win 6).blk t).view.read (Elt Ideal) (G6 m c) := by
  show (cfg0.win 6).cut (grid0.coords t) ((dats m 0 c).after 6 t) = _
  rw [after0_6]
  have hm := flush6 t
  rw [hf] at hm
  have hm : t.val % 11 = 10 ∧ t.val < 703 ∨ t.val = 879 := of_decide_eq_true hm.symm
  obtain ⟨e0, e1⟩ := idx6 t
  funext y
  have hy0 : (y 0).val < 512 := (y 0).isLt
  have hy1 : (y 1).val < 2048 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 2048 + 1 * (y 1).val := rfl
  show (sb m c (t.val + 1) t.isLt).o6 ((cfg0.win 6).xinj (grid0.coords t) y) = G6 m c (((cfg0.win 6).blk t).view.emb y)
  have hl : (cfg0.win 6).xinj (grid0.coords t) y = ix2 (n0 := 512) (n1 := 2048) ⟨(y 0).val, hy0⟩ ⟨(y 1).val, hy1⟩ := by
    funext a; apply Fin.ext
    match a with
    | ⟨0, _⟩ => rfl
    | ⟨1, _⟩ => rfl
  rw [hl]
  unfold G6
  rcases hm with hm | hm
  · rw [lastC m c t ⟨hm.1, by omega⟩]
    refine ffnOut_congr m c ?_ ?_
    · show 512 * (t.val / 11) + (y 0).val = (((cfg0.win 6).blk t).view.emb y 0).val
      rw [hb0, e0]; omega
    · show (y 1).val = (((cfg0.win 6).blk t).view.emb y 1).val
      rw [hb1, e1]; omega
  · rw [o6_kept m c (t.val + 1) t.isLt (by omega)]
    rw [last63 m c 703 704 rfl _ rfl]
    refine ffnOut_congr m c ?_ ?_
    · show 32256 + (y 0).val = (((cfg0.win 6).blk t).view.emb y 0).val
      rw [hb0, e0]; omega
    · show (y 1).val = (((cfg0.win 6).blk t).view.emb y 1).val
      rw [hb1, e1]; omega

/-- and so for the second result. -/
theorem flushed7_eq (c : Dev nD) (t : Fin cfg0.N) (hf : (cfg0.win 7).flush t = true) :
    (dats m 0 c).flushed 7 t = ((cfg0.win 7).blk t).view.read (Elt Ideal) (G7 m c) := by
  show (cfg0.win 7).cut (grid0.coords t) ((dats m 0 c).after 7 t) = _
  rw [after0_7]
  have hm := flush7 t
  rw [hf] at hm
  have hm : t.val % 11 = 10 ∧ 704 ≤ t.val := of_decide_eq_true hm.symm
  obtain ⟨e0, e1⟩ := idx7 t
  funext y
  have hy0 : (y 0).val < 512 := (y 0).isLt
  have hy1 : (y 1).val < 2048 := (y 1).isLt
  have hb0 : (((cfg0.win 7).blk t).view.emb y 0).val = win0_7.index t (0 : Fin 2) * 512 + 1 * (y 0).val := rfl
  have hb1 : (((cfg0.win 7).blk t).view.emb y 1).val = win0_7.index t (1 : Fin 2) * 2048 + 1 * (y 1).val := rfl
  show (sb m c (t.val + 1) t.isLt).o7 ((cfg0.win 7).xinj (grid0.coords t) y) = G7 m c (((cfg0.win 7).blk t).view.emb y)
  have hl : (cfg0.win 7).xinj (grid0.coords t) y = ix2 (n0 := 512) (n1 := 2048) ⟨(y 0).val, hy0⟩ ⟨(y 1).val, hy1⟩ := by
    funext a; apply Fin.ext
    match a with
    | ⟨0, _⟩ => rfl
    | ⟨1, _⟩ => rfl
  rw [hl]
  unfold G7
  rw [lastD m c t hm]
  refine ffnOut_congr m c ?_ ?_
  · show 512 * (t.val / 11) + (y 0).val = 32768 + (((cfg0.win 7).blk t).view.emb y 0).val
    rw [hb0, e0]; omega
  · show (y 1).val = (((cfg0.win 7).blk t).view.emb y 1).val
    rw [hb1, e1]; omega

/-- An index of the first result lies in point `t`'s block iff each coordinate is in the block's range. -/
theorem mem_blk6 (t : Fin cfg0.N) (i : S32768x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v9_0).slice (win0_6.rect t)).set ↔ _
  rw [View.set_slice_whole, Rect.mem_set_unit]
  exact Iff.rfl

/-- The same for the second. -/
theorem mem_blk7 (t : Fin cfg0.N) (i : S8192x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v9_1).slice (win0_7.rect t)).set ↔ _
  rw [View.set_slice_whole, Rect.mem_set_unit]
  exact Iff.rfl

/-- Every row of the first result is written back: its block's, but the last block's at the grid's last point. -/
theorem covered6 (i : S32768x2048.Idx) : ∃ t : Fin cfg0.N, (cfg0.win 6).flush t = true ∧ i ∈ ((cfg0.win 6).blk t).view.set := by
  have hi0 : (i 0).val < 32768 := (i 0).isLt
  have hi1 : (i 1).val < 2048 := (i 1).isLt
  have hN : cfg0.N = 880 := N_0
  obtain ⟨n, hn, hf, he⟩ : ∃ n, n < 880 ∧ (n % 11 = 10 ∧ n < 703 ∨ n = 879) ∧ min (n / 11) 63 = (i 0).val / 512 := by
    by_cases h : (i 0).val / 512 = 63
    · exact ⟨879, by omega, Or.inr rfl, by omega⟩
    · exact ⟨11 * ((i 0).val / 512) + 10, by omega, Or.inl ⟨by omega, by omega⟩, by omega⟩
  have hn : n < cfg0.N := by omega
  refine ⟨⟨n, hn⟩, by rw [flush6]; exact decide_eq_true hf, ?_⟩
  obtain ⟨e0, e1⟩ := idx6 ⟨n, hn⟩
  have e0 : win0_6.index ⟨n, hn⟩ (0 : Fin 2) = (i 0).val / 512 := e0.trans he
  rw [mem_blk6]
  intro a
  match a with
  | ⟨0, _⟩ => show win0_6.index _ (0 : Fin 2) * 512 ≤ (i 0).val ∧ (i 0).val < win0_6.index _ (0 : Fin 2) * 512 + 512; rw [e0]; omega
  | ⟨1, _⟩ => show win0_6.index _ (1 : Fin 2) * 2048 ≤ (i 1).val ∧ (i 1).val < win0_6.index _ (1 : Fin 2) * 2048 + 2048; rw [e1]; omega

/-- Every row of the second result is written back. -/
theorem covered7 (i : S8192x2048.Idx) : ∃ t : Fin cfg0.N, (cfg0.win 7).flush t = true ∧ i ∈ ((cfg0.win 7).blk t).view.set := by
  have hi0 : (i 0).val < 8192 := (i 0).isLt
  have hi1 : (i 1).val < 2048 := (i 1).isLt
  have hN : cfg0.N = 880 := N_0
  have hn : 11 * ((i 0).val / 512 + 64) + 10 < cfg0.N := by omega
  refine ⟨⟨11 * ((i 0).val / 512 + 64) + 10, hn⟩, by
    rw [flush7]; exact decide_eq_true ⟨by show (11 * ((i 0).val / 512 + 64) + 10) % 11 = 10; omega, by show 704 ≤ 11 * ((i 0).val / 512 + 64) + 10; omega⟩, ?_⟩
  obtain ⟨e0, e1⟩ := idx7 ⟨11 * ((i 0).val / 512 + 64) + 10, hn⟩
  have e0 : win0_7.index ⟨11 * ((i 0).val / 512 + 64) + 10, hn⟩ (0 : Fin 2) = (i 0).val / 512 :=
    e0.trans (by show (11 * ((i 0).val / 512 + 64) + 10) / 11 - 64 = (i 0).val / 512; omega)
  rw [mem_blk7]
  intro a
  match a with
  | ⟨0, _⟩ => show win0_7.index _ (0 : Fin 2) * 512 ≤ (i 0).val ∧ (i 0).val < win0_7.index _ (0 : Fin 2) * 512 + 512; rw [e0]; omega
  | ⟨1, _⟩ => show win0_7.index _ (1 : Fin 2) * 2048 ≤ (i 1).val ∧ (i 1).val < win0_7.index _ (1 : Fin 2) * 2048 + 2048; rw [e1]; omega

/-- The first result array after the run is `G6`; -/
theorem final6 (c : Dev nD) : (dats m 0 c).arrAt 6 cfg0.N = G6 m c :=
  (dats m 0 c).arrAt_eq_of_cover 6 _ (fun t hf => flushed6_eq m c t hf) (fun i => covered6 i)

/-- the second is `G7`. -/
theorem final7 (c : Dev nD) : (dats m 0 c).arrAt 7 cfg0.N = G7 m c :=
  (dats m 0 c).arrAt_eq_of_cover 7 _ (fun t hf => flushed7_eq m c t hf) (fun i => covered7 i)

/-- The run, read: the two result arrays and the arguments. -/
theorem run (ρ : Dev nD → PrngReg) : θ_run defs (onTc (τ := τ) (main (F := Ideal))) ⟨m, fun _ => 0, ρ⟩ fun r => ∀ c : Dev nD,
      r.2.mem ((c.tc : Thread nD τ).loc main_v9_0) = G6 m c
      ∧ r.2.mem ((c.tc : Thread nD τ).loc main_v9_1) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (final6 m c), ((h.1 c).1 7).trans (final7 m c), h.2.1 c⟩)
    (θ_run_and (run_main m ρ) (frame m ρ))

end Cert.Kernel3Ideal.Hand

end
-- ==== Proof.LastRef.lean ====
module

public import proofs.«01_k».proof.Proof.LastFold
public import proofs.«01_k».proof.Proof.Gen.Reference3Ideal.Run
public import Idealize.ShloMosaic.Lib.Pointwise
public import Idealize.ShloMosaic.Lib.Pipeline.ValueKit.Acc
public import Idealize.ShloMosaic.Lib.Pipeline.ReadBack

@[expose] public section

set_option maxRecDepth 16384

noncomputable section

namespace Cert.Reference3Ideal.Hand

open Cert.Reference3Ideal Cert.Reference3Ideal.Gen Cert.Kernel3Ideal.Hand Idealize.ShloMosaic Idealize.ShloMosaic.TcCoe Idealize.SL.Sem
open Idealize.ShloMosaic.Pipeline (Dat)
open Cert.Kernel2Ideal.Hand (rms hid)

/-- The reference's normalisation of the rows of an array, before the gain is multiplied on and with the gain's row. -/
def rmsV (X : FVec Ideal S40960x2048 .f32) (G : FVec Ideal S4x2048 .f32) : FVec Ideal S40960x2048 .f32 :=
  mulf (F := Ideal)
    (mulf X
      (broadcastInDim S40960x2048 ![0, 1] bcast_S40960x1_S40960x2048_0_1
        (Host.rsqrt
          (addf
            (Host.divf
              (broadcastInDim S40960x1 ![0] bcast_S40960_S40960x1_0
                (Host.reduceAdd (mulf X X) (constant S_ FTy.f32 0#32) reducesTo_S40960x2048_S40960_d1 h_S_))
              (broadcastInDim S40960x1 ![] bcast_S_S40960x1 (constant S_ FTy.f32 1157627904#32)))
            (broadcastInDim S40960x1 ![] bcast_S_S40960x1 (constant S_ FTy.f32 897988541#32))))))
    (broadcastInDim S40960x2048 ![0, 1] bcast_S1x2048_S40960x2048_0_1
      (broadcastInDim S1x2048 ![1] bcast_S2048_S1x2048_1
        (shapeCast S2048 (extractStridedSlice S1x2048 ![3, 0] G slices_S4x2048_S1x2048_3_0) shapeCasts_S1x2048_S2048)))

/-- An entry of the reference's normalised array. -/
theorem rmsV_apply (X : FVec Ideal S40960x2048 .f32) (G : FVec Ideal S4x2048 .f32) (R : Fin 40960) (k : Fin 2048) :
    rmsV X G (ix2 R k) = rms (fun j => X (ix2 R j)) k (G (ix2 3 k)) := by
  unfold rmsV rms
  pointwise

/-- The reference's product with the last layer's slice of a stack of weights that widen the rows. -/
def upV (X : FVec Ideal S40960x2048 .f32) (W : FVec Ideal S4x2048x5632 .f32) : FVec Ideal S40960x5632 .f32 :=
  Host.dotGeneral (F := Ideal) dot_S40960x2048_S2048x5632_S40960x5632_1_0_0_1_n_n none X
    (shapeCast S2048x5632 (extractStridedSlice S1x2048x5632 ![3, 0, 0] W slices_S4x2048x5632_S1x2048x5632_3_0_0)
      shapeCasts_S1x2048x5632_S2048x5632)

/-- An entry of that product is a row times a column. -/
theorem upV_apply (X : FVec Ideal S40960x2048 .f32) (W : FVec Ideal S4x2048x5632 .f32) (R : Fin 40960) (h : Fin 5632) :
    upV X W (ix2 R h) = ∑ j : Fin 2048, X (ix2 R j) * W (ix3 3 j h) := by
  unfold upV
  pointwise

/-- The reference's product with the last layer's slice of the weights that bring the rows back to their width. -/
def downV (H : FVec Ideal S40960x5632 .f32) (W : FVec Ideal S4x5632x2048 .f32) : FVec Ideal S40960x2048 .f32 :=
  Host.dotGeneral (F := Ideal) dot_S40960x5632_S5632x2048_S40960x2048_1_0_0_1_n_n none H
    (shapeCast S5632x2048 (extractStridedSlice S1x5632x2048 ![3, 0, 0] W slices_S4x5632x2048_S1x5632x2048_3_0_0)
      shapeCasts_S1x5632x2048_S5632x2048)

/-- An entry of that product is a row times a column. -/
theorem downV_apply (H : FVec Ideal S40960x5632 .f32) (W : FVec Ideal S4x5632x2048 .f32) (R : Fin 40960) (k : Fin 2048) :
    downV H W (ix2 R k) = ∑ h : Fin 5632, H (ix2 R h) * W (ix3 3 h k) := by
  unfold downV
  pointwise

/-- The reference's gated hidden array. -/
def hidV (A U : FVec Ideal S40960x5632 .f32) : FVec Ideal S40960x5632 .f32 :=
  mulf (F := Ideal)
    (mulf A
      (Host.divf (broadcastInDim S40960x5632 ![] bcast_S_S40960x5632 (constant S_ .f32 0x3F800000#32))
        (addf (broadcastInDim S40960x5632 ![] bcast_S_S40960x5632 (constant S_ .f32 0x3F800000#32))
          (Host.exp (Host.negf A)))))
    U

/-- An entry of the gated hidden array. -/
theorem hidV_apply (A U : FVec Ideal S40960x5632 .f32) (R : Fin 40960) (h : Fin 5632) :
    hidV A U (ix2 R h) = hid (A (ix2 R h)) (U (ix2 R h)) := by
  unfold hidV hid
  pointwise
  rw [zero_sub]

/-- The reference's result before it is cut in two, as a composition of the arrays above. -/
def outV (X : FVec Ideal S40960x2048 .f32) (G1 G2 : FVec Ideal S4x2048 .f32) (Wg Wu : FVec Ideal S4x2048x5632 .f32)
    (Wd : FVec Ideal S4x5632x2048 .f32) : FVec Ideal S40960x2048 .f32 :=
  addf (F := Ideal) X (rmsV (downV (hidV (upV (rmsV X G1) Wg) (upV (rmsV X G1) Wu)) Wd) G2)

/-- An entry of that result. -/
theorem outV_apply (X : FVec Ideal S40960x2048 .f32) (G1 G2 : FVec Ideal S4x2048 .f32) (Wg Wu : FVec Ideal S4x2048x5632 .f32)
    (Wd : FVec Ideal S4x5632x2048 .f32) (R : Fin 40960) (k : Fin 2048) :
    outV X G1 G2 Wg Wu Wd (ix2 R k) =
      X (ix2 R k) + rms (fun j => ∑ h : Fin 5632,
        hid (∑ i, rms (fun j => X (ix2 R j)) i (G1 (ix2 3 i)) * Wg (ix3 3 i h))
            (∑ i, rms (fun j => X (ix2 R j)) i (G1 (ix2 3 i)) * Wu (ix3 3 i h)) * Wd (ix3 3 h j)) k (G2 (ix2 3 k)) := by
  unfold outV
  refine congrArg₂ (fun a b : EReal => a + b) rfl ?_
  rw [rmsV_apply]
  simp only [downV_apply, hidV_apply, upV_apply, rmsV_apply]

/-- The reference's first result is the rows before 32768. -/
theorem res42_eq (m : (ℓ : Loc nD τ sig) → Buf (Elt Ideal) ℓ) (c : Dev nD) :
    Value.res_main_v42 m c = extractStridedSlice S32768x2048 ![0, 0]
      (outV (m (c.tc.loc main_arg0)) (m (c.tc.loc main_arg1)) (m (c.tc.loc main_arg5)) (m (c.tc.loc main_arg2))
        (m (c.tc.loc main_arg3)) (m (c.tc.loc main_arg4))) slices_S40960x2048_S32768x2048_0_0 := rfl

/-- The reference's second result is the rows from 32768 on. -/
theorem res43_eq (m : (ℓ : Loc nD τ sig) → Buf (Elt Ideal) ℓ) (c : Dev nD) :
    Value.res_main_v43 m c = extractStridedSlice S8192x2048 ![32768, 0]
      (outV (m (c.tc.loc main_arg0)) (m (c.tc.loc main_arg1)) (m (c.tc.loc main_arg5)) (m (c.tc.loc main_arg2))
        (m (c.tc.loc main_arg3)) (m (c.tc.loc main_arg4))) slices_S40960x2048_S8192x2048_32768_0 := rfl

/-- An entry of the rows before 32768. -/
theorem low_apply (Y : FVec Ideal S40960x2048 .f32) (r : Fin 32768) (k : Fin 2048) :
    extractStridedSlice S32768x2048 ![0, 0] Y slices_S40960x2048_S32768x2048_0_0 (ix2 r k) =
      Y (ix2 (n0 := 40960) (n1 := 2048) ⟨r.val, by have := r.isLt; omega⟩ k) := by
  pointwise

/-- An entry of the rows from 32768 on. -/
theorem high_apply (Y : FVec Ideal S40960x2048 .f32) (r : Fin 8192) (k : Fin 2048) :
    extractStridedSlice S8192x2048 ![32768, 0] Y slices_S40960x2048_S8192x2048_32768_0 (ix2 r k) =
      Y (ix2 (n0 := 40960) (n1 := 2048) ⟨32768 + r.val, by have := r.isLt; omega⟩ k) := by
  pointwise

variable (m : (ℓ : Loc Kernel3Ideal.nD Kernel3Ideal.τ Kernel3Ideal.sig) → Buf (Elt Ideal) ℓ) (m' : (ℓ : Loc nD τ sig) → Buf (Elt Ideal) ℓ) (c : Dev nD)
variable (h0 : m' (c.tc.loc main_arg0) = m ((c.tc : Thread Kernel3Ideal.nD Kernel3Ideal.τ).loc Kernel3Ideal.main_arg0))
  (h1 : m' (c.tc.loc main_arg1) = m ((c.tc : Thread Kernel3Ideal.nD Kernel3Ideal.τ).loc Kernel3Ideal.main_arg1))
  (h2 : m' (c.tc.loc main_arg2) = m ((c.tc : Thread Kernel3Ideal.nD Kernel3Ideal.τ).loc Kernel3Ideal.main_arg2))
  (h3 : m' (c.tc.loc main_arg3) = m ((c.tc : Thread Kernel3Ideal.nD Kernel3Ideal.τ).loc Kernel3Ideal.main_arg3))
  (h4 : m' (c.tc.loc main_arg4) = m ((c.tc : Thread Kernel3Ideal.nD Kernel3Ideal.τ).loc Kernel3Ideal.main_arg4))
  (h5 : m' (c.tc.loc main_arg5) = m ((c.tc : Thread Kernel3Ideal.nD Kernel3Ideal.τ).loc Kernel3Ideal.main_arg5))
include h0 h1 h2 h3 h4 h5

/-- The reference's uncut result is the kernel's, row by row, from equal arguments. -/
theorem outV_agree (R : Fin 40960) (k : Fin 2048) :
    outV (m' (c.tc.loc main_arg0)) (m' (c.tc.loc main_arg1)) (m' (c.tc.loc main_arg5)) (m' (c.tc.loc main_arg2))
      (m' (c.tc.loc main_arg3)) (m' (c.tc.loc main_arg4)) (ix2 R k) = ffnOut m c R k := by
  rw [h0, h1, h2, h3, h4, h5]
  exact outV_apply (argX m c) (argGpre m c) (argGpost m c) (argWg m c) (argWu m c) (argWd m c) R k

/-- The kernel's first output array is the reference's first result. -/
theorem agree6 : (Value.res_main_v42 m' c : FVec Ideal S32768x2048 .f32) = Cert.Kernel3Ideal.Hand.G6 m c := by
  funext y
  obtain ⟨r, k, rfl⟩ : ∃ (r : Fin 32768) (k : Fin 2048), y = ix2 r k := ⟨y 0, y 1, eq_ix2 (n0 := 32768) (n1 := 2048) y⟩
  rw [res42_eq, low_apply]
  exact outV_agree m m' c h0 h1 h2 h3 h4 h5 _ k

/-- The kernel's second output array is the reference's second result. -/
theorem agree7 : (Value.res_main_v43 m' c : FVec Ideal S8192x2048 .f32) = Cert.Kernel3Ideal.Hand.G7 m c := by
  funext y
  obtain ⟨r, k, rfl⟩ : ∃ (r : Fin 8192) (k : Fin 2048), y = ix2 r k := ⟨y 0, y 1, eq_ix2 (n0 := 8192) (n1 := 2048) y⟩
  rw [res43_eq, high_apply]
  exact outV_agree m m' c h0 h1 h2 h3 h4 h5 _ k

end Cert.Reference3Ideal.Hand
-- ==== Proof.RotBody.lean ====
module

public import proofs.«01_k».proof.Proof.FfnBody
public import proofs.«01_k».proof.Proof.Gen.Kernel5Ideal.Value
public import Idealize.ShloMosaic.Lib.Pointwise
public import Idealize.ShloMosaic.Lib.Pipeline.ValueKit.Acc
public import Idealize.ShloMosaic.Lib.Pipeline.ReadBack

@[expose] public section

set_option maxRecDepth 16384

noncomputable section

/- What one grid point of the input projection stores. -/
namespace Cert.Kernel5Ideal.Hand

open Cert.Kernel5Ideal Cert.Kernel5Ideal.Gen Idealize.ShloMosaic Idealize.ShloMosaic.TcCoe Idealize.SL.Sem
open Idealize.ShloMosaic.Pipeline (Dat)
open Cert.Kernel2Ideal.Hand (rms)

variable {F : FTy → Type} [FloatOps F]

/-- The 128 columns from `l` on of the normalised block times 512 columns of the weights. -/
def tileAt (l : ℕ) (h : S1024x512.Slices ![0, l] S1024x128) (xn : Vec F S1024x2048 .bf16) (w : Vec F S1x2048x512 .bf16) : FVec F S1024x128 .f32 :=
  extractStridedSlice S1024x128 ![0, l] (k0_pay95 xn w) h

/-- A tile stored as it is. -/
def plain (y : FVec F S1024x128 .f32) : FVec F S1x1x1024x128 .bf16 :=
  shapeCast S1x1x1024x128 (truncf .bf16 y bitsLt_bf16_f32) shapeCasts_S1024x128_S1x1x1024x128

/-- The tables a rotated tile is multiplied with, loaded whole. -/
abbrev table (a : Memref sig .tc .vmem S1024x128 .f32) (ha : a.IsWhole) (x : Vec F S1024x128 .f32) : Vec F S1024x128 .f32 :=
  View.readAt (Elt F) a.view (Rect.unit ![0, 0] S1024x128.size inb_S1024x128_S1024x128_0_0).toLoadRect (ha.unread x)

theorem piecesX (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x3072 .bf16) (harg4 : arg4.IsWhole) (arg5 : Memref sig .tc .vmem S256x256 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x3072 .bf16) (harg9 : arg9.IsWhole) (arg10 : Memref sig .tc .vmem S1024x2048 .bf16) (harg10 : arg10.IsWhole)
    (x0 : Vec F S1024x2048 .f32) (x1 : Vec F S1x2048 .f32) (x2 : Vec F S1x2048x3072 .bf16) (x3 : Vec F S256x256 .bf16) (x4 : Vec F S1024x128 .f32) (x5 : Vec F S1024x128 .f32) (x6 : Vec F S1024x128 .f32) :
    ∀ p ∈ (kernelRun0_A c i arg2 harg2 arg3 harg3 arg4 harg4 arg5 harg5 arg6 harg6 arg7 harg7 arg8 harg8 arg9 harg9 arg10 harg10 x0 x1 x2 x3 x4 x5 x6).2.1, ∃ (o : ℕ) (inb : ∀ a, (![o, 0] : Fin 2 → ℕ) a + (![16, 2048] : Fin 2 → ℕ) a ≤ S1024x2048.size a),
      p = ⟨Rect.unit (s := S1024x2048) ![o, 0] ![16, 2048] inb,
        k0_pay5 (View.readAt (Elt F) arg3.view (Rect.unit ![0, 0] S1x2048.size inb_S1x2048_S1x2048_0_0).toLoadRect (harg3.unread x1))
          (View.readAt (Elt F) arg2.view (Rect.unit (s := S1024x2048) ![o, 0] ![16, 2048] inb).toLoadRect (harg2.unread x0))⟩ := by
  unfold kernelRun0_A
  dsimp only
  sl_unfold_words
  iterate 64 refine List.forall_mem_cons.2 ⟨⟨_, _, rfl⟩, ?_⟩
  exact fun p hp => absurd hp List.not_mem_nil

theorem coverX (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x3072 .bf16) (harg4 : arg4.IsWhole) (arg5 : Memref sig .tc .vmem S256x256 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x3072 .bf16) (harg9 : arg9.IsWhole) (arg10 : Memref sig .tc .vmem S1024x2048 .bf16) (harg10 : arg10.IsWhole)
    (x0 : Vec F S1024x2048 .f32) (x1 : Vec F S1x2048 .f32) (x2 : Vec F S1x2048x3072 .bf16) (x3 : Vec F S256x256 .bf16) (x4 : Vec F S1024x128 .f32) (x5 : Vec F S1024x128 .f32) (x6 : Vec F S1024x128 .f32) (y : S1024x2048.Idx) :
    ∃ pc ∈ (kernelRun0_A c i arg2 harg2 arg3 harg3 arg4 harg4 arg5 harg5 arg6 harg6 arg7 harg7 arg8 harg8 arg9 harg9 arg10 harg10 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 x5 x6).2.1 ![16, 2048] (by sl_kernel_rfl) y

theorem piecesO (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x3072 .bf16) (harg4 : arg4.IsWhole) (arg5 : Memref sig .tc .vmem S256x256 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x3072 .bf16) (harg9 : arg9.IsWhole) (arg10 : Memref sig .tc .vmem S1024x2048 .bf16) (harg10 : arg10.IsWhole)
    (x0 : Vec F S1024x2048 .f32) (x1 : Vec F S1x2048 .f32) (x2 : Vec F S1x2048x3072 .bf16) (x3 : Vec F S256x256 .bf16) (x4 : Vec F S1024x128 .f32) (x5 : Vec F S1024x128 .f32) (x6 : Vec F S1024x128 .f32) :
    ∀ p ∈ (kernelRun0_A c i arg2 harg2 arg3 harg3 arg4 harg4 arg5 harg5 arg6 harg6 arg7 harg7 arg8 harg8 arg9 harg9 arg10 harg10 x0 x1 x2 x3 x4 x5 x6).1, ∃ (o c0 l : ℕ) (h : S1024x512.Slices ![0, l] S1024x128)
      (inbw : ∀ a, (![0, 0, c0] : Fin 3 → ℕ) a + S1x2048x512.size a ≤ S1x2048x3072.size a)
      (inb : ∀ a, (![0, 0, 0, o] : Fin 4 → ℕ) a + S1x1x1024x128.size a ≤ S1x1x1024x3072.size a) (xn : Vec F S1024x2048 .bf16),
      ((p = ⟨Rect.unit (s := S1x1x1024x3072) ![0, 0, 0, o] S1x1x1024x128.size inb,
          plain (tileAt l h xn (View.readAt (Elt F) arg4.view (Rect.unit (s := S1x2048x3072) ![0, 0, c0] S1x2048x512.size inbw).toLoadRect (harg4.unread x2)))⟩ ∧ 2048 ≤ o) ∨
       (p = ⟨Rect.unit (s := S1x1x1024x3072) ![0, 0, 0, o] S1x1x1024x128.size inb,
          k0_pay97 (tileAt l h xn (View.readAt (Elt F) arg4.view (Rect.unit (s := S1x2048x3072) ![0, 0, c0] S1x2048x512.size inbw).toLoadRect (harg4.unread x2)))
            (table arg6 harg6 x4) (table arg7 harg7 x5) (table arg8 harg8 x6)⟩ ∧ o + 128 ≤ 2048)) ∧ o = c0 + l ∧ 128 ∣ o ∧
      xn = arg10.view.readCov (kernelRun0_A c i arg2 harg2 arg3 harg3 arg4 harg4 arg5 harg5 arg6 harg6 arg7 harg7 arg8 harg8 arg9 harg9 arg10 harg10 x0 x1 x2 x3 x4 x5 x6).2.1 (Rect.unit (s := S1024x2048) ![0, 0] S1024x2048.size inb_S1024x2048_S1024x2048_0_0).toLoadRect := by
  unfold kernelRun0_A
  dsimp only
  refine List.forall_mem_cons.2 ⟨⟨2944, 2560, 384, slices_S1024x512_o0_384_S1024x128, inb_S1x2048x3072_S1x2048x512_0_0_2560, inb_S1x1x1024x3072_S1x1x1024x128_0_0_0_2944, _, Or.inl ⟨rfl, by decide⟩, rfl, by decide, rfl⟩, ?_⟩
  refine List.forall_mem_cons.2 ⟨⟨2816, 2560, 256, slices_S1024x512_o0_256_S1024x128, inb_S1x2048x3072_S1x2048x512_0_0_2560, inb_S1x1x1024x3072_S1x1x1024x128_0_0_0_2816, _, Or.inl ⟨rfl, by decide⟩, rfl, by decide, rfl⟩, ?_⟩
  refine List.forall_mem_cons.2 ⟨⟨2688, 2560, 128, slices_S1024x512_o0_128_S1024x128, inb_S1x2048x3072_S1x2048x512_0_0_2560, inb_S1x1x1024x3072_S1x1x1024x128_0_0_0_2688, _, Or.inl ⟨rfl, by decide⟩, rfl, by decide, rfl⟩, ?_⟩
  refine List.forall_mem_cons.2 ⟨⟨2560, 2560, 0, slices_S1024x512_o0_0_S1024x128, inb_S1x2048x3072_S1x2048x512_0_0_2560, inb_S1x1x1024x3072_S1x1x1024x128_0_0_0_2560, _, Or.inl ⟨rfl, by decide⟩, rfl, by decide, rfl⟩, ?_⟩
  refine List.forall_mem_cons.2 ⟨⟨2432, 2048, 384, slices_S1024x512_o0_384_S1024x128, inb_S1x2048x3072_S1x2048x512_0_0_2048, inb_S1x1x1024x3072_S1x1x1024x128_0_0_0_2432, _, Or.inl ⟨rfl, by decide⟩, rfl, by decide, rfl⟩, ?_⟩
  refine List.forall_mem_cons.2 ⟨⟨2304, 2048, 256, slices_S1024x512_o0_256_S1024x128, inb_S1x2048x3072_S1x2048x512_0_0_2048, inb_S1x1x1024x3072_S1x1x1024x128_0_0_0_2304, _, Or.inl ⟨rfl, by decide⟩, rfl, by decide, rfl⟩, ?_⟩
  refine List.forall_mem_cons.2 ⟨⟨2176, 2048, 128, slices_S1024x512_o0_128_S1024x128, inb_S1x2048x3072_S1x2048x512_0_0_2048, inb_S1x1x1024x3072_S1x1x1024x128_0_0_0_2176, _, Or.inl ⟨rfl, by decide⟩, rfl, by decide, rfl⟩, ?_⟩
  refine List.forall_mem_cons.2 ⟨⟨2048, 2048, 0, slices_S1024x512_o0_0_S1024x128, inb_S1x2048x3072_S1x2048x512_0_0_2048, inb_S1x1x1024x3072_S1x1x1024x128_0_0_0_2048, _, Or.inl ⟨rfl, by decide⟩, rfl, by decide, rfl⟩, ?_⟩
  refine List.forall_mem_cons.2 ⟨⟨1920, 1536, 384, slices_S1024x512_o0_384_S1024x128, inb_S1x2048x3072_S1x2048x512_0_0_1536, inb_S1x1x1024x3072_S1x1x1024x128_0_0_0_1920, _, Or.inr ⟨rfl, by decide⟩, rfl, by decide, rfl⟩, ?_⟩
  refine List.forall_mem_cons.2 ⟨⟨1792, 1536, 256, slices_S1024x512_o0_256_S1024x128, inb_S1x2048x3072_S1x2048x512_0_0_1536, inb_S1x1x1024x3072_S1x1x1024x128_0_0_0_1792, _, Or.inr ⟨rfl, by decide⟩, rfl, by decide, rfl⟩, ?_⟩
  refine List.forall_mem_cons.2 ⟨⟨1664, 1536, 128, slices_S1024x512_o0_128_S1024x128, inb_S1x2048x3072_S1x2048x512_0_0_1536, inb_S1x1x1024x3072_S1x1x1024x128_0_0_0_1664, _, Or.inr ⟨rfl, by decide⟩, rfl, by decide, rfl⟩, ?_⟩
  refine List.forall_mem_cons.2 ⟨⟨1536, 1536, 0, slices_S1024x512_o0_0_S1024x128, inb_S1x2048x3072_S1x2048x512_0_0_1536, inb_S1x1x1024x3072_S1x1x1024x128_0_0_0_1536, _, Or.inr ⟨rfl, by decide⟩, rfl, by decide, rfl⟩, ?_⟩
  refine List.forall_mem_cons.2 ⟨⟨1408, 1024, 384, slices_S1024x512_o0_384_S1024x128, inb_S1x2048x3072_S1x2048x512_0_0_1024, inb_S1x1x1024x3072_S1x1x1024x128_0_0_0_1408, _, Or.inr ⟨rfl, by decide⟩, rfl, by decide, rfl⟩, ?_⟩
  refine List.forall_mem_cons.2 ⟨⟨1280, 1024, 256, slices_S1024x512_o0_256_S1024x128, inb_S1x2048x3072_S1x2048x512_0_0_1024, inb_S1x1x1024x3072_S1x1x1024x128_0_0_0_1280, _, Or.inr ⟨rfl, by decide⟩, rfl, by decide, rfl⟩, ?_⟩
  refine List.forall_mem_cons.2 ⟨⟨1152, 1024, 128, slices_S1024x512_o0_128_S1024x128, inb_S1x2048x3072_S1x2048x512_0_0_1024, inb_S1x1x1024x3072_S1x1x1024x128_0_0_0_1152, _, Or.inr ⟨rfl, by decide⟩, rfl, by decide, rfl⟩, ?_⟩
  refine List.forall_mem_cons.2 ⟨⟨1024, 1024, 0, slices_S1024x512_o0_0_S1024x128, inb_S1x2048x3072_S1x2048x512_0_0_1024, inb_S1x1x1024x3072_S1x1x1024x128_0_0_0_1024, _, Or.inr ⟨rfl, by decide⟩, rfl, by decide, rfl⟩, ?_⟩
  refine List.forall_mem_cons.2 ⟨⟨896, 512, 384, slices_S1024x512_o0_384_S1024x128, inb_S1x2048x3072_S1x2048x512_0_0_512, inb_S1x1x1024x3072_S1x1x1024x128_0_0_0_896, _, Or.inr ⟨rfl, by decide⟩, rfl, by decide, rfl⟩, ?_⟩
  refine List.forall_mem_cons.2 ⟨⟨768, 512, 256, slices_S1024x512_o0_256_S1024x128, inb_S1x2048x3072_S1x2048x512_0_0_512, inb_S1x1x1024x3072_S1x1x1024x128_0_0_0_768, _, Or.inr ⟨rfl, by decide⟩, rfl, by decide, rfl⟩, ?_⟩
  refine List.forall_mem_cons.2 ⟨⟨640, 512, 128, slices_S1024x512_o0_128_S1024x128, inb_S1x2048x3072_S1x2048x512_0_0_512, inb_S1x1x1024x3072_S1x1x1024x128_0_0_0_640, _, Or.inr ⟨rfl, by decide⟩, rfl, by decide, rfl⟩, ?_⟩
  refine List.forall_mem_cons.2 ⟨⟨512, 512, 0, slices_S1024x512_o0_0_S1024x128, inb_S1x2048x3072_S1x2048x512_0_0_512, inb_S1x1x1024x3072_S1x1x1024x128_0_0_0_512, _, Or.inr ⟨rfl, by decide⟩, rfl, by decide, rfl⟩, ?_⟩
  refine List.forall_mem_cons.2 ⟨⟨384, 0, 384, slices_S1024x512_o0_384_S1024x128, inb_S1x2048x3072_S1x2048x512_0_0_0, inb_S1x1x1024x3072_S1x1x1024x128_0_0_0_384, _, Or.inr ⟨rfl, by decide⟩, rfl, by decide, rfl⟩, ?_⟩
  refine List.forall_mem_cons.2 ⟨⟨256, 0, 256, slices_S1024x512_o0_256_S1024x128, inb_S1x2048x3072_S1x2048x512_0_0_0, inb_S1x1x1024x3072_S1x1x1024x128_0_0_0_256, _, Or.inr ⟨rfl, by decide⟩, rfl, by decide, rfl⟩, ?_⟩
  refine List.forall_mem_cons.2 ⟨⟨128, 0, 128, slices_S1024x512_o0_128_S1024x128, inb_S1x2048x3072_S1x2048x512_0_0_0, inb_S1x1x1024x3072_S1x1x1024x128_0_0_0_128, _, Or.inr ⟨rfl, by decide⟩, rfl, by decide, rfl⟩, ?_⟩
  refine List.forall_mem_cons.2 ⟨⟨0, 0, 0, slices_S1024x512_o0_0_S1024x128, inb_S1x2048x3072_S1x2048x512_0_0_0, inb_S1x1x1024x3072_S1x1x1024x128_0_0_0_0, _, Or.inr ⟨rfl, by decide⟩, rfl, by decide, rfl⟩, ?_⟩
  exact fun p hp => absurd hp List.not_mem_nil

theorem pay5_apply (g : Vec Ideal S1x2048 .f32) (v : Vec Ideal S16x2048 .f32) (r : Fin 16) (k : Fin 2048) :
    k0_pay5 g v (ix2 r k) = rms (fun j => v (ix2 r j)) k (g (ix2 0 k)) := by
  pointwise [k0_pay5, k0_pay4]
  rfl

theorem tileAt_apply (l : ℕ) (h : S1024x512.Slices ![0, l] S1024x128) (xn : Vec Ideal S1024x2048 .bf16) (w : Vec Ideal S1x2048x512 .bf16)
    (r : Fin 1024) (x : Fin 128) (hl : l + x.val < 512) :
    tileAt l h xn w (ix2 r x) = ∑ j : Fin 2048, xn (ix2 r j) * w (ix3 0 j ⟨l + x.val, hl⟩) := by
  have e : tileAt l h xn w (ix2 r x) = k0_pay95 xn w (ix2 r ⟨l + x.val, hl⟩) := by
    unfold tileAt
    generalize k0_pay95 xn w = y
    refine congrArg y ?_
    funext d
    apply Fin.ext
    match d with
    | ⟨0, _⟩ => show 0 + r.val = r.val; omega
    | ⟨1, _⟩ => rfl
  rw [e]
  pointwise [k0_pay95]

theorem plain_apply (y : FVec Ideal S1024x128 .f32) (r : Fin 1024) (x : Fin 128) : plain y (ix4 0 0 r x) = y (ix2 r x) := by
  pointwise [plain]

theorem rotated_apply (y : FVec Ideal S1024x128 .f32) (t0 t1 t2 : Vec Ideal S1024x128 .f32) (r : Fin 1024) (x : Fin 128) :
    k0_pay97 y t0 t1 t2 (ix4 0 0 r x) = y (ix2 r x) * t0 (ix2 r x) + y (ix2 r ⟨(x.val + 8) % 128, Nat.mod_lt _ (by omega)⟩) * t1 (ix2 r x)
      + y (ix2 r ⟨(x.val + 120) % 128, Nat.mod_lt _ (by omega)⟩) * t2 (ix2 r x) := by
  have e1 : (x.val + 128 - 120) % 128 = (x.val + 8) % 128 := by omega
  have e2 : (x.val + 128 - 8) % 128 = (x.val + 120) % 128 := by omega
  pointwise [k0_pay97]
  simp only [e1, e2]

theorem hz : (![0, 0] : Fin 2 → Nat) = fun _ => 0 := funext fun a => by fin_cases a <;> rfl

theorem ldu (X : Vec Ideal S1024x2048 .f32) (o n : ℕ) (inb : ∀ a, (![o, 0] : Fin 2 → ℕ) a + (![n, 2048] : Fin 2 → ℕ) a ≤ S1024x2048.size a)
    (a : Fin n) (b : Fin 2048) :
    View.ld (Val := Elt Ideal) X (Rect.unit (s := S1024x2048) ![o, 0] ![n, 2048] inb) (ix2 a b)
      = X (ix2 ⟨o + a.val, by have := inb 0; have := a.isLt; simp at *; omega⟩ b) := by
  refine congrArg X ?_
  funext d
  apply Fin.ext
  match d with
  | ⟨0, _⟩ => show o + 1 * a.val = o + a.val; omega
  | ⟨1, _⟩ => show 0 + 1 * b.val = b.val; omega

theorem embu (o n : ℕ) (inb : ∀ a, (![o, 0] : Fin 2 → ℕ) a + (![n, 2048] : Fin 2 → ℕ) a ≤ S1024x2048.size a)
    (a : Fin n) (b : Fin 2048) :
    (Rect.unit (s := S1024x2048) ![o, 0] ![n, 2048] inb).emb (ix2 a b)
      = ix2 ⟨o + a.val, by have := inb 0; have := a.isLt; simp at *; omega⟩ b := by
  funext d
  apply Fin.ext
  match d with
  | ⟨0, _⟩ => show o + 1 * a.val = o + a.val; omega
  | ⟨1, _⟩ => show 0 + 1 * b.val = b.val; omega

theorem ldw (w : Vec Ideal S1x2048x3072 .bf16) (c0 : ℕ) (inb : ∀ a, (![0, 0, c0] : Fin 3 → ℕ) a + S1x2048x512.size a ≤ S1x2048x3072.size a)
    (j : Fin 2048) (k : Fin 512) (h : c0 + k.val < 3072) :
    View.ld (Val := Elt Ideal) w (Rect.unit (s := S1x2048x3072) ![0, 0, c0] S1x2048x512.size inb) (ix3 0 j k) = w (ix3 0 j ⟨c0 + k.val, h⟩) := by
  refine congrArg w ?_
  funext d
  apply Fin.ext
  match d with
  | ⟨0, _⟩ => rfl
  | ⟨1, _⟩ => show 0 + 1 * j.val = j.val; omega
  | ⟨2, _⟩ => show c0 + 1 * k.val = c0 + k.val; omega

theorem embo (o : ℕ) (inb : ∀ a, (![0, 0, 0, o] : Fin 4 → ℕ) a + S1x1x1024x128.size a ≤ S1x1x1024x3072.size a)
    (r : Fin 1024) (x : Fin 128) (h : o + x.val < 3072) :
    (Rect.unit (s := S1x1x1024x3072) ![0, 0, 0, o] S1x1x1024x128.size inb).emb (ix4 0 0 r x) = ix4 0 0 r ⟨o + x.val, h⟩ := by
  funext d
  apply Fin.ext
  match d with
  | ⟨0, _⟩ => rfl
  | ⟨1, _⟩ => rfl
  | ⟨2, _⟩ => show 0 + 1 * r.val = r.val; omega
  | ⟨3, _⟩ => show o + 1 * x.val = o + x.val; omega

/-- The normalised block: row by row, the root-mean-square normalisation of the rows of `X` scaled by `g`. -/
def xnOf (X : Vec Ideal S1024x2048 .f32) (g : Vec Ideal S1x2048 .f32) (y : S1024x2048.Idx) : EReal :=
  rms (fun j => X (ix2 (y 0) j)) (y 1) (g (ix2 0 (y 1)))

/-- The projected block: row `r` of the normalised block against column `k` of the weights. -/
def proj (X : Vec Ideal S1024x2048 .f32) (g : Vec Ideal S1x2048 .f32) (w : Vec Ideal S1x2048x3072 .bf16) (r : Fin 1024) (k : Fin 3072) : EReal :=
  ∑ j : Fin 2048, xnOf X g (ix2 r j) * w (ix3 0 j k)

/-- The stored block: the projection, its queries and keys combined within each tile of 128 columns
with the columns eight further on and eight back, as the three tables say. -/
def stored (X : Vec Ideal S1024x2048 .f32) (g : Vec Ideal S1x2048 .f32) (w : Vec Ideal S1x2048x3072 .bf16)
    (t0 t1 t2 : Vec Ideal S1024x128 .f32) (r : Fin 1024) (k : Fin 3072) : EReal :=
  if k.val < 2048 then
    proj X g w r k * t0 (ix2 r ⟨k.val % 128, Nat.mod_lt _ (by omega)⟩)
      + proj X g w r ⟨k.val / 128 * 128 + (k.val % 128 + 8) % 128, by omega⟩ * t1 (ix2 r ⟨k.val % 128, Nat.mod_lt _ (by omega)⟩)
      + proj X g w r ⟨k.val / 128 * 128 + (k.val % 128 + 120) % 128, by omega⟩ * t2 (ix2 r ⟨k.val % 128, Nat.mod_lt _ (by omega)⟩)
  else proj X g w r k

theorem canonXn (L : List (View.Piece (Elt Ideal) S1024x2048 .bf16)) (X : Vec Ideal S1024x2048 .f32) (g : Vec Ideal S1x2048 .f32)
    (h : ∀ p ∈ L, ∃ (o : ℕ) (inb : ∀ a, (![o, 0] : Fin 2 → ℕ) a + (![16, 2048] : Fin 2 → ℕ) a ≤ S1024x2048.size a),
      p = ⟨Rect.unit (s := S1024x2048) ![o, 0] ![16, 2048] inb, k0_pay5 (F := Ideal) g (View.ld (Val := Elt Ideal) X (Rect.unit (s := S1024x2048) ![o, 0] ![16, 2048] inb))⟩)
    (y : S1024x2048.Idx) (hc : ∃ p ∈ L, y ∈ p.1.set) : View.canon L y = xnOf X g y := by
  refine View.canon_apply_of_pieces (xnOf X g) L ?_ y hc
  intro p hp x
  obtain ⟨o, inb, rfl⟩ := h p hp
  obtain ⟨a, b, rfl⟩ : ∃ (a : Fin 16) (b : Fin 2048), x = ix2 a b := ⟨x 0, x 1, eq_ix2 x⟩
  refine (pay5_apply _ _ a b).trans ?_
  rw [embu]
  exact congrArg (fun v => rms v b (g (ix2 0 b))) (funext fun j => ldu X o 16 inb a j)

theorem tile_proj (X : Vec Ideal S1024x2048 .f32) (g : Vec Ideal S1x2048 .f32) (w : Vec Ideal S1x2048x3072 .bf16) (c0 l : ℕ)
    (h : S1024x512.Slices ![0, l] S1024x128) (inbw : ∀ a, (![0, 0, c0] : Fin 3 → ℕ) a + S1x2048x512.size a ≤ S1x2048x3072.size a)
    (r : Fin 1024) (x : Fin 128) (k : Fin 3072) (hk : k.val = c0 + l + x.val) (hl : l + 128 ≤ 512) :
    tileAt l h (xnOf X g) (View.ld (Val := Elt Ideal) w (Rect.unit (s := S1x2048x3072) ![0, 0, c0] S1x2048x512.size inbw)) (ix2 r x) = proj X g w r k := by
  have hx := x.isLt
  have hk' := k.isLt
  rw [tileAt_apply l h _ _ r x (by omega)]
  refine Finset.sum_congr rfl fun j _ => ?_
  rw [ldw w c0 inbw j ⟨l + x.val, by omega⟩ (show c0 + (l + x.val) < 3072 by omega)]
  have e : (⟨c0 + (l + x.val), by omega⟩ : Fin 3072) = k := Fin.ext (by show c0 + (l + x.val) = k.val; omega)
  rw [e]

theorem slice_le (l : ℕ) (h : S1024x512.Slices ![0, l] S1024x128) : l + 128 ≤ 512 := by
  have := h.2 1
  simpa using this

theorem scratch (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x3072 .bf16) (harg4 : arg4.IsWhole) (arg5 : Memref sig .tc .vmem S256x256 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x3072 .bf16) (harg9 : arg9.IsWhole) (arg10 : Memref sig .tc .vmem S1024x2048 .bf16) (harg10 : arg10.IsWhole)
    (x0 : Vec Ideal S1024x2048 .f32) (x1 : Vec Ideal S1x2048 .f32) (x2 : Vec Ideal S1x2048x3072 .bf16) (x3 : Vec Ideal S256x256 .bf16) (x4 : Vec Ideal S1024x128 .f32) (x5 : Vec Ideal S1024x128 .f32) (x6 : Vec Ideal S1024x128 .f32) (y : S1024x2048.Idx) :
    View.canon (kernelRun0_A c i arg2 harg2 arg3 harg3 arg4 harg4 arg5 harg5 arg6 harg6 arg7 harg7 arg8 harg8 arg9 harg9 arg10 harg10 x0 x1 x2 x3 x4 x5 x6).2.1 y = xnOf x0 x1 y := by
  refine canonXn _ x0 x1 (fun p hp => ?_) y (coverX c i arg2 harg2 arg3 harg3 arg4 harg4 arg5 harg5 arg6 harg6 arg7 harg7 arg8 harg8 arg9 harg9 arg10 harg10 x0 x1 x2 x3 x4 x5 x6 y)
  obtain ⟨o, inb, e⟩ := piecesX c i arg2 harg2 arg3 harg3 arg4 harg4 arg5 harg5 arg6 harg6 arg7 harg7 arg8 harg8 arg9 harg9 arg10 harg10 x0 x1 x2 x3 x4 x5 x6 p hp
  refine ⟨o, inb, e.trans ?_⟩
  rw [View.readAt_eq_ld, View.readAt_eq_ld, harg2.read_unread, harg3.read_unread, View.ld_unit_zero (S := S1x2048) hz]

theorem out_apply (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x3072 .bf16) (harg4 : arg4.IsWhole) (arg5 : Memref sig .tc .vmem S256x256 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x3072 .bf16) (harg9 : arg9.IsWhole) (arg10 : Memref sig .tc .vmem S1024x2048 .bf16) (harg10 : arg10.IsWhole)
    (x0 : Vec Ideal S1024x2048 .f32) (x1 : Vec Ideal S1x2048 .f32) (x2 : Vec Ideal S1x2048x3072 .bf16) (x3 : Vec Ideal S256x256 .bf16) (x4 : Vec Ideal S1024x128 .f32) (x5 : Vec Ideal S1024x128 .f32) (x6 : Vec Ideal S1024x128 .f32) (r : Fin 1024) (k : Fin 3072) :
    out0_A_7 c i arg2 harg2 arg3 harg3 arg4 harg4 arg5 harg5 arg6 harg6 arg7 harg7 arg8 harg8 arg9 harg9 arg10 harg10 x0 x1 x2 x3 x4 x5 x6 (ix4 0 0 r k) = stored x0 x1 x2 x4 x5 x6 r k := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 x6)]
  refine View.canon_apply_of_pieces (fun y : S1x1x1024x3072.Idx => stored x0 x1 x2 x4 x5 x6 (y 2) (y 3)) _ ?_ (ix4 0 0 r k) (cover0_A_7 c i arg2 harg2 arg3 harg3 arg4 harg4 arg5 harg5 arg6 harg6 arg7 harg7 arg8 harg8 arg9 harg9 arg10 harg10 x0 x1 x2 x3 x4 x5 x6 (ix4 0 0 r k))
  intro p hp q
  obtain ⟨o, c0, l, h, inbw, inb, xn, hp, ho, hd, hxn⟩ := piecesO c i arg2 harg2 arg3 harg3 arg4 harg4 arg5 harg5 arg6 harg6 arg7 harg7 arg8 harg8 arg9 harg9 arg10 harg10 x0 x1 x2 x3 x4 x5 x6 p hp
  have hX : xn = xnOf x0 x1 := by
    rw [hxn, View.readCov_eq_canon_ld _ _ _ (coverX c i arg2 harg2 arg3 harg3 arg4 harg4 arg5 harg5 arg6 harg6 arg7 harg7 arg8 harg8 arg9 harg9 arg10 harg10 x0 x1 x2 x3 x4 x5 x6), View.ld_unit_zero (S := S1024x2048) hz]
    exact funext (scratch c i arg2 harg2 arg3 harg3 arg4 harg4 arg5 harg5 arg6 harg6 arg7 harg7 arg8 harg8 arg9 harg9 arg10 harg10 x0 x1 x2 x3 x4 x5 x6)
  clear hxn
  subst hX
  have hl := slice_le l h
  have hi : o + 128 ≤ 3072 := by have := inb 3; simpa using this
  simp only [table, View.readAt_eq_ld, Memref.IsWhole.read_unread, View.ld_unit_zero (S := S1024x128) hz] at hp
  rcases hp with ⟨rfl, hge⟩ | ⟨rfl, hlt⟩
  all_goals
    obtain ⟨a, x, rfl⟩ : ∃ (a : Fin 1024) (x : Fin 128), q = ix4 0 0 a x := ⟨q 2, q 3, funext fun d => match d with
        | ⟨0, _⟩ => Subsingleton.elim (α := Fin 1) _ _
        | ⟨1, _⟩ => Subsingleton.elim (α := Fin 1) _ _
        | ⟨2, _⟩ => rfl
        | ⟨3, _⟩ => rfl⟩
    have hx := x.isLt
  · refine (plain_apply _ a x).trans ?_
    rw [embo o inb a x (by omega)]
    show _ = stored x0 x1 x2 x4 x5 x6 a ⟨o + x.val, _⟩
    unfold stored
    rw [if_neg (by show ¬ o + x.val < 2048; omega)]
    exact tile_proj x0 x1 x2 c0 l h inbw a x _ (by show o + x.val = _; omega) hl
  · refine (rotated_apply _ _ _ _ a x).trans ?_
    rw [embo o inb a x (by omega)]
    show _ = stored x0 x1 x2 x4 x5 x6 a ⟨o + x.val, _⟩
    unfold stored
    rw [if_pos (by show o + x.val < 2048; omega)]
    obtain ⟨d, hd⟩ := hd
    have hm : (o + x.val) % 128 = x.val := by omega
    have hq : (o + x.val) / 128 * 128 = o := by omega
    have ex : (⟨(o + x.val) % 128, Nat.mod_lt _ (by omega)⟩ : Fin 128) = x := Fin.ext hm
    dsimp only
    rw [ex, tile_proj x0 x1 x2 c0 l h inbw a x ⟨o + x.val, by omega⟩ (by show o + x.val = _; omega) hl,
      tile_proj x0 x1 x2 c0 l h inbw a ⟨(x.val + 8) % 128, Nat.mod_lt _ (by omega)⟩ ⟨(o + x.val) / 128 * 128 + ((o + x.val) % 128 + 8) % 128, by omega⟩
        (by show (o + x.val) / 128 * 128 + ((o + x.val) % 128 + 8) % 128 = c0 + l + (x.val + 8) % 128; omega) hl,
      tile_proj x0 x1 x2 c0 l h inbw a ⟨(x.val + 120) % 128, Nat.mod_lt _ (by omega)⟩ ⟨(o + x.val) / 128 * 128 + ((o + x.val) % 128 + 120) % 128, by omega⟩
        (by show (o + x.val) / 128 * 128 + ((o + x.val) % 128 + 120) % 128 = c0 + l + (x.val + 120) % 128; omega) hl]

end Cert.Kernel5Ideal.Hand
end
-- ==== Proof.RotFold.lean ====
module

public import proofs.«01_k».proof.Proof.RotBody
public import Idealize.ShloMosaic.Lib.StableHlo.RunRead

@[expose] public section

set_option maxRecDepth 16384

noncomputable section

/- The array that the input projection leaves. -/
namespace Cert.Kernel5Ideal.Hand

open Cert.Kernel5Ideal Cert.Kernel5Ideal.Gen Idealize.ShloMosaic Idealize.ShloMosaic.TcCoe Idealize.SL.Sem
open Idealize.ShloMosaic.Pipeline (Dat)
open Cert.Kernel2Ideal.Hand (rms)

variable (m : (ℓ : Loc nD τ sig) → Buf (Elt Ideal) ℓ)

/-- The arguments as launched, on device `c`. -/
abbrev argX (c : Dev nD) : Vec Ideal S40960x2048 .f32 := m ((c.tc : Thread nD τ).loc main_arg0)
abbrev argG (c : Dev nD) : Vec Ideal S4x2048 .f32 := m ((c.tc : Thread nD τ).loc main_arg1)
abbrev argW (c : Dev nD) : Vec Ideal S2x2048x9216 .f32 := m ((c.tc : Thread nD τ).loc main_arg2)

/-- The angles: each position times each of the eight frequencies. -/
def angV : FVec Ideal S4096x8 .f32 :=
  mulf (F := Ideal)
    (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.exp (mulf (mulf (broadcastInDim S8 ![] bcast_S_S8 (constant S_ .f32 0xC151F533#32)) (sitofp .f32 (iotaInDim S8 32 0)))
        (broadcastInDim S8 ![] bcast_S_S8 (constant S_ .f32 0x3E000000#32))))))

/-- The cosines and sines of the angles. -/
def cosV : FVec Ideal S4096x8 .f32 := Host.cos angV
def sinV : FVec Ideal S4096x8 .f32 := Host.sin angV

/-- For each lane, which of the eight frequencies it takes. -/
def ixV : IVec S128x1 32 :=
  broadcastInDim S128x1 ![0] bcast_S128_S128x1_0
    (select (constantI S128 1 0#1) (addi (fun i => lit2 (S128.rowMajor i)) (broadcastInDim S128 ![] bcast_S_S128 (constantI S_ 32 8#32)))
      (fun i => lit2 (S128.rowMajor i)))

/-- The lanes of the first half of a head's rotated part, and of the second half. -/
def loV : IVec S1x128 1 := broadcastInDim S1x128 ![1] bcast_S128_S1x128_1 (fun i => lit0 (S128.rowMajor i))
def hiV : IVec S1x128 1 := broadcastInDim S1x128 ![1] bcast_S128_S1x128_1 (fun i => lit1 (S128.rowMajor i))

/-- A table's eight columns spread over the 128 lanes. -/
def spread (x : FVec Ideal S4096x8 .f32) : FVec Ideal S4096x128 .f32 :=
  Host.gather gather_S4096x8_S128x1_S4096x128_0_1_n_n_1_1_40961 x ixV

/-- An array where a mask of the lanes holds, and a constant elsewhere. -/
def masked (b : IVec S1x128 1) (x : FVec Ideal S4096x128 .f32) (w : BitVec 32) : FVec Ideal S4096x128 .f32 :=
  select (broadcastInDim S4096x128 ![0, 1] bcast_S1x128_S4096x128_0_1 b) x
    (broadcastInDim S4096x128 ![] bcast_S_S4096x128 (constant (F := Ideal) S_ .f32 w))

theorem ixV_apply : ∀ l : Fin 128, ixV (ix2 l 0) = BitVec.ofNat 32 (l.val % 8) := by decide +kernel
theorem loV_apply : ∀ l : Fin 128, loV (ix2 0 l) = if l.val % 64 < 8 then 1#1 else 0#1 := by decide +kernel
theorem hiV_apply : ∀ l : Fin 128, hiV (ix2 0 l) = if 8 ≤ l.val % 64 ∧ l.val % 64 < 16 then 1#1 else 0#1 := by decide +kernel
theorem orV_apply : ∀ l : Fin 128, ori loV hiV (ix2 0 l) = if l.val % 64 < 16 then 1#1 else 0#1 := by decide +kernel
theorem ix_clamp : ∀ j : Fin 8, min (BitVec.ofNat 32 j.val).toInt.toNat (8 - 1) = j.val := by decide +kernel

/-- The frequency of a column. -/
abbrev fr (k : ℕ) : Fin 8 := ⟨k % 8, Nat.mod_lt _ (by omega)⟩

theorem spread_apply (x : FVec Ideal S4096x8 .f32) (p : Fin 4096) (l : Fin 128) : spread x (ix2 p l) = x (ix2 p (fr l.val)) := by
  unfold spread Host.gather
  refine congrArg x (funext fun a => Fin.ext ?_)
  match a with
  | ⟨0, _⟩ =>
    show gather_S4096x8_S128x1_S4096x128_0_1_n_n_1_1_40961.start (ix2 p l) ixV 0
      + gather_S4096x8_S128x1_S4096x128_0_1_n_n_1_1_40961.batchCoord (ix2 p l) 0
      + gather_S4096x8_S128x1_S4096x128_0_1_n_n_1_1_40961.offCoord (ix2 p l) 0 = p.val
    have h1 : gather_S4096x8_S128x1_S4096x128_0_1_n_n_1_1_40961.start (ix2 p l) ixV 0 = 0 := rfl
    have h2 : gather_S4096x8_S128x1_S4096x128_0_1_n_n_1_1_40961.batchCoord (ix2 p l) 0 = 0 := rfl
    have h3 : gather_S4096x8_S128x1_S4096x128_0_1_n_n_1_1_40961.offCoord (ix2 p l) 0 = p.val := rfl
    omega
  | ⟨1, _⟩ =>
    show gather_S4096x8_S128x1_S4096x128_0_1_n_n_1_1_40961.start (ix2 p l) ixV 1
      + gather_S4096x8_S128x1_S4096x128_0_1_n_n_1_1_40961.batchCoord (ix2 p l) 1
      + gather_S4096x8_S128x1_S4096x128_0_1_n_n_1_1_40961.offCoord (ix2 p l) 1 = l.val % 8
    have h1 : gather_S4096x8_S128x1_S4096x128_0_1_n_n_1_1_40961.start (ix2 p l) ixV 1 = min (ixV (ix2 l 0)).toInt.toNat (8 - 1) := by
      unfold GatherDims.start
      rw [dif_pos (show (1 : Fin 2) ∈ gather_S4096x8_S128x1_S4096x128_0_1_n_n_1_1_40961.startIndexMap from List.mem_singleton.mpr rfl)]
      have hsi : gather_S4096x8_S128x1_S4096x128_0_1_n_n_1_1_40961.siIdx (ix2 p l)
          ⟨List.idxOf (1 : Fin 2) gather_S4096x8_S128x1_S4096x128_0_1_n_n_1_1_40961.startIndexMap,
            List.idxOf_lt_length_iff.2 (List.mem_singleton.mpr rfl)⟩ = ix2 l 0 := by
        funext b
        refine Fin.ext ?_
        match b with
        | ⟨0, _⟩ => rfl
        | ⟨1, _⟩ => rfl
      rw [hsi]
      rfl
    have h2 : gather_S4096x8_S128x1_S4096x128_0_1_n_n_1_1_40961.batchCoord (ix2 p l) 1 = 0 := rfl
    have h3 : gather_S4096x8_S128x1_S4096x128_0_1_n_n_1_1_40961.offCoord (ix2 p l) 1 = 0 := rfl
    rw [h1, h2, h3, ixV_apply]
    exact ix_clamp (fr l.val)

theorem masked_apply (b : IVec S1x128 1) (x : FVec Ideal S4096x128 .f32) (w : BitVec 32) (q : Prop) [Decidable q] (p : Fin 4096) (l : Fin 128)
    (hb : b (ix2 0 l) = if q then 1#1 else 0#1) : masked b x w (ix2 p l) = if q then x (ix2 p l) else Ideal.ofBits .f32 w := by
  have e : broadcastInDim S4096x128 ![0, 1] bcast_S1x128_S4096x128_0_1 b (ix2 p l) = b (ix2 0 l) := by pointwise
  show Scalar.select (broadcastInDim S4096x128 ![0, 1] bcast_S1x128_S4096x128_0_1 b (ix2 p l)) (x (ix2 p l)) _ = _
  rw [e, hb]
  split <;> rfl

theorem V_v27 (c : Dev nD) : (V m c main_v27 : Vec Ideal S4096x128 .f32) = masked (ori loV hiV) (spread cosV) 0x3F800000#32 := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem V_v29 (c : Dev nD) : (V m c main_v29 : Vec Ideal S4096x128 .f32) = masked loV (Host.negf (spread sinV)) 0x00000000#32 := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem V_v30 (c : Dev nD) : (V m c main_v30 : Vec Ideal S4096x128 .f32) = masked hiV (spread sinV) 0x00000000#32 := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem V_v33 (c : Dev nD) (k : Fin 2048) : (V m c main_v33 : Vec Ideal S1x2048 .f32) (ix2 0 k) = argG m c (ix2 1 k) := by
  unfold V
  simp only [hostOps0, hostOps0_1, hostOps0_2, hostOps0_3, hostOps0_4, hostOps0_5, hostOps0_6, List.flatten_cons, List.flatten_nil, List.append_nil, List.cons_append, List.nil_append]
  after_reads_simp
  pointwise

theorem V_v34 (c : Dev nD) : V m c main_v34 = argW m c := by
  unfold V
  simp only [hostOps0, hostOps0_1, hostOps0_2, hostOps0_3, hostOps0_4, hostOps0_5, hostOps0_6, List.flatten_cons, List.flatten_nil, List.append_nil, List.cons_append, List.nil_append]
  after_reads_simp
  rfl

/-- The three tables at a position and a lane. -/
def tab0 (p : Fin 4096) (l : Fin 128) : EReal := if l.val % 64 < 16 then cosV (ix2 p (fr l.val)) else 1
def tab1 (p : Fin 4096) (l : Fin 128) : EReal := if l.val % 64 < 8 then -sinV (ix2 p (fr l.val)) else 0
def tab2 (p : Fin 4096) (l : Fin 128) : EReal := if 8 ≤ l.val % 64 ∧ l.val % 64 < 16 then sinV (ix2 p (fr l.val)) else 0

theorem one_word : Ideal.ofBits .f32 0x3F800000#32 = 1 := by
  simp [Ideal.ofBits, Ideal.ieee]
  rw [← EReal.coe_mul]
  norm_num
theorem zero_word : Ideal.ofBits .f32 0x00000000#32 = 0 := by simp [Ideal.ofBits, Ideal.ieee]

theorem tab0_eq (c : Dev nD) (p : Fin 4096) (l : Fin 128) : (V m c main_v27 : Vec Ideal S4096x128 .f32) (ix2 p l) = tab0 p l := by
  rw [V_v27, masked_apply _ _ _ _ p l (orV_apply l), spread_apply, one_word]
  rfl

theorem tab1_eq (c : Dev nD) (p : Fin 4096) (l : Fin 128) : (V m c main_v29 : Vec Ideal S4096x128 .f32) (ix2 p l) = tab1 p l := by
  rw [V_v29, masked_apply _ _ _ _ p l (loV_apply l), zero_word, show Host.negf (spread sinV) (ix2 p l) = -spread sinV (ix2 p l) from rfl, spread_apply]
  rfl

theorem tab2_eq (c : Dev nD) (p : Fin 4096) (l : Fin 128) : (V m c main_v30 : Vec Ideal S4096x128 .f32) (ix2 p l) = tab2 p l := by
  rw [V_v30, masked_apply _ _ _ _ p l (hiV_apply l), zero_word, spread_apply]
  rfl

theorem ix_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_4.index t (0 : Fin 2) = t.val % 4 ∧ win0_4.index t (1 : Fin 2) = 0)
    ∧ (win0_5.index t (0 : Fin 2) = t.val % 4 ∧ win0_5.index t (1 : Fin 2) = 0)
    ∧ (win0_6.index t (0 : Fin 2) = t.val % 4 ∧ win0_6.index t (1 : Fin 2) = 0)
    ∧ (win0_7.index t (0 : Fin 4) = t.val / 4 ∧ win0_7.index t (1 : Fin 4) = 0 ∧ win0_7.index t (2 : Fin 4) = t.val % 4 ∧ win0_7.index t (3 : Fin 4) = 0) :=
  (by decide +kernel : ∀ t : Fin grid0.N, _)

theorem t_lt (t : Fin cfg0.N) : t.val < 40 := lt_of_lt_of_eq t.isLt (show cfg0.N = 40 from N_0)

/-- The array's row, and the position in its sequence, that row `r` of grid point `t`'s block is. -/
abbrev rowOf (t : Fin cfg0.N) (r : Fin 1024) : Fin 40960 := ⟨1024 * t.val + r.val, by have := t_lt t; omega⟩
abbrev posOf (t : Fin cfg0.N) (r : Fin 1024) : Fin 4096 := ⟨1024 * (t.val % 4) + r.val, by omega⟩

theorem iblk0_apply (c : Dev nD) (t : Fin cfg0.N) (r : Fin 1024) (k : Fin 2048) :
    (iblk m c 0 t : Vec Ideal S1024x2048 .f32) (ix2 r k) = argX m c (ix2 (rowOf t r) k) := by
  unfold iblk
  rw [View.read_apply]
  show V m c main_arg0 _ = _
  rw [V_main_arg0]
  refine congrArg (argX m c) (funext fun a => Fin.ext ?_)
  obtain ⟨⟨e0, e1⟩, -⟩ := ix_facts t
  match a with
  | ⟨0, _⟩ => show win0_0.index t 0 * 1024 + 1 * r.val = 1024 * t.val + r.val; rw [e0]; omega
  | ⟨1, _⟩ => show win0_0.index t 1 * 2048 + 1 * k.val = k.val; rw [e1]; omega

theorem iblk1_apply (c : Dev nD) (t : Fin cfg0.N) (k : Fin 2048) :
    (iblk m c 1 t : Vec Ideal S1x2048 .f32) (ix2 0 k) = argG m c (ix2 1 k) := by
  unfold iblk
  rw [View.read_apply, ← V_v33 m c k]
  show V m c main_v33 _ = V m c main_v33 _
  refine congrArg (V m c main_v33) (funext fun a => Fin.ext ?_)
  obtain ⟨-, ⟨e0, e1⟩, -⟩ := ix_facts t
  match a with
  | ⟨0, _⟩ => show win0_1.index t 0 * 1 + 1 * 0 = 0; rw [e0]
  | ⟨1, _⟩ => show win0_1.index t 1 * 2048 + 1 * k.val = k.val; rw [e1]; omega

/-- The 9216 columns of the weights, of which the first 3072 are this group's. -/
abbrev col (k : Fin 3072) : Fin 9216 := ⟨k.val, by omega⟩

theorem iblk2_apply (c : Dev nD) (t : Fin cfg0.N) (j : Fin 2048) (k : Fin 3072) :
    (iblk m c 2 t : Vec Ideal S1x2048x3072 .bf16) (ix3 0 j k) = argW m c (ix3 0 j (col k)) := by
  unfold iblk
  rw [View.read_apply]
  show V m c main_v34 _ = _
  rw [V_v34]
  refine congrArg (argW m c) (funext fun a => Fin.ext ?_)
  obtain ⟨-, -, ⟨e0, e1, e2⟩, -⟩ := ix_facts t
  match a with
  | ⟨0, _⟩ => show win0_2.index t 0 * 1 + 1 * 0 = 0; rw [e0]
  | ⟨1, _⟩ => show win0_2.index t 1 * 2048 + 1 * j.val = j.val; rw [e1]; omega
  | ⟨2, _⟩ => show win0_2.index t 2 * 3072 + 1 * k.val = k.val; rw [e2]; omega

theorem iblk4_apply (c : Dev nD) (t : Fin cfg0.N) (r : Fin 1024) (l : Fin 128) :
    (iblk m c 4 t : Vec Ideal S1024x128 .f32) (ix2 r l) = tab0 (posOf t r) l := by
  unfold iblk
  rw [View.read_apply, ← tab0_eq m c]
  show V m c main_v27 _ = V m c main_v27 _
  refine congrArg (V m c main_v27) (funext fun a => Fin.ext ?_)
  obtain ⟨-, -, -, ⟨e0, e1⟩, -⟩ := ix_facts t
  match a with
  | ⟨0, _⟩ => show win0_4.index t 0 * 1024 + 1 * r.val = 1024 * (t.val % 4) + r.val; rw [e0]; omega
  | ⟨1, _⟩ => show win0_4.index t 1 * 128 + 1 * l.val = l.val; rw [e1]; omega

theorem iblk5_apply (c : Dev nD) (t : Fin cfg0.N) (r : Fin 1024) (l : Fin 128) :
    (iblk m c 5 t : Vec Ideal S1024x128 .f32) (ix2 r l) = tab1 (posOf t r) l := by
  unfold iblk
  rw [View.read_apply, ← tab1_eq m c]
  show V m c main_v29 _ = V m c main_v29 _
  refine congrArg (V m c main_v29) (funext fun a => Fin.ext ?_)
  obtain ⟨-, -, -, -, ⟨e0, e1⟩, -⟩ := ix_facts t
  match a with
  | ⟨0, _⟩ => show win0_5.index t 0 * 1024 + 1 * r.val = 1024 * (t.val % 4) + r.val; rw [e0]; omega
  | ⟨1, _⟩ => show win0_5.index t 1 * 128 + 1 * l.val = l.val; rw [e1]; omega

theorem iblk6_apply (c : Dev nD) (t : Fin cfg0.N) (r : Fin 1024) (l : Fin 128) :
    (iblk m c 6 t : Vec Ideal S1024x128 .f32) (ix2 r l) = tab2 (posOf t r) l := by
  unfold iblk
  rw [View.read_apply, ← tab2_eq m c]
  show V m c main_v30 _ = V m c main_v30 _
  refine congrArg (V m c main_v30) (funext fun a => Fin.ext ?_)
  obtain ⟨-, -, -, -, -, ⟨e0, e1⟩, -⟩ := ix_facts t
  match a with
  | ⟨0, _⟩ => show win0_6.index t 0 * 1024 + 1 * r.val = 1024 * (t.val % 4) + r.val; rw [e0]; omega
  | ⟨1, _⟩ => show win0_6.index t 1 * 128 + 1 * l.val = l.val; rw [e1]; omega

/-- The projection of a normalised row: its entry at column `k`. -/
def projRow (X : Vec Ideal S40960x2048 .f32) (G : Vec Ideal S4x2048 .f32) (W : Vec Ideal S2x2048x9216 .f32) (R : Fin 40960) (k : Fin 3072) : EReal :=
  ∑ j : Fin 2048, rms (fun i => X (ix2 R i)) j (G (ix2 1 j)) * W (ix3 0 j (col k))

/-- A row `y` with the first sixteen columns of each head of its queries and keys rotated by the angles of position `p`. -/
def rotRow (y : Fin 3072 → EReal) (p : Fin 4096) (k : Fin 3072) : EReal :=
  if h : k.val < 2048 ∧ k.val % 64 < 16 then
    if h8 : k.val % 64 < 8 then y k * cosV (ix2 p (fr k.val)) - y ⟨k.val + 8, by omega⟩ * sinV (ix2 p (fr k.val))
    else y k * cosV (ix2 p (fr k.val)) + y ⟨k.val - 8, by omega⟩ * sinV (ix2 p (fr k.val))
  else y k

theorem proj_eq (c : Dev nD) (t : Fin cfg0.N) (r : Fin 1024) (k : Fin 3072) :
    proj (iblk m c 0 t) (iblk m c 1 t) (iblk m c 2 t) r k = projRow (argX m c) (argG m c) (argW m c) (rowOf t r) k := by
  unfold proj projRow xnOf
  refine Finset.sum_congr rfl fun j _ => ?_
  rw [iblk2_apply m c t j k]
  refine congrArg (· * _) ?_
  show rms (fun i => (iblk m c 0 t : Vec Ideal S1024x2048 .f32) (ix2 r i)) j ((iblk m c 1 t : Vec Ideal S1x2048 .f32) (ix2 0 j)) = _
  simp only [iblk0_apply, iblk1_apply]

theorem stored_eq (c : Dev nD) (t : Fin cfg0.N) (r : Fin 1024) (k : Fin 3072) :
    stored (iblk m c 0 t) (iblk m c 1 t) (iblk m c 2 t) (iblk m c 4 t) (iblk m c 5 t) (iblk m c 6 t) r k
      = rotRow (projRow (argX m c) (argG m c) (argW m c) (rowOf t r)) (posOf t r) k := by
  unfold stored
  simp only [proj_eq, iblk4_apply, iblk5_apply, iblk6_apply]
  generalize projRow (argX m c) (argG m c) (argW m c) (rowOf t r) = y
  generalize posOf t r = p
  have hk := k.isLt
  unfold rotRow tab0 tab1 tab2
  dsimp only
  have hm : k.val % 128 % 64 = k.val % 64 := by omega
  have hf : fr (k.val % 128) = fr k.val := Fin.ext (by show k.val % 128 % 8 = k.val % 8; omega)
  rw [hm, hf]
  by_cases h : k.val < 2048
  · rw [if_pos h]
    by_cases h16 : k.val % 64 < 16
    · rw [dif_pos ⟨h, h16⟩, if_pos h16]
      by_cases h8 : k.val % 64 < 8
      · rw [dif_pos h8, if_pos h8, if_neg (by omega), mul_zero, add_zero, mul_neg, ← sub_eq_add_neg]
        have e : (⟨k.val / 128 * 128 + (k.val % 128 + 8) % 128, by omega⟩ : Fin 3072) = ⟨k.val + 8, by omega⟩ :=
          Fin.ext (by show k.val / 128 * 128 + (k.val % 128 + 8) % 128 = k.val + 8; omega)
        rw [e]
      · rw [dif_neg h8, if_neg h8, if_pos ⟨by omega, h16⟩, mul_zero, add_zero]
        have e : (⟨k.val / 128 * 128 + (k.val % 128 + 120) % 128, by omega⟩ : Fin 3072) = ⟨k.val - 8, by omega⟩ :=
          Fin.ext (by show k.val / 128 * 128 + (k.val % 128 + 120) % 128 = k.val - 8; omega)
        rw [e]
    · rw [dif_neg fun h' => h16 h'.2, if_neg h16, if_neg (by omega), if_neg (by omega), mul_one, mul_zero, mul_zero, add_zero, add_zero]
  · rw [if_neg h, dif_neg fun h' => h h'.1]

theorem flush7 : ∀ t : Fin cfg0.N, (cfg0.win 7).flush t = true := (by decide +kernel : ∀ t : Fin grid0.N, _)

/-- The output array that the run leaves. -/
theorem arr7_apply (c : Dev nD) (s : Fin 10) (p : Fin 4096) (k : Fin 3072) :
    ((dats m 0 c).arrAt 7 cfg0.N : Vec Ideal S10x1x4096x3072 .bf16) (ix4 s 0 p k)
      = rotRow (projRow (argX m c) (argG m c) (argW m c) ⟨4096 * s.val + p.val, by omega⟩) p k := by
  obtain ⟨t, r, hs, hp⟩ : ∃ (t : Fin cfg0.N) (r : Fin 1024), s.val = t.val / 4 ∧ p = posOf t r :=
    ⟨⟨s.val * 4 + p.val / 1024, by rw [show cfg0.N = 40 from N_0]; omega⟩, ⟨p.val % 1024, by omega⟩,
      by show s.val = (s.val * 4 + p.val / 1024) / 4; omega,
      Fin.ext (by show p.val = 1024 * ((s.val * 4 + p.val / 1024) % 4) + p.val % 1024; omega)⟩
  have ht := t_lt t
  have hp' : p.val = 1024 * (t.val % 4) + r.val := congrArg Fin.val hp
  have hR : (⟨4096 * s.val + p.val, by omega⟩ : Fin 40960) = rowOf t r := Fin.ext (by show 4096 * s.val + p.val = 1024 * t.val + r.val; omega)
  have hemb : ((cfg0.win 7).blk t).view.emb (ix4 0 0 r k) = (ix4 s 0 p k : S10x1x4096x3072.Idx) := by
    obtain ⟨-, -, -, -, -, -, e0, e1, e2, e3⟩ := ix_facts t
    funext a
    apply Fin.ext
    match a with
    | ⟨0, _⟩ => show win0_7.index t 0 * 1 + 1 * 0 = s.val; rw [e0]; omega
    | ⟨1, _⟩ => show win0_7.index t 1 * 1 + 1 * 0 = 0; rw [e1]
    | ⟨2, _⟩ => show win0_7.index t 2 * 1024 + 1 * r.val = p.val; rw [e2]; omega
    | ⟨3, _⟩ => show win0_7.index t 3 * 3072 + 1 * k.val = k.val; rw [e3]; omega
  have h := congrFun (Value.blocks7 m c t (flush7 t)) (ix4 0 0 r k)
  rw [View.read_apply, Value.flushed7_A] at h
  rw [hemb] at h
  refine h.trans ?_
  rw [hR, hp, ← stored_eq m c t r k]
  exact out_apply _ _ _ _ _ _ _ _ _ _ _ _ _ _ _ _ _ _ _ _ _ _ _ _ _ _ _ r k

end Cert.Kernel5Ideal.Hand
end
-- ==== Proof.RotRef.lean ====
module

public import proofs.«01_k».proof.Proof.RotFold
public import proofs.«01_k».proof.Proof.Gen.Reference5Ideal.Run

@[expose] public section

set_option maxRecDepth 16384

noncomputable section

/- The reference of the input projection, and its agreement with the kernel. -/
namespace Cert.Reference5Ideal.Hand

open Cert.Reference5Ideal Cert.Reference5Ideal.Gen Idealize.ShloMosaic Idealize.ShloMosaic.TcCoe Idealize.SL.Sem
open Cert.Kernel2Ideal.Hand (rms)
open Cert.Kernel5Ideal.Hand (cosV sinV projRow rotRow fr col argX argG argW)

/-- The reference's normalisation of the rows of an array, times the second layer's gains. -/
def rmsV (X : FVec Ideal S40960x2048 .f32) (G : FVec Ideal S4x2048 .f32) : FVec Ideal S40960x2048 .f32 :=
  mulf (F := Ideal)
    (mulf X
      (broadcastInDim S40960x2048 ![0, 1] bcast_S40960x1_S40960x2048_0_1
        (Host.rsqrt
          (addf
            (Host.divf
              (broadcastInDim S40960x1 ![0] bcast_S40960_S40960x1_0
                (Host.reduceAdd (mulf X X) (constant S_ FTy.f32 0#32) reducesTo_S40960x2048_S40960_d1 h_S_))
              (broadcastInDim S40960x1 ![] bcast_S_S40960x1 (constant S_ FTy.f32 1157627904#32)))
            (broadcastInDim S40960x1 ![] bcast_S_S40960x1 (constant S_ FTy.f32 897988541#32))))))
    (broadcastInDim S40960x2048 ![0, 1] bcast_S1x2048_S40960x2048_0_1
      (broadcastInDim S1x2048 ![1] bcast_S2048_S1x2048_1
        (shapeCast S2048 (extractStridedSlice S1x2048 ![1, 0] G slices_S4x2048_S1x2048_1_0) shapeCasts_S1x2048_S2048)))

/-- The product with the first 3072 columns of the first slice of the projection's weights. -/
def pjV (X : FVec Ideal S40960x2048 .f32) (W : FVec Ideal S2x2048x9216 .f32) : FVec Ideal S40960x3072 .f32 :=
  Host.dotGeneral (F := Ideal) dot_S40960x2048_S2048x3072_S40960x3072_1_0_0_1_n_n none X
    (extractStridedSlice S2048x3072 ![0, 0]
      (shapeCast _ (extractStridedSlice S1x2048x9216 ![0, 0, 0] W slices_S2x2048x9216_S1x2048x9216_0_0_0) shapeCasts_S1x2048x9216_S2048x9216)
      slices_S2048x9216_S2048x3072_0_0)

/-- The queries, the keys and the values: per sequence, position and head. -/
def qV (Y : FVec Ideal S40960x3072 .f32) : FVec Ideal S10x4096x16x64 .f32 :=
  shapeCast _ (extractStridedSlice S10x4096x1x16x64 ![0, 0, 0, 0, 0] (shapeCast _ Y shapeCasts_S40960x3072_S10x4096x3x16x64)
    slices_S10x4096x3x16x64_S10x4096x1x16x64_0_0_0_0_0) shapeCasts_S10x4096x1x16x64_S10x4096x16x64
def kV (Y : FVec Ideal S40960x3072 .f32) : FVec Ideal S10x4096x16x64 .f32 :=
  shapeCast _ (extractStridedSlice S10x4096x1x16x64 ![0, 0, 1, 0, 0] (shapeCast _ Y shapeCasts_S40960x3072_S10x4096x3x16x64)
    slices_S10x4096x3x16x64_S10x4096x1x16x64_0_0_1_0_0) shapeCasts_S10x4096x1x16x64_S10x4096x16x64
def vV (Y : FVec Ideal S40960x3072 .f32) : FVec Ideal S10x4096x16x64 .f32 :=
  shapeCast _ (extractStridedSlice S10x4096x1x16x64 ![0, 0, 2, 0, 0] (shapeCast _ Y shapeCasts_S40960x3072_S10x4096x3x16x64)
    slices_S10x4096x3x16x64_S10x4096x1x16x64_0_0_2_0_0) shapeCasts_S10x4096x1x16x64_S10x4096x16x64

/-- A table of angles' values, the same for each sequence and head. -/
def tbV (T : FVec Ideal S4096x8 .f32) : FVec Ideal S10x4096x16x8 .f32 :=
  broadcastInDim S10x4096x16x8 ![0, 1, 2, 3] bcast_S1x4096x1x8_S10x4096x16x8_0_1_2_3
    (broadcastInDim S1x4096x1x8 ![1, 2, 3] bcast_S4096x1x8_S1x4096x1x8_1_2_3 (broadcastInDim S4096x1x8 ![0, 2] bcast_S4096x8_S4096x1x8_0_2 T))

/-- The rotary embedding: the first sixteen entries of each head, as eight pairs, rotated. -/
def rotV (A : FVec Ideal S10x4096x16x64 .f32) (C S : FVec Ideal S10x4096x16x8 .f32) : FVec Ideal S10x4096x16x64 .f32 :=
  concatenate S10x4096x16x64 3
    [⟨S10x4096x16x8, subf (F := Ideal)
        (mulf (extractStridedSlice S10x4096x16x8 ![0, 0, 0, 0] A slices_S10x4096x16x64_S10x4096x16x8_0_0_0_0) C)
        (mulf (extractStridedSlice S10x4096x16x8 ![0, 0, 0, 8] A slices_S10x4096x16x64_S10x4096x16x8_0_0_0_8) S)⟩,
     ⟨S10x4096x16x8, addf (F := Ideal)
        (mulf (extractStridedSlice S10x4096x16x8 ![0, 0, 0, 8] A slices_S10x4096x16x64_S10x4096x16x8_0_0_0_8) C)
        (mulf (extractStridedSlice S10x4096x16x8 ![0, 0, 0, 0] A slices_S10x4096x16x64_S10x4096x16x8_0_0_0_0) S)⟩,
     ⟨S10x4096x16x48, extractStridedSlice S10x4096x16x48 ![0, 0, 0, 16] A slices_S10x4096x16x64_S10x4096x16x48_0_0_0_16⟩]
    concatenates_S10x4096x16x8_S10x4096x16x8_S10x4096x16x48_S10x4096x16x64_d3

/-- Three arrays, stacked. -/
def stV (a0 a1 a2 : FVec Ideal S10x4096x16x64 .f32) : FVec Ideal S10x4096x3x16x64 .f32 :=
  concatenate S10x4096x3x16x64 2
    [⟨S10x4096x1x16x64, broadcastInDim S10x4096x1x16x64 ![0, 1, 3, 4] bcast_S10x4096x16x64_S10x4096x1x16x64_0_1_3_4 a0⟩,
     ⟨S10x4096x1x16x64, broadcastInDim S10x4096x1x16x64 ![0, 1, 3, 4] bcast_S10x4096x16x64_S10x4096x1x16x64_0_1_3_4 a1⟩,
     ⟨S10x4096x1x16x64, broadcastInDim S10x4096x1x16x64 ![0, 1, 3, 4] bcast_S10x4096x16x64_S10x4096x1x16x64_0_1_3_4 a2⟩]
    concatenates_S10x4096x1x16x64_S10x4096x1x16x64_S10x4096x1x16x64_S10x4096x3x16x64_d2

/-- The stacked arrays, laid out by row. -/
def ouV (A : FVec Ideal S10x4096x3x16x64 .f32) : FVec Ideal S10x1x4096x3072 .bf16 :=
  truncf (F := Ideal) .bf16 (shapeCast _ A shapeCasts_S10x4096x3x16x64_S10x1x4096x3072) bitsLt_bf16_f32

/-- The result as a composition of the arrays above, of the projection. -/
def resV (Y : FVec Ideal S40960x3072 .f32) : FVec Ideal S10x1x4096x3072 .bf16 :=
  ouV (stV (rotV (qV Y) (tbV cosV) (tbV sinV)) (rotV (kV Y) (tbV cosV) (tbV sinV)) (vV Y))

set_option maxRecDepth 100000 in
/-- The reference's result, as a composition of the arrays above. -/
theorem res_eq (m : (ℓ : Loc nD τ sig) → Buf (Elt Ideal) ℓ) (c : Dev nD) :
    Value.res_main_v98 m c = resV (pjV (rmsV (m (c.tc.loc main_arg0)) (m (c.tc.loc main_arg1))) (m (c.tc.loc main_arg2))) := rfl

theorem rmsV_apply (X : FVec Ideal S40960x2048 .f32) (G : FVec Ideal S4x2048 .f32) (R : Fin 40960) (k : Fin 2048) :
    rmsV X G (ix2 R k) = rms (fun j => X (ix2 R j)) k (G (ix2 1 k)) := by
  unfold rmsV rms
  pointwise

theorem pjV_apply (X : FVec Ideal S40960x2048 .f32) (W : FVec Ideal S2x2048x9216 .f32) (R : Fin 40960) (k : Fin 3072) :
    pjV X W (ix2 R k) = ∑ j : Fin 2048, X (ix2 R j) * W (ix3 0 j (col k)) := by
  unfold pjV
  pointwise

/-- The row of the projection that a sequence's position has. -/
abbrev row (s : Fin 10) (p : Fin 4096) : Fin 40960 := ⟨4096 * s.val + p.val, by omega⟩

theorem qV_apply (Y : FVec Ideal S40960x3072 .f32) (s : Fin 10) (p : Fin 4096) (h : Fin 16) (d : Fin 64) :
    qV Y (ix4 s p h d) = Y (ix2 (row s p) ⟨64 * h.val + d.val, by omega⟩) := by
  unfold qV
  pointwise
  refine congrArg₂ (fun r k => Y (ix2 r k)) (Fin.ext ?_) (Fin.ext ?_)
  · show s.val * 4096 + p.val = 4096 * s.val + p.val; omega
  · show h.val * 64 + d.val = 64 * h.val + d.val; omega

theorem kV_apply (Y : FVec Ideal S40960x3072 .f32) (s : Fin 10) (p : Fin 4096) (h : Fin 16) (d : Fin 64) :
    kV Y (ix4 s p h d) = Y (ix2 (row s p) ⟨1024 + (64 * h.val + d.val), by omega⟩) := by
  unfold kV
  pointwise
  refine congrArg₂ (fun r k => Y (ix2 r k)) (Fin.ext ?_) (Fin.ext ?_)
  · show s.val * 4096 + p.val = 4096 * s.val + p.val; omega
  · show 1024 + h.val * 64 + d.val = 1024 + (64 * h.val + d.val); omega

theorem vV_apply (Y : FVec Ideal S40960x3072 .f32) (s : Fin 10) (p : Fin 4096) (h : Fin 16) (d : Fin 64) :
    vV Y (ix4 s p h d) = Y (ix2 (row s p) ⟨2048 + (64 * h.val + d.val), by omega⟩) := by
  unfold vV
  pointwise
  refine congrArg₂ (fun r k => Y (ix2 r k)) (Fin.ext ?_) (Fin.ext ?_)
  · show s.val * 4096 + p.val = 4096 * s.val + p.val; omega
  · show 2048 + h.val * 64 + d.val = 2048 + (64 * h.val + d.val); omega

theorem tbV_apply (T : FVec Ideal S4096x8 .f32) (s : Fin 10) (p : Fin 4096) (h : Fin 16) (f : Fin 8) :
    tbV T (ix4 s p h f) = T (ix2 p f) := by
  unfold tbV
  pointwise

/-- A head's entry after the rotary embedding. -/
def rotHead (a : Fin 64 → EReal) (p : Fin 4096) (d : Fin 64) : EReal :=
  if h : d.val < 16 then
    if h8 : d.val < 8 then a d * cosV (ix2 p (fr d.val)) - a ⟨d.val + 8, by omega⟩ * sinV (ix2 p (fr d.val))
    else a d * cosV (ix2 p (fr d.val)) + a ⟨d.val - 8, by omega⟩ * sinV (ix2 p (fr d.val))
  else a d

theorem rotV_apply (A : FVec Ideal S10x4096x16x64 .f32) (s : Fin 10) (p : Fin 4096) (h : Fin 16) (d : Fin 64) :
    rotV A (tbV cosV) (tbV sinV) (ix4 s p h d) = rotHead (fun e => A (ix4 s p h e)) p d := by
  have hd := d.isLt
  generalize hC : tbV cosV = C
  generalize hS : tbV sinV = S
  have eC : ∀ f : Fin 8, C (ix4 s p h f) = cosV (ix2 p f) := fun f => by rw [← hC, tbV_apply]
  have eS : ∀ f : Fin 8, S (ix4 s p h f) = sinV (ix2 p f) := fun f => by rw [← hS, tbV_apply]
  unfold rotV rotHead
  pointwise
  simp only [eC, eS]
  by_cases h8 : d.val < 8
  · rw [dif_pos h8, dif_pos (show d.val < 16 by omega), dif_pos h8]
    have ef : fr d.val = ⟨d.val, h8⟩ := Fin.ext (by show d.val % 8 = d.val; omega)
    have ed : (⟨8 + d.val, by omega⟩ : Fin 64) = ⟨d.val + 8, by omega⟩ := Fin.ext (Nat.add_comm _ _)
    rw [ef, ed]
  · rw [dif_neg h8]
    by_cases h16 : d.val < 16
    · rw [dif_pos (show d.val - 8 < 8 by omega), dif_pos h16, dif_neg h8]
      have ef : fr d.val = ⟨d.val - 8, by omega⟩ := Fin.ext (by show d.val % 8 = d.val - 8; omega)
      have ed : (⟨8 + (d.val - 8), by omega⟩ : Fin 64) = d := Fin.ext (by show 8 + (d.val - 8) = d.val; omega)
      rw [ef, ed]
    · rw [dif_neg (show ¬d.val - 8 < 8 by omega), dif_neg h16]
      have ed : (⟨16 + (d.val - 8 - 8), by omega⟩ : Fin 64) = d := Fin.ext (by show 16 + (d.val - 8 - 8) = d.val; omega)
      rw [ed]

theorem stV_apply (a0 a1 a2 : FVec Ideal S10x4096x16x64 .f32) (s : Fin 10) (p : Fin 4096) (i : Fin 3) (h : Fin 16) (d : Fin 64) :
    stV a0 a1 a2 (ix5 s p i h d) = if i.val < 1 then a0 (ix4 s p h d) else if i.val < 2 then a1 (ix4 s p h d) else a2 (ix4 s p h d) := by
  unfold stV
  pointwise
  match i with
  | 0 => rfl
  | 1 => rfl
  | 2 => rfl

theorem ouV_apply (A : FVec Ideal S10x4096x3x16x64 .f32) (s : Fin 10) (p : Fin 4096) (k : Fin 3072) :
    ouV A (ix4 s 0 p k) = A (ix5 s p ⟨k.val / 1024, by omega⟩ ⟨k.val / 64 % 16, by omega⟩ ⟨k.val % 64, by omega⟩) := by
  unfold ouV
  pointwise

/-- The rotated head, found in the rotated row. -/
theorem rotHead_eq (y : Fin 3072 → EReal) (p : Fin 4096) (k : Fin 3072) (b : ℕ) (hb : b + 64 ≤ 2048) (hk : k.val = b + k.val % 64) :
    rotHead (fun e => y ⟨b + e.val, by omega⟩) p ⟨k.val % 64, by omega⟩ = rotRow y p k := by
  have h1 : k.val < 2048 := by omega
  have hf : fr (k.val % 64) = fr k.val := Fin.ext (by show k.val % 64 % 8 = k.val % 8; omega)
  have e0 : (⟨b + k.val % 64, by omega⟩ : Fin 3072) = k := Fin.ext hk.symm
  unfold rotHead rotRow
  dsimp only
  rw [hf, e0]
  by_cases h16 : k.val % 64 < 16
  · rw [dif_pos h16, dif_pos (show k.val < 2048 ∧ k.val % 64 < 16 from ⟨h1, h16⟩)]
    by_cases h8 : k.val % 64 < 8
    · rw [dif_pos h8, dif_pos h8]
      have e : (⟨b + (k.val % 64 + 8), by omega⟩ : Fin 3072) = ⟨k.val + 8, by omega⟩ := Fin.ext (by show b + (k.val % 64 + 8) = k.val + 8; omega)
      rw [e]
    · rw [dif_neg h8, dif_neg h8]
      have e : (⟨b + (k.val % 64 - 8), by omega⟩ : Fin 3072) = ⟨k.val - 8, by omega⟩ := Fin.ext (by show b + (k.val % 64 - 8) = k.val - 8; omega)
      rw [e]
  · rw [dif_neg h16, dif_neg (show ¬(k.val < 2048 ∧ k.val % 64 < 16) from fun h' => h16 h'.2)]

theorem resV_apply (Y : FVec Ideal S40960x3072 .f32) (s : Fin 10) (p : Fin 4096) (k : Fin 3072) :
    resV Y (ix4 s 0 p k) = rotRow (fun l => Y (ix2 (row s p) l)) p k := by
  have hk := k.isLt
  unfold resV
  rw [ouV_apply, stV_apply]
  simp only [rotV_apply, qV_apply, kV_apply, vV_apply]
  by_cases h1 : k.val / 1024 < 1
  · rw [if_pos h1]
    exact rotHead_eq (fun l => Y (ix2 (row s p) l)) p k (64 * (k.val / 64 % 16)) (by omega) (by omega)
  · rw [if_neg h1]
    by_cases h2 : k.val / 1024 < 2
    · rw [if_pos h2]
      have := rotHead_eq (fun l => Y (ix2 (row s p) l)) p k (1024 + 64 * (k.val / 64 % 16)) (by omega) (by omega)
      simpa only [Nat.add_assoc] using this
    · rw [if_neg h2]
      unfold rotRow
      rw [dif_neg (by omega)]
      exact congrArg (fun l => Y (ix2 (row s p) l)) (Fin.ext (by show 2048 + (64 * (k.val / 64 % 16) + k.val % 64) = k.val; omega))

/-- The kernel's output array and the reference's result agree on equal arguments. -/
theorem agree (m : (ℓ : Loc Kernel5Ideal.nD Kernel5Ideal.τ Kernel5Ideal.sig) → Buf (Elt Ideal) ℓ)
    (m' : (ℓ : Loc nD τ sig) → Buf (Elt Ideal) ℓ) (c : Dev nD)
    (h0 : m' (c.tc.loc main_arg0) = argX m c) (h1 : m' (c.tc.loc main_arg1) = argG m c) (h2 : m' (c.tc.loc main_arg2) = argW m c) :
    (Value.res_main_v98 m' c : FVec Ideal S10x1x4096x3072 .bf16) = (Kernel5Ideal.Gen.dats m 0 c).arrAt 7 Kernel5Ideal.cfg0.N := by
  funext y
  obtain ⟨s, p, k, rfl⟩ : ∃ (s : Fin 10) (p : Fin 4096) (k : Fin 3072), y = ix4 s 0 p k := ⟨y 0, y 2, y 3, funext fun d => match d with
    | ⟨0, _⟩ => rfl
    | ⟨1, _⟩ => Subsingleton.elim (α := Fin 1) _ _
    | ⟨2, _⟩ => rfl
    | ⟨3, _⟩ => rfl⟩
  rw [res_eq, h0, h1, h2]
  refine (resV_apply _ s p k).trans (Eq.trans ?_ (Kernel5Ideal.Hand.arr7_apply m c s p k).symm)
  refine congrArg (fun v => rotRow v p k) (funext fun l => ?_)
  rw [pjV_apply]
  refine Finset.sum_congr rfl fun j _ => ?_
  rw [rmsV_apply]

end Cert.Reference5Ideal.Hand
end
-- ==== Proof.MixBody.lean ====
module

public import proofs.«01_k».proof.Proof.FfnBody
public import proofs.«01_k».proof.Proof.Band
public import proofs.«01_k».proof.Proof.Gen.Kernel4Ideal.Value
public import Idealize.ShloMosaic.Lib.Pointwise
public import Idealize.ShloMosaic.Lib.Pipeline.ReadBack

@[expose] public section

set_option maxRecDepth 16384

noncomputable section

/- What one block of the merged output projection computes. -/
namespace Cert.Kernel4Ideal.Hand

open Cert.Kernel4Ideal Cert.Kernel4Ideal.Gen Idealize.ShloMosaic Idealize.ShloMosaic.TcCoe Idealize.SL.Sem
open Cert.Kernel2Ideal.Hand (rms)

/-- Three values merged: each weighted by the exponential of its logarithm, relative to the greatest, over the weights' sum. -/
def mix (l0 l1 l2 o0 o1 o2 : EReal) : EReal :=
  Ideal.div (Ideal.exp (l0 - max (max l0 l1) l2) * o0 + Ideal.exp (l1 - max (max l0 l1) l2) * o1 + Ideal.exp (l2 - max (max l0 l1) l2) * o2)
    (Ideal.exp (l0 - max (max l0 l1) l2) + Ideal.exp (l1 - max (max l0 l1) l2) + Ideal.exp (l2 - max (max l0 l1) l2))

theorem pay2_apply (l0 l1 l2 : Vec Ideal S512x1024 .f32) (o0 o1 o2 : Vec Ideal S512x1024 .bf16) (w : Vec Ideal S1x1024x2048 .bf16)
    (r : Fin 512) (k : Fin 2048) :
    k0_pay2 l0 l1 l2 o0 o1 o2 w (ix2 r k)
      = ∑ j : Fin 1024, mix (l0 (ix2 r j)) (l1 (ix2 r j)) (l2 (ix2 r j)) (o0 (ix2 r j)) (o1 (ix2 r j)) (o2 (ix2 r j)) * w (ix3 0 j k) := by
  pointwise [k0_pay2]
  rfl

theorem pay1_apply (v x : Vec Ideal S512x2048 .f32) (g : Vec Ideal S1x2048 .f32) (r : Fin 512) (k : Fin 2048) :
    k0_pay1 v x (k0_pay3 g) (mulf (F := Ideal) v v) (ix2 r k) = x (ix2 r k) + rms (fun j => v (ix2 r j)) k (g (ix2 0 k)) := by
  pointwise [k0_pay1, k0_pay3]
  rfl

theorem hz : (![0, 0] : Fin 2 → ℕ) = fun _ => 0 := funext fun a => by fin_cases a <;> rfl
theorem hz3 : (![0, 0, 0] : Fin 3 → ℕ) = fun _ => 0 := funext fun a => by fin_cases a <;> rfl

/-- An entry of the block that a grid point leaves. -/
theorem out_apply (o0 o1 o2 : Vec Ideal S512x1024 .bf16) (l0 l1 l2 : Vec Ideal S512x1024 .f32) (w : Vec Ideal S1x1024x2048 .bf16)
    (g : Vec Ideal S1x2048 .f32) (x : Vec Ideal S512x2048 .f32) (r : Fin 512) (k : Fin 2048) :
    out0_9 o0 o1 o2 l0 l1 l2 w g x (ix2 r k)
      = x (ix2 r k) + rms (fun i => ∑ j : Fin 1024,
          mix (l0 (ix2 r j)) (l1 (ix2 r j)) (l2 (ix2 r j)) (o0 (ix2 r j)) (o1 (ix2 r j)) (o2 (ix2 r j)) * w (ix3 0 j i)) k (g (ix2 0 k)) := by
  unfold out0_9 r0_0 r0_1 r0_2 r0_3
  rw [View.canon_unit_zero (S := S512x2048) hz]
  simp only [View.ld_unit_zero (S := S512x2048) hz, View.ld_unit_zero (S := S512x1024) hz, View.ld_unit_zero (S := S1x2048) hz, View.ld_unit_zero (S := S1x1024x2048) hz3]
  unfold k0_pay4
  refine (pay1_apply _ _ _ r k).trans ?_
  simp only [pay2_apply]

end Cert.Kernel4Ideal.Hand
end
-- ==== Proof.MixFold.lean ====
module

public import proofs.«01_k».proof.Proof.MixBody

@[expose] public section

set_option maxRecDepth 16384

noncomputable section

/- The array that the merged output projection leaves. -/
namespace Cert.Kernel4Ideal.Hand

open Cert.Kernel4Ideal Cert.Kernel4Ideal.Gen Idealize.ShloMosaic Idealize.ShloMosaic.TcCoe Idealize.SL.Sem
open Idealize.ShloMosaic.Pipeline (Dat)
open Cert.Kernel2Ideal.Hand (rms)

variable (m : (ℓ : Loc nD τ sig) → Buf (Elt Ideal) ℓ)

/-- The arguments as launched, on device `c`. -/
abbrev argO0 (c : Dev nD) : Vec Ideal S40960x16x64 .f32 := m ((c.tc : Thread nD τ).loc main_arg0)
abbrev argO1 (c : Dev nD) : Vec Ideal S40960x16x64 .f32 := m ((c.tc : Thread nD τ).loc main_arg1)
abbrev argO2 (c : Dev nD) : Vec Ideal S40960x16x64 .f32 := m ((c.tc : Thread nD τ).loc main_arg2)
abbrev argL0 (c : Dev nD) : Vec Ideal S40960x16 .f32 := m ((c.tc : Thread nD τ).loc main_arg3)
abbrev argL1 (c : Dev nD) : Vec Ideal S40960x16 .f32 := m ((c.tc : Thread nD τ).loc main_arg4)
abbrev argL2 (c : Dev nD) : Vec Ideal S40960x16 .f32 := m ((c.tc : Thread nD τ).loc main_arg5)
abbrev argX (c : Dev nD) : Vec Ideal S40960x2048 .f32 := m ((c.tc : Thread nD τ).loc main_arg6)
abbrev argG (c : Dev nD) : Vec Ideal S4x2048 .f32 := m ((c.tc : Thread nD τ).loc main_arg7)
abbrev argW (c : Dev nD) : Vec Ideal S2x1024x2048 .f32 := m ((c.tc : Thread nD τ).loc main_arg8)

/-- The head and the lane of a merged column. -/
abbrev hd (e : Fin 1024) : Fin 16 := ⟨e.val / 64, by omega⟩
abbrev ln (e : Fin 1024) : Fin 64 := ⟨e.val % 64, by omega⟩

theorem V_v1 (c : Dev nD) (R : Fin 40960) (e : Fin 1024) :
    (V m c main_v1 : Vec Ideal S40960x1024 .bf16) (ix2 R e) = argO0 m c (ix3 R (hd e) (ln e)) := by
  unfold V; after_results_simp
  pointwise
theorem V_v3 (c : Dev nD) (R : Fin 40960) (e : Fin 1024) :
    (V m c main_v3 : Vec Ideal S40960x1024 .bf16) (ix2 R e) = argO1 m c (ix3 R (hd e) (ln e)) := by
  unfold V; after_results_simp
  pointwise
theorem V_v5 (c : Dev nD) (R : Fin 40960) (e : Fin 1024) :
    (V m c main_v5 : Vec Ideal S40960x1024 .bf16) (ix2 R e) = argO2 m c (ix3 R (hd e) (ln e)) := by
  unfold V; after_results_simp
  pointwise
theorem V_v8 (c : Dev nD) (R : Fin 40960) (e : Fin 1024) :
    (V m c main_v8 : Vec Ideal S40960x1024 .f32) (ix2 R e) = argL0 m c (ix2 R (hd e)) := by
  unfold V; after_results_simp
  pointwise
theorem V_v11 (c : Dev nD) (R : Fin 40960) (e : Fin 1024) :
    (V m c main_v11 : Vec Ideal S40960x1024 .f32) (ix2 R e) = argL1 m c (ix2 R (hd e)) := by
  unfold V; after_results_simp
  pointwise
theorem V_v14 (c : Dev nD) (R : Fin 40960) (e : Fin 1024) :
    (V m c main_v14 : Vec Ideal S40960x1024 .f32) (ix2 R e) = argL2 m c (ix2 R (hd e)) := by
  unfold V; after_results_simp
  pointwise
theorem V_v15 (c : Dev nD) : V m c main_v15 = argW m c := by
  unfold V; after_results_simp; rfl
theorem V_v18 (c : Dev nD) (k : Fin 2048) : (V m c main_v18 : Vec Ideal S1x2048 .f32) (ix2 0 k) = argG m c (ix2 1 k) := by
  unfold V; after_results_simp
  pointwise

theorem ix_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem row_lt (t : Fin cfg0.N) (r : Fin 512) : 512 * t.val + r.val < 40960 := by
  have h1 := lt_of_lt_of_eq t.isLt (show cfg0.N = 80 from N_0); have := r.isLt; omega

/-- The array's row that row `r` of grid point `t`'s block is. -/
abbrev rowOf (t : Fin cfg0.N) (r : Fin 512) : Fin 40960 := ⟨512 * t.val + r.val, row_lt t r⟩

theorem iblk0_apply (c : Dev nD) (t : Fin cfg0.N) (r : Fin 512) (e : Fin 1024) :
    (iblk m c 0 t : Vec Ideal S512x1024 .bf16) (ix2 r e) = argO0 m c (ix3 (rowOf t r) (hd e) (ln e)) := by
  unfold iblk
  rw [View.read_apply, ← V_v1 m c]
  show V m c main_v1 _ = V m c main_v1 _
  refine congrArg (V m c main_v1) (funext fun a => Fin.ext ?_)
  obtain ⟨⟨e0, e1⟩, -⟩ := ix_facts t
  match a with
  | ⟨0, _⟩ => show win0_0.index t 0 * 512 + 1 * r.val = 512 * t.val + r.val; rw [e0]; omega
  | ⟨1, _⟩ => show win0_0.index t 1 * 1024 + 1 * e.val = e.val; rw [e1]; omega

theorem iblk1_apply (c : Dev nD) (t : Fin cfg0.N) (r : Fin 512) (e : Fin 1024) :
    (iblk m c 1 t : Vec Ideal S512x1024 .bf16) (ix2 r e) = argO1 m c (ix3 (rowOf t r) (hd e) (ln e)) := by
  unfold iblk
  rw [View.read_apply, ← V_v3 m c]
  show V m c main_v3 _ = V m c main_v3 _
  refine congrArg (V m c main_v3) (funext fun a => Fin.ext ?_)
  obtain ⟨-, ⟨e0, e1⟩, -⟩ := ix_facts t
  match a with
  | ⟨0, _⟩ => show win0_1.index t 0 * 512 + 1 * r.val = 512 * t.val + r.val; rw [e0]; omega
  | ⟨1, _⟩ => show win0_1.index t 1 * 1024 + 1 * e.val = e.val; rw [e1]; omega

theorem iblk2_apply (c : Dev nD) (t : Fin cfg0.N) (r : Fin 512) (e : Fin 1024) :
    (iblk m c 2 t : Vec Ideal S512x1024 .bf16) (ix2 r e) = argO2 m c (ix3 (rowOf t r) (hd e) (ln e)) := by
  unfold iblk
  rw [View.read_apply, ← V_v5 m c]
  show V m c main_v5 _ = V m c main_v5 _
  refine congrArg (V m c main_v5) (funext fun a => Fin.ext ?_)
  obtain ⟨-, -, ⟨e0, e1⟩, -⟩ := ix_facts t
  match a with
  | ⟨0, _⟩ => show win0_2.index t 0 * 512 + 1 * r.val = 512 * t.val + r.val; rw [e0]; omega
  | ⟨1, _⟩ => show win0_2.index t 1 * 1024 + 1 * e.val = e.val; rw [e1]; omega

theorem iblk3_apply (c : Dev nD) (t : Fin cfg0.N) (r : Fin 512) (e : Fin 1024) :
    (iblk m c 3 t : Vec Ideal S512x1024 .f32) (ix2 r e) = argL0 m c (ix2 (rowOf t r) (hd e)) := by
  unfold iblk
  rw [View.read_apply, ← V_v8 m c]
  show V m c main_v8 _ = V m c main_v8 _
  refine congrArg (V m c main_v8) (funext fun a => Fin.ext ?_)
  obtain ⟨-, -, -, ⟨e0, e1⟩, -⟩ := ix_facts t
  match a with
  | ⟨0, _⟩ => show win0_3.index t 0 * 512 + 1 * r.val = 512 * t.val + r.val; rw [e0]; omega
  | ⟨1, _⟩ => show win0_3.index t 1 * 1024 + 1 * e.val = e.val; rw [e1]; omega

theorem iblk4_apply (c : Dev nD) (t : Fin cfg0.N) (r : Fin 512) (e : Fin 1024) :
    (iblk m c 4 t : Vec Ideal S512x1024 .f32) (ix2 r e) = argL1 m c (ix2 (rowOf t r) (hd e)) := by
  unfold iblk
  rw [View.read_apply, ← V_v11 m c]
  show V m c main_v11 _ = V m c main_v11 _
  refine congrArg (V m c main_v11) (funext fun a => Fin.ext ?_)
  obtain ⟨-, -, -, -, ⟨e0, e1⟩, -⟩ := ix_facts t
  match a with
  | ⟨0, _⟩ => show win0_4.index t 0 * 512 + 1 * r.val = 512 * t.val + r.val; rw [e0]; omega
  | ⟨1, _⟩ => show win0_4.index t 1 * 1024 + 1 * e.val = e.val; rw [e1]; omega

theorem iblk5_apply (c : Dev nD) (t : Fin cfg0.N) (r : Fin 512) (e : Fin 1024) :
    (iblk m c 5 t : Vec Ideal S512x1024 .f32) (ix2 r e) = argL2 m c (ix2 (rowOf t r) (hd e)) := by
  unfold iblk
  rw [View.read_apply, ← V_v14 m c]
  show V m c main_v14 _ = V m c main_v14 _
  refine congrArg (V m c main_v14) (funext fun a => Fin.ext ?_)
  obtain ⟨-, -, -, -, -, ⟨e0, e1⟩, -⟩ := ix_facts t
  match a with
  | ⟨0, _⟩ => show win0_5.index t 0 * 512 + 1 * r.val = 512 * t.val + r.val; rw [e0]; omega
  | ⟨1, _⟩ => show win0_5.index t 1 * 1024 + 1 * e.val = e.val; rw [e1]; omega

theorem iblk6_apply (c : Dev nD) (t : Fin cfg0.N) (j : Fin 1024) (k : Fin 2048) :
    (iblk m c 6 t : Vec Ideal S1x1024x2048 .bf16) (ix3 0 j k) = argW m c (ix3 0 j k) := by
  unfold iblk
  rw [View.read_apply]
  show V m c main_v15 _ = _
  rw [V_v15]
  refine congrArg (argW m c) (funext fun a => Fin.ext ?_)
  obtain ⟨-, -, -, -, -, -, ⟨e0, e1, e2⟩, -⟩ := ix_facts t
  match a with
  | ⟨0, _⟩ => show win0_6.index t 0 * 1 + 1 * 0 = 0; rw [e0]
  | ⟨1, _⟩ => show win0_6.index t 1 * 1024 + 1 * j.val = j.val; rw [e1]; omega
  | ⟨2, _⟩ => show win0_6.index t 2 * 2048 + 1 * k.val = k.val; rw [e2]; omega

theorem iblk7_apply (c : Dev nD) (t : Fin cfg0.N) (k : Fin 2048) :
    (iblk m c 7 t : Vec Ideal S1x2048 .f32) (ix2 0 k) = argG m c (ix2 1 k) := by
  unfold iblk
  rw [View.read_apply, ← V_v18 m c k]
  show V m c main_v18 _ = V m c main_v18 _
  refine congrArg (V m c main_v18) (funext fun a => Fin.ext ?_)
  obtain ⟨-, -, -, -, -, -, -, ⟨e0, e1⟩, -⟩ := ix_facts t
  match a with
  | ⟨0, _⟩ => show win0_7.index t 0 * 1 + 1 * 0 = 0; rw [e0]
  | ⟨1, _⟩ => show win0_7.index t 1 * 2048 + 1 * k.val = k.val; rw [e1]; omega

theorem iblk8_apply (c : Dev nD) (t : Fin cfg0.N) (r : Fin 512) (k : Fin 2048) :
    (iblk m c 8 t : Vec Ideal S512x2048 .f32) (ix2 r k) = argX m c (ix2 (rowOf t r) k) := by
  unfold iblk
  rw [View.read_apply]
  show V m c main_arg6 _ = _
  rw [V_main_arg6]
  refine congrArg (argX m c) (funext fun a => Fin.ext ?_)
  obtain ⟨-, -, -, -, -, -, -, -, ⟨e0, e1⟩, -⟩ := ix_facts t
  match a with
  | ⟨0, _⟩ => show win0_8.index t 0 * 512 + 1 * r.val = 512 * t.val + r.val; rw [e0]; omega
  | ⟨1, _⟩ => show win0_8.index t 1 * 2048 + 1 * k.val = k.val; rw [e1]; omega

/-- Column `e` of row `R` of the three groups' outputs, merged by their logarithms. -/
def mixed (c : Dev nD) (R : Fin 40960) (e : Fin 1024) : EReal :=
  mix (argL0 m c (ix2 R (hd e))) (argL1 m c (ix2 R (hd e))) (argL2 m c (ix2 R (hd e)))
    (argO0 m c (ix3 R (hd e) (ln e))) (argO1 m c (ix3 R (hd e) (ln e))) (argO2 m c (ix3 R (hd e) (ln e)))

/-- The call's result at row `R`, column `k`: the residual plus the normalised projection of the merged row. -/
def projOut (c : Dev nD) (R : Fin 40960) (k : Fin 2048) : EReal :=
  argX m c (ix2 R k) + rms (fun i => ∑ e : Fin 1024, mixed m c R e * argW m c (ix3 0 e i)) k (argG m c (ix2 1 k))

theorem flush9 : ∀ t : Fin cfg0.N, (cfg0.win 9).flush t = true := (by decide +kernel : ∀ t : Fin grid0.N, _)

/-- The output array that the run leaves. -/
theorem arr9_apply (c : Dev nD) (R : Fin 40960) (k : Fin 2048) :
    ((dats m 0 c).arrAt 9 cfg0.N : Vec Ideal S40960x2048 .f32) (ix2 R k) = projOut m c R k := by
  obtain ⟨t, r, hR⟩ : ∃ (t : Fin cfg0.N) (r : Fin 512), R = rowOf t r :=
    ⟨⟨R.val / 512, by rw [show cfg0.N = 80 from N_0]; omega⟩, ⟨R.val % 512, by omega⟩,
      Fin.ext (by show R.val = 512 * (R.val / 512) + R.val % 512; omega)⟩
  have hemb : ((cfg0.win 9).blk t).view.emb (ix2 r k) = (ix2 R k : S40960x2048.Idx) := by
    obtain ⟨-, -, -, -, -, -, -, -, -, e0, e1⟩ := ix_facts t
    funext a
    apply Fin.ext
    match a with
    | ⟨0, _⟩ => show win0_9.index t 0 * 512 + 1 * r.val = R.val; rw [e0, hR]; show _ = 512 * t.val + r.val; omega
    | ⟨1, _⟩ => show win0_9.index t 1 * 2048 + 1 * k.val = k.val; rw [e1]; omega
  have h := congrFun (Value.blocks9 m c t (flush9 t)) (ix2 r k)
  rw [View.read_apply, Value.flushed9] at h
  rw [hemb] at h
  refine h.trans ?_
  refine (out_apply _ _ _ _ _ _ _ _ _ r k).trans ?_
  unfold projOut mixed
  simp only [iblk0_apply, iblk1_apply, iblk2_apply, iblk3_apply, iblk4_apply, iblk5_apply, iblk6_apply, iblk7_apply, iblk8_apply]
  rw [hR]

end Cert.Kernel4Ideal.Hand
end
-- ==== Proof.MixRef.lean ====
module

public import proofs.«01_k».proof.Proof.MixFold
public import proofs.«01_k».proof.Proof.D1Pay
public import proofs.«01_k».proof.Proof.Gen.Reference4Ideal.Run
public import proofs.«01_k».proof.Proof.Gen.Pre_finite_lse

@[expose] public section

set_option maxRecDepth 16384

noncomputable section

/- The reference of the merged output projection, and its agreement with the kernel. -/
namespace Cert.Reference4Ideal.Hand

open Cert.Reference4Ideal Cert.Reference4Ideal.Gen Idealize.ShloMosaic Idealize.ShloMosaic.TcCoe Idealize.SL.Sem
open Cert.Band (smax sden)
open Cert.Kernel2Ideal.Hand (rms)
open Cert.Kernel4Ideal.Hand (mix mixed projOut hd ln argO0 argO1 argO2 argL0 argL1 argL2 argX argG argW)
open Cert.KernelIdeal.Hand (neg_inf_word)

/-- The three groups' logarithms, stacked. -/
def lsV (l0 l1 l2 : FVec Ideal S40960x16 .f32) : FVec Ideal S3x40960x16 .f32 :=
  concatenate S3x40960x16 0
    [⟨S1x40960x16, broadcastInDim S1x40960x16 ![1, 2] bcast_S40960x16_S1x40960x16_1_2 l0⟩,
     ⟨S1x40960x16, broadcastInDim S1x40960x16 ![1, 2] bcast_S40960x16_S1x40960x16_1_2 l1⟩,
     ⟨S1x40960x16, broadcastInDim S1x40960x16 ![1, 2] bcast_S40960x16_S1x40960x16_1_2 l2⟩]
    concatenates_S1x40960x16_S1x40960x16_S1x40960x16_S3x40960x16_d0

/-- The three groups' outputs, stacked. -/
def osV (o0 o1 o2 : FVec Ideal S40960x16x64 .f32) : FVec Ideal S3x40960x16x64 .f32 :=
  concatenate S3x40960x16x64 0
    [⟨S1x40960x16x64, broadcastInDim S1x40960x16x64 ![1, 2, 3] bcast_S40960x16x64_S1x40960x16x64_1_2_3 o0⟩,
     ⟨S1x40960x16x64, broadcastInDim S1x40960x16x64 ![1, 2, 3] bcast_S40960x16x64_S1x40960x16x64_1_2_3 o1⟩,
     ⟨S1x40960x16x64, broadcastInDim S1x40960x16x64 ![1, 2, 3] bcast_S40960x16x64_S1x40960x16x64_1_2_3 o2⟩]
    concatenates_S1x40960x16x64_S1x40960x16x64_S1x40960x16x64_S3x40960x16x64_d0

/-- The greatest of the three logarithms. -/
def mxV (L : FVec Ideal S3x40960x16 .f32) : FVec Ideal S40960x16 .f32 :=
  maximumf (F := Ideal) (broadcastInDim S40960x16 ![] bcast_S_S40960x16 (constant S_ .f32 0xFF800000#32))
    (Host.reduce FloatOps.maximumf L (constant S_ .f32 0xFF800000#32) reducesTo_S3x40960x16_S40960x16_d0 h_S_)

/-- The exponentials of the logarithms, relative to the greatest. -/
def exV (L : FVec Ideal S3x40960x16 .f32) : FVec Ideal S3x40960x16 .f32 :=
  Host.exp (subf (F := Ideal) L (broadcastInDim S3x40960x16 ![0, 1, 2] bcast_S1x40960x16_S3x40960x16_0_1_2
    (broadcastInDim S1x40960x16 ![1, 2] bcast_S40960x16_S1x40960x16_1_2 (mxV L))))

/-- The three groups' weights. -/
def wtV (L : FVec Ideal S3x40960x16 .f32) : FVec Ideal S3x40960x16 .f32 :=
  Host.divf (exV L) (broadcastInDim S3x40960x16 ![0, 1, 2] bcast_S1x40960x16_S3x40960x16_0_1_2
    (broadcastInDim S1x40960x16 ![1, 2] bcast_S40960x16_S1x40960x16_1_2
      (Host.reduceAdd (exV L) (constant S_ .f32 0x00000000#32) reducesTo_S3x40960x16_S40960x16_d0 h_S_)))

/-- The weighted sum of the three groups' outputs, heads side by side. -/
def mgV (W : FVec Ideal S3x40960x16 .f32) (O : FVec Ideal S3x40960x16x64 .f32) : FVec Ideal S40960x1024 .f32 :=
  shapeCast _ (Host.reduceAdd
    (mulf (F := Ideal) (broadcastInDim S3x40960x16x64 ![0, 1, 2, 3] bcast_S3x40960x16x1_S3x40960x16x64_0_1_2_3
      (broadcastInDim S3x40960x16x1 ![0, 1, 2] bcast_S3x40960x16_S3x40960x16x1_0_1_2 W)) O)
    (constant S_ .f32 0x00000000#32) reducesTo_S3x40960x16x64_S40960x16x64_d0 h_S_) shapeCasts_S40960x16x64_S40960x1024

/-- The product with the first slice of the projection's weights. -/
def pjV (X : FVec Ideal S40960x1024 .f32) (W : FVec Ideal S2x1024x2048 .f32) : FVec Ideal S40960x2048 .f32 :=
  Host.dotGeneral (F := Ideal) dot_S40960x1024_S1024x2048_S40960x2048_1_0_0_1_n_n none X
    (shapeCast _ (extractStridedSlice S1x1024x2048 ![0, 0, 0] W slices_S2x1024x2048_S1x1024x2048_0_0_0)
      shapeCasts_S1x1024x2048_S1024x2048)

/-- The reference's normalisation of the rows of an array, times the second layer's gains. -/
def rmsV (X : FVec Ideal S40960x2048 .f32) (G : FVec Ideal S4x2048 .f32) : FVec Ideal S40960x2048 .f32 :=
  mulf (F := Ideal)
    (mulf X
      (broadcastInDim S40960x2048 ![0, 1] bcast_S40960x1_S40960x2048_0_1
        (Host.rsqrt
          (addf
            (Host.divf
              (broadcastInDim S40960x1 ![0] bcast_S40960_S40960x1_0
                (Host.reduceAdd (mulf X X) (constant S_ FTy.f32 0#32) reducesTo_S40960x2048_S40960_d1 h_S_))
              (broadcastInDim S40960x1 ![] bcast_S_S40960x1 (constant S_ FTy.f32 1157627904#32)))
            (broadcastInDim S40960x1 ![] bcast_S_S40960x1 (constant S_ FTy.f32 897988541#32))))))
    (broadcastInDim S40960x2048 ![0, 1] bcast_S1x2048_S40960x2048_0_1
      (broadcastInDim S1x2048 ![1] bcast_S2048_S1x2048_1
        (shapeCast S2048 (extractStridedSlice S1x2048 ![1, 0] G slices_S4x2048_S1x2048_1_0) shapeCasts_S1x2048_S2048)))

set_option maxRecDepth 100000 in
/-- The reference's result, as a composition of the arrays above. -/
theorem res_eq (m : (ℓ : Loc nD τ sig) → Buf (Elt Ideal) ℓ) (c : Dev nD) :
    Value.res_main_v42 m c =
      addf (F := Ideal) (m (c.tc.loc main_arg6) : FVec Ideal S40960x2048 .f32)
        (rmsV (pjV (mgV (wtV (lsV (m (c.tc.loc main_arg3)) (m (c.tc.loc main_arg4)) (m (c.tc.loc main_arg5))))
          (osV (m (c.tc.loc main_arg0)) (m (c.tc.loc main_arg1)) (m (c.tc.loc main_arg2)))) (m (c.tc.loc main_arg8)))
          (m (c.tc.loc main_arg7))) := rfl

/-- One of three. -/
def sel {α : Type} (a0 a1 a2 : α) (u : Fin 3) : α := if u.val < 1 then a0 else if u.val < 2 then a1 else a2

theorem lsV_apply (l0 l1 l2 : FVec Ideal S40960x16 .f32) (u : Fin 3) (R : Fin 40960) (h : Fin 16) :
    lsV l0 l1 l2 (ix3 u R h) = sel (l0 (ix2 R h)) (l1 (ix2 R h)) (l2 (ix2 R h)) u := by
  unfold lsV sel
  pointwise
  match u with
  | 0 => rfl
  | 1 => rfl
  | 2 => rfl

theorem osV_apply (o0 o1 o2 : FVec Ideal S40960x16x64 .f32) (u : Fin 3) (R : Fin 40960) (h : Fin 16) (d : Fin 64) :
    osV o0 o1 o2 (ix4 u R h d) = sel (o0 (ix3 R h d)) (o1 (ix3 R h d)) (o2 (ix3 R h d)) u := by
  unfold osV sel
  pointwise
  match u with
  | 0 => rfl
  | 1 => rfl
  | 2 => rfl

theorem mxV_apply (L : FVec Ideal S3x40960x16 .f32) (R : Fin 40960) (h : Fin 16) :
    mxV L (ix2 R h) = smax fun u => L (ix3 u R h) := by
  unfold mxV
  pointwise
  rw [neg_inf_word]
  exact max_eq_right bot_le

theorem exV_apply (L : FVec Ideal S3x40960x16 .f32) (u : Fin 3) (R : Fin 40960) (h : Fin 16) :
    exV L (ix3 u R h) = Ideal.exp (L (ix3 u R h) - smax fun u => L (ix3 u R h)) := by
  rw [← mxV_apply]
  unfold exV
  generalize mxV L = M
  pointwise

theorem wtV_apply (L : FVec Ideal S3x40960x16 .f32) (u : Fin 3) (R : Fin 40960) (h : Fin 16) :
    wtV L (ix3 u R h) = Ideal.div (Ideal.exp (L (ix3 u R h) - smax fun u => L (ix3 u R h))) (sden fun u => L (ix3 u R h)) := by
  unfold sden
  simp only [← exV_apply]
  unfold wtV
  generalize exV L = E
  pointwise

theorem mgV_apply (W : FVec Ideal S3x40960x16 .f32) (O : FVec Ideal S3x40960x16x64 .f32) (R : Fin 40960) (e : Fin 1024) :
    mgV W O (ix2 R e) = ∑ u : Fin 3, W (ix3 u R (hd e)) * O (ix4 u R (hd e) (ln e)) := by
  unfold mgV
  pointwise

theorem pjV_apply (X : FVec Ideal S40960x1024 .f32) (W : FVec Ideal S2x1024x2048 .f32) (R : Fin 40960) (k : Fin 2048) :
    pjV X W (ix2 R k) = ∑ j : Fin 1024, X (ix2 R j) * W (ix3 0 j k) := by
  unfold pjV
  pointwise

theorem rmsV_apply (X : FVec Ideal S40960x2048 .f32) (G : FVec Ideal S4x2048 .f32) (R : Fin 40960) (k : Fin 2048) :
    rmsV X G (ix2 R k) = rms (fun j => X (ix2 R j)) k (G (ix2 1 k)) := by
  unfold rmsV rms
  pointwise

theorem smax_three (s : Fin 3 → EReal) : smax s = max (max (s 0) (s 1)) (s 2) := by
  show Finset.univ.sup s = _
  rw [Fin.univ_succ, Finset.sup_cons, Finset.sup_map, Fin.univ_succ, Finset.sup_cons, Finset.sup_map, Fin.univ_succ, Finset.sup_cons]
  simp [max_assoc]

/-- Dividing each weight, or the weighted sum, by the weights' sum is the same when the logarithms are real numbers. -/
theorem mix_eq (a0 a1 a2 : ℝ) (s v : Fin 3 → EReal) (h0 : s 0 = a0) (h1 : s 1 = a1) (h2 : s 2 = a2) :
    ∑ u : Fin 3, Ideal.div (Ideal.exp (s u - smax s)) (sden s) * v u = mix (s 0) (s 1) (s 2) (v 0) (v 1) (v 2) := by
  have hm : smax s = ((max (max a0 a1) a2 : ℝ) : EReal) := by
    rw [smax_three, h0, h1, h2]
    simp only [EReal.coe_strictMono.monotone.map_max]
  have he : ∀ (u : Fin 3) (a : ℝ), s u = a → Ideal.exp (s u - smax s) = ((Real.exp (a - max (max a0 a1) a2) : ℝ) : EReal) := fun u a h => by
    rw [hm, h, ← EReal.coe_sub]; rfl
  have hd : sden s = ((Real.exp (a0 - max (max a0 a1) a2) + Real.exp (a1 - max (max a0 a1) a2) + Real.exp (a2 - max (max a0 a1) a2) : ℝ) : EReal) := by
    unfold sden
    rw [Fin.sum_univ_three, he 0 a0 h0, he 1 a1 h1, he 2 a2 h2, EReal.coe_add, EReal.coe_add]
  have hpos : 0 < Real.exp (a0 - max (max a0 a1) a2) + Real.exp (a1 - max (max a0 a1) a2) + Real.exp (a2 - max (max a0 a1) a2) := by
    have := Real.exp_pos (a0 - max (max a0 a1) a2); have := Real.exp_pos (a1 - max (max a0 a1) a2)
    have := Real.exp_pos (a2 - max (max a0 a1) a2); linarith
  have hmix : mix (s 0) (s 1) (s 2) (v 0) (v 1) (v 2) = Ideal.div (∑ u : Fin 3, Ideal.exp (s u - smax s) * v u) (sden s) := by
    unfold mix sden
    rw [Fin.sum_univ_three, Fin.sum_univ_three, smax_three]
  rw [hmix, hd]
  refine Eq.trans (Finset.sum_congr rfl fun u _ => mul_comm _ _) ?_
  exact Cert.Band.div_sum Finset.univ (fun u => Ideal.exp (s u - smax s)) v _ hpos

/-- The precondition, read at an index: the three groups' logarithms are finite. -/
theorem finite_apply (o0 o1 o2 : FVec Ideal S40960x16x64 .f32) (l0 l1 l2 : FVec Ideal S40960x16 .f32) (x : FVec Ideal S40960x2048 .f32)
    (g : FVec Ideal S4x2048 .f32) (w : FVec Ideal S2x1024x2048 .f32)
    (hX : Cert.Pre_finite_lse.fn (F := Ideal) o0 o1 o2 l0 l1 l2 x g w = fun _ => 1#1) (u : Fin 3) (R : Fin 40960) (h : Fin 16) :
    ∃ a : ℝ, sel (l0 (ix2 R h)) (l1 (ix2 R h)) (l2 (ix2 R h)) u = a := by
  have hb := congrFun hX (ix3 u R h)
  have hc : max (lsV l0 l1 l2 (ix3 u R h)) (-lsV l0 l1 l2 (ix3 u R h)) < (⊤ : EReal) := by
    unfold Cert.Pre_finite_lse.fn at hb
    change (cmpf (F := Ideal) .olt (Host.absf (lsV l0 l1 l2)) _) (ix3 u R h) = 1#1 at hb
    generalize lsV l0 l1 l2 = L at hb ⊢
    pointwise at hb
    have h2 := of_decide_eq_true (Bool.eq_true_of_not_eq_false fun h3 => by rw [h3] at hb; exact absurd hb (by decide))
    rwa [show Ideal.ofBits .f32 0x7F800000#32 = ⊤ by simp [Ideal.ofBits, Ideal.ieee]] at h2
  rw [lsV_apply] at hc
  refine ⟨EReal.toReal (sel (l0 (ix2 R h)) (l1 (ix2 R h)) (l2 (ix2 R h)) u), (EReal.coe_toReal (fun h1 => ?_) (fun h1 => ?_)).symm⟩ <;>
  · rw [h1] at hc
    simp at hc

/-- An entry of the reference's result. -/
theorem res_apply (m : (ℓ : Loc nD τ sig) → Buf (Elt Ideal) ℓ) (c : Dev nD) (o0 o1 o2 : FVec Ideal S40960x16x64 .f32)
    (l0 l1 l2 : FVec Ideal S40960x16 .f32) (x : FVec Ideal S40960x2048 .f32) (g : FVec Ideal S4x2048 .f32) (w : FVec Ideal S2x1024x2048 .f32)
    (h0 : o0 = m (c.tc.loc main_arg0)) (h1 : o1 = m (c.tc.loc main_arg1)) (h2 : o2 = m (c.tc.loc main_arg2))
    (h3 : l0 = m (c.tc.loc main_arg3)) (h4 : l1 = m (c.tc.loc main_arg4)) (h5 : l2 = m (c.tc.loc main_arg5))
    (h6 : x = m (c.tc.loc main_arg6)) (h7 : g = m (c.tc.loc main_arg7)) (h8 : w = m (c.tc.loc main_arg8))
    (hX : Cert.Pre_finite_lse.fn (F := Ideal) o0 o1 o2 l0 l1 l2 x g w = fun _ => 1#1) (R : Fin 40960) (k : Fin 2048) :
    (Value.res_main_v42 m c : FVec Ideal S40960x2048 .f32) (ix2 R k) =
      x (ix2 R k) + rms (fun i => ∑ e : Fin 1024,
        mix (l0 (ix2 R (hd e))) (l1 (ix2 R (hd e))) (l2 (ix2 R (hd e)))
          (o0 (ix3 R (hd e) (ln e))) (o1 (ix3 R (hd e) (ln e))) (o2 (ix3 R (hd e) (ln e))) * w (ix3 0 e i)) k (g (ix2 1 k)) := by
  have hf := finite_apply o0 o1 o2 l0 l1 l2 x g w hX
  subst h0 h1 h2 h3 h4 h5 h6 h7 h8
  rw [res_eq]
  refine congrArg₂ (fun a b : EReal => a + b) rfl ?_
  rw [rmsV_apply]
  refine congrArg (fun v => rms v k _) (funext fun i => ?_)
  rw [pjV_apply]
  refine Finset.sum_congr rfl fun e _ => congrArg₂ (fun a b : EReal => a * b) ?_ rfl
  rw [mgV_apply]
  simp only [wtV_apply, lsV_apply, osV_apply]
  obtain ⟨a0, e0⟩ := hf 0 R (hd e)
  obtain ⟨a1, e1⟩ := hf 1 R (hd e)
  obtain ⟨a2, e2⟩ := hf 2 R (hd e)
  exact mix_eq a0 a1 a2 _ _ e0 e1 e2

/-- The kernel's output array and the reference's result agree on equal arguments whose logarithms are finite. -/
theorem agree (m : (ℓ : Loc Kernel4Ideal.nD Kernel4Ideal.τ Kernel4Ideal.sig) → Buf (Elt Ideal) ℓ)
    (m' : (ℓ : Loc nD τ sig) → Buf (Elt Ideal) ℓ) (c : Dev nD)
    (h0 : m' (c.tc.loc main_arg0) = argO0 m c) (h1 : m' (c.tc.loc main_arg1) = argO1 m c) (h2 : m' (c.tc.loc main_arg2) = argO2 m c)
    (h3 : m' (c.tc.loc main_arg3) = argL0 m c) (h4 : m' (c.tc.loc main_arg4) = argL1 m c) (h5 : m' (c.tc.loc main_arg5) = argL2 m c)
    (h6 : m' (c.tc.loc main_arg6) = argX m c) (h7 : m' (c.tc.loc main_arg7) = argG m c) (h8 : m' (c.tc.loc main_arg8) = argW m c)
    (hX : Cert.Pre_finite_lse.fn (F := Ideal) (argO0 m c) (argO1 m c) (argO2 m c) (argL0 m c) (argL1 m c) (argL2 m c) (argX m c) (argG m c) (argW m c)
      = fun _ => 1#1) :
    (Value.res_main_v42 m' c : FVec Ideal S40960x2048 .f32) = (Kernel4Ideal.Gen.dats m 0 c).arrAt 9 Kernel4Ideal.cfg0.N := by
  funext y
  obtain ⟨R, k, rfl⟩ : ∃ (R : Fin 40960) (k : Fin 2048), y = ix2 R k := ⟨y 0, y 1, eq_ix2 (n0 := 40960) (n1 := 2048) y⟩
  exact (res_apply m' c (argO0 m c) (argO1 m c) (argO2 m c) (argL0 m c) (argL1 m c) (argL2 m c) (argX m c) (argG m c) (argW m c)
    h0.symm h1.symm h2.symm h3.symm h4.symm h5.symm h6.symm h7.symm h8.symm hX R k).trans (Kernel4Ideal.Hand.arr9_apply m c R k).symm

end Cert.Reference4Ideal.Hand
end
-- ==== Proof.EvenInBody.lean ====
module

public import proofs.«01_k».proof.Proof.RotBody
public import proofs.«01_k».proof.Proof.Gen.Kernel6Ideal.Value
public import Idealize.ShloMosaic.Lib.Pointwise
public import Idealize.ShloMosaic.Lib.Pipeline.ValueKit.Acc
public import Idealize.ShloMosaic.Lib.Pipeline.ReadBack

@[expose] public section

set_option maxRecDepth 16384

noncomputable section

/- What one grid point of layer 2's input projection stores. -/
namespace Cert.Kernel6Ideal.Hand

open Cert.Kernel6Ideal Cert.Kernel6Ideal.Gen Idealize.ShloMosaic Idealize.ShloMosaic.TcCoe Idealize.SL.Sem
open Idealize.ShloMosaic.Pipeline (Dat)
open Cert.Kernel2Ideal.Hand (rms)
open Cert.Kernel5Ideal.Hand (hz)

variable {F : FTy → Type} [FloatOps F]

/-- The 128 columns from `l` on of the normalised block times 512 columns of the weights. -/
def tileAt (l : ℕ) (h : S512x512.Slices ![0, l] S512x128) (xn : Vec F S512x2048 .bf16) (w : Vec F S1x2048x512 .bf16) : FVec F S512x128 .f32 :=
  extractStridedSlice S512x128 ![0, l] (k0_pay49 xn w) h

/-- A tile stored as it is. -/
def plain (y : FVec F S512x128 .f32) : FVec F S1x1x512x128 .bf16 :=
  shapeCast S1x1x512x128 (truncf .bf16 y bitsLt_bf16_f32) shapeCasts_S512x128_S1x1x512x128

/-- A tile combined with itself eight columns further on and eight back, as three tables say. -/
def rotated (y : FVec F S512x128 .f32) (t0 t1 t2 : Vec F S512x128 .f32) : FVec F S1x1x512x128 .bf16 :=
  shapeCast S1x1x512x128
    (truncf .bf16
      (addf
        (addf (mulf y (shapeCast S512x128 t0 shapeCasts_S512x128_S512x128))
          (mulf (dynamicRotate 1 120#32 none y rotates_S512x128_d1) (shapeCast S512x128 t1 shapeCasts_S512x128_S512x128)))
        (mulf (dynamicRotate 1 8#32 none y rotates_S512x128_d1) (shapeCast S512x128 t2 shapeCasts_S512x128_S512x128)))
      bitsLt_bf16_f32)
    shapeCasts_S512x128_S1x1x512x128

/-- The tables a rotated tile is multiplied with, loaded whole. -/
abbrev table (a : Memref sig .tc .vmem S512x128 .f32) (ha : a.IsWhole) (x : Vec F S512x128 .f32) : Vec F S512x128 .f32 :=
  View.readAt (Elt F) a.view (Rect.unit ![0, 0] S512x128.size inb_S512x128_S512x128_0_0).toLoadRect (ha.unread x)

theorem piecesX (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x4608 .bf16) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x1x512x4608 .bf16) (harg9 : arg9.IsWhole) (arg10 : Memref sig .tc .vmem S512x2048 .bf16) (harg10 : arg10.IsWhole)
    (x0 : Vec F S512x2048 .f32) (x1 : Vec F S1x2048 .f32) (x2 : Vec F S1x2048x4608 .bf16) (x3 : Vec F S256x256 .bf16) (x4 : Vec F S512x128 .f32) (x5 : Vec F S512x128 .f32) (x6 : Vec F S512x128 .f32) :
    ∀ p ∈ (kernelRun0_A c i arg2 harg2 arg3 harg3 arg4 harg4 arg5 harg5 arg6 harg6 arg7 harg7 arg8 harg8 arg9 harg9 arg10 harg10 x0 x1 x2 x3 x4 x5 x6).2.1, ∃ (o : ℕ) (inb : ∀ a, (![o, 0] : Fin 2 → ℕ) a + (![16, 2048] : Fin 2 → ℕ) a ≤ S512x2048.size a),
      p = ⟨Rect.unit (s := S512x2048) ![o, 0] ![16, 2048] inb,
        k0_pay5 (View.readAt (Elt F) arg3.view (Rect.unit ![0, 0] S1x2048.size inb_S1x2048_S1x2048_0_0).toLoadRect (harg3.unread x1))
          (View.readAt (Elt F) arg2.view (Rect.unit (s := S512x2048) ![o, 0] ![16, 2048] inb).toLoadRect (harg2.unread x0))⟩ := by
  unfold kernelRun0_A
  dsimp only
  sl_unfold_words
  iterate 32 refine List.forall_mem_cons.2 ⟨⟨_, _, rfl⟩, ?_⟩
  exact fun p hp => absurd hp List.not_mem_nil

theorem coverX (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x4608 .bf16) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x1x512x4608 .bf16) (harg9 : arg9.IsWhole) (arg10 : Memref sig .tc .vmem S512x2048 .bf16) (harg10 : arg10.IsWhole)
    (x0 : Vec F S512x2048 .f32) (x1 : Vec F S1x2048 .f32) (x2 : Vec F S1x2048x4608 .bf16) (x3 : Vec F S256x256 .bf16) (x4 : Vec F S512x128 .f32) (x5 : Vec F S512x128 .f32) (x6 : Vec F S512x128 .f32) (y : S512x2048.Idx) :
    ∃ pc ∈ (kernelRun0_A c i arg2 harg2 arg3 harg3 arg4 harg4 arg5 harg5 arg6 harg6 arg7 harg7 arg8 harg8 arg9 harg9 arg10 harg10 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 x0 x1 x2 x3 x4 x5 x6).2.1 ![16, 2048] (by sl_kernel_rfl) y

theorem piecesO (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x4608 .bf16) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x1x512x4608 .bf16) (harg9 : arg9.IsWhole) (arg10 : Memref sig .tc .vmem S512x2048 .bf16) (harg10 : arg10.IsWhole)
    (x0 : Vec F S512x2048 .f32) (x1 : Vec F S1x2048 .f32) (x2 : Vec F S1x2048x4608 .bf16) (x3 : Vec F S256x256 .bf16) (x4 : Vec F S512x128 .f32) (x5 : Vec F S512x128 .f32) (x6 : Vec F S512x128 .f32) :
    ∀ p ∈ (kernelRun0_A c i arg2 harg2 arg3 harg3 arg4 harg4 arg5 harg5 arg6 harg6 arg7 harg7 arg8 harg8 arg9 harg9 arg10 harg10 x0 x1 x2 x3 x4 x5 x6).1, ∃ (o c0 l : ℕ) (h : S512x512.Slices ![0, l] S512x128)
      (inbw : ∀ a, (![0, 0, c0] : Fin 3 → ℕ) a + S1x2048x512.size a ≤ S1x2048x4608.size a)
      (inb : ∀ a, (![0, 0, 0, o] : Fin 4 → ℕ) a + S1x1x512x128.size a ≤ S1x1x512x4608.size a) (xn : Vec F S512x2048 .bf16),
      ((p = ⟨Rect.unit (s := S1x1x512x4608) ![0, 0, 0, o] S1x1x512x128.size inb,
          plain (tileAt l h xn (View.readAt (Elt F) arg4.view (Rect.unit (s := S1x2048x4608) ![0, 0, c0] S1x2048x512.size inbw).toLoadRect (harg4.unread x2)))⟩ ∧ (o + 128 ≤ 3072 ∨ 4352 ≤ o)) ∨
       (p = ⟨Rect.unit (s := S1x1x512x4608) ![0, 0, 0, o] S1x1x512x128.size inb,
          rotated (tileAt l h xn (View.readAt (Elt F) arg4.view (Rect.unit (s := S1x2048x4608) ![0, 0, c0] S1x2048x512.size inbw).toLoadRect (harg4.unread x2)))
            (table arg6 harg6 x4) (table arg7 harg7 x5) (table arg8 harg8 x6)⟩ ∧ 3072 ≤ o ∧ o + 128 ≤ 4352)) ∧ o = c0 + l ∧ 128 ∣ o ∧
      xn = arg10.view.readCov (kernelRun0_A c i arg2 harg2 arg3 harg3 arg4 harg4 arg5 harg5 arg6 harg6 arg7 harg7 arg8 harg8 arg9 harg9 arg10 harg10 x0 x1 x2 x3 x4 x5 x6).2.1 (Rect.unit (s := S512x2048) ![0, 0] S512x2048.size inb_S512x2048_S512x2048_0_0).toLoadRect := by
  unfold kernelRun0_A
  dsimp only
  refine List.forall_mem_cons.2 ⟨⟨4480, 4096, 384, slices_S512x512_o0_384_S512x128, inb_S1x2048x4608_S1x2048x512_0_0_4096, inb_S1x1x512x4608_S1x1x512x128_0_0_0_4480, _, Or.inl ⟨rfl, by decide⟩, rfl, by decide, rfl⟩, ?_⟩
  refine List.forall_mem_cons.2 ⟨⟨4352, 4096, 256, slices_S512x512_o0_256_S512x128, inb_S1x2048x4608_S1x2048x512_0_0_4096, inb_S1x1x512x4608_S1x1x512x128_0_0_0_4352, _, Or.inl ⟨rfl, by decide⟩, rfl, by decide, rfl⟩, ?_⟩
  refine List.forall_mem_cons.2 ⟨⟨4224, 4096, 128, slices_S512x512_o0_128_S512x128, inb_S1x2048x4608_S1x2048x512_0_0_4096, inb_S1x1x512x4608_S1x1x512x128_0_0_0_4224, _, Or.inr ⟨rfl, by decide, by decide⟩, rfl, by decide, rfl⟩, ?_⟩
  refine List.forall_mem_cons.2 ⟨⟨4096, 4096, 0, slices_S512x512_o0_0_S512x128, inb_S1x2048x4608_S1x2048x512_0_0_4096, inb_S1x1x512x4608_S1x1x512x128_0_0_0_4096, _, Or.inr ⟨rfl, by decide, by decide⟩, rfl, by decide, rfl⟩, ?_⟩
  refine List.forall_mem_cons.2 ⟨⟨3968, 3584, 384, slices_S512x512_o0_384_S512x128, inb_S1x2048x4608_S1x2048x512_0_0_3584, inb_S1x1x512x4608_S1x1x512x128_0_0_0_3968, _, Or.inr ⟨rfl, by decide, by decide⟩, rfl, by decide, rfl⟩, ?_⟩
  refine List.forall_mem_cons.2 ⟨⟨3840, 3584, 256, slices_S512x512_o0_256_S512x128, inb_S1x2048x4608_S1x2048x512_0_0_3584, inb_S1x1x512x4608_S1x1x512x128_0_0_0_3840, _, Or.inr ⟨rfl, by decide, by decide⟩, rfl, by decide, rfl⟩, ?_⟩
  refine List.forall_mem_cons.2 ⟨⟨3712, 3584, 128, slices_S512x512_o0_128_S512x128, inb_S1x2048x4608_S1x2048x512_0_0_3584, inb_S1x1x512x4608_S1x1x512x128_0_0_0_3712, _, Or.inr ⟨rfl, by decide, by decide⟩, rfl, by decide, rfl⟩, ?_⟩
  refine List.forall_mem_cons.2 ⟨⟨3584, 3584, 0, slices_S512x512_o0_0_S512x128, inb_S1x2048x4608_S1x2048x512_0_0_3584, inb_S1x1x512x4608_S1x1x512x128_0_0_0_3584, _, Or.inr ⟨rfl, by decide, by decide⟩, rfl, by decide, rfl⟩, ?_⟩
  refine List.forall_mem_cons.2 ⟨⟨3456, 3072, 384, slices_S512x512_o0_384_S512x128, inb_S1x2048x4608_S1x2048x512_0_0_3072, inb_S1x1x512x4608_S1x1x512x128_0_0_0_3456, _, Or.inr ⟨rfl, by decide, by decide⟩, rfl, by decide, rfl⟩, ?_⟩
  refine List.forall_mem_cons.2 ⟨⟨3328, 3072, 256, slices_S512x512_o0_256_S512x128, inb_S1x2048x4608_S1x2048x512_0_0_3072, inb_S1x1x512x4608_S1x1x512x128_0_0_0_3328, _, Or.inr ⟨rfl, by decide, by decide⟩, rfl, by decide, rfl⟩, ?_⟩
  refine List.forall_mem_cons.2 ⟨⟨3200, 3072, 128, slices_S512x512_o0_128_S512x128, inb_S1x2048x4608_S1x2048x512_0_0_3072, inb_S1x1x512x4608_S1x1x512x128_0_0_0_3200, _, Or.inr ⟨rfl, by decide, by decide⟩, rfl, by decide, rfl⟩, ?_⟩
  refine List.forall_mem_cons.2 ⟨⟨3072, 3072, 0, slices_S512x512_o0_0_S512x128, inb_S1x2048x4608_S1x2048x512_0_0_3072, inb_S1x1x512x4608_S1x1x512x128_0_0_0_3072, _, Or.inr ⟨rfl, by decide, by decide⟩, rfl, by decide, rfl⟩, ?_⟩
  refine List.forall_mem_cons.2 ⟨⟨2944, 2560, 384, slices_S512x512_o0_384_S512x128, inb_S1x2048x4608_S1x2048x512_0_0_2560, inb_S1x1x512x4608_S1x1x512x128_0_0_0_2944, _, Or.inl ⟨rfl, by decide⟩, rfl, by decide, rfl⟩, ?_⟩
  refine List.forall_mem_cons.2 ⟨⟨2816, 2560, 256, slices_S512x512_o0_256_S512x128, inb_S1x2048x4608_S1x2048x512_0_0_2560, inb_S1x1x512x4608_S1x1x512x128_0_0_0_2816, _, Or.inl ⟨rfl, by decide⟩, rfl, by decide, rfl⟩, ?_⟩
  refine List.forall_mem_cons.2 ⟨⟨2688, 2560, 128, slices_S512x512_o0_128_S512x128, inb_S1x2048x4608_S1x2048x512_0_0_2560, inb_S1x1x512x4608_S1x1x512x128_0_0_0_2688, _, Or.inl ⟨rfl, by decide⟩, rfl, by decide, rfl⟩, ?_⟩
  refine List.forall_mem_cons.2 ⟨⟨2560, 2560, 0, slices_S512x512_o0_0_S512x128, inb_S1x2048x4608_S1x2048x512_0_0_2560, inb_S1x1x512x4608_S1x1x512x128_0_0_0_2560, _, Or.inl ⟨rfl, by decide⟩, rfl, by decide, rfl⟩, ?_⟩
  refine List.forall_mem_cons.2 ⟨⟨2432, 2048, 384, slices_S512x512_o0_384_S512x128, inb_S1x2048x4608_S1x2048x512_0_0_2048, inb_S1x1x512x4608_S1x1x512x128_0_0_0_2432, _, Or.inl ⟨rfl, by decide⟩, rfl, by decide, rfl⟩, ?_⟩
  refine List.forall_mem_cons.2 ⟨⟨2304, 2048, 256, slices_S512x512_o0_256_S512x128, inb_S1x2048x4608_S1x2048x512_0_0_2048, inb_S1x1x512x4608_S1x1x512x128_0_0_0_2304, _, Or.inl ⟨rfl, by decide⟩, rfl, by decide, rfl⟩, ?_⟩
  refine List.forall_mem_cons.2 ⟨⟨2176, 2048, 128, slices_S512x512_o0_128_S512x128, inb_S1x2048x4608_S1x2048x512_0_0_2048, inb_S1x1x512x4608_S1x1x512x128_0_0_0_2176, _, Or.inl ⟨rfl, by decide⟩, rfl, by decide, rfl⟩, ?_⟩
  refine List.forall_mem_cons.2 ⟨⟨2048, 2048, 0, slices_S512x512_o0_0_S512x128, inb_S1x2048x4608_S1x2048x512_0_0_2048, inb_S1x1x512x4608_S1x1x512x128_0_0_0_2048, _, Or.inl ⟨rfl, by decide⟩, rfl, by decide, rfl⟩, ?_⟩
  refine List.forall_mem_cons.2 ⟨⟨1920, 1536, 384, slices_S512x512_o0_384_S512x128, inb_S1x2048x4608_S1x2048x512_0_0_1536, inb_S1x1x512x4608_S1x1x512x128_0_0_0_1920, _, Or.inl ⟨rfl, by decide⟩, rfl, by decide, rfl⟩, ?_⟩
  refine List.forall_mem_cons.2 ⟨⟨1792, 1536, 256, slices_S512x512_o0_256_S512x128, inb_S1x2048x4608_S1x2048x512_0_0_1536, inb_S1x1x512x4608_S1x1x512x128_0_0_0_1792, _, Or.inl ⟨rfl, by decide⟩, rfl, by decide, rfl⟩, ?_⟩
  refine List.forall_mem_cons.2 ⟨⟨1664, 1536, 128, slices_S512x512_o0_128_S512x128, inb_S1x2048x4608_S1x2048x512_0_0_1536, inb_S1x1x512x4608_S1x1x512x128_0_0_0_1664, _, Or.inl ⟨rfl, by decide⟩, rfl, by decide, rfl⟩, ?_⟩
  refine List.forall_mem_cons.2 ⟨⟨1536, 1536, 0, slices_S512x512_o0_0_S512x128, inb_S1x2048x4608_S1x2048x512_0_0_1536, inb_S1x1x512x4608_S1x1x512x128_0_0_0_1536, _, Or.inl ⟨rfl, by decide⟩, rfl, by decide, rfl⟩, ?_⟩
  refine List.forall_mem_cons.2 ⟨⟨1408, 1024, 384, slices_S512x512_o0_384_S512x128, inb_S1x2048x4608_S1x2048x512_0_0_1024, inb_S1x1x512x4608_S1x1x512x128_0_0_0_1408, _, Or.inl ⟨rfl, by decide⟩, rfl, by decide, rfl⟩, ?_⟩
  refine List.forall_mem_cons.2 ⟨⟨1280, 1024, 256, slices_S512x512_o0_256_S512x128, inb_S1x2048x4608_S1x2048x512_0_0_1024, inb_S1x1x512x4608_S1x1x512x128_0_0_0_1280, _, Or.inl ⟨rfl, by decide⟩, rfl, by decide, rfl⟩, ?_⟩
  refine List.forall_mem_cons.2 ⟨⟨1152, 1024, 128, slices_S512x512_o0_128_S512x128, inb_S1x2048x4608_S1x2048x512_0_0_1024, inb_S1x1x512x4608_S1x1x512x128_0_0_0_1152, _, Or.inl ⟨rfl, by decide⟩, rfl, by decide, rfl⟩, ?_⟩
  refine List.forall_mem_cons.2 ⟨⟨1024, 1024, 0, slices_S512x512_o0_0_S512x128, inb_S1x2048x4608_S1x2048x512_0_0_1024, inb_S1x1x512x4608_S1x1x512x128_0_0_0_1024, _, Or.inl ⟨rfl, by decide⟩, rfl, by decide, rfl⟩, ?_⟩
  refine List.forall_mem_cons.2 ⟨⟨896, 512, 384, slices_S512x512_o0_384_S512x128, inb_S1x2048x4608_S1x2048x512_0_0_512, inb_S1x1x512x4608_S1x1x512x128_0_0_0_896, _, Or.inl ⟨rfl, by decide⟩, rfl, by decide, rfl⟩, ?_⟩
  refine List.forall_mem_cons.2 ⟨⟨768, 512, 256, slices_S512x512_o0_256_S512x128, inb_S1x2048x4608_S1x2048x512_0_0_512, inb_S1x1x512x4608_S1x1x512x128_0_0_0_768, _, Or.inl ⟨rfl, by decide⟩, rfl, by decide, rfl⟩, ?_⟩
  refine List.forall_mem_cons.2 ⟨⟨640, 512, 128, slices_S512x512_o0_128_S512x128, inb_S1x2048x4608_S1x2048x512_0_0_512, inb_S1x1x512x4608_S1x1x512x128_0_0_0_640, _, Or.inl ⟨rfl, by decide⟩, rfl, by decide, rfl⟩, ?_⟩
  refine List.forall_mem_cons.2 ⟨⟨512, 512, 0, slices_S512x512_o0_0_S512x128, inb_S1x2048x4608_S1x2048x512_0_0_512, inb_S1x1x512x4608_S1x1x512x128_0_0_0_512, _, Or.inl ⟨rfl, by decide⟩, rfl, by decide, rfl⟩, ?_⟩
  refine List.forall_mem_cons.2 ⟨⟨384, 0, 384, slices_S512x512_o0_384_S512x128, inb_S1x2048x4608_S1x2048x512_0_0_0, inb_S1x1x512x4608_S1x1x512x128_0_0_0_384, _, Or.inl ⟨rfl, by decide⟩, rfl, by decide, rfl⟩, ?_⟩
  refine List.forall_mem_cons.2 ⟨⟨256, 0, 256, slices_S512x512_o0_256_S512x128, inb_S1x2048x4608_S1x2048x512_0_0_0, inb_S1x1x512x4608_S1x1x512x128_0_0_0_256, _, Or.inl ⟨rfl, by decide⟩, rfl, by decide, rfl⟩, ?_⟩
  refine List.forall_mem_cons.2 ⟨⟨128, 0, 128, slices_S512x512_o0_128_S512x128, inb_S1x2048x4608_S1x2048x512_0_0_0, inb_S1x1x512x4608_S1x1x512x128_0_0_0_128, _, Or.inl ⟨rfl, by decide⟩, rfl, by decide, rfl⟩, ?_⟩
  refine List.forall_mem_cons.2 ⟨⟨0, 0, 0, slices_S512x512_o0_0_S512x128, inb_S1x2048x4608_S1x2048x512_0_0_0, inb_S1x1x512x4608_S1x1x512x128_0_0_0_0, _, Or.inl ⟨rfl, by decide⟩, rfl, by decide, rfl⟩, ?_⟩
  exact fun p hp => absurd hp List.not_mem_nil

theorem pay5_apply (g : Vec Ideal S1x2048 .f32) (v : Vec Ideal S16x2048 .f32) (r : Fin 16) (k : Fin 2048) :
    k0_pay5 g v (ix2 r k) = rms (fun j => v (ix2 r j)) k (g (ix2 0 k)) := by
  pointwise [k0_pay5, k0_pay4]
  rfl

theorem tileAt_apply (l : ℕ) (h : S512x512.Slices ![0, l] S512x128) (xn : Vec Ideal S512x2048 .bf16) (w : Vec Ideal S1x2048x512 .bf16)
    (r : Fin 512) (x : Fin 128) (hl : l + x.val < 512) :
    tileAt l h xn w (ix2 r x) = ∑ j : Fin 2048, xn (ix2 r j) * w (ix3 0 j ⟨l + x.val, hl⟩) := by
  have e : tileAt l h xn w (ix2 r x) = k0_pay49 xn w (ix2 r ⟨l + x.val, hl⟩) := by
    unfold tileAt
    generalize k0_pay49 xn w = y
    refine congrArg y ?_
    funext d
    apply Fin.ext
    match d with
    | ⟨0, _⟩ => show 0 + r.val = r.val; omega
    | ⟨1, _⟩ => rfl
  rw [e]
  pointwise [k0_pay49]

theorem plain_apply (y : FVec Ideal S512x128 .f32) (r : Fin 512) (x : Fin 128) : plain y (ix4 0 0 r x) = y (ix2 r x) := by
  pointwise [plain]

theorem rotated_apply (y : FVec Ideal S512x128 .f32) (t0 t1 t2 : Vec Ideal S512x128 .f32) (r : Fin 512) (x : Fin 128) :
    rotated y t0 t1 t2 (ix4 0 0 r x) = y (ix2 r x) * t0 (ix2 r x) + y (ix2 r ⟨(x.val + 8) % 128, Nat.mod_lt _ (by omega)⟩) * t1 (ix2 r x)
      + y (ix2 r ⟨(x.val + 120) % 128, Nat.mod_lt _ (by omega)⟩) * t2 (ix2 r x) := by
  have e1 : (x.val + 128 - 120) % 128 = (x.val + 8) % 128 := by omega
  have e2 : (x.val + 128 - 8) % 128 = (x.val + 120) % 128 := by omega
  pointwise [rotated]
  simp only [e1, e2]

theorem ldu (X : Vec Ideal S512x2048 .f32) (o n : ℕ) (inb : ∀ a, (![o, 0] : Fin 2 → ℕ) a + (![n, 2048] : Fin 2 → ℕ) a ≤ S512x2048.size a)
    (a : Fin n) (b : Fin 2048) :
    View.ld (Val := Elt Ideal) X (Rect.unit (s := S512x2048) ![o, 0] ![n, 2048] inb) (ix2 a b)
      = X (ix2 ⟨o + a.val, by have := inb 0; have := a.isLt; simp at *; omega⟩ b) := by
  refine congrArg X ?_
  funext d
  apply Fin.ext
  match d with
  | ⟨0, _⟩ => show o + 1 * a.val = o + a.val; omega
  | ⟨1, _⟩ => show 0 + 1 * b.val = b.val; omega

theorem embu (o n : ℕ) (inb : ∀ a, (![o, 0] : Fin 2 → ℕ) a + (![n, 2048] : Fin 2 → ℕ) a ≤ S512x2048.size a)
    (a : Fin n) (b : Fin 2048) :
    (Rect.unit (s := S512x2048) ![o, 0] ![n, 2048] inb).emb (ix2 a b)
      = ix2 ⟨o + a.val, by have := inb 0; have := a.isLt; simp at *; omega⟩ b := by
  funext d
  apply Fin.ext
  match d with
  | ⟨0, _⟩ => show o + 1 * a.val = o + a.val; omega
  | ⟨1, _⟩ => show 0 + 1 * b.val = b.val; omega

theorem ldw (w : Vec Ideal S1x2048x4608 .bf16) (c0 : ℕ) (inb : ∀ a, (![0, 0, c0] : Fin 3 → ℕ) a + S1x2048x512.size a ≤ S1x2048x4608.size a)
    (j : Fin 2048) (k : Fin 512) (h : c0 + k.val < 4608) :
    View.ld (Val := Elt Ideal) w (Rect.unit (s := S1x2048x4608) ![0, 0, c0] S1x2048x512.size inb) (ix3 0 j k) = w (ix3 0 j ⟨c0 + k.val, h⟩) := by
  refine congrArg w ?_
  funext d
  apply Fin.ext
  match d with
  | ⟨0, _⟩ => rfl
  | ⟨1, _⟩ => show 0 + 1 * j.val = j.val; omega
  | ⟨2, _⟩ => show c0 + 1 * k.val = c0 + k.val; omega

theorem embo (o : ℕ) (inb : ∀ a, (![0, 0, 0, o] : Fin 4 → ℕ) a + S1x1x512x128.size a ≤ S1x1x512x4608.size a)
    (r : Fin 512) (x : Fin 128) (h : o + x.val < 4608) :
    (Rect.unit (s := S1x1x512x4608) ![0, 0, 0, o] S1x1x512x128.size inb).emb (ix4 0 0 r x) = ix4 0 0 r ⟨o + x.val, h⟩ := by
  funext d
  apply Fin.ext
  match d with
  | ⟨0, _⟩ => rfl
  | ⟨1, _⟩ => rfl
  | ⟨2, _⟩ => show 0 + 1 * r.val = r.val; omega
  | ⟨3, _⟩ => show o + 1 * x.val = o + x.val; omega

/-- The normalised block: row by row, the root-mean-square normalisation of the rows of `X` scaled by `g`. -/
def xnOf (X : Vec Ideal S512x2048 .f32) (g : Vec Ideal S1x2048 .f32) (y : S512x2048.Idx) : EReal :=
  rms (fun j => X (ix2 (y 0) j)) (y 1) (g (ix2 0 (y 1)))

/-- The projected block: row `r` of the normalised block against column `k` of the weights. -/
def proj (X : Vec Ideal S512x2048 .f32) (g : Vec Ideal S1x2048 .f32) (w : Vec Ideal S1x2048x4608 .bf16) (r : Fin 512) (k : Fin 4608) : EReal :=
  ∑ j : Fin 2048, xnOf X g (ix2 r j) * w (ix3 0 j k)

/-- The stored block: the projection, columns 3072 to 4351 combined within each tile of 128 columns
with the columns eight further on and eight back, as the three tables say. -/
def stored (X : Vec Ideal S512x2048 .f32) (g : Vec Ideal S1x2048 .f32) (w : Vec Ideal S1x2048x4608 .bf16)
    (t0 t1 t2 : Vec Ideal S512x128 .f32) (r : Fin 512) (k : Fin 4608) : EReal :=
  if 3072 ≤ k.val ∧ k.val < 4352 then
    proj X g w r k * t0 (ix2 r ⟨k.val % 128, Nat.mod_lt _ (by omega)⟩)
      + proj X g w r ⟨k.val / 128 * 128 + (k.val % 128 + 8) % 128, by omega⟩ * t1 (ix2 r ⟨k.val % 128, Nat.mod_lt _ (by omega)⟩)
      + proj X g w r ⟨k.val / 128 * 128 + (k.val % 128 + 120) % 128, by omega⟩ * t2 (ix2 r ⟨k.val % 128, Nat.mod_lt _ (by omega)⟩)
  else proj X g w r k

theorem canonXn (L : List (View.Piece (Elt Ideal) S512x2048 .bf16)) (X : Vec Ideal S512x2048 .f32) (g : Vec Ideal S1x2048 .f32)
    (h : ∀ p ∈ L, ∃ (o : ℕ) (inb : ∀ a, (![o, 0] : Fin 2 → ℕ) a + (![16, 2048] : Fin 2 → ℕ) a ≤ S512x2048.size a),
      p = ⟨Rect.unit (s := S512x2048) ![o, 0] ![16, 2048] inb, k0_pay5 (F := Ideal) g (View.ld (Val := Elt Ideal) X (Rect.unit (s := S512x2048) ![o, 0] ![16, 2048] inb))⟩)
    (y : S512x2048.Idx) (hc : ∃ p ∈ L, y ∈ p.1.set) : View.canon L y = xnOf X g y := by
  refine View.canon_apply_of_pieces (xnOf X g) L ?_ y hc
  intro p hp x
  obtain ⟨o, inb, rfl⟩ := h p hp
  obtain ⟨a, b, rfl⟩ : ∃ (a : Fin 16) (b : Fin 2048), x = ix2 a b := ⟨x 0, x 1, eq_ix2 x⟩
  refine (pay5_apply _ _ a b).trans ?_
  rw [embu]
  exact congrArg (fun v => rms v b (g (ix2 0 b))) (funext fun j => ldu X o 16 inb a j)

theorem tile_proj (X : Vec Ideal S512x2048 .f32) (g : Vec Ideal S1x2048 .f32) (w : Vec Ideal S1x2048x4608 .bf16) (c0 l : ℕ)
    (h : S512x512.Slices ![0, l] S512x128) (inbw : ∀ a, (![0, 0, c0] : Fin 3 → ℕ) a + S1x2048x512.size a ≤ S1x2048x4608.size a)
    (r : Fin 512) (x : Fin 128) (k : Fin 4608) (hk : k.val = c0 + l + x.val) (hl : l + 128 ≤ 512) :
    tileAt l h (xnOf X g) (View.ld (Val := Elt Ideal) w (Rect.unit (s := S1x2048x4608) ![0, 0, c0] S1x2048x512.size inbw)) (ix2 r x) = proj X g w r k := by
  have hx := x.isLt
  have hk' := k.isLt
  rw [tileAt_apply l h _ _ r x (by omega)]
  refine Finset.sum_congr rfl fun j _ => ?_
  rw [ldw w c0 inbw j ⟨l + x.val, by omega⟩ (show c0 + (l + x.val) < 4608 by omega)]
  have e : (⟨c0 + (l + x.val), by omega⟩ : Fin 4608) = k := Fin.ext (by show c0 + (l + x.val) = k.val; omega)
  rw [e]

theorem slice_le (l : ℕ) (h : S512x512.Slices ![0, l] S512x128) : l + 128 ≤ 512 := by
  have := h.2 1
  simpa using this

theorem scratch (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x4608 .bf16) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x1x512x4608 .bf16) (harg9 : arg9.IsWhole) (arg10 : Memref sig .tc .vmem S512x2048 .bf16) (harg10 : arg10.IsWhole)
    (x0 : Vec Ideal S512x2048 .f32) (x1 : Vec Ideal S1x2048 .f32) (x2 : Vec Ideal S1x2048x4608 .bf16) (x3 : Vec Ideal S256x256 .bf16) (x4 : Vec Ideal S512x128 .f32) (x5 : Vec Ideal S512x128 .f32) (x6 : Vec Ideal S512x128 .f32) (y : S512x2048.Idx) :
    View.canon (kernelRun0_A c i arg2 harg2 arg3 harg3 arg4 harg4 arg5 harg5 arg6 harg6 arg7 harg7 arg8 harg8 arg9 harg9 arg10 harg10 x0 x1 x2 x3 x4 x5 x6).2.1 y = xnOf x0 x1 y := by
  refine canonXn _ x0 x1 (fun p hp => ?_) y (coverX c i arg2 harg2 arg3 harg3 arg4 harg4 arg5 harg5 arg6 harg6 arg7 harg7 arg8 harg8 arg9 harg9 arg10 harg10 x0 x1 x2 x3 x4 x5 x6 y)
  obtain ⟨o, inb, e⟩ := piecesX c i arg2 harg2 arg3 harg3 arg4 harg4 arg5 harg5 arg6 harg6 arg7 harg7 arg8 harg8 arg9 harg9 arg10 harg10 x0 x1 x2 x3 x4 x5 x6 p hp
  refine ⟨o, inb, e.trans ?_⟩
  rw [View.readAt_eq_ld, View.readAt_eq_ld, harg2.read_unread, harg3.read_unread, View.ld_unit_zero (S := S1x2048) hz]

theorem out_apply (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x4608 .bf16) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1x1x512x4608 .bf16) (harg9 : arg9.IsWhole) (arg10 : Memref sig .tc .vmem S512x2048 .bf16) (harg10 : arg10.IsWhole)
    (x0 : Vec Ideal S512x2048 .f32) (x1 : Vec Ideal S1x2048 .f32) (x2 : Vec Ideal S1x2048x4608 .bf16) (x3 : Vec Ideal S256x256 .bf16) (x4 : Vec Ideal S512x128 .f32) (x5 : Vec Ideal S512x128 .f32) (x6 : Vec Ideal S512x128 .f32) (r : Fin 512) (k : Fin 4608) :
    out0_A_7 c i arg2 harg2 arg3 harg3 arg4 harg4 arg5 harg5 arg6 harg6 arg7 harg7 arg8 harg8 arg9 harg9 arg10 harg10 x0 x1 x2 x3 x4 x5 x6 (ix4 0 0 r k) = stored x0 x1 x2 x4 x5 x6 r k := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 x5 x6)]
  refine View.canon_apply_of_pieces (fun y : S1x1x512x4608.Idx => stored x0 x1 x2 x4 x5 x6 (y 2) (y 3)) _ ?_ (ix4 0 0 r k) (cover0_A_7 c i arg2 harg2 arg3 harg3 arg4 harg4 arg5 harg5 arg6 harg6 arg7 harg7 arg8 harg8 arg9 harg9 arg10 harg10 x0 x1 x2 x3 x4 x5 x6 (ix4 0 0 r k))
  intro p hp q
  obtain ⟨o, c0, l, h, inbw, inb, xn, hp, ho, hd, hxn⟩ := piecesO c i arg2 harg2 arg3 harg3 arg4 harg4 arg5 harg5 arg6 harg6 arg7 harg7 arg8 harg8 arg9 harg9 arg10 harg10 x0 x1 x2 x3 x4 x5 x6 p hp
  have hX : xn = xnOf x0 x1 := by
    rw [hxn, View.readCov_eq_canon_ld _ _ _ (coverX c i arg2 harg2 arg3 harg3 arg4 harg4 arg5 harg5 arg6 harg6 arg7 harg7 arg8 harg8 arg9 harg9 arg10 harg10 x0 x1 x2 x3 x4 x5 x6), View.ld_unit_zero (S := S512x2048) hz]
    exact funext (scratch c i arg2 harg2 arg3 harg3 arg4 harg4 arg5 harg5 arg6 harg6 arg7 harg7 arg8 harg8 arg9 harg9 arg10 harg10 x0 x1 x2 x3 x4 x5 x6)
  clear hxn
  subst hX
  have hl := slice_le l h
  have hi : o + 128 ≤ 4608 := by have := inb 3; simpa using this
  simp only [table, View.readAt_eq_ld, Memref.IsWhole.read_unread, View.ld_unit_zero (S := S512x128) hz] at hp
  rcases hp with ⟨rfl, hge⟩ | ⟨rfl, hlo, hlt⟩
  all_goals
    obtain ⟨a, x, rfl⟩ : ∃ (a : Fin 512) (x : Fin 128), q = ix4 0 0 a x := ⟨q 2, q 3, funext fun d => match d with
        | ⟨0, _⟩ => Subsingleton.elim (α := Fin 1) _ _
        | ⟨1, _⟩ => Subsingleton.elim (α := Fin 1) _ _
        | ⟨2, _⟩ => rfl
        | ⟨3, _⟩ => rfl⟩
    have hx := x.isLt
  · refine (plain_apply _ a x).trans ?_
    rw [embo o inb a x (by omega)]
    show _ = stored x0 x1 x2 x4 x5 x6 a ⟨o + x.val, _⟩
    unfold stored
    rw [if_neg (by show ¬(3072 ≤ o + x.val ∧ o + x.val < 4352); omega)]
    exact tile_proj x0 x1 x2 c0 l h inbw a x _ (by show o + x.val = _; omega) hl
  · refine (rotated_apply _ _ _ _ a x).trans ?_
    rw [embo o inb a x (by omega)]
    show _ = stored x0 x1 x2 x4 x5 x6 a ⟨o + x.val, _⟩
    unfold stored
    rw [if_pos (show 3072 ≤ o + x.val ∧ o + x.val < 4352 from ⟨by omega, by omega⟩)]
    obtain ⟨d, hd⟩ := hd
    have hm : (o + x.val) % 128 = x.val := by omega
    have hq : (o + x.val) / 128 * 128 = o := by omega
    have ex : (⟨(o + x.val) % 128, Nat.mod_lt _ (by omega)⟩ : Fin 128) = x := Fin.ext hm
    dsimp only
    rw [ex, tile_proj x0 x1 x2 c0 l h inbw a x ⟨o + x.val, by omega⟩ (by show o + x.val = _; omega) hl,
      tile_proj x0 x1 x2 c0 l h inbw a ⟨(x.val + 8) % 128, Nat.mod_lt _ (by omega)⟩ ⟨(o + x.val) / 128 * 128 + ((o + x.val) % 128 + 8) % 128, by omega⟩
        (by show (o + x.val) / 128 * 128 + ((o + x.val) % 128 + 8) % 128 = c0 + l + (x.val + 8) % 128; omega) hl,
      tile_proj x0 x1 x2 c0 l h inbw a ⟨(x.val + 120) % 128, Nat.mod_lt _ (by omega)⟩ ⟨(o + x.val) / 128 * 128 + ((o + x.val) % 128 + 120) % 128, by omega⟩
        (by show (o + x.val) / 128 * 128 + ((o + x.val) % 128 + 120) % 128 = c0 + l + (x.val + 120) % 128; omega) hl]

end Cert.Kernel6Ideal.Hand
end
-- ==== Proof.EvenInFold.lean ====
module

public import proofs.«01_k».proof.Proof.EvenInBody
public import proofs.«01_k».proof.Proof.RotFold
public import Idealize.ShloMosaic.Lib.StableHlo.RunRead

@[expose] public section

set_option maxRecDepth 16384

noncomputable section

/- The array that layer 2's input projection leaves. -/
namespace Cert.Kernel6Ideal.Hand

open Cert.Kernel6Ideal Cert.Kernel6Ideal.Gen Idealize.ShloMosaic Idealize.ShloMosaic.TcCoe Idealize.SL.Sem
open Idealize.ShloMosaic.Pipeline (Dat)
open Cert.Kernel2Ideal.Hand (rms)
open Cert.Kernel5Ideal.Hand (cosV sinV loV hiV spread masked loV_apply hiV_apply orV_apply fr spread_apply masked_apply tab0 tab1 tab2 one_word zero_word)

variable (m : (ℓ : Loc nD τ sig) → Buf (Elt Ideal) ℓ)

/-- The arguments as launched, on device `c`. -/
abbrev argX (c : Dev nD) : Vec Ideal S40960x2048 .f32 := m ((c.tc : Thread nD τ).loc main_arg0)
abbrev argG (c : Dev nD) : Vec Ideal S4x2048 .f32 := m ((c.tc : Thread nD τ).loc main_arg1)
abbrev argW (c : Dev nD) : Vec Ideal S2x2048x4608 .f32 := m ((c.tc : Thread nD τ).loc main_arg2)

theorem V_v27 (c : Dev nD) : (V m c main_v27 : Vec Ideal S4096x128 .f32) = masked (ori loV hiV) (spread cosV) 0x3F800000#32 := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem V_v29 (c : Dev nD) : (V m c main_v29 : Vec Ideal S4096x128 .f32) = masked loV (Host.negf (spread sinV)) 0x00000000#32 := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem V_v30 (c : Dev nD) : (V m c main_v30 : Vec Ideal S4096x128 .f32) = masked hiV (spread sinV) 0x00000000#32 := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem V_v33 (c : Dev nD) (k : Fin 2048) : (V m c main_v33 : Vec Ideal S1x2048 .f32) (ix2 0 k) = argG m c (ix2 2 k) := by
  unfold V
  simp only [hostOps0, hostOps0_1, hostOps0_2, hostOps0_3, hostOps0_4, hostOps0_5, hostOps0_6, List.flatten_cons, List.flatten_nil, List.append_nil, List.cons_append, List.nil_append]
  after_reads_simp
  pointwise

theorem V_v34 (c : Dev nD) : V m c main_v34 = argW m c := by
  unfold V
  simp only [hostOps0, hostOps0_1, hostOps0_2, hostOps0_3, hostOps0_4, hostOps0_5, hostOps0_6, List.flatten_cons, List.flatten_nil, List.append_nil, List.cons_append, List.nil_append]
  after_reads_simp
  rfl

theorem tab0_eq (c : Dev nD) (p : Fin 4096) (l : Fin 128) : (V m c main_v27 : Vec Ideal S4096x128 .f32) (ix2 p l) = tab0 p l := by
  rw [V_v27, masked_apply _ _ _ _ p l (orV_apply l), spread_apply, one_word]
  rfl

theorem tab1_eq (c : Dev nD) (p : Fin 4096) (l : Fin 128) : (V m c main_v29 : Vec Ideal S4096x128 .f32) (ix2 p l) = tab1 p l := by
  rw [V_v29, masked_apply _ _ _ _ p l (loV_apply l), zero_word, show Host.negf (spread sinV) (ix2 p l) = -spread sinV (ix2 p l) from rfl, spread_apply]
  rfl

theorem tab2_eq (c : Dev nD) (p : Fin 4096) (l : Fin 128) : (V m c main_v30 : Vec Ideal S4096x128 .f32) (ix2 p l) = tab2 p l := by
  rw [V_v30, masked_apply _ _ _ _ p l (hiV_apply l), zero_word, spread_apply]
  rfl

theorem ix_facts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 1 ∧ win0_2.index t (1 : Fin 3) = 0 ∧ win0_2.index t (2 : Fin 3) = 0)
    ∧ (win0_4.index t (0 : Fin 2) = t.val % 8 ∧ win0_4.index t (1 : Fin 2) = 0)
    ∧ (win0_5.index t (0 : Fin 2) = t.val % 8 ∧ win0_5.index t (1 : Fin 2) = 0)
    ∧ (win0_6.index t (0 : Fin 2) = t.val % 8 ∧ win0_6.index t (1 : Fin 2) = 0)
    ∧ (win0_7.index t (0 : Fin 4) = t.val / 8 ∧ win0_7.index t (1 : Fin 4) = 0 ∧ win0_7.index t (2 : Fin 4) = t.val % 8 ∧ win0_7.index t (3 : Fin 4) = 0) :=
  (by decide +kernel : ∀ t : Fin grid0.N, _)

theorem t_lt (t : Fin cfg0.N) : t.val < 80 := lt_of_lt_of_eq t.isLt (show cfg0.N = 80 from N_0)

/-- The array's row, and the position in its sequence, that row `r` of grid point `t`'s block is. -/
abbrev rowOf (t : Fin cfg0.N) (r : Fin 512) : Fin 40960 := ⟨512 * t.val + r.val, by have := t_lt t; omega⟩
abbrev posOf (t : Fin cfg0.N) (r : Fin 512) : Fin 4096 := ⟨512 * (t.val % 8) + r.val, by omega⟩

theorem iblk0_apply (c : Dev nD) (t : Fin cfg0.N) (r : Fin 512) (k : Fin 2048) :
    (iblk m c 0 t : Vec Ideal S512x2048 .f32) (ix2 r k) = argX m c (ix2 (rowOf t r) k) := by
  unfold iblk
  rw [View.read_apply]
  show V m c main_arg0 _ = _
  rw [V_main_arg0]
  refine congrArg (argX m c) (funext fun a => Fin.ext ?_)
  obtain ⟨⟨e0, e1⟩, -⟩ := ix_facts t
  match a with
  | ⟨0, _⟩ => show win0_0.index t 0 * 512 + 1 * r.val = 512 * t.val + r.val; rw [e0]; omega
  | ⟨1, _⟩ => show win0_0.index t 1 * 2048 + 1 * k.val = k.val; rw [e1]; omega

theorem iblk1_apply (c : Dev nD) (t : Fin cfg0.N) (k : Fin 2048) :
    (iblk m c 1 t : Vec Ideal S1x2048 .f32) (ix2 0 k) = argG m c (ix2 2 k) := by
  unfold iblk
  rw [View.read_apply, ← V_v33 m c k]
  show V m c main_v33 _ = V m c main_v33 _
  refine congrArg (V m c main_v33) (funext fun a => Fin.ext ?_)
  obtain ⟨-, ⟨e0, e1⟩, -⟩ := ix_facts t
  match a with
  | ⟨0, _⟩ => show win0_1.index t 0 * 1 + 1 * 0 = 0; rw [e0]
  | ⟨1, _⟩ => show win0_1.index t 1 * 2048 + 1 * k.val = k.val; rw [e1]; omega

theorem iblk2_apply (c : Dev nD) (t : Fin cfg0.N) (j : Fin 2048) (k : Fin 4608) :
    (iblk m c 2 t : Vec Ideal S1x2048x4608 .bf16) (ix3 0 j k) = argW m c (ix3 1 j k) := by
  unfold iblk
  rw [View.read_apply]
  show V m c main_v34 _ = _
  rw [V_v34]
  refine congrArg (argW m c) (funext fun a => Fin.ext ?_)
  obtain ⟨-, -, ⟨e0, e1, e2⟩, -⟩ := ix_facts t
  match a with
  | ⟨0, _⟩ => show win0_2.index t 0 * 1 + 1 * 0 = 1; rw [e0]
  | ⟨1, _⟩ => show win0_2.index t 1 * 2048 + 1 * j.val = j.val; rw [e1]; omega
  | ⟨2, _⟩ => show win0_2.index t 2 * 4608 + 1 * k.val = k.val; rw [e2]; omega

theorem iblk4_apply (c : Dev nD) (t : Fin cfg0.N) (r : Fin 512) (l : Fin 128) :
    (iblk m c 4 t : Vec Ideal S512x128 .f32) (ix2 r l) = tab0 (posOf t r) l := by
  unfold iblk
  rw [View.read_apply, ← tab0_eq m c]
  show V m c main_v27 _ = V m c main_v27 _
  refine congrArg (V m c main_v27) (funext fun a => Fin.ext ?_)
  obtain ⟨-, -, -, ⟨e0, e1⟩, -⟩ := ix_facts t
  match a with
  | ⟨0, _⟩ => show win0_4.index t 0 * 512 + 1 * r.val = 512 * (t.val % 8) + r.val; rw [e0]; omega
  | ⟨1, _⟩ => show win0_4.index t 1 * 128 + 1 * l.val = l.val; rw [e1]; omega

theorem iblk5_apply (c : Dev nD) (t : Fin cfg0.N) (r : Fin 512) (l : Fin 128) :
    (iblk m c 5 t : Vec Ideal S512x128 .f32) (ix2 r l) = tab1 (posOf t r) l := by
  unfold iblk
  rw [View.read_apply, ← tab1_eq m c]
  show V m c main_v29 _ = V m c main_v29 _
  refine congrArg (V m c main_v29) (funext fun a => Fin.ext ?_)
  obtain ⟨-, -, -, -, ⟨e0, e1⟩, -⟩ := ix_facts t
  match a with
  | ⟨0, _⟩ => show win0_5.index t 0 * 512 + 1 * r.val = 512 * (t.val % 8) + r.val; rw [e0]; omega
  | ⟨1, _⟩ => show win0_5.index t 1 * 128 + 1 * l.val = l.val; rw [e1]; omega

theorem iblk6_apply (c : Dev nD) (t : Fin cfg0.N) (r : Fin 512) (l : Fin 128) :
    (iblk m c 6 t : Vec Ideal S512x128 .f32) (ix2 r l) = tab2 (posOf t r) l := by
  unfold iblk
  rw [View.read_apply, ← tab2_eq m c]
  show V m c main_v30 _ = V m c main_v30 _
  refine congrArg (V m c main_v30) (funext fun a => Fin.ext ?_)
  obtain ⟨-, -, -, -, -, ⟨e0, e1⟩, -⟩ := ix_facts t
  match a with
  | ⟨0, _⟩ => show win0_6.index t 0 * 512 + 1 * r.val = 512 * (t.val % 8) + r.val; rw [e0]; omega
  | ⟨1, _⟩ => show win0_6.index t 1 * 128 + 1 * l.val = l.val; rw [e1]; omega

/-- The projection of a normalised row: its entry at column `k`. -/
def projRow (X : Vec Ideal S40960x2048 .f32) (G : Vec Ideal S4x2048 .f32) (W : Vec Ideal S2x2048x4608 .f32) (R : Fin 40960) (k : Fin 4608) : EReal :=
  ∑ j : Fin 2048, rms (fun i => X (ix2 R i)) j (G (ix2 2 j)) * W (ix3 1 j k)

/-- A row `y` with the first sixteen columns of each head of its columns 3072 to 4351, the grouped queries and keys, rotated by the angles of position `p`. -/
def rotRow (y : Fin 4608 → EReal) (p : Fin 4096) (k : Fin 4608) : EReal :=
  if h : (3072 ≤ k.val ∧ k.val < 4352) ∧ k.val % 64 < 16 then
    if h8 : k.val % 64 < 8 then y k * cosV (ix2 p (fr k.val)) - y ⟨k.val + 8, by omega⟩ * sinV (ix2 p (fr k.val))
    else y k * cosV (ix2 p (fr k.val)) + y ⟨k.val - 8, by omega⟩ * sinV (ix2 p (fr k.val))
  else y k

theorem proj_eq (c : Dev nD) (t : Fin cfg0.N) (r : Fin 512) (k : Fin 4608) :
    proj (iblk m c 0 t) (iblk m c 1 t) (iblk m c 2 t) r k = projRow (argX m c) (argG m c) (argW m c) (rowOf t r) k := by
  unfold proj projRow xnOf
  refine Finset.sum_congr rfl fun j _ => ?_
  rw [iblk2_apply m c t j k]
  refine congrArg (· * _) ?_
  show rms (fun i => (iblk m c 0 t : Vec Ideal S512x2048 .f32) (ix2 r i)) j ((iblk m c 1 t : Vec Ideal S1x2048 .f32) (ix2 0 j)) = _
  simp only [iblk0_apply, iblk1_apply]

theorem stored_eq (c : Dev nD) (t : Fin cfg0.N) (r : Fin 512) (k : Fin 4608) :
    stored (iblk m c 0 t) (iblk m c 1 t) (iblk m c 2 t) (iblk m c 4 t) (iblk m c 5 t) (iblk m c 6 t) r k
      = rotRow (projRow (argX m c) (argG m c) (argW m c) (rowOf t r)) (posOf t r) k := by
  unfold stored
  simp only [proj_eq, iblk4_apply, iblk5_apply, iblk6_apply]
  generalize projRow (argX m c) (argG m c) (argW m c) (rowOf t r) = y
  generalize posOf t r = p
  have hk := k.isLt
  unfold rotRow tab0 tab1 tab2
  dsimp only
  have hm : k.val % 128 % 64 = k.val % 64 := by omega
  have hf : fr (k.val % 128) = fr k.val := Fin.ext (by show k.val % 128 % 8 = k.val % 8; omega)
  rw [hm, hf]
  by_cases h : 3072 ≤ k.val ∧ k.val < 4352
  · rw [if_pos h]
    by_cases h16 : k.val % 64 < 16
    · rw [dif_pos ⟨h, h16⟩, if_pos h16]
      by_cases h8 : k.val % 64 < 8
      · rw [dif_pos h8, if_pos h8, if_neg (by omega), mul_zero, add_zero, mul_neg, ← sub_eq_add_neg]
        have e : (⟨k.val / 128 * 128 + (k.val % 128 + 8) % 128, by omega⟩ : Fin 4608) = ⟨k.val + 8, by omega⟩ :=
          Fin.ext (by show k.val / 128 * 128 + (k.val % 128 + 8) % 128 = k.val + 8; omega)
        rw [e]
      · rw [dif_neg h8, if_neg h8, if_pos ⟨by omega, h16⟩, mul_zero, add_zero]
        have e : (⟨k.val / 128 * 128 + (k.val % 128 + 120) % 128, by omega⟩ : Fin 4608) = ⟨k.val - 8, by omega⟩ :=
          Fin.ext (by show k.val / 128 * 128 + (k.val % 128 + 120) % 128 = k.val - 8; omega)
        rw [e]
    · rw [dif_neg fun h' => h16 h'.2, if_neg h16, if_neg (by omega), if_neg (by omega), mul_one, mul_zero, mul_zero, add_zero, add_zero]
  · rw [if_neg h, dif_neg fun h' => h h'.1]

theorem flush7 : ∀ t : Fin cfg0.N, (cfg0.win 7).flush t = true := (by decide +kernel : ∀ t : Fin grid0.N, _)

/-- The output array that the run leaves. -/
theorem arr7_apply (c : Dev nD) (s : Fin 10) (p : Fin 4096) (k : Fin 4608) :
    ((dats m 0 c).arrAt 7 cfg0.N : Vec Ideal S10x1x4096x4608 .bf16) (ix4 s 0 p k)
      = rotRow (projRow (argX m c) (argG m c) (argW m c) ⟨4096 * s.val + p.val, by omega⟩) p k := by
  obtain ⟨t, r, hs, hp⟩ : ∃ (t : Fin cfg0.N) (r : Fin 512), s.val = t.val / 8 ∧ p = posOf t r :=
    ⟨⟨s.val * 8 + p.val / 512, by rw [show cfg0.N = 80 from N_0]; omega⟩, ⟨p.val % 512, by omega⟩,
      by show s.val = (s.val * 8 + p.val / 512) / 8; omega,
      Fin.ext (by show p.val = 512 * ((s.val * 8 + p.val / 512) % 8) + p.val % 512; omega)⟩
  have ht := t_lt t
  have hp' : p.val = 512 * (t.val % 8) + r.val := congrArg Fin.val hp
  have hR : (⟨4096 * s.val + p.val, by omega⟩ : Fin 40960) = rowOf t r := Fin.ext (by show 4096 * s.val + p.val = 512 * t.val + r.val; omega)
  have hemb : ((cfg0.win 7).blk t).view.emb (ix4 0 0 r k) = (ix4 s 0 p k : S10x1x4096x4608.Idx) := by
    obtain ⟨-, -, -, -, -, -, e0, e1, e2, e3⟩ := ix_facts t
    funext a
    apply Fin.ext
    match a with
    | ⟨0, _⟩ => show win0_7.index t 0 * 1 + 1 * 0 = s.val; rw [e0]; omega
    | ⟨1, _⟩ => show win0_7.index t 1 * 1 + 1 * 0 = 0; rw [e1]
    | ⟨2, _⟩ => show win0_7.index t 2 * 512 + 1 * r.val = p.val; rw [e2]; omega
    | ⟨3, _⟩ => show win0_7.index t 3 * 4608 + 1 * k.val = k.val; rw [e3]; omega
  have h := congrFun (Value.blocks7 m c t (flush7 t)) (ix4 0 0 r k)
  rw [View.read_apply, Value.flushed7_A] at h
  rw [hemb] at h
  refine h.trans ?_
  rw [hR, hp, ← stored_eq m c t r k]
  exact out_apply _ _ _ _ _ _ _ _ _ _ _ _ _ _ _ _ _ _ _ _ _ _ _ _ _ _ _ r k

end Cert.Kernel6Ideal.Hand
end
-- ==== Proof.EvenInRef.lean ====
module

public import proofs.«01_k».proof.Proof.EvenInFold
public import proofs.«01_k».proof.Proof.RotRef
public import proofs.«01_k».proof.Proof.Gen.Reference6Ideal.Run

@[expose] public section

set_option maxRecDepth 16384

noncomputable section

/- The reference of layer 2's input projection, and its agreement with the kernel. -/
namespace Cert.Reference6Ideal.Hand

open Cert.Reference6Ideal Cert.Reference6Ideal.Gen Idealize.ShloMosaic Idealize.ShloMosaic.TcCoe Idealize.SL.Sem
open Cert.Kernel2Ideal.Hand (rms)
open Cert.Kernel5Ideal.Hand (cosV sinV fr)
open Cert.Kernel6Ideal.Hand (projRow rotRow argX argG argW)
open Cert.Reference5Ideal.Hand (tbV rotV rotHead rotV_apply row)

/-- The reference's normalisation of the rows of an array, times the third layer's gains. -/
def rmsV (X : FVec Ideal S40960x2048 .f32) (G : FVec Ideal S4x2048 .f32) : FVec Ideal S40960x2048 .f32 :=
  mulf (F := Ideal)
    (mulf X
      (broadcastInDim S40960x2048 ![0, 1] bcast_S40960x1_S40960x2048_0_1
        (Host.rsqrt
          (addf
            (Host.divf
              (broadcastInDim S40960x1 ![0] bcast_S40960_S40960x1_0
                (Host.reduceAdd (mulf X X) (constant S_ FTy.f32 0#32) reducesTo_S40960x2048_S40960_d1 h_S_))
              (broadcastInDim S40960x1 ![] bcast_S_S40960x1 (constant S_ FTy.f32 1157627904#32)))
            (broadcastInDim S40960x1 ![] bcast_S_S40960x1 (constant S_ FTy.f32 897988541#32))))))
    (broadcastInDim S40960x2048 ![0, 1] bcast_S1x2048_S40960x2048_0_1
      (broadcastInDim S1x2048 ![1] bcast_S2048_S1x2048_1
        (shapeCast S2048 (extractStridedSlice S1x2048 ![2, 0] G slices_S4x2048_S1x2048_2_0) shapeCasts_S1x2048_S2048)))

/-- The product with the second slice of the projection's weights. -/
def pjV (X : FVec Ideal S40960x2048 .f32) (W : FVec Ideal S2x2048x4608 .f32) : FVec Ideal S40960x4608 .f32 :=
  Host.dotGeneral (F := Ideal) dot_S40960x2048_S2048x4608_S40960x4608_1_0_0_1_n_n none X
    (shapeCast _ (extractStridedSlice S1x2048x4608 ![1, 0, 0] W slices_S2x2048x4608_S1x2048x4608_1_0_0) shapeCasts_S1x2048x4608_S2048x4608)

/-- The projection per sequence and position. -/
def sqV (Y : FVec Ideal S40960x4608 .f32) : FVec Ideal S10x4096x4608 .f32 := shapeCast _ Y shapeCasts_S40960x4608_S10x4096x4608

/-- The grouped queries and keys: per sequence, position and head. -/
def qV (Y : FVec Ideal S40960x4608 .f32) : FVec Ideal S10x4096x16x64 .f32 :=
  shapeCast _ (extractStridedSlice S10x4096x1024 ![0, 0, 3072] (sqV Y) slices_S10x4096x4608_S10x4096x1024_0_0_3072) shapeCasts_S10x4096x1024_S10x4096x16x64
def kV (Y : FVec Ideal S40960x4608 .f32) : FVec Ideal S10x4096x4x64 .f32 :=
  shapeCast _ (extractStridedSlice S10x4096x256 ![0, 0, 4096] (sqV Y) slices_S10x4096x4608_S10x4096x256_0_0_4096) shapeCasts_S10x4096x256_S10x4096x4x64

/-- The columns before the grouped queries, and those after the grouped keys. -/
def aV (Y : FVec Ideal S40960x4608 .f32) : FVec Ideal S10x4096x3072 .f32 :=
  extractStridedSlice S10x4096x3072 ![0, 0, 0] (sqV Y) slices_S10x4096x4608_S10x4096x3072_0_0_0
def vV (Y : FVec Ideal S40960x4608 .f32) : FVec Ideal S10x4096x256 .f32 :=
  extractStridedSlice S10x4096x256 ![0, 0, 4352] (sqV Y) slices_S10x4096x4608_S10x4096x256_0_0_4352

/-- A table of angles' values, the same for each sequence and each of four heads. -/
def tbV4 (T : FVec Ideal S4096x8 .f32) : FVec Ideal S10x4096x4x8 .f32 :=
  broadcastInDim S10x4096x4x8 ![0, 1, 2, 3] bcast_S1x4096x1x8_S10x4096x4x8_0_1_2_3
    (broadcastInDim S1x4096x1x8 ![1, 2, 3] bcast_S4096x1x8_S1x4096x1x8_1_2_3 (broadcastInDim S4096x1x8 ![0, 2] bcast_S4096x8_S4096x1x8_0_2 T))

/-- The rotary embedding of four heads: the first sixteen entries of each head, as eight pairs, rotated. -/
def rotV4 (A : FVec Ideal S10x4096x4x64 .f32) (C S : FVec Ideal S10x4096x4x8 .f32) : FVec Ideal S10x4096x4x64 .f32 :=
  concatenate S10x4096x4x64 3
    [⟨S10x4096x4x8, subf (F := Ideal)
        (mulf (extractStridedSlice S10x4096x4x8 ![0, 0, 0, 0] A slices_S10x4096x4x64_S10x4096x4x8_0_0_0_0) C)
        (mulf (extractStridedSlice S10x4096x4x8 ![0, 0, 0, 8] A slices_S10x4096x4x64_S10x4096x4x8_0_0_0_8) S)⟩,
     ⟨S10x4096x4x8, addf (F := Ideal)
        (mulf (extractStridedSlice S10x4096x4x8 ![0, 0, 0, 8] A slices_S10x4096x4x64_S10x4096x4x8_0_0_0_8) C)
        (mulf (extractStridedSlice S10x4096x4x8 ![0, 0, 0, 0] A slices_S10x4096x4x64_S10x4096x4x8_0_0_0_0) S)⟩,
     ⟨S10x4096x4x48, extractStridedSlice S10x4096x4x48 ![0, 0, 0, 16] A slices_S10x4096x4x64_S10x4096x4x48_0_0_0_16⟩]
    concatenates_S10x4096x4x8_S10x4096x4x8_S10x4096x4x48_S10x4096x4x64_d3

/-- Heads side by side. -/
def flQ (A : FVec Ideal S10x4096x16x64 .f32) : FVec Ideal S10x4096x1024 .f32 := shapeCast _ A shapeCasts_S10x4096x16x64_S10x4096x1024
def flK (A : FVec Ideal S10x4096x4x64 .f32) : FVec Ideal S10x4096x256 .f32 := shapeCast _ A shapeCasts_S10x4096x4x64_S10x4096x256

/-- Four arrays side by side. -/
def ctV (a : FVec Ideal S10x4096x3072 .f32) (q : FVec Ideal S10x4096x1024 .f32) (k v : FVec Ideal S10x4096x256 .f32) : FVec Ideal S10x4096x4608 .f32 :=
  concatenate S10x4096x4608 2 [⟨S10x4096x3072, a⟩, ⟨S10x4096x1024, q⟩, ⟨S10x4096x256, k⟩, ⟨S10x4096x256, v⟩]
    concatenates_S10x4096x3072_S10x4096x1024_S10x4096x256_S10x4096x256_S10x4096x4608_d2

/-- The result's format and shape. -/
def ouV (A : FVec Ideal S10x4096x4608 .f32) : FVec Ideal S10x1x4096x4608 .bf16 :=
  truncf (F := Ideal) .bf16 (shapeCast _ A shapeCasts_S10x4096x4608_S10x1x4096x4608) bitsLt_bf16_f32

/-- The result as a composition of the arrays above, of the projection. -/
def resV (Y : FVec Ideal S40960x4608 .f32) : FVec Ideal S10x1x4096x4608 .bf16 :=
  ouV (ctV (aV Y) (flQ (rotV (qV Y) (tbV cosV) (tbV sinV))) (flK (rotV4 (kV Y) (tbV4 cosV) (tbV4 sinV))) (vV Y))

set_option maxRecDepth 100000 in
/-- The reference's result, as a composition of the arrays above. -/
theorem res_eq (m : (ℓ : Loc nD τ sig) → Buf (Elt Ideal) ℓ) (c : Dev nD) :
    Value.res_main_v96 m c = resV (pjV (rmsV (m (c.tc.loc main_arg0)) (m (c.tc.loc main_arg1))) (m (c.tc.loc main_arg2))) := rfl

theorem rmsV_apply (X : FVec Ideal S40960x2048 .f32) (G : FVec Ideal S4x2048 .f32) (R : Fin 40960) (k : Fin 2048) :
    rmsV X G (ix2 R k) = rms (fun j => X (ix2 R j)) k (G (ix2 2 k)) := by
  unfold rmsV rms
  pointwise

theorem pjV_apply (X : FVec Ideal S40960x2048 .f32) (W : FVec Ideal S2x2048x4608 .f32) (R : Fin 40960) (k : Fin 4608) :
    pjV X W (ix2 R k) = ∑ j : Fin 2048, X (ix2 R j) * W (ix3 1 j k) := by
  unfold pjV
  pointwise

theorem sqV_apply (Y : FVec Ideal S40960x4608 .f32) (s : Fin 10) (p : Fin 4096) (k : Fin 4608) : sqV Y (ix3 s p k) = Y (ix2 (row s p) k) := by
  unfold sqV
  pointwise
  exact congrArg (fun r => Y (ix2 r k)) (Fin.ext (by show s.val * 4096 + p.val = 4096 * s.val + p.val; omega))

theorem qV_apply (Y : FVec Ideal S40960x4608 .f32) (s : Fin 10) (p : Fin 4096) (h : Fin 16) (d : Fin 64) :
    qV Y (ix4 s p h d) = Y (ix2 (row s p) ⟨3072 + 64 * h.val + d.val, by omega⟩) := by
  refine Eq.trans ?_ (sqV_apply Y s p _)
  unfold qV
  generalize sqV Y = Z
  pointwise
  exact congrArg (fun k => Z (ix3 s p k)) (Fin.ext (by show 3072 + (h.val * 64 + d.val) = 3072 + 64 * h.val + d.val; omega))

theorem kV_apply (Y : FVec Ideal S40960x4608 .f32) (s : Fin 10) (p : Fin 4096) (h : Fin 4) (d : Fin 64) :
    kV Y (ix4 s p h d) = Y (ix2 (row s p) ⟨4096 + 64 * h.val + d.val, by omega⟩) := by
  refine Eq.trans ?_ (sqV_apply Y s p _)
  unfold kV
  generalize sqV Y = Z
  pointwise
  exact congrArg (fun k => Z (ix3 s p k)) (Fin.ext (by show 4096 + (h.val * 64 + d.val) = 4096 + 64 * h.val + d.val; omega))

theorem aV_apply (Y : FVec Ideal S40960x4608 .f32) (s : Fin 10) (p : Fin 4096) (k : Fin 3072) : aV Y (ix3 s p k) = Y (ix2 (row s p) ⟨k.val, by omega⟩) := by
  refine Eq.trans ?_ (sqV_apply Y s p _)
  unfold aV
  generalize sqV Y = Z
  pointwise

theorem vV_apply (Y : FVec Ideal S40960x4608 .f32) (s : Fin 10) (p : Fin 4096) (k : Fin 256) : vV Y (ix3 s p k) = Y (ix2 (row s p) ⟨4352 + k.val, by omega⟩) := by
  refine Eq.trans ?_ (sqV_apply Y s p _)
  unfold vV
  generalize sqV Y = Z
  pointwise

theorem flQ_apply (A : FVec Ideal S10x4096x16x64 .f32) (s : Fin 10) (p : Fin 4096) (k : Fin 1024) :
    flQ A (ix3 s p k) = A (ix4 s p ⟨k.val / 64, by omega⟩ ⟨k.val % 64, by omega⟩) := by
  unfold flQ
  pointwise

theorem flK_apply (A : FVec Ideal S10x4096x4x64 .f32) (s : Fin 10) (p : Fin 4096) (k : Fin 256) :
    flK A (ix3 s p k) = A (ix4 s p ⟨k.val / 64, by omega⟩ ⟨k.val % 64, by omega⟩) := by
  unfold flK
  pointwise

theorem ctV_apply (a : FVec Ideal S10x4096x3072 .f32) (q : FVec Ideal S10x4096x1024 .f32) (k v : FVec Ideal S10x4096x256 .f32)
    (s : Fin 10) (p : Fin 4096) (i : Fin 4608) :
    ctV a q k v (ix3 s p i) = if h : i.val < 3072 then a (ix3 s p ⟨i.val, h⟩) else
      if h' : i.val - 3072 < 1024 then q (ix3 s p ⟨i.val - 3072, h'⟩) else
      if h'' : i.val - 3072 - 1024 < 256 then k (ix3 s p ⟨i.val - 3072 - 1024, h''⟩) else v (ix3 s p ⟨i.val - 3072 - 1024 - 256, by omega⟩) := by
  unfold ctV
  pointwise

theorem ouV_apply (A : FVec Ideal S10x4096x4608 .f32) (s : Fin 10) (p : Fin 4096) (k : Fin 4608) : ouV A (ix4 s 0 p k) = A (ix3 s p k) := by
  unfold ouV
  pointwise

theorem tbV4_apply (T : FVec Ideal S4096x8 .f32) (s : Fin 10) (p : Fin 4096) (h : Fin 4) (f : Fin 8) :
    tbV4 T (ix4 s p h f) = T (ix2 p f) := by
  unfold tbV4
  pointwise

theorem rotV4_apply (A : FVec Ideal S10x4096x4x64 .f32) (s : Fin 10) (p : Fin 4096) (h : Fin 4) (d : Fin 64) :
    rotV4 A (tbV4 cosV) (tbV4 sinV) (ix4 s p h d) = rotHead (fun e => A (ix4 s p h e)) p d := by
  have hd := d.isLt
  generalize hC : tbV4 cosV = C
  generalize hS : tbV4 sinV = S
  have eC : ∀ f : Fin 8, C (ix4 s p h f) = cosV (ix2 p f) := fun f => by rw [← hC, tbV4_apply]
  have eS : ∀ f : Fin 8, S (ix4 s p h f) = sinV (ix2 p f) := fun f => by rw [← hS, tbV4_apply]
  unfold rotV4 rotHead
  pointwise
  simp only [eC, eS]
  by_cases h8 : d.val < 8
  · rw [dif_pos h8, dif_pos (show d.val < 16 by omega), dif_pos h8]
    have ef : fr d.val = ⟨d.val, h8⟩ := Fin.ext (by show d.val % 8 = d.val; omega)
    have ed : (⟨8 + d.val, by omega⟩ : Fin 64) = ⟨d.val + 8, by omega⟩ := Fin.ext (Nat.add_comm _ _)
    rw [ef, ed]
  · rw [dif_neg h8]
    by_cases h16 : d.val < 16
    · rw [dif_pos (show d.val - 8 < 8 by omega), dif_pos h16, dif_neg h8]
      have ef : fr d.val = ⟨d.val - 8, by omega⟩ := Fin.ext (by show d.val % 8 = d.val - 8; omega)
      have ed : (⟨8 + (d.val - 8), by omega⟩ : Fin 64) = d := Fin.ext (by show 8 + (d.val - 8) = d.val; omega)
      rw [ef, ed]
    · rw [dif_neg (show ¬d.val - 8 < 8 by omega), dif_neg h16]
      have ed : (⟨16 + (d.val - 8 - 8), by omega⟩ : Fin 64) = d := Fin.ext (by show 16 + (d.val - 8 - 8) = d.val; omega)
      rw [ed]

/-- The rotated head, found in the rotated row. -/
theorem rotHead_eq (y : Fin 4608 → EReal) (p : Fin 4096) (k : Fin 4608) (b : ℕ) (h0 : 3072 ≤ b) (hb : b + 64 ≤ 4352) (hk : k.val = b + k.val % 64) :
    rotHead (fun e => y ⟨b + e.val, by omega⟩) p ⟨k.val % 64, by omega⟩ = rotRow y p k := by
  have h1 : 3072 ≤ k.val ∧ k.val < 4352 := by omega
  have hf : fr (k.val % 64) = fr k.val := Fin.ext (by show k.val % 64 % 8 = k.val % 8; omega)
  have e0 : (⟨b + k.val % 64, by omega⟩ : Fin 4608) = k := Fin.ext hk.symm
  unfold rotHead rotRow
  dsimp only
  rw [hf, e0]
  by_cases h16 : k.val % 64 < 16
  · rw [dif_pos h16, dif_pos (show (3072 ≤ k.val ∧ k.val < 4352) ∧ k.val % 64 < 16 from ⟨h1, h16⟩)]
    by_cases h8 : k.val % 64 < 8
    · rw [dif_pos h8, dif_pos h8]
      have e : (⟨b + (k.val % 64 + 8), by omega⟩ : Fin 4608) = ⟨k.val + 8, by omega⟩ := Fin.ext (by show b + (k.val % 64 + 8) = k.val + 8; omega)
      rw [e]
    · rw [dif_neg h8, dif_neg h8]
      have e : (⟨b + (k.val % 64 - 8), by omega⟩ : Fin 4608) = ⟨k.val - 8, by omega⟩ := Fin.ext (by show b + (k.val % 64 - 8) = k.val - 8; omega)
      rw [e]
  · rw [dif_neg h16, dif_neg (show ¬((3072 ≤ k.val ∧ k.val < 4352) ∧ k.val % 64 < 16) from fun h' => h16 h'.2)]

theorem resV_apply (Y : FVec Ideal S40960x4608 .f32) (s : Fin 10) (p : Fin 4096) (k : Fin 4608) :
    resV Y (ix4 s 0 p k) = rotRow (fun l => Y (ix2 (row s p) l)) p k := by
  have hk := k.isLt
  unfold resV
  rw [ouV_apply, ctV_apply]
  simp only [flQ_apply, flK_apply, rotV_apply, rotV4_apply, qV_apply, kV_apply, aV_apply, vV_apply]
  by_cases h1 : k.val < 3072
  · rw [dif_pos h1]
    unfold rotRow
    rw [dif_neg (by omega)]
  · rw [dif_neg h1]
    by_cases h2 : k.val - 3072 < 1024
    · rw [dif_pos h2]
      have em : (⟨(k.val - 3072) % 64, by omega⟩ : Fin 64) = ⟨k.val % 64, by omega⟩ := Fin.ext (by show (k.val - 3072) % 64 = k.val % 64; omega)
      rw [em]
      exact rotHead_eq (fun l => Y (ix2 (row s p) l)) p k (3072 + 64 * ((k.val - 3072) / 64)) (by omega) (by omega) (by omega)
    · rw [dif_neg h2]
      by_cases h3 : k.val - 3072 - 1024 < 256
      · rw [dif_pos h3]
        have em : (⟨(k.val - 3072 - 1024) % 64, by omega⟩ : Fin 64) = ⟨k.val % 64, by omega⟩ :=
          Fin.ext (by show (k.val - 3072 - 1024) % 64 = k.val % 64; omega)
        rw [em]
        exact rotHead_eq (fun l => Y (ix2 (row s p) l)) p k (4096 + 64 * ((k.val - 3072 - 1024) / 64)) (by omega) (by omega) (by omega)
      · rw [dif_neg h3]
        unfold rotRow
        rw [dif_neg (by omega)]
        exact congrArg (fun l => Y (ix2 (row s p) l)) (Fin.ext (by show 4352 + (k.val - 3072 - 1024 - 256) = k.val; omega))

/-- The kernel's output array and the reference's result agree on equal arguments. -/
theorem agree (m : (ℓ : Loc Kernel6Ideal.nD Kernel6Ideal.τ Kernel6Ideal.sig) → Buf (Elt Ideal) ℓ)
    (m' : (ℓ : Loc nD τ sig) → Buf (Elt Ideal) ℓ) (c : Dev nD)
    (h0 : m' (c.tc.loc main_arg0) = argX m c) (h1 : m' (c.tc.loc main_arg1) = argG m c) (h2 : m' (c.tc.loc main_arg2) = argW m c) :
    (Value.res_main_v96 m' c : FVec Ideal S10x1x4096x4608 .bf16) = (Kernel6Ideal.Gen.dats m 0 c).arrAt 7 Kernel6Ideal.cfg0.N := by
  funext y
  obtain ⟨s, p, k, rfl⟩ : ∃ (s : Fin 10) (p : Fin 4096) (k : Fin 4608), y = ix4 s 0 p k := ⟨y 0, y 2, y 3, funext fun d => match d with
    | ⟨0, _⟩ => rfl
    | ⟨1, _⟩ => Subsingleton.elim (α := Fin 1) _ _
    | ⟨2, _⟩ => rfl
    | ⟨3, _⟩ => rfl⟩
  rw [res_eq, h0, h1, h2]
  refine (resV_apply _ s p k).trans (Eq.trans ?_ (Kernel6Ideal.Hand.arr7_apply m c s p k).symm)
  refine congrArg (fun v => rotRow v p k) (funext fun l => ?_)
  rw [pjV_apply]
  refine Finset.sum_congr rfl fun j _ => ?_
  rw [rmsV_apply]

end Cert.Reference6Ideal.Hand
end
-- ==== Proof.EvenOutBody.lean ====
module

public import proofs.«01_k».proof.Proof.FfnBody
public import proofs.«01_k».proof.Proof.Gen.Kernel7Ideal.Value
public import Idealize.ShloMosaic.Lib.Pointwise
public import Idealize.ShloMosaic.Lib.Pipeline.ReadBack

@[expose] public section

set_option maxRecDepth 16384

noncomputable section

/- What one block of the output projection of the two banks computes. -/
namespace Cert.Kernel7Ideal.Hand

open Cert.Kernel7Ideal Cert.Kernel7Ideal.Gen Idealize.ShloMosaic Idealize.ShloMosaic.TcCoe Idealize.SL.Sem
open Cert.Kernel2Ideal.Hand (rms)

variable {F : FTy → Type} [FloatOps F]

theorem hz : (![0, 0] : Fin 2 → ℕ) = fun _ => 0 := funext fun a => by fin_cases a <;> rfl
theorem hz3 : (![0, 0, 0] : Fin 3 → ℕ) = fun _ => 0 := funext fun a => by fin_cases a <;> rfl

/-- The two halves of the projection, at row `r`, column `k`. -/
theorem pay2_apply (a : Vec Ideal S512x1024 .bf16) (wa : Vec Ideal S1x1024x2048 .bf16) (b : Vec Ideal S512x1024 .bf16)
    (wb : Vec Ideal S1x1024x2048 .bf16) (r : Fin 512) (k : Fin 2048) :
    k0_pay2 a wa b wb (ix2 r k)
      = ∑ j : Fin 1024, a (ix2 r j) * wa (ix3 0 j k) + ∑ j : Fin 1024, b (ix2 r j) * wb (ix3 0 j k) := by
  pointwise [k0_pay2]

/-- A group of eight rows of the result: the residual plus the normalised rows. -/
theorem pay5_apply (g : Vec Ideal S1x2048 .f32) (v x : Vec Ideal S8x2048 .f32) (r : Fin 8) (k : Fin 2048) :
    k0_pay5 (k0_pay3 g) v x (ix2 r k) = x (ix2 r k) + rms (fun j => v (ix2 r j)) k (g (ix2 0 k)) := by
  pointwise [k0_pay5, k0_pay3]
  rfl

theorem ldu (X : Vec Ideal S512x2048 .f32) (o : ℕ) (inb : ∀ a, (![o, 0] : Fin 2 → ℕ) a + (![8, 2048] : Fin 2 → ℕ) a ≤ S512x2048.size a)
    (a : Fin 8) (b : Fin 2048) :
    View.ld (Val := Elt Ideal) X (Rect.unit (s := S512x2048) ![o, 0] ![8, 2048] inb) (ix2 a b)
      = X (ix2 ⟨o + a.val, by have := inb 0; have := a.isLt; simp at *; omega⟩ b) := by
  refine congrArg X ?_
  funext d
  apply Fin.ext
  match d with
  | ⟨0, _⟩ => show o + 1 * a.val = o + a.val; omega
  | ⟨1, _⟩ => show 0 + 1 * b.val = b.val; omega

theorem embu (o : ℕ) (inb : ∀ a, (![o, 0] : Fin 2 → ℕ) a + (![8, 2048] : Fin 2 → ℕ) a ≤ S512x2048.size a)
    (a : Fin 8) (b : Fin 2048) :
    (Rect.unit (s := S512x2048) ![o, 0] ![8, 2048] inb).emb (ix2 a b)
      = ix2 ⟨o + a.val, by have := inb 0; have := a.isLt; simp at *; omega⟩ b := by
  funext d
  apply Fin.ext
  match d with
  | ⟨0, _⟩ => show o + 1 * a.val = o + a.val; omega
  | ⟨1, _⟩ => show 0 + 1 * b.val = b.val; omega

/-- The block that the groups of rows make up: the residual `X` plus the normalised rows of `A`, scaled by `g`. -/
theorem canonOut (L : List (View.Piece (Elt Ideal) S512x2048 .f32)) (A X : Vec Ideal S512x2048 .f32) (g : Vec Ideal S1x2048 .f32)
    (h : ∀ p ∈ L, ∃ (o : ℕ) (inb : ∀ a, (![o, 0] : Fin 2 → ℕ) a + (![8, 2048] : Fin 2 → ℕ) a ≤ S512x2048.size a),
      p = ⟨Rect.unit (s := S512x2048) ![o, 0] ![8, 2048] inb, k0_pay5 (F := Ideal) (k0_pay3 (F := Ideal) g)
        (View.ld (Val := Elt Ideal) A (Rect.unit (s := S512x2048) ![o, 0] ![8, 2048] inb))
        (View.ld (Val := Elt Ideal) X (Rect.unit (s := S512x2048) ![o, 0] ![8, 2048] inb))⟩)
    (y : S512x2048.Idx) (hc : ∃ p ∈ L, y ∈ p.1.set) :
    View.canon L y = X y + rms (fun j => A (ix2 (y 0) j)) (y 1) (g (ix2 0 (y 1))) := by
  refine View.canon_apply_of_pieces (fun y : S512x2048.Idx => X y + rms (fun j => A (ix2 (y 0) j)) (y 1) (g (ix2 0 (y 1)))) L ?_ y hc
  intro p hp x
  obtain ⟨o, inb, rfl⟩ := h p hp
  obtain ⟨a, b, rfl⟩ : ∃ (a : Fin 8) (b : Fin 2048), x = ix2 a b := ⟨x 0, x 1, eq_ix2 x⟩
  refine (pay5_apply _ _ _ a b).trans ?_
  dsimp only
  rw [embu]
  exact congr (congrArg (fun u v : EReal => u + v) (ldu X o inb a b)) (congrArg (fun v => rms v b (g (ix2 0 b))) (funext fun j => ldu A o inb a j))

theorem pieces (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024x2048 .bf16) (harg3 : arg3.IsWhole) (arg4 : Memref sig .tc .vmem S1x1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole)
    (x0 : Vec F S512x1024 .bf16) (x1 : Vec F S512x1024 .bf16) (x2 : Vec F S1x1024x2048 .bf16) (x3 : Vec F S1x1024x2048 .bf16) (x4 : Vec F S1x2048 .f32) (x5 : Vec F S512x2048 .f32) :
    ∀ p ∈ (kernelRun0_A c i arg1 harg1 arg2 harg2 arg3 harg3 arg4 harg4 arg5 harg5 arg6 harg6 arg7 harg7 arg8 harg8 x0 x1 x2 x3 x4 x5).1, ∃ (o : ℕ) (inb : ∀ a, (![o, 0] : Fin 2 → ℕ) a + (![8, 2048] : Fin 2 → ℕ) a ≤ S512x2048.size a),
      p = ⟨Rect.unit (s := S512x2048) ![o, 0] ![8, 2048] inb,
        k0_pay5 (k0_pay3 (View.readAt (Elt F) arg5.view (Rect.unit ![0, 0] S1x2048.size inb_S1x2048_S1x2048_0_0).toLoadRect (harg5.unread x4)))
          (arg8.view.readCov (kernelRun0_A c i arg1 harg1 arg2 harg2 arg3 harg3 arg4 harg4 arg5 harg5 arg6 harg6 arg7 harg7 arg8 harg8 x0 x1 x2 x3 x4 x5).2.1 (Rect.unit (s := S512x2048) ![o, 0] ![8, 2048] inb).toLoadRect)
          (View.readAt (Elt F) arg6.view (Rect.unit (s := S512x2048) ![o, 0] ![8, 2048] inb).toLoadRect (harg6.unread x5))⟩ := by
  unfold kernelRun0_A
  dsimp only
  sl_unfold_words
  iterate 64 refine List.forall_mem_cons.2 ⟨⟨_, _, rfl⟩, ?_⟩
  exact fun p hp => absurd hp List.not_mem_nil

theorem cover_scratch (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024x2048 .bf16) (harg3 : arg3.IsWhole) (arg4 : Memref sig .tc .vmem S1x1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole)
    (x0 : Vec F S512x1024 .bf16) (x1 : Vec F S512x1024 .bf16) (x2 : Vec F S1x1024x2048 .bf16) (x3 : Vec F S1x1024x2048 .bf16) (x4 : Vec F S1x2048 .f32) (x5 : Vec F S512x2048 .f32) (y : S512x2048.Idx) :
    ∃ p ∈ (kernelRun0_A c i arg1 harg1 arg2 harg2 arg3 harg3 arg4 harg4 arg5 harg5 arg6 harg6 arg7 harg7 arg8 harg8 x0 x1 x2 x3 x4 x5).2.1, y ∈ p.1.set :=
  View.cover_of_tiledL (kernelRun0_A c i arg1 harg1 arg2 harg2 arg3 harg3 arg4 harg4 arg5 harg5 arg6 harg6 arg7 harg7 arg8 harg8 x0 x1 x2 x3 x4 x5).2.1 S512x2048.size (by sl_kernel_rfl) y

theorem scratch (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024x2048 .bf16) (harg3 : arg3.IsWhole) (arg4 : Memref sig .tc .vmem S1x1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole)
    (x0 : Vec Ideal S512x1024 .bf16) (x1 : Vec Ideal S512x1024 .bf16) (x2 : Vec Ideal S1x1024x2048 .bf16) (x3 : Vec Ideal S1x1024x2048 .bf16) (x4 : Vec Ideal S1x2048 .f32) (x5 : Vec Ideal S512x2048 .f32) :
    View.canon (kernelRun0_A c i arg1 harg1 arg2 harg2 arg3 harg3 arg4 harg4 arg5 harg5 arg6 harg6 arg7 harg7 arg8 harg8 x0 x1 x2 x3 x4 x5).2.1 = k0_pay2 x0 x2 x1 x3 := by
  unfold kernelRun0_A
  dsimp only
  sl_unfold_words
  rw [View.canon_unit_zero (S := S512x2048) hz]
  simp only [View.readAt_eq_ld, Memref.IsWhole.read_unread, View.ld_unit_zero (S := S512x1024) hz, View.ld_unit_zero (S := S1x1024x2048) hz3]

/-- An entry of the block that a grid point leaves. -/
theorem out_apply (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024x2048 .bf16) (harg3 : arg3.IsWhole) (arg4 : Memref sig .tc .vmem S1x1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole)
    (x0 : Vec Ideal S512x1024 .bf16) (x1 : Vec Ideal S512x1024 .bf16) (x2 : Vec Ideal S1x1024x2048 .bf16) (x3 : Vec Ideal S1x1024x2048 .bf16) (x4 : Vec Ideal S1x2048 .f32) (x5 : Vec Ideal S512x2048 .f32) (r : Fin 512) (k : Fin 2048) :
    out0_A_6 c i arg1 harg1 arg2 harg2 arg3 harg3 arg4 harg4 arg5 harg5 arg6 harg6 arg7 harg7 arg8 harg8 x0 x1 x2 x3 x4 x5 (ix2 r k)
      = x5 (ix2 r k) + rms (fun i => ∑ j : Fin 1024, x0 (ix2 r j) * x2 (ix3 0 j i) + ∑ j : Fin 1024, x1 (ix2 r j) * x3 (ix3 0 j i)) k (x4 (ix2 0 k)) := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  refine (canonOut _ (k0_pay2 x0 x2 x1 x3) x5 x4 (fun p hp => ?_) _ (cover0_A_6 c i arg1 harg1 arg2 harg2 arg3 harg3 arg4 harg4 arg5 harg5 arg6 harg6 arg7 harg7 arg8 harg8 x0 x1 x2 x3 x4 x5 _)).trans ?_
  · obtain ⟨o, inb, e⟩ := pieces c i arg1 harg1 arg2 harg2 arg3 harg3 arg4 harg4 arg5 harg5 arg6 harg6 arg7 harg7 arg8 harg8 x0 x1 x2 x3 x4 x5 p hp
    refine ⟨o, inb, e.trans ?_⟩
    rw [View.readAt_eq_ld, View.readAt_eq_ld, harg5.read_unread, harg6.read_unread, View.ld_unit_zero (S := S1x2048) hz,
      View.readCov_eq_canon_ld _ _ _ (cover_scratch c i arg1 harg1 arg2 harg2 arg3 harg3 arg4 harg4 arg5 harg5 arg6 harg6 arg7 harg7 arg8 harg8 x0 x1 x2 x3 x4 x5), scratch]
  · show x5 (ix2 r k) + rms (fun j => k0_pay2 x0 x2 x1 x3 (ix2 r j)) k (x4 (ix2 0 k)) = _
    simp only [pay2_apply]

end Cert.Kernel7Ideal.Hand
end
-- ==== Proof.EvenOutFold.lean ====
module

public import proofs.«01_k».proof.Proof.EvenOutBody

@[expose] public section

set_option maxRecDepth 16384

noncomputable section

/- The array that the output projection of the two banks leaves. -/
namespace Cert.Kernel7Ideal.Hand

open Cert.Kernel7Ideal Cert.Kernel7Ideal.Gen Idealize.ShloMosaic Idealize.ShloMosaic.TcCoe Idealize.SL.Sem
open Idealize.ShloMosaic.Pipeline (Dat)
open Cert.Kernel2Ideal.Hand (rms)

variable (m : (ℓ : Loc nD τ sig) → Buf (Elt Ideal) ℓ)

/-- The arguments as launched, on device `c`. -/
abbrev argA (c : Dev nD) : Vec Ideal S40960x1024 .f32 := m ((c.tc : Thread nD τ).loc main_arg0)
abbrev argB (c : Dev nD) : Vec Ideal S40960x1024 .f32 := m ((c.tc : Thread nD τ).loc main_arg1)
abbrev argX (c : Dev nD) : Vec Ideal S40960x2048 .f32 := m ((c.tc : Thread nD τ).loc main_arg2)
abbrev argG (c : Dev nD) : Vec Ideal S4x2048 .f32 := m ((c.tc : Thread nD τ).loc main_arg3)
abbrev argW (c : Dev nD) : Vec Ideal S2x2048x2048 .f32 := m ((c.tc : Thread nD τ).loc main_arg4)

/-- Row `j` of the weights' upper half and of their lower half. -/
abbrev lo (j : Fin 1024) : Fin 2048 := ⟨j.val, by omega⟩
abbrev hi (j : Fin 1024) : Fin 2048 := ⟨1024 + j.val, by omega⟩

theorem V_v0 (c : Dev nD) : V m c main_v0 = argA m c := by
  unfold V; after_results_simp; rfl
theorem V_v1 (c : Dev nD) : V m c main_v1 = argB m c := by
  unfold V; after_results_simp; rfl
theorem V_v2 (c : Dev nD) : V m c main_v2 = argW m c := by
  unfold V; after_results_simp; rfl
theorem V_v5 (c : Dev nD) (k : Fin 2048) : (V m c main_v5 : Vec Ideal S1x2048 .f32) (ix2 0 k) = argG m c (ix2 2 k) := by
  unfold V; after_results_simp
  pointwise

theorem ix_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 1 ∧ win0_2.index t (1 : Fin 3) = 0 ∧ win0_2.index t (2 : Fin 3) = 0)
    ∧ (win0_3.index t (0 : Fin 3) = 1 ∧ win0_3.index t (1 : Fin 3) = 1 ∧ win0_3.index t (2 : Fin 3) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem row_lt (t : Fin cfg0.N) (r : Fin 512) : 512 * t.val + r.val < 40960 := by
  have h1 := lt_of_lt_of_eq t.isLt (show cfg0.N = 80 from N_0); have := r.isLt; omega

/-- The array's row that row `r` of grid point `t`'s block is. -/
abbrev rowOf (t : Fin cfg0.N) (r : Fin 512) : Fin 40960 := ⟨512 * t.val + r.val, row_lt t r⟩

theorem iblk0_apply (c : Dev nD) (t : Fin cfg0.N) (r : Fin 512) (e : Fin 1024) :
    (iblk m c 0 t : Vec Ideal S512x1024 .bf16) (ix2 r e) = argA m c (ix2 (rowOf t r) e) := by
  unfold iblk
  rw [View.read_apply]
  show V m c main_v0 _ = _
  rw [V_v0]
  refine congrArg (argA m c) (funext fun a => Fin.ext ?_)
  obtain ⟨⟨e0, e1⟩, -⟩ := ix_facts t
  match a with
  | ⟨0, _⟩ => show win0_0.index t 0 * 512 + 1 * r.val = 512 * t.val + r.val; rw [e0]; omega
  | ⟨1, _⟩ => show win0_0.index t 1 * 1024 + 1 * e.val = e.val; rw [e1]; omega

theorem iblk1_apply (c : Dev nD) (t : Fin cfg0.N) (r : Fin 512) (e : Fin 1024) :
    (iblk m c 1 t : Vec Ideal S512x1024 .bf16) (ix2 r e) = argB m c (ix2 (rowOf t r) e) := by
  unfold iblk
  rw [View.read_apply]
  show V m c main_v1 _ = _
  rw [V_v1]
  refine congrArg (argB m c) (funext fun a => Fin.ext ?_)
  obtain ⟨-, ⟨e0, e1⟩, -⟩ := ix_facts t
  match a with
  | ⟨0, _⟩ => show win0_1.index t 0 * 512 + 1 * r.val = 512 * t.val + r.val; rw [e0]; omega
  | ⟨1, _⟩ => show win0_1.index t 1 * 1024 + 1 * e.val = e.val; rw [e1]; omega

theorem iblk2_apply (c : Dev nD) (t : Fin cfg0.N) (j : Fin 1024) (k : Fin 2048) :
    (iblk m c 2 t : Vec Ideal S1x1024x2048 .bf16) (ix3 0 j k) = argW m c (ix3 1 (lo j) k) := by
  unfold iblk
  rw [View.read_apply]
  show V m c main_v2 _ = _
  rw [V_v2]
  refine congrArg (argW m c) (funext fun a => Fin.ext ?_)
  obtain ⟨-, -, ⟨e0, e1, e2⟩, -⟩ := ix_facts t
  match a with
  | ⟨0, _⟩ => show win0_2.index t 0 * 1 + 1 * 0 = 1; rw [e0]
  | ⟨1, _⟩ => show win0_2.index t 1 * 1024 + 1 * j.val = j.val; rw [e1]; omega
  | ⟨2, _⟩ => show win0_2.index t 2 * 2048 + 1 * k.val = k.val; rw [e2]; omega

theorem iblk3_apply (c : Dev nD) (t : Fin cfg0.N) (j : Fin 1024) (k : Fin 2048) :
    (iblk m c 3 t : Vec Ideal S1x1024x2048 .bf16) (ix3 0 j k) = argW m c (ix3 1 (hi j) k) := by
  unfold iblk
  rw [View.read_apply]
  show V m c main_v2 _ = _
  rw [V_v2]
  refine congrArg (argW m c) (funext fun a => Fin.ext ?_)
  obtain ⟨-, -, -, ⟨e0, e1, e2⟩, -⟩ := ix_facts t
  match a with
  | ⟨0, _⟩ => show win0_3.index t 0 * 1 + 1 * 0 = 1; rw [e0]
  | ⟨1, _⟩ => show win0_3.index t 1 * 1024 + 1 * j.val = 1024 + j.val; rw [e1]; omega
  | ⟨2, _⟩ => show win0_3.index t 2 * 2048 + 1 * k.val = k.val; rw [e2]; omega

theorem iblk4_apply (c : Dev nD) (t : Fin cfg0.N) (k : Fin 2048) :
    (iblk m c 4 t : Vec Ideal S1x2048 .f32) (ix2 0 k) = argG m c (ix2 2 k) := by
  unfold iblk
  rw [View.read_apply, ← V_v5 m c k]
  show V m c main_v5 _ = V m c main_v5 _
  refine congrArg (V m c main_v5) (funext fun a => Fin.ext ?_)
  obtain ⟨-, -, -, -, ⟨e0, e1⟩, -⟩ := ix_facts t
  match a with
  | ⟨0, _⟩ => show win0_4.index t 0 * 1 + 1 * 0 = 0; rw [e0]
  | ⟨1, _⟩ => show win0_4.index t 1 * 2048 + 1 * k.val = k.val; rw [e1]; omega

theorem iblk5_apply (c : Dev nD) (t : Fin cfg0.N) (r : Fin 512) (e : Fin 2048) :
    (iblk m c 5 t : Vec Ideal S512x2048 .f32) (ix2 r e) = argX m c (ix2 (rowOf t r) e) := by
  unfold iblk
  rw [View.read_apply]
  show V m c main_arg2 _ = _
  rw [V_main_arg2]
  refine congrArg (argX m c) (funext fun a => Fin.ext ?_)
  obtain ⟨-, -, -, -, -, ⟨e0, e1⟩, -⟩ := ix_facts t
  match a with
  | ⟨0, _⟩ => show win0_5.index t 0 * 512 + 1 * r.val = 512 * t.val + r.val; rw [e0]; omega
  | ⟨1, _⟩ => show win0_5.index t 1 * 2048 + 1 * e.val = e.val; rw [e1]; omega

/-- The call's result at row `R`, column `k`: the residual plus the normalised projection of the two banks' row. -/
def bankOut (c : Dev nD) (R : Fin 40960) (k : Fin 2048) : EReal :=
  argX m c (ix2 R k) + rms (fun i => ∑ j : Fin 1024, argA m c (ix2 R j) * argW m c (ix3 1 (lo j) i)
    + ∑ j : Fin 1024, argB m c (ix2 R j) * argW m c (ix3 1 (hi j) i)) k (argG m c (ix2 2 k))

theorem flush6 : ∀ t : Fin cfg0.N, (cfg0.win 6).flush t = true := (by decide +kernel : ∀ t : Fin grid0.N, _)

/-- The output array that the run leaves. -/
theorem arr6_apply (c : Dev nD) (R : Fin 40960) (k : Fin 2048) :
    ((dats m 0 c).arrAt 6 cfg0.N : Vec Ideal S40960x2048 .f32) (ix2 R k) = bankOut m c R k := by
  obtain ⟨t, r, hR⟩ : ∃ (t : Fin cfg0.N) (r : Fin 512), R = rowOf t r :=
    ⟨⟨R.val / 512, by rw [show cfg0.N = 80 from N_0]; omega⟩, ⟨R.val % 512, by omega⟩,
      Fin.ext (by show R.val = 512 * (R.val / 512) + R.val % 512; omega)⟩
  have hemb : ((cfg0.win 6).blk t).view.emb (ix2 r k) = (ix2 R k : S40960x2048.Idx) := by
    obtain ⟨-, -, -, -, -, -, e0, e1⟩ := ix_facts t
    funext a
    apply Fin.ext
    match a with
    | ⟨0, _⟩ => show win0_6.index t 0 * 512 + 1 * r.val = R.val; rw [e0, hR]; show _ = 512 * t.val + r.val; omega
    | ⟨1, _⟩ => show win0_6.index t 1 * 2048 + 1 * k.val = k.val; rw [e1]; omega
  have h := congrFun (Value.blocks6 m c t (flush6 t)) (ix2 r k)
  rw [View.read_apply, Value.flushed6_A] at h
  rw [hemb] at h
  refine h.trans ?_
  refine (out_apply _ _ _ _ _ _ _ _ _ _ _ _ _ _ _ _ _ _ _ _ _ _ _ _ r k).trans ?_
  unfold bankOut
  simp only [iblk0_apply, iblk1_apply, iblk2_apply, iblk3_apply, iblk4_apply, iblk5_apply]
  rw [hR]

end Cert.Kernel7Ideal.Hand
end
-- ==== Proof.EvenOutRef.lean ====
module

public import proofs.«01_k».proof.Proof.EvenOutFold
public import proofs.«01_k».proof.Proof.Gen.Reference7Ideal.Run

@[expose] public section

set_option maxRecDepth 16384

noncomputable section

/- The reference of the output projection of the two banks, and its agreement with the kernel. -/
namespace Cert.Reference7Ideal.Hand

open Cert.Reference7Ideal Cert.Reference7Ideal.Gen Idealize.ShloMosaic Idealize.ShloMosaic.TcCoe Idealize.SL.Sem
open Cert.Kernel2Ideal.Hand (rms)
open Cert.Kernel7Ideal.Hand (bankOut lo hi argA argB argX argG argW)

/-- The two banks, side by side. -/
def ctV (A B : FVec Ideal S40960x1024 .f32) : FVec Ideal S40960x2048 .f32 :=
  concatenate S40960x2048 1 [⟨S40960x1024, A⟩, ⟨S40960x1024, B⟩] concatenates_S40960x1024_S40960x1024_S40960x2048_d1

/-- The product with the second slice of the projection's weights. -/
def pjV (X : FVec Ideal S40960x2048 .f32) (W : FVec Ideal S2x2048x2048 .f32) : FVec Ideal S40960x2048 .f32 :=
  Host.dotGeneral (F := Ideal) dot_S40960x2048_S2048x2048_S40960x2048_1_0_0_1_n_n none X
    (shapeCast _ (extractStridedSlice S1x2048x2048 ![1, 0, 0] W slices_S2x2048x2048_S1x2048x2048_1_0_0)
      shapeCasts_S1x2048x2048_S2048x2048)

/-- The reference's normalisation of the rows of an array, times the third layer's gains. -/
def rmsV (X : FVec Ideal S40960x2048 .f32) (G : FVec Ideal S4x2048 .f32) : FVec Ideal S40960x2048 .f32 :=
  mulf (F := Ideal)
    (mulf X
      (broadcastInDim S40960x2048 ![0, 1] bcast_S40960x1_S40960x2048_0_1
        (Host.rsqrt
          (addf
            (Host.divf
              (broadcastInDim S40960x1 ![0] bcast_S40960_S40960x1_0
                (Host.reduceAdd (mulf X X) (constant S_ FTy.f32 0#32) reducesTo_S40960x2048_S40960_d1 h_S_))
              (broadcastInDim S40960x1 ![] bcast_S_S40960x1 (constant S_ FTy.f32 1157627904#32)))
            (broadcastInDim S40960x1 ![] bcast_S_S40960x1 (constant S_ FTy.f32 897988541#32))))))
    (broadcastInDim S40960x2048 ![0, 1] bcast_S1x2048_S40960x2048_0_1
      (broadcastInDim S1x2048 ![1] bcast_S2048_S1x2048_1
        (shapeCast S2048 (extractStridedSlice S1x2048 ![2, 0] G slices_S4x2048_S1x2048_2_0) shapeCasts_S1x2048_S2048)))

/-- The reference's result, of its arguments. -/
def resV (A B : FVec Ideal S40960x1024 .f32) (X : FVec Ideal S40960x2048 .f32) (G : FVec Ideal S4x2048 .f32)
    (W : FVec Ideal S2x2048x2048 .f32) : FVec Ideal S40960x2048 .f32 :=
  addf (F := Ideal) X (rmsV (pjV (ctV A B) W) G)

theorem ctV_lo (A B : FVec Ideal S40960x1024 .f32) (R : Fin 40960) (j : Fin 1024) : ctV A B (ix2 R (lo j)) = A (ix2 R j) := by
  unfold ctV
  pointwise

theorem ctV_hi (A B : FVec Ideal S40960x1024 .f32) (R : Fin 40960) (j : Fin 1024) : ctV A B (ix2 R (hi j)) = B (ix2 R j) := by
  unfold ctV
  pointwise

theorem pjV_apply (X : FVec Ideal S40960x2048 .f32) (W : FVec Ideal S2x2048x2048 .f32) (R : Fin 40960) (k : Fin 2048) :
    pjV X W (ix2 R k) = ∑ j : Fin 2048, X (ix2 R j) * W (ix3 1 j k) := by
  unfold pjV
  pointwise

theorem rmsV_apply (X : FVec Ideal S40960x2048 .f32) (G : FVec Ideal S4x2048 .f32) (R : Fin 40960) (k : Fin 2048) :
    rmsV X G (ix2 R k) = rms (fun j => X (ix2 R j)) k (G (ix2 2 k)) := by
  unfold rmsV rms
  pointwise

/-- A sum over the 2048 rows of the weights is the sum over their upper half plus the sum over their lower half. -/
theorem sum_halves (f : Fin 2048 → EReal) : ∑ j : Fin 2048, f j = ∑ j : Fin 1024, f (lo j) + ∑ j : Fin 1024, f (hi j) :=
  Fin.sum_univ_add (a := 1024) (b := 1024) f

/-- An entry of the reference's result. -/
theorem res_apply (A B : FVec Ideal S40960x1024 .f32) (X : FVec Ideal S40960x2048 .f32) (G : FVec Ideal S4x2048 .f32)
    (W : FVec Ideal S2x2048x2048 .f32) (R : Fin 40960) (k : Fin 2048) :
    resV A B X G W (ix2 R k) = X (ix2 R k) + rms (fun i => ∑ j : Fin 1024, A (ix2 R j) * W (ix3 1 (lo j) i)
      + ∑ j : Fin 1024, B (ix2 R j) * W (ix3 1 (hi j) i)) k (G (ix2 2 k)) := by
  refine congrArg₂ (fun a b : EReal => a + b) rfl ?_
  rw [rmsV_apply]
  refine congrArg (fun v => rms v k _) (funext fun i => ?_)
  rw [pjV_apply, sum_halves]
  simp only [ctV_lo, ctV_hi]

/-- The reference's result and the kernel's output array agree on equal arguments. -/
theorem agree (m : (ℓ : Loc Kernel7Ideal.nD Kernel7Ideal.τ Kernel7Ideal.sig) → Buf (Elt Ideal) ℓ)
    (m' : (ℓ : Loc nD τ sig) → Buf (Elt Ideal) ℓ) (c : Dev nD)
    (h0 : m' (c.tc.loc main_arg0) = argA m c) (h1 : m' (c.tc.loc main_arg1) = argB m c) (h2 : m' (c.tc.loc main_arg2) = argX m c)
    (h3 : m' (c.tc.loc main_arg3) = argG m c) (h4 : m' (c.tc.loc main_arg4) = argW m c) :
    resV (m' (c.tc.loc main_arg0)) (m' (c.tc.loc main_arg1)) (m' (c.tc.loc main_arg2)) (m' (c.tc.loc main_arg3)) (m' (c.tc.loc main_arg4))
      = (Kernel7Ideal.Gen.dats m 0 c).arrAt 6 Kernel7Ideal.cfg0.N := by
  rw [h0, h1, h2, h3, h4]
  funext y
  obtain ⟨R, k, rfl⟩ : ∃ (R : Fin 40960) (k : Fin 2048), y = ix2 R k := ⟨y 0, y 1, eq_ix2 (n0 := 40960) (n1 := 2048) y⟩
  exact (res_apply (argA m c) (argB m c) (argX m c) (argG m c) (argW m c) R k).trans (Kernel7Ideal.Hand.arr6_apply m c R k).symm

end Cert.Reference7Ideal.Hand
end
-- ==== Proof.FirstOutBody.lean ====
module

public import proofs.«01_k».proof.Proof.FfnBody
public import proofs.«01_k».proof.Proof.Gen.Kernel8Ideal.Value
public import Idealize.ShloMosaic.Lib.Pointwise
public import Idealize.ShloMosaic.Lib.Pipeline.ReadBack

@[expose] public section

set_option maxRecDepth 16384

noncomputable section

/- What one block of layer 0's output projection of the two banks computes. -/
namespace Cert.Kernel8Ideal.Hand

open Cert.Kernel8Ideal Cert.Kernel8Ideal.Gen Idealize.ShloMosaic Idealize.ShloMosaic.TcCoe Idealize.SL.Sem
open Cert.Kernel2Ideal.Hand (rms)

variable {F : FTy → Type} [FloatOps F]

theorem hz : (![0, 0] : Fin 2 → ℕ) = fun _ => 0 := funext fun a => by fin_cases a <;> rfl
theorem hz3 : (![0, 0, 0] : Fin 3 → ℕ) = fun _ => 0 := funext fun a => by fin_cases a <;> rfl

/-- The two halves of the projection, at row `r`, column `k`. -/
theorem pay2_apply (a : Vec Ideal S512x1024 .bf16) (wa : Vec Ideal S1x1024x2048 .bf16) (b : Vec Ideal S512x1024 .bf16)
    (wb : Vec Ideal S1x1024x2048 .bf16) (r : Fin 512) (k : Fin 2048) :
    k0_pay2 a wa b wb (ix2 r k)
      = ∑ j : Fin 1024, a (ix2 r j) * wa (ix3 0 j k) + ∑ j : Fin 1024, b (ix2 r j) * wb (ix3 0 j k) := by
  pointwise [k0_pay2]

/-- The comparison that says which of the two arrays a grid point's residual comes from. -/
theorem from_word (i : grid0.Coords) :
    IntOp.cmpi .slt (BitVec.ofNat 32 (i 0).val) 64#32 = if (i 0).val < 64 then 1#1 else 0#1 := by
  have h : (i 0).val < 80 := (i 0).isLt
  generalize (i 0).val = n at h
  revert n
  decide

theorem select_if (p : Prop) [Decidable p] (a b : EReal) : Scalar.select (if p then 1#1 else 0#1) a b = if p then a else b := by
  by_cases h : p <;> simp [h, Scalar.select]

/-- The residual of a grid point: from the prompts for the first 64, from the samples after that. -/
def residual (i : grid0.Coords) (a b : Vec Ideal S512x2048 .f32) : Vec Ideal S512x2048 .f32 := fun y => if (i 0).val < 64 then a y else b y

/-- A group of eight rows of the result: the residual plus the normalised rows. -/
theorem pay8_apply (i : grid0.Coords) (g : Vec Ideal S1x2048 .f32) (v xa xb : Vec Ideal S8x2048 .f32) (r : Fin 8) (k : Fin 2048) :
    k0_pay8 (BitVec.ofNat 32 (i 0).val) (k0_pay3 g) v xa xb (ix2 r k)
      = (if (i 0).val < 64 then xa (ix2 r k) else xb (ix2 r k)) + rms (fun j => v (ix2 r j)) k (g (ix2 0 k)) := by
  pointwise [k0_pay8, k0_pay3]
  rw [from_word, select_if]
  rfl

theorem ldu (X : Vec Ideal S512x2048 .f32) (o : ℕ) (inb : ∀ a, (![o, 0] : Fin 2 → ℕ) a + (![8, 2048] : Fin 2 → ℕ) a ≤ S512x2048.size a)
    (a : Fin 8) (b : Fin 2048) :
    View.ld (Val := Elt Ideal) X (Rect.unit (s := S512x2048) ![o, 0] ![8, 2048] inb) (ix2 a b)
      = X (ix2 ⟨o + a.val, by have := inb 0; have := a.isLt; simp at *; omega⟩ b) := by
  refine congrArg X ?_
  funext d
  apply Fin.ext
  match d with
  | ⟨0, _⟩ => show o + 1 * a.val = o + a.val; omega
  | ⟨1, _⟩ => show 0 + 1 * b.val = b.val; omega

theorem embu (o : ℕ) (inb : ∀ a, (![o, 0] : Fin 2 → ℕ) a + (![8, 2048] : Fin 2 → ℕ) a ≤ S512x2048.size a)
    (a : Fin 8) (b : Fin 2048) :
    (Rect.unit (s := S512x2048) ![o, 0] ![8, 2048] inb).emb (ix2 a b)
      = ix2 ⟨o + a.val, by have := inb 0; have := a.isLt; simp at *; omega⟩ b := by
  funext d
  apply Fin.ext
  match d with
  | ⟨0, _⟩ => show o + 1 * a.val = o + a.val; omega
  | ⟨1, _⟩ => show 0 + 1 * b.val = b.val; omega

/-- The block that the groups of rows make up: the residual plus the normalised rows of `A`, scaled by `g`. -/
theorem canonOut (i : grid0.Coords) (L : List (View.Piece (Elt Ideal) S512x2048 .f32)) (A Xa Xb : Vec Ideal S512x2048 .f32) (g : Vec Ideal S1x2048 .f32)
    (h : ∀ p ∈ L, ∃ (o : ℕ) (inb : ∀ a, (![o, 0] : Fin 2 → ℕ) a + (![8, 2048] : Fin 2 → ℕ) a ≤ S512x2048.size a),
      p = ⟨Rect.unit (s := S512x2048) ![o, 0] ![8, 2048] inb, k0_pay8 (F := Ideal) (BitVec.ofNat 32 (i 0).val) (k0_pay3 (F := Ideal) g)
        (View.ld (Val := Elt Ideal) A (Rect.unit (s := S512x2048) ![o, 0] ![8, 2048] inb))
        (View.ld (Val := Elt Ideal) Xa (Rect.unit (s := S512x2048) ![o, 0] ![8, 2048] inb))
        (View.ld (Val := Elt Ideal) Xb (Rect.unit (s := S512x2048) ![o, 0] ![8, 2048] inb))⟩)
    (y : S512x2048.Idx) (hc : ∃ p ∈ L, y ∈ p.1.set) :
    View.canon L y = residual i Xa Xb y + rms (fun j => A (ix2 (y 0) j)) (y 1) (g (ix2 0 (y 1))) := by
  refine View.canon_apply_of_pieces (fun y : S512x2048.Idx => residual i Xa Xb y + rms (fun j => A (ix2 (y 0) j)) (y 1) (g (ix2 0 (y 1)))) L ?_ y hc
  intro p hp x
  obtain ⟨o, inb, rfl⟩ := h p hp
  obtain ⟨a, b, rfl⟩ : ∃ (a : Fin 8) (b : Fin 2048), x = ix2 a b := ⟨x 0, x 1, eq_ix2 x⟩
  refine (pay8_apply i _ _ _ _ a b).trans ?_
  dsimp only
  rw [embu]
  refine congr (congrArg (fun u v : EReal => u + v) ?_) (congrArg (fun v => rms v b (g (ix2 0 b))) (funext fun j => ldu A o inb a j))
  exact congrArg₂ (fun u v : EReal => if (i 0).val < 64 then u else v) (ldu Xa o inb a b) (ldu Xb o inb a b)

theorem pieces (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024x2048 .bf16) (harg3 : arg3.IsWhole) (arg4 : Memref sig .tc .vmem S1x1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole)
    (x0 : Vec F S512x1024 .bf16) (x1 : Vec F S512x1024 .bf16) (x2 : Vec F S1x1024x2048 .bf16) (x3 : Vec F S1x1024x2048 .bf16) (x4 : Vec F S1x2048 .f32) (x5 : Vec F S512x2048 .f32) (x6 : Vec F S512x2048 .f32) :
    ∀ p ∈ (kernelRun0_A c i arg1 harg1 arg2 harg2 arg3 harg3 arg4 harg4 arg5 harg5 arg6 harg6 arg7 harg7 arg8 harg8 arg9 harg9 x0 x1 x2 x3 x4 x5 x6).1, ∃ (o : ℕ) (inb : ∀ a, (![o, 0] : Fin 2 → ℕ) a + (![8, 2048] : Fin 2 → ℕ) a ≤ S512x2048.size a),
      p = ⟨Rect.unit (s := S512x2048) ![o, 0] ![8, 2048] inb,
        k0_pay8 (BitVec.ofNat 32 (i 0).val) (k0_pay3 (View.readAt (Elt F) arg5.view (Rect.unit ![0, 0] S1x2048.size inb_S1x2048_S1x2048_0_0).toLoadRect (harg5.unread x4)))
          (arg9.view.readCov (kernelRun0_A c i arg1 harg1 arg2 harg2 arg3 harg3 arg4 harg4 arg5 harg5 arg6 harg6 arg7 harg7 arg8 harg8 arg9 harg9 x0 x1 x2 x3 x4 x5 x6).2.1 (Rect.unit (s := S512x2048) ![o, 0] ![8, 2048] inb).toLoadRect)
          (View.readAt (Elt F) arg6.view (Rect.unit (s := S512x2048) ![o, 0] ![8, 2048] inb).toLoadRect (harg6.unread x5))
          (View.readAt (Elt F) arg7.view (Rect.unit (s := S512x2048) ![o, 0] ![8, 2048] inb).toLoadRect (harg7.unread x6))⟩ := by
  unfold kernelRun0_A
  dsimp only
  sl_unfold_words
  iterate 64 refine List.forall_mem_cons.2 ⟨⟨_, _, rfl⟩, ?_⟩
  exact fun p hp => absurd hp List.not_mem_nil

theorem cover_scratch (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024x2048 .bf16) (harg3 : arg3.IsWhole) (arg4 : Memref sig .tc .vmem S1x1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole)
    (x0 : Vec F S512x1024 .bf16) (x1 : Vec F S512x1024 .bf16) (x2 : Vec F S1x1024x2048 .bf16) (x3 : Vec F S1x1024x2048 .bf16) (x4 : Vec F S1x2048 .f32) (x5 : Vec F S512x2048 .f32) (x6 : Vec F S512x2048 .f32) (y : S512x2048.Idx) :
    ∃ p ∈ (kernelRun0_A c i arg1 harg1 arg2 harg2 arg3 harg3 arg4 harg4 arg5 harg5 arg6 harg6 arg7 harg7 arg8 harg8 arg9 harg9 x0 x1 x2 x3 x4 x5 x6).2.1, y ∈ p.1.set :=
  View.cover_of_tiledL (kernelRun0_A c i arg1 harg1 arg2 harg2 arg3 harg3 arg4 harg4 arg5 harg5 arg6 harg6 arg7 harg7 arg8 harg8 arg9 harg9 x0 x1 x2 x3 x4 x5 x6).2.1 S512x2048.size (by sl_kernel_rfl) y

theorem scratch (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024x2048 .bf16) (harg3 : arg3.IsWhole) (arg4 : Memref sig .tc .vmem S1x1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole)
    (x0 : Vec Ideal S512x1024 .bf16) (x1 : Vec Ideal S512x1024 .bf16) (x2 : Vec Ideal S1x1024x2048 .bf16) (x3 : Vec Ideal S1x1024x2048 .bf16) (x4 : Vec Ideal S1x2048 .f32) (x5 : Vec Ideal S512x2048 .f32) (x6 : Vec Ideal S512x2048 .f32) :
    View.canon (kernelRun0_A c i arg1 harg1 arg2 harg2 arg3 harg3 arg4 harg4 arg5 harg5 arg6 harg6 arg7 harg7 arg8 harg8 arg9 harg9 x0 x1 x2 x3 x4 x5 x6).2.1 = k0_pay2 x0 x2 x1 x3 := by
  unfold kernelRun0_A
  dsimp only
  sl_unfold_words
  rw [View.canon_unit_zero (S := S512x2048) hz]
  simp only [View.readAt_eq_ld, Memref.IsWhole.read_unread, View.ld_unit_zero (S := S512x1024) hz, View.ld_unit_zero (S := S1x1024x2048) hz3]

/-- An entry of the block that a grid point leaves. -/
theorem out_apply (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024x2048 .bf16) (harg3 : arg3.IsWhole) (arg4 : Memref sig .tc .vmem S1x1024x2048 .bf16) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S512x2048 .f32) (harg9 : arg9.IsWhole)
    (x0 : Vec Ideal S512x1024 .bf16) (x1 : Vec Ideal S512x1024 .bf16) (x2 : Vec Ideal S1x1024x2048 .bf16) (x3 : Vec Ideal S1x1024x2048 .bf16) (x4 : Vec Ideal S1x2048 .f32) (x5 : Vec Ideal S512x2048 .f32) (x6 : Vec Ideal S512x2048 .f32) (r : Fin 512) (k : Fin 2048) :
    out0_A_7 c i arg1 harg1 arg2 harg2 arg3 harg3 arg4 harg4 arg5 harg5 arg6 harg6 arg7 harg7 arg8 harg8 arg9 harg9 x0 x1 x2 x3 x4 x5 x6 (ix2 r k)
      = residual i x5 x6 (ix2 r k) + rms (fun n => ∑ j : Fin 1024, x0 (ix2 r j) * x2 (ix3 0 j n) + ∑ j : Fin 1024, x1 (ix2 r j) * x3 (ix3 0 j n)) k (x4 (ix2 0 k)) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  refine (canonOut i _ (k0_pay2 x0 x2 x1 x3) x5 x6 x4 (fun p hp => ?_) _ (cover0_A_7 c i arg1 harg1 arg2 harg2 arg3 harg3 arg4 harg4 arg5 harg5 arg6 harg6 arg7 harg7 arg8 harg8 arg9 harg9 x0 x1 x2 x3 x4 x5 x6 _)).trans ?_
  · obtain ⟨o, inb, e⟩ := pieces c i arg1 harg1 arg2 harg2 arg3 harg3 arg4 harg4 arg5 harg5 arg6 harg6 arg7 harg7 arg8 harg8 arg9 harg9 x0 x1 x2 x3 x4 x5 x6 p hp
    refine ⟨o, inb, e.trans ?_⟩
    rw [View.readAt_eq_ld, View.readAt_eq_ld, View.readAt_eq_ld, harg5.read_unread, harg6.read_unread, harg7.read_unread, View.ld_unit_zero (S := S1x2048) hz,
      View.readCov_eq_canon_ld _ _ _ (cover_scratch c i arg1 harg1 arg2 harg2 arg3 harg3 arg4 harg4 arg5 harg5 arg6 harg6 arg7 harg7 arg8 harg8 arg9 harg9 x0 x1 x2 x3 x4 x5 x6), scratch]
  · show residual i x5 x6 (ix2 r k) + rms (fun j => k0_pay2 x0 x2 x1 x3 (ix2 r j)) k (x4 (ix2 0 k)) = _
    simp only [pay2_apply]

end Cert.Kernel8Ideal.Hand
end
-- ==== Proof.FirstOutFold.lean ====
module

public import proofs.«01_k».proof.Proof.FirstOutBody

@[expose] public section

set_option maxRecDepth 16384

noncomputable section

/- The array that layer 0's output projection of the two banks leaves. -/
namespace Cert.Kernel8Ideal.Hand

open Cert.Kernel8Ideal Cert.Kernel8Ideal.Gen Idealize.ShloMosaic Idealize.ShloMosaic.TcCoe Idealize.SL.Sem
open Idealize.ShloMosaic.Pipeline (Dat)
open Cert.Kernel2Ideal.Hand (rms)

variable (m : (ℓ : Loc nD τ sig) → Buf (Elt Ideal) ℓ)

/-- The arguments as launched, on device `c`. -/
abbrev argA (c : Dev nD) : Vec Ideal S40960x1024 .f32 := m ((c.tc : Thread nD τ).loc main_arg0)
abbrev argB (c : Dev nD) : Vec Ideal S40960x1024 .f32 := m ((c.tc : Thread nD τ).loc main_arg1)
abbrev argP (c : Dev nD) : Vec Ideal S8x4096x2048 .f32 := m ((c.tc : Thread nD τ).loc main_arg2)
abbrev argS (c : Dev nD) : Vec Ideal S2x4096x2048 .f32 := m ((c.tc : Thread nD τ).loc main_arg3)
abbrev argG (c : Dev nD) : Vec Ideal S4x2048 .f32 := m ((c.tc : Thread nD τ).loc main_arg4)
abbrev argW (c : Dev nD) : Vec Ideal S2x2048x2048 .f32 := m ((c.tc : Thread nD τ).loc main_arg5)

/-- Row `R`, column `k` of the prompts' positions followed by the samples' positions. -/
def tokens (P : Vec Ideal S8x4096x2048 .f32) (S : Vec Ideal S2x4096x2048 .f32) (R : Fin 40960) (k : Fin 2048) : EReal :=
  if h : R.val < 32768 then P (ix3 ⟨R.val / 4096, by omega⟩ ⟨R.val % 4096, by omega⟩ k)
  else S (ix3 ⟨(R.val - 32768) / 4096, by omega⟩ ⟨(R.val - 32768) % 4096, by omega⟩ k)

/-- Row `j` of the weights' upper half and of their lower half. -/
abbrev lo (j : Fin 1024) : Fin 2048 := ⟨j.val, by omega⟩
abbrev hi (j : Fin 1024) : Fin 2048 := ⟨1024 + j.val, by omega⟩

theorem V_v0 (c : Dev nD) (R : Fin 32768) (k : Fin 2048) : (V m c main_v0 : Vec Ideal S32768x2048 .f32) (ix2 R k)
    = argP m c (ix3 ⟨R.val / 4096, by omega⟩ ⟨R.val % 4096, by omega⟩ k) := by
  unfold V; after_results_simp
  pointwise
theorem V_v1 (c : Dev nD) (R : Fin 8192) (k : Fin 2048) : (V m c main_v1 : Vec Ideal S8192x2048 .f32) (ix2 R k)
    = argS m c (ix3 ⟨R.val / 4096, by omega⟩ ⟨R.val % 4096, by omega⟩ k) := by
  unfold V; after_results_simp
  pointwise
theorem V_v2 (c : Dev nD) : V m c main_v2 = argA m c := by
  unfold V; after_results_simp; rfl
theorem V_v3 (c : Dev nD) : V m c main_v3 = argB m c := by
  unfold V; after_results_simp; rfl
theorem V_v4 (c : Dev nD) : V m c main_v4 = argW m c := by
  unfold V; after_results_simp; rfl
theorem V_v7 (c : Dev nD) (k : Fin 2048) : (V m c main_v7 : Vec Ideal S1x2048 .f32) (ix2 0 k) = argG m c (ix2 0 k) := by
  unfold V; after_results_simp
  pointwise

theorem ix_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 3) = 0 ∧ win0_3.index t (1 : Fin 3) = 1 ∧ win0_3.index t (2 : Fin 3) = 0)
    ∧ (win0_4.index t (0 : Fin 2) = 0 ∧ win0_4.index t (1 : Fin 2) = 0)
    ∧ (win0_5.index t (0 : Fin 2) = min t.val 63 ∧ win0_5.index t (1 : Fin 2) = 0)
    ∧ (win0_6.index t (0 : Fin 2) = t.val - 64 ∧ win0_6.index t (1 : Fin 2) = 0)
    ∧ (win0_7.index t (0 : Fin 2) = t.val ∧ win0_7.index t (1 : Fin 2) = 0) :=
  (by decide +kernel : ∀ t : Fin grid0.N, _)

theorem coord : ∀ t : Fin cfg0.N, (grid0.coords t 0).val = t.val := (by decide +kernel : ∀ t : Fin grid0.N, _)

theorem row_lt (t : Fin cfg0.N) (r : Fin 512) : 512 * t.val + r.val < 40960 := by
  have h1 := lt_of_lt_of_eq t.isLt (show cfg0.N = 80 from N_0); have := r.isLt; omega

/-- The array's row that row `r` of grid point `t`'s block is. -/
abbrev rowOf (t : Fin cfg0.N) (r : Fin 512) : Fin 40960 := ⟨512 * t.val + r.val, row_lt t r⟩

theorem iblk0_apply (c : Dev nD) (t : Fin cfg0.N) (r : Fin 512) (e : Fin 1024) :
    (iblk m c 0 t : Vec Ideal S512x1024 .bf16) (ix2 r e) = argA m c (ix2 (rowOf t r) e) := by
  unfold iblk
  rw [View.read_apply]
  show V m c main_v2 _ = _
  rw [V_v2]
  refine congrArg (argA m c) (funext fun a => Fin.ext ?_)
  obtain ⟨⟨e0, e1⟩, -⟩ := ix_facts t
  match a with
  | ⟨0, _⟩ => show win0_0.index t 0 * 512 + 1 * r.val = 512 * t.val + r.val; rw [e0]; omega
  | ⟨1, _⟩ => show win0_0.index t 1 * 1024 + 1 * e.val = e.val; rw [e1]; omega

theorem iblk1_apply (c : Dev nD) (t : Fin cfg0.N) (r : Fin 512) (e : Fin 1024) :
    (iblk m c 1 t : Vec Ideal S512x1024 .bf16) (ix2 r e) = argB m c (ix2 (rowOf t r) e) := by
  unfold iblk
  rw [View.read_apply]
  show V m c main_v3 _ = _
  rw [V_v3]
  refine congrArg (argB m c) (funext fun a => Fin.ext ?_)
  obtain ⟨-, ⟨e0, e1⟩, -⟩ := ix_facts t
  match a with
  | ⟨0, _⟩ => show win0_1.index t 0 * 512 + 1 * r.val = 512 * t.val + r.val; rw [e0]; omega
  | ⟨1, _⟩ => show win0_1.index t 1 * 1024 + 1 * e.val = e.val; rw [e1]; omega

theorem iblk2_apply (c : Dev nD) (t : Fin cfg0.N) (j : Fin 1024) (k : Fin 2048) :
    (iblk m c 2 t : Vec Ideal S1x1024x2048 .bf16) (ix3 0 j k) = argW m c (ix3 0 (lo j) k) := by
  unfold iblk
  rw [View.read_apply]
  show V m c main_v4 _ = _
  rw [V_v4]
  refine congrArg (argW m c) (funext fun a => Fin.ext ?_)
  obtain ⟨-, -, ⟨e0, e1, e2⟩, -⟩ := ix_facts t
  match a with
  | ⟨0, _⟩ => show win0_2.index t 0 * 1 + 1 * 0 = 0; rw [e0]
  | ⟨1, _⟩ => show win0_2.index t 1 * 1024 + 1 * j.val = j.val; rw [e1]; omega
  | ⟨2, _⟩ => show win0_2.index t 2 * 2048 + 1 * k.val = k.val; rw [e2]; omega

theorem iblk3_apply (c : Dev nD) (t : Fin cfg0.N) (j : Fin 1024) (k : Fin 2048) :
    (iblk m c 3 t : Vec Ideal S1x1024x2048 .bf16) (ix3 0 j k) = argW m c (ix3 0 (hi j) k) := by
  unfold iblk
  rw [View.read_apply]
  show V m c main_v4 _ = _
  rw [V_v4]
  refine congrArg (argW m c) (funext fun a => Fin.ext ?_)
  obtain ⟨-, -, -, ⟨e0, e1, e2⟩, -⟩ := ix_facts t
  match a with
  | ⟨0, _⟩ => show win0_3.index t 0 * 1 + 1 * 0 = 0; rw [e0]
  | ⟨1, _⟩ => show win0_3.index t 1 * 1024 + 1 * j.val = 1024 + j.val; rw [e1]; omega
  | ⟨2, _⟩ => show win0_3.index t 2 * 2048 + 1 * k.val = k.val; rw [e2]; omega

theorem iblk4_apply (c : Dev nD) (t : Fin cfg0.N) (k : Fin 2048) :
    (iblk m c 4 t : Vec Ideal S1x2048 .f32) (ix2 0 k) = argG m c (ix2 0 k) := by
  unfold iblk
  rw [View.read_apply, ← V_v7 m c k]
  show V m c main_v7 _ = V m c main_v7 _
  refine congrArg (V m c main_v7) (funext fun a => Fin.ext ?_)
  obtain ⟨-, -, -, -, ⟨e0, e1⟩, -⟩ := ix_facts t
  match a with
  | ⟨0, _⟩ => show win0_4.index t 0 * 1 + 1 * 0 = 0; rw [e0]
  | ⟨1, _⟩ => show win0_4.index t 1 * 2048 + 1 * k.val = k.val; rw [e1]; omega

theorem iblk5_apply (c : Dev nD) (t : Fin cfg0.N) (h : t.val < 64) (r : Fin 512) (e : Fin 2048) :
    (iblk m c 5 t : Vec Ideal S512x2048 .f32) (ix2 r e) = tokens (argP m c) (argS m c) (rowOf t r) e := by
  unfold iblk tokens
  rw [View.read_apply, dif_pos (show 512 * t.val + r.val < 32768 by omega), ← V_v0 m c ⟨512 * t.val + r.val, by omega⟩ e]
  show V m c main_v0 _ = V m c main_v0 _
  refine congrArg (V m c main_v0) (funext fun a => Fin.ext ?_)
  obtain ⟨-, -, -, -, -, ⟨e0, e1⟩, -⟩ := ix_facts t
  match a with
  | ⟨0, _⟩ => show win0_5.index t 0 * 512 + 1 * r.val = 512 * t.val + r.val; rw [e0]; omega
  | ⟨1, _⟩ => show win0_5.index t 1 * 2048 + 1 * e.val = e.val; rw [e1]; omega

theorem iblk6_apply (c : Dev nD) (t : Fin cfg0.N) (h : ¬t.val < 64) (r : Fin 512) (e : Fin 2048) :
    (iblk m c 6 t : Vec Ideal S512x2048 .f32) (ix2 r e) = tokens (argP m c) (argS m c) (rowOf t r) e := by
  have hr := row_lt t r
  unfold iblk tokens
  rw [View.read_apply, dif_neg (show ¬512 * t.val + r.val < 32768 by omega), ← V_v1 m c ⟨512 * t.val + r.val - 32768, by omega⟩ e]
  show V m c main_v1 _ = V m c main_v1 _
  refine congrArg (V m c main_v1) (funext fun a => Fin.ext ?_)
  obtain ⟨-, -, -, -, -, -, ⟨e0, e1⟩, -⟩ := ix_facts t
  match a with
  | ⟨0, _⟩ => show win0_6.index t 0 * 512 + 1 * r.val = 512 * t.val + r.val - 32768; rw [e0]; omega
  | ⟨1, _⟩ => show win0_6.index t 1 * 2048 + 1 * e.val = e.val; rw [e1]; omega

theorem residual_eq (c : Dev nD) (t : Fin cfg0.N) (r : Fin 512) (e : Fin 2048) :
    residual (grid0.coords t) (iblk m c 5 t) (iblk m c 6 t) (ix2 r e) = tokens (argP m c) (argS m c) (rowOf t r) e := by
  unfold residual
  rw [coord t]
  by_cases h : t.val < 64
  · rw [if_pos h]; exact iblk5_apply m c t h r e
  · rw [if_neg h]; exact iblk6_apply m c t h r e

/-- The call's result at row `R`, column `k`: the residual plus the normalised projection of the two banks' row. -/
def bankOut (c : Dev nD) (R : Fin 40960) (k : Fin 2048) : EReal :=
  tokens (argP m c) (argS m c) R k + rms (fun i => ∑ j : Fin 1024, argA m c (ix2 R j) * argW m c (ix3 0 (lo j) i)
    + ∑ j : Fin 1024, argB m c (ix2 R j) * argW m c (ix3 0 (hi j) i)) k (argG m c (ix2 0 k))

theorem flush7 : ∀ t : Fin cfg0.N, (cfg0.win 7).flush t = true := (by decide +kernel : ∀ t : Fin grid0.N, _)

/-- The output array that the run leaves. -/
theorem arr7_apply (c : Dev nD) (R : Fin 40960) (k : Fin 2048) :
    ((dats m 0 c).arrAt 7 cfg0.N : Vec Ideal S40960x2048 .f32) (ix2 R k) = bankOut m c R k := by
  obtain ⟨t, r, hR⟩ : ∃ (t : Fin cfg0.N) (r : Fin 512), R = rowOf t r :=
    ⟨⟨R.val / 512, by rw [show cfg0.N = 80 from N_0]; omega⟩, ⟨R.val % 512, by omega⟩,
      Fin.ext (by show R.val = 512 * (R.val / 512) + R.val % 512; omega)⟩
  have hemb : ((cfg0.win 7).blk t).view.emb (ix2 r k) = (ix2 R k : S40960x2048.Idx) := by
    obtain ⟨-, -, -, -, -, -, -, e0, e1⟩ := ix_facts t
    funext a
    apply Fin.ext
    match a with
    | ⟨0, _⟩ => show win0_7.index t 0 * 512 + 1 * r.val = R.val; rw [e0, hR]; show _ = 512 * t.val + r.val; omega
    | ⟨1, _⟩ => show win0_7.index t 1 * 2048 + 1 * k.val = k.val; rw [e1]; omega
  have h := congrFun (Value.blocks7 m c t (flush7 t)) (ix2 r k)
  rw [View.read_apply, Value.flushed7_A] at h
  rw [hemb] at h
  refine h.trans ?_
  refine (out_apply _ _ _ _ _ _ _ _ _ _ _ _ _ _ _ _ _ _ _ _ _ _ _ _ _ _ _ r k).trans ?_
  unfold bankOut
  simp only [iblk0_apply, iblk1_apply, iblk2_apply, iblk3_apply, iblk4_apply, residual_eq]
  rw [hR]

end Cert.Kernel8Ideal.Hand
end
-- ==== Proof.FirstOutRef.lean ====
module

public import proofs.«01_k».proof.Proof.FirstOutFold
public import proofs.«01_k».proof.Proof.Gen.Reference8Ideal.Run

@[expose] public section

set_option maxRecDepth 16384

noncomputable section

/- The reference of layer 0's output projection of the two banks, and its agreement with the kernel. -/
namespace Cert.Reference8Ideal.Hand

open Cert.Reference8Ideal Cert.Reference8Ideal.Gen Idealize.ShloMosaic Idealize.ShloMosaic.TcCoe Idealize.SL.Sem
open Cert.Kernel2Ideal.Hand (rms)
open Cert.Kernel8Ideal.Hand (bankOut lo hi tokens argA argB argP argS argG argW)

/-- The two banks, side by side. -/
def ctV (A B : FVec Ideal S40960x1024 .f32) : FVec Ideal S40960x2048 .f32 :=
  concatenate S40960x2048 1 [⟨S40960x1024, A⟩, ⟨S40960x1024, B⟩] concatenates_S40960x1024_S40960x1024_S40960x2048_d1

/-- The product with the first slice of the projection's weights. -/
def pjV (X : FVec Ideal S40960x2048 .f32) (W : FVec Ideal S2x2048x2048 .f32) : FVec Ideal S40960x2048 .f32 :=
  Host.dotGeneral (F := Ideal) dot_S40960x2048_S2048x2048_S40960x2048_1_0_0_1_n_n none X
    (shapeCast _ (extractStridedSlice S1x2048x2048 ![0, 0, 0] W slices_S2x2048x2048_S1x2048x2048_0_0_0)
      shapeCasts_S1x2048x2048_S2048x2048)

/-- The reference's normalisation of the rows of an array, times the first layer's gains. -/
def rmsV (X : FVec Ideal S40960x2048 .f32) (G : FVec Ideal S4x2048 .f32) : FVec Ideal S40960x2048 .f32 :=
  mulf (F := Ideal)
    (mulf X
      (broadcastInDim S40960x2048 ![0, 1] bcast_S40960x1_S40960x2048_0_1
        (Host.rsqrt
          (addf
            (Host.divf
              (broadcastInDim S40960x1 ![0] bcast_S40960_S40960x1_0
                (Host.reduceAdd (mulf X X) (constant S_ FTy.f32 0#32) reducesTo_S40960x2048_S40960_d1 h_S_))
              (broadcastInDim S40960x1 ![] bcast_S_S40960x1 (constant S_ FTy.f32 1157627904#32)))
            (broadcastInDim S40960x1 ![] bcast_S_S40960x1 (constant S_ FTy.f32 897988541#32))))))
    (broadcastInDim S40960x2048 ![0, 1] bcast_S1x2048_S40960x2048_0_1
      (broadcastInDim S1x2048 ![1] bcast_S2048_S1x2048_1
        (shapeCast S2048 (extractStridedSlice S1x2048 ![0, 0] G slices_S4x2048_S1x2048_0_0) shapeCasts_S1x2048_S2048)))

/-- The prompts' positions followed by the samples'. -/
def xV (P : FVec Ideal S8x4096x2048 .f32) (S : FVec Ideal S2x4096x2048 .f32) : FVec Ideal S40960x2048 .f32 :=
  concatenate S40960x2048 0 [⟨S32768x2048, shapeCast _ P shapeCasts_S8x4096x2048_S32768x2048⟩, ⟨S8192x2048, shapeCast _ S shapeCasts_S2x4096x2048_S8192x2048⟩]
    concatenates_S32768x2048_S8192x2048_S40960x2048_d0

/-- The reference's result, of its arguments. -/
def resV (A B : FVec Ideal S40960x1024 .f32) (P : FVec Ideal S8x4096x2048 .f32) (S : FVec Ideal S2x4096x2048 .f32) (G : FVec Ideal S4x2048 .f32)
    (W : FVec Ideal S2x2048x2048 .f32) : FVec Ideal S40960x2048 .f32 :=
  addf (F := Ideal) (xV P S) (rmsV (pjV (ctV A B) W) G)

theorem xV_apply (P : FVec Ideal S8x4096x2048 .f32) (S : FVec Ideal S2x4096x2048 .f32) (R : Fin 40960) (k : Fin 2048) :
    xV P S (ix2 R k) = tokens P S R k := by
  unfold xV tokens
  pointwise

theorem ctV_lo (A B : FVec Ideal S40960x1024 .f32) (R : Fin 40960) (j : Fin 1024) : ctV A B (ix2 R (lo j)) = A (ix2 R j) := by
  unfold ctV
  pointwise

theorem ctV_hi (A B : FVec Ideal S40960x1024 .f32) (R : Fin 40960) (j : Fin 1024) : ctV A B (ix2 R (hi j)) = B (ix2 R j) := by
  unfold ctV
  pointwise

theorem pjV_apply (X : FVec Ideal S40960x2048 .f32) (W : FVec Ideal S2x2048x2048 .f32) (R : Fin 40960) (k : Fin 2048) :
    pjV X W (ix2 R k) = ∑ j : Fin 2048, X (ix2 R j) * W (ix3 0 j k) := by
  unfold pjV
  pointwise

theorem rmsV_apply (X : FVec Ideal S40960x2048 .f32) (G : FVec Ideal S4x2048 .f32) (R : Fin 40960) (k : Fin 2048) :
    rmsV X G (ix2 R k) = rms (fun j => X (ix2 R j)) k (G (ix2 0 k)) := by
  unfold rmsV rms
  pointwise

/-- A sum over the 2048 rows of the weights is the sum over their upper half plus the sum over their lower half. -/
theorem sum_halves (f : Fin 2048 → EReal) : ∑ j : Fin 2048, f j = ∑ j : Fin 1024, f (lo j) + ∑ j : Fin 1024, f (hi j) :=
  Fin.sum_univ_add (a := 1024) (b := 1024) f

/-- An entry of the reference's result. -/
theorem res_apply (A B : FVec Ideal S40960x1024 .f32) (P : FVec Ideal S8x4096x2048 .f32) (S : FVec Ideal S2x4096x2048 .f32) (G : FVec Ideal S4x2048 .f32)
    (W : FVec Ideal S2x2048x2048 .f32) (R : Fin 40960) (k : Fin 2048) :
    resV A B P S G W (ix2 R k) = tokens P S R k + rms (fun i => ∑ j : Fin 1024, A (ix2 R j) * W (ix3 0 (lo j) i)
      + ∑ j : Fin 1024, B (ix2 R j) * W (ix3 0 (hi j) i)) k (G (ix2 0 k)) := by
  refine congrArg₂ (fun a b : EReal => a + b) (xV_apply P S R k) ?_
  rw [rmsV_apply]
  refine congrArg (fun v => rms v k _) (funext fun i => ?_)
  rw [pjV_apply, sum_halves]
  simp only [ctV_lo, ctV_hi]

/-- The reference's result and the kernel's output array agree on equal arguments. -/
theorem agree (m : (ℓ : Loc Kernel8Ideal.nD Kernel8Ideal.τ Kernel8Ideal.sig) → Buf (Elt Ideal) ℓ)
    (m' : (ℓ : Loc nD τ sig) → Buf (Elt Ideal) ℓ) (c : Dev nD)
    (h0 : m' (c.tc.loc main_arg0) = argA m c) (h1 : m' (c.tc.loc main_arg1) = argB m c) (h2 : m' (c.tc.loc main_arg2) = argP m c)
    (h3 : m' (c.tc.loc main_arg3) = argS m c) (h4 : m' (c.tc.loc main_arg4) = argG m c) (h5 : m' (c.tc.loc main_arg5) = argW m c) :
    resV (m' (c.tc.loc main_arg0)) (m' (c.tc.loc main_arg1)) (m' (c.tc.loc main_arg2)) (m' (c.tc.loc main_arg3)) (m' (c.tc.loc main_arg4)) (m' (c.tc.loc main_arg5))
      = (Kernel8Ideal.Gen.dats m 0 c).arrAt 7 Kernel8Ideal.cfg0.N := by
  rw [h0, h1, h2, h3, h4, h5]
  funext y
  obtain ⟨R, k, rfl⟩ : ∃ (R : Fin 40960) (k : Fin 2048), y = ix2 R k := ⟨y 0, y 1, eq_ix2 (n0 := 40960) (n1 := 2048) y⟩
  exact (res_apply (argA m c) (argB m c) (argP m c) (argS m c) (argG m c) (argW m c) R k).trans (Kernel8Ideal.Hand.arr7_apply m c R k).symm

end Cert.Reference8Ideal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_qk
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Reference3Ideal.Run
public import proofs.«01_k».proof.Proof.Gen.Kernel3
public import proofs.«01_k».proof.Proof.Gen.Kernel3Ideal.Skeleton
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Pre_finite_lse
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.FfnRef
public import proofs.«01_k».proof.Proof.D1Ref
public import proofs.«01_k».proof.Proof.LastRef
public import proofs.«01_k».proof.Proof.RotRef
public import proofs.«01_k».proof.Proof.MixRef
public import proofs.«01_k».proof.Proof.EvenInRef
public import proofs.«01_k».proof.Proof.EvenOutRef
public import proofs.«01_k».proof.Proof.FirstOutRef
public import Idealize.ShloMosaic.Adequacy
public import Idealize.ShloMosaic.Init

@[expose] public section

noncomputable section

namespace Cert.Proof

open Idealize.ShloMosaic Idealize.SL.Sem Cert.Kernel

/-- The banded attention kernel and its reference compute the same two arrays from finite queries and keys. -/
theorem attn_algebraic : Cert.algebraic_KernelIdeal_ReferenceIdeal_pre_finite_qk := by
  intro m ρ m' ρ' hpre hagree
  refine ⟨fun c => (KernelIdeal.Gen.dats m 0 c).arrAt 4 KernelIdeal.cfg0.N, fun c => (KernelIdeal.Gen.dats m 0 c).arrAt 5 KernelIdeal.cfg0.N,
    KernelIdeal.Value.run_blocks (F := Ideal) m ρ, ?_⟩
  refine (θ_run Cert.ReferenceIdeal.defs _ _).mono (fun _ h c => ?_) (ReferenceIdeal.Value.run (F := Ideal) m' ρ')
  exact ⟨(h c).1.trans (ReferenceIdeal.Hand.agree_o m m' c (hagree c) (hpre c)), (h c).2.1.trans (ReferenceIdeal.Hand.agree_l m m' c (hagree c)), (h c).2.2⟩

/-- The tiled feed-forward kernel and its reference compute the same array. -/
theorem ffn_algebraic : Cert.algebraic_Kernel2Ideal_Reference2Ideal := by
  intro m ρ m' ρ' _ hagree
  refine ⟨fun c => Kernel2Ideal.Value.G6 m c, Kernel2Ideal.Value.run (F := Ideal) m ρ, ?_⟩
  refine (θ_run Cert.Reference2Ideal.defs _ _).mono (fun _ h c => ?_) (Reference2Ideal.Value.run (F := Ideal) m' ρ')
  obtain ⟨h0, h1, h2, h3, h4, h5⟩ := hagree c
  exact ⟨(h c).1.trans (Reference2Ideal.Hand.agree m m' c h0 h1 h2 h3 h4 h5), (h c).2⟩

/-- The printed last-layer kernel and its ideal form have one body table. -/
theorem defs₀_eq : Kernel3.defs₀ (F := Bits) = Kernel3Ideal.defs₀ (F := Bits) := by
  unfold Kernel3.defs₀ Kernel3Ideal.defs₀
  refine congrArg Defs.onTc ?_
  funext l a
  match l, a with
  | 0, (t, s) => exact rfl

/-- The last-layer kernel's table with its pipeline is its ideal form's. -/
theorem defs_eq : Kernel3.defs (F := Bits) = Kernel3Ideal.defs (F := Bits) := congrArg (Pipeline.defs Kernel3.pcfgs) defs₀_eq

/-- The frame of the last layer's feed-forward kernel over bit patterns: the run over any float values, taken there. -/
theorem last_frame : Cert.quiescent_Kernel3 := by
  intro m ρ _
  rw [defs_eq]
  exact (θ_run Cert.Kernel3Ideal.defs _ _).mono (fun _ h => h) (Cert.Kernel3Ideal.Hand.frame (F := Bits) m ρ)

/-- The last layer's feed-forward kernel and its reference compute the same two arrays. -/
theorem last_algebraic : Cert.algebraic_Kernel3Ideal_Reference3Ideal := by
  intro m ρ m' ρ' _ hagree
  refine ⟨fun c => Kernel3Ideal.Hand.G6 m c, fun c => Kernel3Ideal.Hand.G7 m c, Kernel3Ideal.Hand.run m ρ, ?_⟩
  refine (θ_run Cert.Reference3Ideal.defs _ _).mono (fun _ h c => ?_) (Reference3Ideal.Value.run (F := Ideal) m' ρ')
  obtain ⟨h0, h1, h2, h3, h4, h5⟩ := hagree c
  exact ⟨(h c).1.trans (Reference3Ideal.Hand.agree6 m m' c h0 h1 h2 h3 h4 h5),
    (h c).2.1.trans (Reference3Ideal.Hand.agree7 m m' c h0 h1 h2 h3 h4 h5), (h c).2.2⟩

/-- The merged output projection and its reference compute the same array from finite logarithms. -/
theorem mix_algebraic : Cert.algebraic_Kernel4Ideal_Reference4Ideal_pre_finite_lse := by
  intro m ρ m' ρ' hpre hagree
  refine ⟨fun c => (Kernel4Ideal.Gen.dats m 0 c).arrAt 9 Kernel4Ideal.cfg0.N, Kernel4Ideal.Value.run_blocks (F := Ideal) m ρ, ?_⟩
  refine (θ_run Cert.Reference4Ideal.defs _ _).mono (fun _ h c => ?_) (Reference4Ideal.Value.run (F := Ideal) m' ρ')
  obtain ⟨h0, h1, h2, h3, h4, h5, h6, h7, h8⟩ := hagree c
  exact ⟨(h c).1.trans (Reference4Ideal.Hand.agree m m' c h0 h1 h2 h3 h4 h5 h6 h7 h8 (hpre c)), (h c).2⟩

/-- The input projection computes its reference. -/
theorem rot_algebraic : Cert.algebraic_Kernel5Ideal_Reference5Ideal := by
  intro m ρ m' ρ' _ hagree
  refine ⟨fun c => (Kernel5Ideal.Gen.dats m 0 c).arrAt 7 Kernel5Ideal.cfg0.N, Kernel5Ideal.Value.run_blocks (F := Ideal) m ρ, ?_⟩
  refine (θ_run Cert.Reference5Ideal.defs _ _).mono (fun _ h c => ?_) (Reference5Ideal.Value.run (F := Ideal) m' ρ')
  obtain ⟨h0, h1, h2⟩ := hagree c
  exact ⟨(h c).1.trans (Reference5Ideal.Hand.agree m m' c h0 h1 h2), (h c).2⟩

/-- Layer 2's input projection computes its reference. -/
theorem even_in_algebraic : Cert.algebraic_Kernel6Ideal_Reference6Ideal := by
  intro m ρ m' ρ' _ hagree
  refine ⟨fun c => (Kernel6Ideal.Gen.dats m 0 c).arrAt 7 Kernel6Ideal.cfg0.N, Kernel6Ideal.Value.run_blocks (F := Ideal) m ρ, ?_⟩
  refine (θ_run Cert.Reference6Ideal.defs _ _).mono (fun _ h c => ?_) (Reference6Ideal.Value.run (F := Ideal) m' ρ')
  obtain ⟨h0, h1, h2⟩ := hagree c
  exact ⟨(h c).1.trans (Reference6Ideal.Hand.agree m m' c h0 h1 h2), (h c).2⟩

/-- Layer 2's output projection computes its reference. -/
theorem even_out_algebraic : Cert.algebraic_Kernel7Ideal_Reference7Ideal := by
  intro m ρ m' ρ' _ hagree
  refine ⟨fun c => (Kernel7Ideal.Gen.dats m 0 c).arrAt 6 Kernel7Ideal.cfg0.N, Kernel7Ideal.Value.run_blocks (F := Ideal) m ρ, ?_⟩
  refine (θ_run Cert.Reference7Ideal.defs _ _).mono (fun _ h c => ?_) (Reference7Ideal.Value.run (F := Ideal) m' ρ')
  obtain ⟨h0, h1, h2, h3, h4⟩ := hagree c
  exact ⟨(h c).1.trans (Reference7Ideal.Hand.agree m m' c h0 h1 h2 h3 h4), (h c).2⟩

/-- Layer 0's output projection computes its reference. -/
theorem first_out_algebraic : Cert.algebraic_Kernel8Ideal_Reference8Ideal := by
  intro m ρ m' ρ' _ hagree
  refine ⟨fun c => (Kernel8Ideal.Gen.dats m 0 c).arrAt 7 Kernel8Ideal.cfg0.N, Kernel8Ideal.Value.run_blocks (F := Ideal) m ρ, ?_⟩
  refine (θ_run Cert.Reference8Ideal.defs _ _).mono (fun _ h c => ?_) (Reference8Ideal.Value.run (F := Ideal) m' ρ')
  obtain ⟨h0, h1, h2, h3, h4, h5⟩ := hagree c
  exact ⟨(h c).1.trans (Reference8Ideal.Hand.agree m m' c h0 h1 h2 h3 h4 h5), (h c).2⟩

/-- Every claim of the eight calls: the frames, the idealizations and the equalities with the references. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_finite_qk.Gen.facts, Cert.Pre_finite_lse.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2, Idealize.ShloMosaic.sem_eq_zero_of_no_sems (by decide) r.2⟩)
    (Cert.ReferenceIdeal.Value.run (F := Ideal) m ρ),
  fun m ρ _ => (θ_run _ _ _).mono (fun r h => ⟨fun c => (h c).2.2, Idealize.ShloMosaic.sem_eq_zero_of_no_sems (by decide) r.2⟩)
    (Cert.ReferenceIdeal.Value.run (F := Ideal) m ρ),
  fun m ρ _ => Cert.Kernel2.Gen.frame m ρ,
  fun m ρ _ => Cert.Kernel2Ideal.Gen.frame m ρ,
  fun m ρ _ => (θ_run _ _ _).mono (fun r h => ⟨fun c => (h c).2, Idealize.ShloMosaic.sem_eq_zero_of_no_sems (by decide) r.2⟩)
    (Cert.Reference2Ideal.Value.run (F := Ideal) m ρ),
  last_frame,
  fun m ρ _ => Cert.Kernel3Ideal.Hand.frame m ρ,
  fun m ρ _ => (θ_run _ _ _).mono (fun r h => ⟨fun c => (h c).2.2, Idealize.ShloMosaic.sem_eq_zero_of_no_sems (by decide) r.2⟩)
    (Cert.Reference3Ideal.Value.run (F := Ideal) m ρ),
  fun m ρ _ => Cert.Kernel4.Gen.frame m ρ,
  fun m ρ _ => Cert.Kernel4Ideal.Gen.frame m ρ,
  fun m ρ _ => Cert.Kernel4Ideal.Gen.frame m ρ,
  fun m ρ _ => (θ_run _ _ _).mono (fun r h => ⟨fun c => (h c).2, Idealize.ShloMosaic.sem_eq_zero_of_no_sems (by decide) r.2⟩)
    (Cert.Reference4Ideal.Value.run (F := Ideal) m ρ),
  fun m ρ _ => (θ_run _ _ _).mono (fun r h => ⟨fun c => (h c).2, Idealize.ShloMosaic.sem_eq_zero_of_no_sems (by decide) r.2⟩)
    (Cert.Reference4Ideal.Value.run (F := Ideal) m ρ),
  fun m ρ _ => Cert.Kernel5.Gen.frame m ρ,
  fun m ρ _ => Cert.Kernel5Ideal.Gen.frame m ρ,
  fun m ρ _ => (θ_run _ _ _).mono (fun r h => ⟨fun c => (h c).2, Idealize.ShloMosaic.sem_eq_zero_of_no_sems (by decide) r.2⟩)
    (Cert.Reference5Ideal.Value.run (F := Ideal) m ρ),
  fun m ρ _ => Cert.Kernel6.Gen.frame m ρ,
  fun m ρ _ => Cert.Kernel6Ideal.Gen.frame m ρ,
  fun m ρ _ => (θ_run _ _ _).mono (fun r h => ⟨fun c => (h c).2, Idealize.ShloMosaic.sem_eq_zero_of_no_sems (by decide) r.2⟩)
    (Cert.Reference6Ideal.Value.run (F := Ideal) m ρ),
  fun m ρ _ => Cert.Kernel7.Gen.frame m ρ,
  fun m ρ _ => Cert.Kernel7Ideal.Gen.frame m ρ,
  fun m ρ _ => (θ_run _ _ _).mono (fun r h => ⟨fun c => (h c).2, Idealize.ShloMosaic.sem_eq_zero_of_no_sems (by decide) r.2⟩)
    (Cert.Reference7Ideal.Value.run (F := Ideal) m ρ),
  fun m ρ _ => Cert.Kernel8.Gen.frame m ρ,
  fun m ρ _ => Cert.Kernel8Ideal.Gen.frame m ρ,
  fun m ρ _ => (θ_run _ _ _).mono (fun r h => ⟨fun c => (h c).2, Idealize.ShloMosaic.sem_eq_zero_of_no_sems (by decide) r.2⟩)
    (Cert.Reference8Ideal.Value.run (F := Ideal) m ρ),
  trivial, attn_algebraic, trivial, ffn_algebraic, trivial, last_algebraic, trivial, mix_algebraic, trivial, rot_algebraic,
  trivial, even_in_algebraic, trivial, even_out_algebraic,
  trivial, first_out_algebraic⟩

end Cert.Proof

end
